-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v52_0)) (v1 : (c : Dev Cert.Kernel5Ideal.nD) → Buf (Elt Ideal) ((c.tc : Thread Cert.Kernel5Ideal.nD Cert.Kernel5Ideal.τ).loc Cert.Kernel5Ideal.main_v52_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v52_0) = v0 c
          ∧ r.2.mem ((c.tc : Thread Cert.Kernel5Ideal.nD Cert.Kernel5Ideal.τ).loc Cert.Kernel5Ideal.main_v52_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v380) = v0 c
          ∧ r.2.mem ((c.tc : Thread Cert.Reference5Ideal.nD Cert.Reference5Ideal.τ).loc Cert.Reference5Ideal.main_v381) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v45_0)) (v1 : (c : Dev Cert.Kernel6Ideal.nD) → Buf (Elt Ideal) ((c.tc : Thread Cert.Kernel6Ideal.nD Cert.Kernel6Ideal.τ).loc Cert.Kernel6Ideal.main_v45_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v45_0) = v0 c
          ∧ r.2.mem ((c.tc : Thread Cert.Kernel6Ideal.nD Cert.Kernel6Ideal.τ).loc Cert.Kernel6Ideal.main_v45_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v124) = v0 c
          ∧ r.2.mem ((c.tc : Thread Cert.Reference6Ideal.nD Cert.Reference6Ideal.τ).loc Cert.Reference6Ideal.main_v125) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v45_0)) (v1 : (c : Dev Cert.Kernel7Ideal.nD) → Buf (Elt Ideal) ((c.tc : Thread Cert.Kernel7Ideal.nD Cert.Kernel7Ideal.τ).loc Cert.Kernel7Ideal.main_v45_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v45_0) = v0 c
          ∧ r.2.mem ((c.tc : Thread Cert.Kernel7Ideal.nD Cert.Kernel7Ideal.τ).loc Cert.Kernel7Ideal.main_v45_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v120) = v0 c
          ∧ r.2.mem ((c.tc : Thread Cert.Reference7Ideal.nD Cert.Reference7Ideal.τ).loc Cert.Reference7Ideal.main_v121) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v47_0)) (v1 : (c : Dev Cert.Kernel8Ideal.nD) → Buf (Elt Ideal) ((c.tc : Thread Cert.Kernel8Ideal.nD Cert.Kernel8Ideal.τ).loc Cert.Kernel8Ideal.main_v47_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v47_0) = v0 c
          ∧ r.2.mem ((c.tc : Thread Cert.Kernel8Ideal.nD Cert.Kernel8Ideal.τ).loc Cert.Kernel8Ideal.main_v47_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v130) = v0 c
          ∧ r.2.mem ((c.tc : Thread Cert.Reference8Ideal.nD Cert.Reference8Ideal.τ).loc Cert.Reference8Ideal.main_v131) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S2x4096x16x128 : Shape := ⟨4, ![2, 4096, 16, 128]⟩
abbrev S2x4096x16x64 : Shape := ⟨4, ![2, 4096, 16, 64]⟩
abbrev S2x4096x64 : Shape := ⟨3, ![2, 4096, 64]⟩
abbrev S_ : Shape := ⟨0, ![]⟩

class Facts : Prop where
  bcast_S_S2x4096x16x128 : S_.BroadcastsInDim S2x4096x16x128 (![] : Fin 0 → Fin S2x4096x16x128.rank)
  reducesTo_S2x4096x16x128_S_d0_1_2_3 : S2x4096x16x128.ReducesTo [0, 1, 2, 3] S_
  h_S_ : 0 < S_.numel
  bcast_S_S2x4096x16x64 : S_.BroadcastsInDim S2x4096x16x64 (![] : Fin 0 → Fin S2x4096x16x64.rank)
  reducesTo_S2x4096x16x64_S_d0_1_2_3 : S2x4096x16x64.ReducesTo [0, 1, 2, 3] S_
  bcast_S_S2x4096x64 : S_.BroadcastsInDim S2x4096x64 (![] : Fin 0 → Fin S2x4096x64.rank)
  reducesTo_S2x4096x64_S_d0_1_2 : S2x4096x64.ReducesTo [0, 1, 2] S_

variable [Facts]

def fn_part1 {F : FTy → Type} [FloatOps F] (main_arg4 : FVec F S2x4096x64 .f32) (main_v13 : IVec S_ 1) (main_v16 : IVec S2x4096x16x128 1) : IVec S_ 1 :=
  let main_c_5 : IVec S_ 1 := constantI S_ 1 1#1
  let main_v17 : IVec S_ 1 := (fun x v => Host.reduce IntOp.andi x v reducesTo_S2x4096x16x128_S_d0_1_2_3 h_S_) main_v16 main_c_5
  let main_v18 : IVec S_ 1 := andi main_v13 main_v17
  let main_v19 : FVec F S2x4096x64 .f32 := Host.absf main_arg4
  let main_cst_6 : FVec F S_ .f32 := constant S_ .f32 0x7F800000#32
  let main_v20 : FVec F S2x4096x64 .f32 := broadcastInDim S2x4096x64 ![] bcast_S_S2x4096x64 main_cst_6
  let main_v21 : IVec S2x4096x64 1 := cmpf .olt main_v19 main_v20
  let main_c_7 : IVec S_ 1 := constantI S_ 1 1#1
  let main_v22 : IVec S_ 1 := (fun x v => Host.reduce IntOp.andi x v reducesTo_S2x4096x64_S_d0_1_2 h_S_) main_v21 main_c_7
  let main_v23 : IVec S_ 1 := andi main_v18 main_v22
  main_v23

def fn {F : FTy → Type} [FloatOps F] (main_arg0 : FVec F S2x4096x16x128 .f32) (main_arg1 : FVec F S2x4096x16x64 .f32) (main_arg2 : FVec F S2x4096x16x128 .f32) (main_arg3 : FVec F S2x4096x16x128 .f32) (main_arg4 : FVec F S2x4096x64 .f32) : IVec S_ 1 :=
  let main_v0 : FVec F S2x4096x16x128 .f32 := Host.absf main_arg0
  let main_cst : FVec F S_ .f32 := constant S_ .f32 0x7F800000#32
  let main_v1 : FVec F S2x4096x16x128 .f32 := broadcastInDim S2x4096x16x128 ![] bcast_S_S2x4096x16x128 main_cst
  let main_v2 : IVec S2x4096x16x128 1 := cmpf .olt main_v0 main_v1
  let main_c : IVec S_ 1 := constantI S_ 1 1#1
  let main_v3 : IVec S_ 1 := (fun x v => Host.reduce IntOp.andi x v reducesTo_S2x4096x16x128_S_d0_1_2_3 h_S_) main_v2 main_c
  let main_v4 : FVec F S2x4096x16x64 .f32 := Host.absf main_arg1
  let main_cst_0 : FVec F S_ .f32 := constant S_ .f32 0x7F800000#32
  let main_v5 : FVec F S2x4096x16x64 .f32 := broadcastInDim S2x4096x16x64 ![] bcast_S_S2x4096x16x64 main_cst_0
  let main_v6 : IVec S2x4096x16x64 1 := cmpf .olt main_v4 main_v5
  let main_c_1 : IVec S_ 1 := constantI S_ 1 1#1
  let main_v7 : IVec S_ 1 := (fun x v => Host.reduce IntOp.andi x v reducesTo_S2x4096x16x64_S_d0_1_2_3 h_S_) main_v6 main_c_1
  let main_v8 : IVec S_ 1 := andi main_v3 main_v7
  let main_v9 : FVec F S2x4096x16x128 .f32 := Host.absf main_arg2
  let main_cst_2 : FVec F S_ .f32 := constant S_ .f32 0x7F800000#32
  let main_v10 : FVec F S2x4096x16x128 .f32 := broadcastInDim S2x4096x16x128 ![] bcast_S_S2x4096x16x128 main_cst_2
  let main_v11 : IVec S2x4096x16x128 1 := cmpf .olt main_v9 main_v10
  let main_c_3 : IVec S_ 1 := constantI S_ 1 1#1
  let main_v12 : IVec S_ 1 := (fun x v => Host.reduce IntOp.andi x v reducesTo_S2x4096x16x128_S_d0_1_2_3 h_S_) main_v11 main_c_3
  let main_v13 : IVec S_ 1 := andi main_v8 main_v12
  let main_v14 : FVec F S2x4096x16x128 .f32 := Host.absf main_arg3
  let main_cst_4 : FVec F S_ .f32 := constant S_ .f32 0x7F800000#32
  let main_v15 : FVec F S2x4096x16x128 .f32 := broadcastInDim S2x4096x16x128 ![] bcast_S_S2x4096x16x128 main_cst_4
  let main_v16 : IVec S2x4096x16x128 1 := cmpf .olt main_v14 main_v15
  fn_part1 (F := F) main_arg4 main_v13 main_v16
-- ==== Kernel.lean ====
abbrev S2x4096x16x128 : Shape := ⟨4, ![2, 4096, 16, 128]⟩
abbrev S2x4096x16x64 : Shape := ⟨4, ![2, 4096, 16, 64]⟩
abbrev S2x4096x64 : Shape := ⟨3, ![2, 4096, 64]⟩
abbrev S_ : Shape := ⟨0, ![]⟩
abbrev S2x4096x16x256 : Shape := ⟨4, ![2, 4096, 16, 256]⟩
abbrev S8192x4096 : Shape := ⟨2, ![8192, 4096]⟩
abbrev S9216x4096 : Shape := ⟨2, ![9216, 4096]⟩
abbrev S8192x64 : Shape := ⟨2, ![8192, 64]⟩
abbrev S9216x1152 : Shape := ⟨2, ![9216, 1152]⟩
abbrev S8192x2048 : Shape := ⟨2, ![8192, 2048]⟩
abbrev S256x512 : Shape := ⟨2, ![256, 512]⟩
abbrev S4096x512 : Shape := ⟨2, ![4096, 512]⟩
abbrev S4096x128 : Shape := ⟨2, ![4096, 128]⟩
abbrev S256x256 : Shape := ⟨2, ![256, 256]⟩
abbrev S2x4096x256 : Shape := ⟨3, ![2, 4096, 256]⟩
abbrev S1x4096x128 : Shape := ⟨3, ![1, 4096, 128]⟩
abbrev S256x1 : Shape := ⟨2, ![256, 1]⟩
abbrev S256x128 : Shape := ⟨2, ![256, 128]⟩
abbrev S1x512x256 : Shape := ⟨3, ![1, 512, 256]⟩
abbrev S512x256 : Shape := ⟨2, ![512, 256]⟩
abbrev S256 : Shape := ⟨1, ![256]⟩
abbrev S512x128 : Shape := ⟨2, ![512, 128]⟩

abbrev nBuf : Space → Nat
  | .hbm => 22
  | .vmem => 9
  | .smem => 0
  | _ => 0

abbrev bufTy : (tb : Table) → Fin (tcTables nBuf tb) → BufTy
  | .hbm, ⟨0, _⟩ => ⟨S2x4096x16x128, .f32⟩
  | .hbm, ⟨1, _⟩ => ⟨S2x4096x16x64, .f32⟩
  | .hbm, ⟨2, _⟩ => ⟨S2x4096x16x128, .f32⟩
  | .hbm, ⟨3, _⟩ => ⟨S2x4096x16x128, .f32⟩
  | .hbm, ⟨4, _⟩ => ⟨S2x4096x64, .f32⟩
  | .hbm, ⟨5, _⟩ => ⟨S_, .f32⟩
  | .hbm, ⟨6, _⟩ => ⟨S2x4096x16x64, .f32⟩
  | .hbm, ⟨7, _⟩ => ⟨S2x4096x16x256, .f32⟩
  | .hbm, ⟨8, _⟩ => ⟨S8192x4096, .f32⟩
  | .hbm, ⟨9, _⟩ => ⟨S8192x4096, .bf16⟩
  | .hbm, ⟨10, _⟩ => ⟨S_, .i32⟩
  | .hbm, ⟨11, _⟩ => ⟨S_, .bf16⟩
  | .hbm, ⟨12, _⟩ => ⟨S9216x4096, .bf16⟩
  | .hbm, ⟨13, _⟩ => ⟨S2x4096x16x256, .f32⟩
  | .hbm, ⟨14, _⟩ => ⟨S8192x4096, .f32⟩
  | .hbm, ⟨15, _⟩ => ⟨S8192x4096, .bf16⟩
  | .hbm, ⟨16, _⟩ => ⟨S8192x64, .f32⟩
  | .hbm, ⟨17, _⟩ => ⟨S8192x64, .bf16⟩
  | .hbm, ⟨18, _⟩ => ⟨S_, .i32⟩
  | .hbm, ⟨19, _⟩ => ⟨S_, .bf16⟩
  | .hbm, ⟨20, _⟩ => ⟨S9216x1152, .bf16⟩
  | .hbm, ⟨21, _⟩ => ⟨S8192x2048, .bf16⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S4096x128, .bf16⟩
  | .local _ .vmem, ⟨5, _⟩ => ⟨S4096x128, .bf16⟩
  | .local _ .vmem, ⟨6, _⟩ => ⟨S256x256, .bf16⟩
  | .local _ .vmem, ⟨7, _⟩ => ⟨S256x256, .bf16⟩
  | .local _ .vmem, ⟨8, _⟩ => ⟨S2x4096x256, .bf16⟩
  | _, _ => ⟨S2x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_call1_v0 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 16], ![false, false, false]⟩

@[reducible] def k0_t1_loop (i : grid0.Coords) : Scf.Loop 32 :=
  let c0_i32_6 : BitVec 32 := 0#32
  let arg2 : BitVec 32 := BitVec.ofNat 32 (i 2).val
  let c256_i32 : BitVec 32 := 256#32
  let v3 : BitVec 32 := Scalar.muli arg2 c256_i32
  let c512_i32 : BitVec 32 := 512#32
  let v4 : BitVec 32 := Scalar.divsi v3 c512_i32
  let v13 : BitVec 32 := Scalar.subi v4 c0_i32_6
  let c1_i32 : BitVec 32 := 1#32
  let v15 : BitVec 32 := Scalar.divsi v13 c1_i32
  let v16 : BitVec 32 := Scalar.muli v15 c1_i32
  let v17 : BitVec 32 := Scalar.addi c0_i32_6 v16
  let c1_i32_7 : BitVec 32 := 1#32
  ⟨c0_i32_6, v17, c1_i32_7⟩
def k0_mult1 (i : grid0.Coords) (k0_t1 : Fin (k0_t1_loop i).trips) : BitVec 32 :=
  let c0_i32_6 : BitVec 32 := 0#32
  let c1_i32_7 : BitVec 32 := 1#32
  let arg8 : BitVec 32 := Scf.iv c0_i32_6 c1_i32_7 k0_t1
  let c512_i32_31 : BitVec 32 := 512#32
  let v100 : BitVec 32 := Scalar.muli arg8 c512_i32_31
  v100
def k0_off1 (i : grid0.Coords) (k0_t1 : Fin (k0_t1_loop i).trips) : Fin 3 → Nat :=
  let c0_34 : Index := 0#32
  let c0_i32_6 : BitVec 32 := 0#32
  let c1_i32_7 : BitVec 32 := 1#32
  let arg8 : BitVec 32 := Scf.iv c0_i32_6 c1_i32_7 k0_t1
  let c512_i32_31 : BitVec 32 := 512#32
  let v100 : BitVec 32 := Scalar.muli arg8 c512_i32_31
  let v101 : BitVec 32 := v100
  let v104 : Index := Scalar.indexCast v101
  let c0_35 : Index := 0#32
  ![0, v104.toNat, 0]
def k0_off2 (i : grid0.Coords) (k0_t1 : Fin (k0_t1_loop i).trips) : Fin 2 → Nat :=
  let c0_i32_6 : BitVec 32 := 0#32
  let c1_i32_7 : BitVec 32 := 1#32
  let arg8 : BitVec 32 := Scf.iv c0_i32_6 c1_i32_7 k0_t1
  let c512_i32_31 : BitVec 32 := 512#32
  let v100 : BitVec 32 := Scalar.muli arg8 c512_i32_31
  let v101 : BitVec 32 := v100
  let v122 : Index := Scalar.indexCast v101
  let c128_40 : Index := 128#32
  ![v122.toNat, 128]
def k0_off3 (i : grid0.Coords) (k0_t1 : Fin (k0_t1_loop i).trips) : Fin 3 → Nat :=
  let c1_44 : Index := 1#32
  let c0_i32_6 : BitVec 32 := 0#32
  let c1_i32_7 : BitVec 32 := 1#32
  let arg8 : BitVec 32 := Scf.iv c0_i32_6 c1_i32_7 k0_t1
  let c512_i32_31 : BitVec 32 := 512#32
  let v100 : BitVec 32 := Scalar.muli arg8 c512_i32_31
  let v101 : BitVec 32 := v100
  let v132 : Index := Scalar.indexCast v101
  let c0_45 : Index := 0#32
  ![1, v132.toNat, 0]
def k0_off4 (i : grid0.Coords) (k0_t1 : Fin (k0_t1_loop i).trips) : Fin 2 → Nat :=
  let c0_i32_6 : BitVec 32 := 0#32
  let c1_i32_7 : BitVec 32 := 1#32
  let arg8 : BitVec 32 := Scf.iv c0_i32_6 c1_i32_7 k0_t1
  let c512_i32_31 : BitVec 32 := 512#32
  let v100 : BitVec 32 := Scalar.muli arg8 c512_i32_31
  let v101 : BitVec 32 := v100
  let v150 : Index := Scalar.indexCast v101
  let c384_50 : Index := 384#32
  ![v150.toNat, 384]
@[reducible] def k0_t2_loop (i : grid0.Coords) : Scf.Loop 32 :=
  let c0_i32_6 : BitVec 32 := 0#32
  let arg2 : BitVec 32 := BitVec.ofNat 32 (i 2).val
  let c256_i32 : BitVec 32 := 256#32
  let v3 : BitVec 32 := Scalar.muli arg2 c256_i32
  let c512_i32 : BitVec 32 := 512#32
  let v4 : BitVec 32 := Scalar.divsi v3 c512_i32
  let v13 : BitVec 32 := Scalar.subi v4 c0_i32_6
  let c1_i32 : BitVec 32 := 1#32
  let v15 : BitVec 32 := Scalar.divsi v13 c1_i32
  let v16 : BitVec 32 := Scalar.muli v15 c1_i32
  let v17 : BitVec 32 := Scalar.addi c0_i32_6 v16
  let v14 : BitVec 32 := Scalar.addi c0_i32_6 v13
  let c1_i32_8 : BitVec 32 := 1#32
  ⟨v17, v14, c1_i32_8⟩
def k0_mult2 (i : grid0.Coords) (k0_t2 : Fin (k0_t2_loop i).trips) : BitVec 32 :=
  let c0_i32_6 : BitVec 32 := 0#32
  let arg2 : BitVec 32 := BitVec.ofNat 32 (i 2).val
  let c256_i32 : BitVec 32 := 256#32
  let v3 : BitVec 32 := Scalar.muli arg2 c256_i32
  let c512_i32 : BitVec 32 := 512#32
  let v4 : BitVec 32 := Scalar.divsi v3 c512_i32
  let v13 : BitVec 32 := Scalar.subi v4 c0_i32_6
  let c1_i32 : BitVec 32 := 1#32
  let v15 : BitVec 32 := Scalar.divsi v13 c1_i32
  let v16 : BitVec 32 := Scalar.muli v15 c1_i32
  let v17 : BitVec 32 := Scalar.addi c0_i32_6 v16
  let c1_i32_8 : BitVec 32 := 1#32
  let arg8 : BitVec 32 := Scf.iv v17 c1_i32_8 k0_t2
  let c512_i32_31 : BitVec 32 := 512#32
  let v100 : BitVec 32 := Scalar.muli arg8 c512_i32_31
  v100
def k0_off5 (i : grid0.Coords) (k0_t2 : Fin (k0_t2_loop i).trips) : Fin 3 → Nat :=
  let c0_34 : Index := 0#32
  let c0_i32_6 : BitVec 32 := 0#32
  let arg2 : BitVec 32 := BitVec.ofNat 32 (i 2).val
  let c256_i32 : BitVec 32 := 256#32
  let v3 : BitVec 32 := Scalar.muli arg2 c256_i32
  let c512_i32 : BitVec 32 := 512#32
  let v4 : BitVec 32 := Scalar.divsi v3 c512_i32
  let v13 : BitVec 32 := Scalar.subi v4 c0_i32_6
  let c1_i32 : BitVec 32 := 1#32
  let v15 : BitVec 32 := Scalar.divsi v13 c1_i32
  let v16 : BitVec 32 := Scalar.muli v15 c1_i32
  let v17 : BitVec 32 := Scalar.addi c0_i32_6 v16
  let c1_i32_8 : BitVec 32 := 1#32
  let arg8 : BitVec 32 := Scf.iv v17 c1_i32_8 k0_t2
  let c512_i32_31 : BitVec 32 := 512#32
  let v100 : BitVec 32 := Scalar.muli arg8 c512_i32_31
  let v101 : BitVec 32 := v100
  let v104 : Index := Scalar.indexCast v101
  let c0_35 : Index := 0#32
  ![0, v104.toNat, 0]
def k0_off6 (i : grid0.Coords) (k0_t2 : Fin (k0_t2_loop i).trips) : Fin 2 → Nat :=
  let c0_i32_6 : BitVec 32 := 0#32
  let arg2 : BitVec 32 := BitVec.ofNat 32 (i 2).val
  let c256_i32 : BitVec 32 := 256#32
  let v3 : BitVec 32 := Scalar.muli arg2 c256_i32
  let c512_i32 : BitVec 32 := 512#32
  let v4 : BitVec 32 := Scalar.divsi v3 c512_i32
  let v13 : BitVec 32 := Scalar.subi v4 c0_i32_6
  let c1_i32 : BitVec 32 := 1#32
  let v15 : BitVec 32 := Scalar.divsi v13 c1_i32
  let v16 : BitVec 32 := Scalar.muli v15 c1_i32
  let v17 : BitVec 32 := Scalar.addi c0_i32_6 v16
  let c1_i32_8 : BitVec 32 := 1#32
  let arg8 : BitVec 32 := Scf.iv v17 c1_i32_8 k0_t2
  let c512_i32_31 : BitVec 32 := 512#32
  let v100 : BitVec 32 := Scalar.muli arg8 c512_i32_31
  let v101 : BitVec 32 := v100
  let v122 : Index := Scalar.indexCast v101
  let c128_40 : Index := 128#32
  ![v122.toNat, 128]
def k0_off7 (i : grid0.Coords) (k0_t2 : Fin (k0_t2_loop i).trips) : Fin 3 → Nat :=
  let c1_44 : Index := 1#32
  let c0_i32_6 : BitVec 32 := 0#32
  let arg2 : BitVec 32 := BitVec.ofNat 32 (i 2).val
  let c256_i32 : BitVec 32 := 256#32
  let v3 : BitVec 32 := Scalar.muli arg2 c256_i32
  let c512_i32 : BitVec 32 := 512#32
  let v4 : BitVec 32 := Scalar.divsi v3 c512_i32
  let v13 : BitVec 32 := Scalar.subi v4 c0_i32_6
  let c1_i32 : BitVec 32 := 1#32
  let v15 : BitVec 32 := Scalar.divsi v13 c1_i32
  let v16 : BitVec 32 := Scalar.muli v15 c1_i32
  let v17 : BitVec 32 := Scalar.addi c0_i32_6 v16
  let c1_i32_8 : BitVec 32 := 1#32
  let arg8 : BitVec 32 := Scf.iv v17 c1_i32_8 k0_t2
  let c512_i32_31 : BitVec 32 := 512#32
  let v100 : BitVec 32 := Scalar.muli arg8 c512_i32_31
  let v101 : BitVec 32 := v100
  let v132 : Index := Scalar.indexCast v101
  let c0_45 : Index := 0#32
  ![1, v132.toNat, 0]
def k0_off8 (i : grid0.Coords) (k0_t2 : Fin (k0_t2_loop i).trips) : Fin 2 → Nat :=
  let c0_i32_6 : BitVec 32 := 0#32
  let arg2 : BitVec 32 := BitVec.ofNat 32 (i 2).val
  let c256_i32 : BitVec 32 := 256#32
  let v3 : BitVec 32 := Scalar.muli arg2 c256_i32
  let c512_i32 : BitVec 32 := 512#32
  let v4 : BitVec 32 := Scalar.divsi v3 c512_i32
  let v13 : BitVec 32 := Scalar.subi v4 c0_i32_6
  let c1_i32 : BitVec 32 := 1#32
  let v15 : BitVec 32 := Scalar.divsi v13 c1_i32
  let v16 : BitVec 32 := Scalar.muli v15 c1_i32
  let v17 : BitVec 32 := Scalar.addi c0_i32_6 v16
  let c1_i32_8 : BitVec 32 := 1#32
  let arg8 : BitVec 32 := Scf.iv v17 c1_i32_8 k0_t2
  let c512_i32_31 : BitVec 32 := 512#32
  let v100 : BitVec 32 := Scalar.muli arg8 c512_i32_31
  let v101 : BitVec 32 := v100
  let v150 : Index := Scalar.indexCast v101
  let c384_50 : Index := 384#32
  ![v150.toNat, 384]
def k0_mult3 (i : grid0.Coords) : BitVec 32 :=
  let arg2 : BitVec 32 := BitVec.ofNat 32 (i 2).val
  let c256_i32 : BitVec 32 := 256#32
  let v3 : BitVec 32 := Scalar.muli arg2 c256_i32
  let c512_i32 : BitVec 32 := 512#32
  let v4 : BitVec 32 := Scalar.divsi v3 c512_i32
  let c512_i32_9 : BitVec 32 := 512#32
  let v20 : BitVec 32 := Scalar.muli v4 c512_i32_9
  v20
def k0_off9 (i : grid0.Coords) : Fin 3 → Nat :=
  let c0_11 : Index := 0#32
  let arg2 : BitVec 32 := BitVec.ofNat 32 (i 2).val
  let c256_i32 : BitVec 32 := 256#32
  let v3 : BitVec 32 := Scalar.muli arg2 c256_i32
  let c512_i32 : BitVec 32 := 512#32
  let v4 : BitVec 32 := Scalar.divsi v3 c512_i32
  let c512_i32_9 : BitVec 32 := 512#32
  let v20 : BitVec 32 := Scalar.muli v4 c512_i32_9
  let v21 : BitVec 32 := v20
  let v24 : Index := Scalar.indexCast v21
  let c0_12 : Index := 0#32
  ![0, v24.toNat, 0]
def k0_off10 (i : grid0.Coords) : Fin 2 → Nat :=
  let arg2 : BitVec 32 := BitVec.ofNat 32 (i 2).val
  let c256_i32 : BitVec 32 := 256#32
  let v3 : BitVec 32 := Scalar.muli arg2 c256_i32
  let c512_i32 : BitVec 32 := 512#32
  let v4 : BitVec 32 := Scalar.divsi v3 c512_i32
  let c512_i32_9 : BitVec 32 := 512#32
  let v20 : BitVec 32 := Scalar.muli v4 c512_i32_9
  let v21 : BitVec 32 := v20
  let v49 : Index := Scalar.indexCast v21
  let c128 : Index := 128#32
  ![v49.toNat, 128]
def k0_off11 (i : grid0.Coords) : Fin 3 → Nat :=
  let c1 : Index := 1#32
  let arg2 : BitVec 32 := BitVec.ofNat 32 (i 2).val
  let c256_i32 : BitVec 32 := 256#32
  let v3 : BitVec 32 := Scalar.muli arg2 c256_i32
  let c512_i32 : BitVec 32 := 512#32
  let v4 : BitVec 32 := Scalar.divsi v3 c512_i32
  let c512_i32_9 : BitVec 32 := 512#32
  let v20 : BitVec 32 := Scalar.muli v4 c512_i32_9
  let v21 : BitVec 32 := v20
  let v59 : Index := Scalar.indexCast v21
  let c0_20 : Index := 0#32
  ![1, v59.toNat, 0]
def k0_off12 (i : grid0.Coords) : Fin 2 → Nat :=
  let arg2 : BitVec 32 := BitVec.ofNat 32 (i 2).val
  let c256_i32 : BitVec 32 := 256#32
  let v3 : BitVec 32 := Scalar.muli arg2 c256_i32
  let c512_i32 : BitVec 32 := 512#32
  let v4 : BitVec 32 := Scalar.divsi v3 c512_i32
  let c512_i32_9 : BitVec 32 := 512#32
  let v20 : BitVec 32 := Scalar.muli v4 c512_i32_9
  let v21 : BitVec 32 := v20
  let v84 : Index := Scalar.indexCast v21
  let c384 : Index := 384#32
  ![v84.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x4096x16x128 : Shape := ⟨4, ![2, 4096, 16, 128]⟩
abbrev S2x4096x16x64 : Shape := ⟨4, ![2, 4096, 16, 64]⟩
abbrev S2x4096x64 : Shape := ⟨3, ![2, 4096, 64]⟩
abbrev S2x16x4096x4096 : Shape := ⟨4, ![2, 16, 4096, 4096]⟩
abbrev S2x4096x4096x16 : Shape := ⟨4, ![2, 4096, 4096, 16]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x16x4096 : Shape := ⟨3, ![2, 16, 4096]⟩
abbrev S2x16x4096x1 : Shape := ⟨4, ![2, 16, 4096, 1]⟩
abbrev S2x16x128x4096 : Shape := ⟨4, ![2, 16, 128, 4096]⟩
abbrev S8192x2048 : Shape := ⟨2, ![8192, 2048]⟩

abbrev nBuf : Space → Nat
  | .hbm => 39
  | .vmem => 0
  | .smem => 0
  | _ => 0

abbrev bufTy : (tb : Table) → Fin (tcTables nBuf tb) → BufTy
  | .hbm, ⟨0, _⟩ => ⟨S2x4096x16x128, .f32⟩
  | .hbm, ⟨1, _⟩ => ⟨S2x4096x16x64, .f32⟩
  | .hbm, ⟨2, _⟩ => ⟨S2x4096x16x128, .f32⟩
  | .hbm, ⟨3, _⟩ => ⟨S2x4096x16x128, .f32⟩
  | .hbm, ⟨4, _⟩ => ⟨S2x4096x64, .f32⟩
  | .hbm, ⟨5, _⟩ => ⟨S2x16x4096x4096, .f32⟩
  | .hbm, ⟨6, _⟩ => ⟨S2x4096x4096x16, .f32⟩
  | .hbm, ⟨7, _⟩ => ⟨S2x16x4096x4096, .f32⟩
  | .hbm, ⟨8, _⟩ => ⟨S2x16x4096x4096, .f32⟩
  | .hbm, ⟨9, _⟩ => ⟨S_, .f32⟩
  | .hbm, ⟨10, _⟩ => ⟨S2x16x4096x4096, .f32⟩
  | .hbm, ⟨11, _⟩ => ⟨S2x16x4096x4096, .f32⟩
  | .hbm, ⟨12, _⟩ => ⟨S4096, .i32⟩
  | .hbm, ⟨13, _⟩ => ⟨S1x4096, .i32⟩
  | .hbm, ⟨14, _⟩ => ⟨S4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S2x16x4096x4096, .i1⟩
  | .hbm, ⟨22, _⟩ => ⟨S2x16x4096x4096, .f32⟩
  | .hbm, ⟨23, _⟩ => ⟨S2x16x4096x4096, .f32⟩
  | .hbm, ⟨24, _⟩ => ⟨S_, .f32⟩
  | .hbm, ⟨25, _⟩ => ⟨S2x16x4096, .f32⟩
  | .hbm, ⟨26, _⟩ => ⟨S2x16x4096x1, .f32⟩
  | .hbm, ⟨27, _⟩ => ⟨S2x16x4096x4096, .f32⟩
  | .hbm, ⟨28, _⟩ => ⟨S2x16x4096x4096, .f32⟩
  | .hbm, ⟨29, _⟩ => ⟨S2x16x4096x4096, .f32⟩
  | .hbm, ⟨30, _⟩ => ⟨S_, .f32⟩
  | .hbm, ⟨31, _⟩ => ⟨S2x16x4096, .f32⟩
  | .hbm, ⟨32, _⟩ => ⟨S2x16x4096x1, .f32⟩
  | .hbm, ⟨33, _⟩ => ⟨S2x16x4096x4096, .f32⟩
  | .hbm, ⟨34, _⟩ => ⟨S2x16x4096x4096, .f32⟩
  | .hbm, ⟨35, _⟩ => ⟨S2x16x128x4096, .f32⟩
  | .hbm, ⟨36, _⟩ => ⟨S2x4096x16x128, .f32⟩
  | .hbm, ⟨37, _⟩ => ⟨S8192x2048, .f32⟩
  | .hbm, ⟨38, _⟩ => ⟨S8192x2048, .bf16⟩
  | _, _ => ⟨S2x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Kernel2.lean ====
abbrev S2x4096x2048 : Shape := ⟨3, ![2, 4096, 2048]⟩
abbrev S128x8x2048 : Shape := ⟨3, ![128, 8, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S8192x2048 : Shape := ⟨2, ![8192, 2048]⟩
abbrev S1024x2048 : Shape := ⟨2, ![1024, 2048]⟩
abbrev S9216x2048 : Shape := ⟨2, ![9216, 2048]⟩
abbrev S1x2048 : Shape := ⟨2, ![1, 2048]⟩
abbrev S2048 : Shape := ⟨1, ![2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 14
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S128x8x2048, .f32⟩
  | .hbm, ⟨2, _⟩ => ⟨S4x2048, .f32⟩
  | .hbm, ⟨3, _⟩ => ⟨S4x2048x11264, .f32⟩
  | .hbm, ⟨4, _⟩ => ⟨S4x5632x2048, .f32⟩
  | .hbm, ⟨5, _⟩ => ⟨S8192x2048, .f32⟩
  | .hbm, ⟨6, _⟩ => ⟨S1024x2048, .f32⟩
  | .hbm, ⟨7, _⟩ => ⟨S9216x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S4x2048x11264, .bf16⟩
  | .hbm, ⟨12, _⟩ => ⟨S4x5632x2048, .bf16⟩
  | .hbm, ⟨13, _⟩ => ⟨S9216x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![9, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c3_i32 : BitVec 32 := 3#32
  let c0_i32 : BitVec 32 := 0#32
  let c0_i32_0 : BitVec 32 := 0#32
  ![c3_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S2x4096x2048 : Shape := ⟨3, ![2, 4096, 2048]⟩
abbrev S128x8x2048 : Shape := ⟨3, ![128, 8, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S2x4096x11264 : Shape := ⟨3, ![2, 4096, 11264]⟩
abbrev S2x4096x5632 : Shape := ⟨3, ![2, 4096, 5632]⟩
abbrev S128x8 : Shape := ⟨2, ![128, 8]⟩
abbrev S128x8x1 : Shape := ⟨3, ![128, 8, 1]⟩
abbrev S128x8x11264 : Shape := ⟨3, ![128, 8, 11264]⟩
abbrev S128x8x5632 : Shape := ⟨3, ![128, 8, 5632]⟩
abbrev S8192x2048 : Shape := ⟨2, ![8192, 2048]⟩
abbrev S1024x2048 : Shape := ⟨2, ![1024, 2048]⟩
abbrev S9216x2048 : Shape := ⟨2, ![9216, 2048]⟩

abbrev nBuf : Space → Nat
  | .hbm => 82
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S128x8x2048, .f32⟩
  | .hbm, ⟨2, _⟩ => ⟨S4x2048, .f32⟩
  | .hbm, ⟨3, _⟩ => ⟨S4x2048x11264, .f32⟩
  | .hbm, ⟨4, _⟩ => ⟨S4x5632x2048, .f32⟩
  | .hbm, ⟨5, _⟩ => ⟨S1x2048, .f32⟩
  | .hbm, ⟨6, _⟩ => ⟨S2048, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S1x2048x11264, .f32⟩
  | .hbm, ⟨24, _⟩ => ⟨S2048x11264, .f32⟩
  | .hbm, ⟨25, _⟩ => ⟨S1x5632x2048, .f32⟩
  | .hbm, ⟨26, _⟩ => ⟨S5632x2048, .f32⟩
  | .hbm, ⟨27, _⟩ => ⟨S2x4096x11264, .f32⟩
  | .hbm, ⟨28, _⟩ => ⟨S2x4096x5632, .f32⟩
  | .hbm, ⟨29, _⟩ => ⟨S2x4096x5632, .f32⟩
  | .hbm, ⟨30, _⟩ => ⟨S2x4096x5632, .f32⟩
  | .hbm, ⟨31, _⟩ => ⟨S2x4096x5632, .f32⟩
  | .hbm, ⟨32, _⟩ => ⟨S_, .f32⟩
  | .hbm, ⟨33, _⟩ => ⟨S2x4096x5632, .f32⟩
  | .hbm, ⟨34, _⟩ => ⟨S2x4096x5632, .f32⟩
  | .hbm, ⟨35, _⟩ => ⟨S_, .f32⟩
  | .hbm, ⟨36, _⟩ => ⟨S2x4096x5632, .f32⟩
  | .hbm, ⟨37, _⟩ => ⟨S2x4096x5632, .f32⟩
  | .hbm, ⟨38, _⟩ => ⟨S2x4096x5632, .f32⟩
  | .hbm, ⟨39, _⟩ => ⟨S2x4096x5632, .f32⟩
  | .hbm, ⟨40, _⟩ => ⟨S2x4096x2048, .f32⟩
  | .hbm, ⟨41, _⟩ => ⟨S2x4096x2048, .f32⟩
  | .hbm, ⟨42, _⟩ => ⟨S1x2048, .f32⟩
  | .hbm, ⟨43, _⟩ => ⟨S2048, .f32⟩
  | .hbm, ⟨44, _⟩ => ⟨S128x8x2048, .f32⟩
  | .hbm, ⟨45, _⟩ => ⟨S_, .f32⟩
  | .hbm, ⟨46, _⟩ => ⟨S128x8, .f32⟩
  | .hbm, ⟨47, _⟩ => ⟨S128x8x1, .f32⟩
  | .hbm, ⟨48, _⟩ => ⟨S_, .f32⟩
  | .hbm, ⟨49, _⟩ => ⟨S128x8x1, .f32⟩
  | .hbm, ⟨50, _⟩ => ⟨S128x8x1, .f32⟩
  | .hbm, ⟨51, _⟩ => ⟨S_, .f32⟩
  | .hbm, ⟨52, _⟩ => ⟨S128x8x1, .f32⟩
  | .hbm, ⟨53, _⟩ => ⟨S128x8x1, .f32⟩
  | .hbm, ⟨54, _⟩ => ⟨S128x8x1, .f32⟩
  | .hbm, ⟨55, _⟩ => ⟨S128x8x2048, .f32⟩
  | .hbm, ⟨56, _⟩ => ⟨S128x8x2048, .f32⟩
  | .hbm, ⟨57, _⟩ => ⟨S1x1x2048, .f32⟩
  | .hbm, ⟨58, _⟩ => ⟨S128x8x2048, .f32⟩
  | .hbm, ⟨59, _⟩ => ⟨S128x8x2048, .f32⟩
  | .hbm, ⟨60, _⟩ => ⟨S1x2048x11264, .f32⟩
  | .hbm, ⟨61, _⟩ => ⟨S2048x11264, .f32⟩
  | .hbm, ⟨62, _⟩ => ⟨S1x5632x2048, .f32⟩
  | .hbm, ⟨63, _⟩ => ⟨S5632x2048, .f32⟩
  | .hbm, ⟨64, _⟩ => ⟨S128x8x11264, .f32⟩
  | .hbm, ⟨65, _⟩ => ⟨S128x8x5632, .f32⟩
  | .hbm, ⟨66, _⟩ => ⟨S128x8x5632, .f32⟩
  | .hbm, ⟨67, _⟩ => ⟨S128x8x5632, .f32⟩
  | .hbm, ⟨68, _⟩ => ⟨S128x8x5632, .f32⟩
  | .hbm, ⟨69, _⟩ => ⟨S_, .f32⟩
  | .hbm, ⟨70, _⟩ => ⟨S128x8x5632, .f32⟩
  | .hbm, ⟨71, _⟩ => ⟨S128x8x5632, .f32⟩
  | .hbm, ⟨72, _⟩ => ⟨S_, .f32⟩
  | .hbm, ⟨73, _⟩ => ⟨S128x8x5632, .f32⟩
  | .hbm, ⟨74, _⟩ => ⟨S128x8x5632, .f32⟩
  | .hbm, ⟨75, _⟩ => ⟨S128x8x5632, .f32⟩
  | .hbm, ⟨76, _⟩ => ⟨S128x8x5632, .f32⟩
  | .hbm, ⟨77, _⟩ => ⟨S128x8x2048, .f32⟩
  | .hbm, ⟨78, _⟩ => ⟨S128x8x2048, .f32⟩
  | .hbm, ⟨79, _⟩ => ⟨S8192x2048, .f32⟩
  | .hbm, ⟨80, _⟩ => ⟨S1024x2048, .f32⟩
  | .hbm, ⟨81, _⟩ => ⟨S9216x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩

abbrev nD : Nat := 1
abbrev τ : Topo := Topo.v7x

variable {F : FTy → Type} [FloatOps F]
-- ==== Kernel3.lean ====
abbrev S2x4096x16x128 : Shape := ⟨4, ![2, 4096, 16, 128]⟩
abbrev S128x8x16x128 : Shape := ⟨4, ![128, 8, 16, 128]⟩
abbrev S2048x2048 : Shape := ⟨2, ![2048, 2048]⟩
abbrev S2x4096x2048 : Shape := ⟨3, ![2, 4096, 2048]⟩
abbrev S128x8x2048 : Shape := ⟨3, ![128, 8, 2048]⟩
abbrev S8192x2048 : Shape := ⟨2, ![8192, 2048]⟩
abbrev S1024x2048 : Shape := ⟨2, ![1024, 2048]⟩
abbrev S9216x2048 : Shape := ⟨2, ![9216, 2048]⟩
abbrev S2048x512 : Shape := ⟨2, ![2048, 512]⟩
abbrev S1024x512 : Shape := ⟨2, ![1024, 512]⟩

abbrev nBuf : Space → Nat
  | .hbm => 14
  | .vmem => 8
  | .smem => 0
  | _ => 0

abbrev bufTy : (tb : Table) → Fin (tcTables nBuf tb) → BufTy
  | .hbm, ⟨0, _⟩ => ⟨S2x4096x16x128, .f32⟩
  | .hbm, ⟨1, _⟩ => ⟨S128x8x16x128, .f32⟩
  | .hbm, ⟨2, _⟩ => ⟨S2048x2048, .f32⟩
  | .hbm, ⟨3, _⟩ => ⟨S2x4096x2048, .f32⟩
  | .hbm, ⟨4, _⟩ => ⟨S128x8x2048, .f32⟩
  | .hbm, ⟨5, _⟩ => ⟨S8192x2048, .f32⟩
  | .hbm, ⟨6, _⟩ => ⟨S1024x2048, .f32⟩
  | .hbm, ⟨7, _⟩ => ⟨S9216x2048, .f32⟩
  | .hbm, ⟨8, _⟩ => ⟨S8192x2048, .f32⟩
  | .hbm, ⟨9, _⟩ => ⟨S1024x2048, .f32⟩
  | .hbm, ⟨10, _⟩ => ⟨S9216x2048, .f32⟩
  | .hbm, ⟨11, _⟩ => ⟨S9216x2048, .bf16⟩
  | .hbm, ⟨12, _⟩ => ⟨S2048x2048, .bf16⟩
  | .hbm, ⟨13, _⟩ => ⟨S9216x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x4096x16x128 : Shape := ⟨4, ![2, 4096, 16, 128]⟩
abbrev S128x8x16x128 : Shape := ⟨4, ![128, 8, 16, 128]⟩
abbrev S2048x2048 : Shape := ⟨2, ![2048, 2048]⟩
abbrev S2x4096x2048 : Shape := ⟨3, ![2, 4096, 2048]⟩
abbrev S128x8x2048 : Shape := ⟨3, ![128, 8, 2048]⟩
abbrev S8192x2048 : Shape := ⟨2, ![8192, 2048]⟩
abbrev S1024x2048 : Shape := ⟨2, ![1024, 2048]⟩
abbrev S9216x2048 : Shape := ⟨2, ![9216, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x16x128, .f32⟩
  | .hbm, ⟨1, _⟩ => ⟨S128x8x16x128, .f32⟩
  | .hbm, ⟨2, _⟩ => ⟨S2048x2048, .f32⟩
  | .hbm, ⟨3, _⟩ => ⟨S2x4096x2048, .f32⟩
  | .hbm, ⟨4, _⟩ => ⟨S128x8x2048, .f32⟩
  | .hbm, ⟨5, _⟩ => ⟨S2x4096x2048, .f32⟩
  | .hbm, ⟨6, _⟩ => ⟨S2x4096x2048, .f32⟩
  | .hbm, ⟨7, _⟩ => ⟨S128x8x2048, .f32⟩
  | .hbm, ⟨8, _⟩ => ⟨S128x8x2048, .f32⟩
  | .hbm, ⟨9, _⟩ => ⟨S2x4096x2048, .f32⟩
  | .hbm, ⟨10, _⟩ => ⟨S128x8x2048, .f32⟩
  | .hbm, ⟨11, _⟩ => ⟨S8192x2048, .f32⟩
  | .hbm, ⟨12, _⟩ => ⟨S1024x2048, .f32⟩
  | .hbm, ⟨13, _⟩ => ⟨S9216x2048, .f32⟩
  | _, _ => ⟨S2x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel4.lean ====
abbrev S2x4096x2048 : Shape := ⟨3, ![2, 4096, 2048]⟩
abbrev S128x8x2048 : Shape := ⟨3, ![128, 8, 2048]⟩
abbrev S2048 : Shape := ⟨1, ![2048]⟩
abbrev S8192x2048 : Shape := ⟨2, ![8192, 2048]⟩
abbrev S1024x2048 : Shape := ⟨2, ![1024, 2048]⟩
abbrev S9216x2048 : Shape := ⟨2, ![9216, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 5
  | .smem => 0
  | _ => 0

abbrev bufTy : (tb : Table) → Fin (tcTables nBuf tb) → BufTy
  | .hbm, ⟨0, _⟩ => ⟨S2x4096x2048, .f32⟩
  | .hbm, ⟨1, _⟩ => ⟨S128x8x2048, .f32⟩
  | .hbm, ⟨2, _⟩ => ⟨S2048, .f32⟩
  | .hbm, ⟨3, _⟩ => ⟨S8192x2048, .f32⟩
  | .hbm, ⟨4, _⟩ => ⟨S1024x2048, .f32⟩
  | .hbm, ⟨5, _⟩ => ⟨S9216x2048, .f32⟩
  | .hbm, ⟨6, _⟩ => ⟨S1x2048, .f32⟩
  | .hbm, ⟨7, _⟩ => ⟨S9216x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S2x4096x2048 : Shape := ⟨3, ![2, 4096, 2048]⟩
abbrev S128x8x2048 : Shape := ⟨3, ![128, 8, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S128x8 : Shape := ⟨2, ![128, 8]⟩
abbrev S128x8x1 : Shape := ⟨3, ![128, 8, 1]⟩
abbrev S8192x2048 : Shape := ⟨2, ![8192, 2048]⟩
abbrev S1024x2048 : Shape := ⟨2, ![1024, 2048]⟩
abbrev S9216x2048 : Shape := ⟨2, ![9216, 2048]⟩

abbrev nBuf : Space → Nat
  | .hbm => 38
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S128x8x2048, .f32⟩
  | .hbm, ⟨2, _⟩ => ⟨S2048, .f32⟩
  | .hbm, ⟨3, _⟩ => ⟨S2x4096x2048, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x2048, .f32⟩
  | .hbm, ⟨15, _⟩ => ⟨S2x4096x2048, .f32⟩
  | .hbm, ⟨16, _⟩ => ⟨S1x1x2048, .f32⟩
  | .hbm, ⟨17, _⟩ => ⟨S2x4096x2048, .f32⟩
  | .hbm, ⟨18, _⟩ => ⟨S2x4096x2048, .f32⟩
  | .hbm, ⟨19, _⟩ => ⟨S128x8x2048, .f32⟩
  | .hbm, ⟨20, _⟩ => ⟨S_, .f32⟩
  | .hbm, ⟨21, _⟩ => ⟨S128x8, .f32⟩
  | .hbm, ⟨22, _⟩ => ⟨S128x8x1, .f32⟩
  | .hbm, ⟨23, _⟩ => ⟨S_, .f32⟩
  | .hbm, ⟨24, _⟩ => ⟨S128x8x1, .f32⟩
  | .hbm, ⟨25, _⟩ => ⟨S128x8x1, .f32⟩
  | .hbm, ⟨26, _⟩ => ⟨S_, .f32⟩
  | .hbm, ⟨27, _⟩ => ⟨S128x8x1, .f32⟩
  | .hbm, ⟨28, _⟩ => ⟨S128x8x1, .f32⟩
  | .hbm, ⟨29, _⟩ => ⟨S128x8x1, .f32⟩
  | .hbm, ⟨30, _⟩ => ⟨S128x8x2048, .f32⟩
  | .hbm, ⟨31, _⟩ => ⟨S128x8x2048, .f32⟩
  | .hbm, ⟨32, _⟩ => ⟨S1x1x2048, .f32⟩
  | .hbm, ⟨33, _⟩ => ⟨S128x8x2048, .f32⟩
  | .hbm, ⟨34, _⟩ => ⟨S128x8x2048, .f32⟩
  | .hbm, ⟨35, _⟩ => ⟨S8192x2048, .f32⟩
  | .hbm, ⟨36, _⟩ => ⟨S1024x2048, .f32⟩
  | .hbm, ⟨37, _⟩ => ⟨S9216x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel5.lean ====
abbrev S2x4096x2048 : Shape := ⟨3, ![2, 4096, 2048]⟩
abbrev S128x8x2048 : Shape := ⟨3, ![128, 8, 2048]⟩
abbrev S4x2048 : Shape := ⟨2, ![4, 2048]⟩
abbrev S2048x5264 : Shape := ⟨2, ![2048, 5264]⟩
abbrev S42 : Shape := ⟨1, ![42]⟩
abbrev S8192x2048 : Shape := ⟨2, ![8192, 2048]⟩
abbrev S1024x2048 : Shape := ⟨2, ![1024, 2048]⟩
abbrev S9216x2048 : Shape := ⟨2, ![9216, 2048]⟩
abbrev S4096 : Shape := ⟨1, ![4096]⟩
abbrev S1x4096 : Shape := ⟨2, ![1, 4096]⟩
abbrev S2x4096 : Shape := ⟨2, ![2, 4096]⟩
abbrev S8192 : Shape := ⟨1, ![8192]⟩
abbrev S8 : Shape := ⟨1, ![8]⟩
abbrev S_ : Shape := ⟨0, ![]⟩
abbrev S1x8 : Shape := ⟨2, ![1, 8]⟩
abbrev S128x8 : Shape := ⟨2, ![128, 8]⟩
abbrev S1024 : Shape := ⟨1, ![1024]⟩
abbrev S9216 : Shape := ⟨1, ![9216]⟩
abbrev S64 : Shape := ⟨1, ![64]⟩
abbrev S9216x1 : Shape := ⟨2, ![9216, 1]⟩
abbrev S1x64 : Shape := ⟨2, ![1, 64]⟩
abbrev S9216x64 : Shape := ⟨2, ![9216, 64]⟩
abbrev S9216x128 : Shape := ⟨2, ![9216, 128]⟩
abbrev S1x9216x1x128 : Shape := ⟨4, ![1, 9216, 1, 128]⟩
abbrev S2048x2048 : Shape := ⟨2, ![2048, 2048]⟩
abbrev S2048x1024 : Shape := ⟨2, ![2048, 1024]⟩
abbrev S2048x128 : Shape := ⟨2, ![2048, 128]⟩
abbrev S2048x16 : Shape := ⟨2, ![2048, 16]⟩
abbrev S2048x112 : Shape := ⟨2, ![2048, 112]⟩
abbrev S2048x5376 : Shape := ⟨2, ![2048, 5376]⟩
abbrev S1x2048 : Shape := ⟨2, ![1, 2048]⟩
abbrev S2048 : Shape := ⟨1, ![2048]⟩
abbrev S9216x5376 : Shape := ⟨2, ![9216, 5376]⟩
abbrev S2048x768 : Shape := ⟨2, ![2048, 768]⟩
abbrev S1024x128 : Shape := ⟨2, ![1024, 128]⟩
abbrev S1024x768 : Shape := ⟨2, ![1024, 768]⟩
abbrev S1024x1 : Shape := ⟨2, ![1024, 1]⟩
abbrev S1 : Shape := ⟨1, ![1]⟩

abbrev nBuf : Space → Nat
  | .hbm => 64
  | .vmem => 14
  | .smem => 1
  | _ => 0

abbrev bufTy : (tb : Table) → Fin (tcTables nBuf tb) → BufTy
  | .hbm, ⟨0, _⟩ => ⟨S2x4096x2048, .f32⟩
  | .hbm, ⟨1, _⟩ => ⟨S128x8x2048, .f32⟩
  | .hbm, ⟨2, _⟩ => ⟨S4x2048, .f32⟩
  | .hbm, ⟨3, _⟩ => ⟨S2048x5264, .f32⟩
  | .hbm, ⟨4, _⟩ => ⟨S8192x2048, .f32⟩
  | .hbm, ⟨5, _⟩ => ⟨S1024x2048, .f32⟩
  | .hbm, ⟨6, _⟩ => ⟨S9216x2048, .f32⟩
  | .hbm, ⟨7, _⟩ => ⟨S4096, .i32⟩
  | .hbm, ⟨8, _⟩ => ⟨S1x4096, .i32⟩
  | .hbm, ⟨9, _⟩ => ⟨S2x4096, .i32⟩
  | .hbm, ⟨10, _⟩ => ⟨S8192, .i32⟩
  | .hbm, ⟨11, _⟩ => ⟨S8, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S1x8, .i32⟩
  | .hbm, ⟨16, _⟩ => ⟨S128x8, .i32⟩
  | .hbm, ⟨17, _⟩ => ⟨S1024, .i32⟩
  | .hbm, ⟨18, _⟩ => ⟨S9216, .i32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S9216, .f32⟩
  | .hbm, ⟨34, _⟩ => ⟨S9216x1, .f32⟩
  | .hbm, ⟨35, _⟩ => ⟨S1x64, .f32⟩
  | .hbm, ⟨36, _⟩ => ⟨S9216x64, .f32⟩
  | .hbm, ⟨37, _⟩ => ⟨S9216x64, .f32⟩
  | .hbm, ⟨38, _⟩ => ⟨S9216x64, .f32⟩
  | .hbm, ⟨39, _⟩ => ⟨S9216x64, .f32⟩
  | .hbm, ⟨40, _⟩ => ⟨S9216x64, .f32⟩
  | .hbm, ⟨41, _⟩ => ⟨S9216x128, .f32⟩
  | .hbm, ⟨42, _⟩ => ⟨S9216x64, .f32⟩
  | .hbm, ⟨43, _⟩ => ⟨S9216x128, .f32⟩
  | .hbm, ⟨44, _⟩ => ⟨S1x9216x1x128, .f32⟩
  | .hbm, ⟨45, _⟩ => ⟨S1x9216x1x128, .f32⟩
  | .hbm, ⟨46, _⟩ => ⟨S9216x128, .f32⟩
  | .hbm, ⟨47, _⟩ => ⟨S1x9216x1x128, .f32⟩
  | .hbm, ⟨48, _⟩ => ⟨S1x9216x1x128, .f32⟩
  | .hbm, ⟨49, _⟩ => ⟨S9216x128, .f32⟩
  | .hbm, ⟨50, _⟩ => ⟨S2048x2048, .f32⟩
  | .hbm, ⟨51, _⟩ => ⟨S2048x1024, .f32⟩
  | .hbm, ⟨52, _⟩ => ⟨S2048x2048, .f32⟩
  | .hbm, ⟨53, _⟩ => ⟨S2048x128, .f32⟩
  | .hbm, ⟨54, _⟩ => ⟨S2048x16, .f32⟩
  | .hbm, ⟨55, _⟩ => ⟨S_, .f32⟩
  | .hbm, ⟨56, _⟩ => ⟨S2048x112, .f32⟩
  | .hbm, ⟨57, _⟩ => ⟨S2048x5376, .f32⟩
  | .hbm, ⟨58, _⟩ => ⟨S1x2048, .f32⟩
  | .hbm, ⟨59, _⟩ => ⟨S2048, .f32⟩
  | .hbm, ⟨60, _⟩ => ⟨S1x2048, .f32⟩
  | .hbm, ⟨61, _⟩ => ⟨S2048x5376, .bf16⟩
  | .hbm, ⟨62, _⟩ => ⟨S9216x5376, .f32⟩
  | .hbm, ⟨63, _⟩ => ⟨S9216x5376, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x768, .f32⟩
  | .local _ .vmem, ⟨10, _⟩ => ⟨S1024x768, .f32⟩
  | .local _ .vmem, ⟨11, _⟩ => ⟨S1024x768, .bf16⟩
  | .local _ .vmem, ⟨12, _⟩ => ⟨S1024x768, .bf16⟩
  | .local _ .vmem, ⟨13, _⟩ => ⟨S1024x2048, .bf16⟩
  | .local _ .smem, ⟨0, _⟩ => ⟨S42, .i32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52_0 : Ref sig .tc := ⟨.hbm, 62, rfl⟩
abbrev main_v52_1 : Ref sig .tc := ⟨.hbm, 63, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![9, 7], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_8 : BitVec 32) : Fin 1 → Nat :=
  let arg1 : BitVec 32 := BitVec.ofNat 32 (i 1).val
  let c6_i32 : BitVec 32 := 6#32
  let v16 : BitVec 32 := Scalar.muli arg1 c6_i32
  let v17 : BitVec 32 := Scalar.addi v16 c0_i32_8
  let v18 : Index := Scalar.indexCast v17
  ![v18.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S2x4096x2048 : Shape := ⟨3, ![2, 4096, 2048]⟩
abbrev S128x8x2048 : Shape := ⟨3, ![128, 8, 2048]⟩
abbrev S4x2048 : Shape := ⟨2, ![4, 2048]⟩
abbrev S2048x5264 : Shape := ⟨2, ![2048, 5264]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S4096 : Shape := ⟨1, ![4096]⟩
abbrev S2x4096x5264 : Shape := ⟨3, ![2, 4096, 5264]⟩
abbrev S2x4096x1024 : Shape := ⟨3, ![2, 4096, 1024]⟩
abbrev S2x4096x128 : Shape := ⟨3, ![2, 4096, 128]⟩
abbrev S2x4096x16 : Shape := ⟨3, ![2, 4096, 16]⟩
abbrev S2x4096x16x128 : Shape := ⟨4, ![2, 4096, 16, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S2x4096x16x64 : Shape := ⟨4, ![2, 4096, 16, 64]⟩
abbrev S1x4096x1x64 : Shape := ⟨4, ![1, 4096, 1, 64]⟩
abbrev S2x4096x2x4x128 : Shape := ⟨5, ![2, 4096, 2, 4, 128]⟩
abbrev S2x4096x1x4x128 : Shape := ⟨5, ![2, 4096, 1, 4, 128]⟩
abbrev S2x4096x4x128 : Shape := ⟨4, ![2, 4096, 4, 128]⟩
abbrev S2x4096x4x64 : Shape := ⟨4, ![2, 4096, 4, 64]⟩
abbrev S2x4096x1x128 : Shape := ⟨4, ![2, 4096, 1, 128]⟩
abbrev S2x4096x1x64 : Shape := ⟨4, ![2, 4096, 1, 64]⟩
abbrev S8192x2048 : Shape := ⟨2, ![8192, 2048]⟩
abbrev S8192x1024 : Shape := ⟨2, ![8192, 1024]⟩
abbrev S8192x128 : Shape := ⟨2, ![8192, 128]⟩
abbrev S8192x16 : Shape := ⟨2, ![8192, 16]⟩
abbrev S8192x112 : Shape := ⟨2, ![8192, 112]⟩
abbrev S8192x5376 : Shape := ⟨2, ![8192, 5376]⟩
abbrev S128x8 : Shape := ⟨2, ![128, 8]⟩
abbrev S128x8x1 : Shape := ⟨3, ![128, 8, 1]⟩
abbrev S8 : Shape := ⟨1, ![8]⟩
abbrev S128x8x5264 : Shape := ⟨3, ![128, 8, 5264]⟩
abbrev S128x8x1024 : Shape := ⟨3, ![128, 8, 1024]⟩
abbrev S128x8x128 : Shape := ⟨3, ![128, 8, 128]⟩
abbrev S128x8x16 : Shape := ⟨3, ![128, 8, 16]⟩
abbrev S128x8x16x128 : Shape := ⟨4, ![128, 8, 16, 128]⟩
abbrev S8x1 : Shape := ⟨2, ![8, 1]⟩
abbrev S8x64 : Shape := ⟨2, ![8, 64]⟩
abbrev S8x1x64 : Shape := ⟨3, ![8, 1, 64]⟩
abbrev S128x8x16x64 : Shape := ⟨4, ![128, 8, 16, 64]⟩
abbrev S1x8x1x64 : Shape := ⟨4, ![1, 8, 1, 64]⟩
abbrev S128x8x2x4x128 : Shape := ⟨5, ![128, 8, 2, 4, 128]⟩
abbrev S128x8x1x4x128 : Shape := ⟨5, ![128, 8, 1, 4, 128]⟩
abbrev S128x8x4x128 : Shape := ⟨4, ![128, 8, 4, 128]⟩
abbrev S128x8x4x64 : Shape := ⟨4, ![128, 8, 4, 64]⟩
abbrev S128x8x1x128 : Shape := ⟨4, ![128, 8, 1, 128]⟩
abbrev S128x8x1x64 : Shape := ⟨4, ![128, 8, 1, 64]⟩
abbrev S1024x2048 : Shape := ⟨2, ![1024, 2048]⟩
abbrev S1024x1024 : Shape := ⟨2, ![1024, 1024]⟩
abbrev S1024x128 : Shape := ⟨2, ![1024, 128]⟩
abbrev S1024x16 : Shape := ⟨2, ![1024, 16]⟩
abbrev S1024x112 : Shape := ⟨2, ![1024, 112]⟩
abbrev S1024x5376 : Shape := ⟨2, ![1024, 5376]⟩
abbrev S9216x5376 : Shape := ⟨2, ![9216, 5376]⟩

abbrev nBuf : Space → Nat
  | .hbm => 427
  | .vmem => 0
  | .smem => 0
  | _ => 0

abbrev hbmTy0_0 (i : Nat) : BufTy := match i % 128 with
  | 0 => ⟨S2x4096x2048, .f32⟩
  | 1 => ⟨S128x8x2048, .f32⟩
  | 2 => ⟨S4x2048, .f32⟩
  | 3 => ⟨S2048x5264, .f32⟩
  | 4 => ⟨S1x2048, .f32⟩
  | 5 => ⟨S2048, .f32⟩
  | 6 => ⟨S2x4096x2048, .f32⟩
  | 7 => ⟨S_, .f32⟩
  | 8 => ⟨S2x4096, .f32⟩
  | 9 => ⟨S2x4096x1, .f32⟩
  | 10 => ⟨S_, .f32⟩
  | 11 => ⟨S2x4096x1, .f32⟩
  | 12 => ⟨S2x4096x1, .f32⟩
  | 13 => ⟨S_, .f32⟩
  | 14 => ⟨S2x4096x1, .f32⟩
  | 15 => ⟨S2x4096x1, .f32⟩
  | 16 => ⟨S2x4096x1, .f32⟩
  | 17 => ⟨S2x4096x2048, .f32⟩
  | 18 => ⟨S2x4096x2048, .f32⟩
  | 19 => ⟨S1x1x2048, .f32⟩
  | 20 => ⟨S2x4096x2048, .f32⟩
  | 21 => ⟨S2x4096x2048, .f32⟩
  | 22 => ⟨S4096, .i32⟩
  | 23 => ⟨S2x4096x5264, .f32⟩
  | 24 => ⟨S2x4096x2048, .f32⟩
  | 25 => ⟨S2x4096x1024, .f32⟩
  | 26 => ⟨S2x4096x2048, .f32⟩
  | 27 => ⟨S2x4096x128, .f32⟩
  | 28 => ⟨S2x4096x16, .f32⟩
  | 29 => ⟨S2x4096x16x128, .f32⟩
  | 30 => ⟨S64, .f32⟩
  | 31 => ⟨S_, .f32⟩
  | 32 => ⟨S64, .f32⟩
  | 33 => ⟨S64, .f32⟩
  | 34 => ⟨S_, .f32⟩
  | 35 => ⟨S64, .f32⟩
  | 36 => ⟨S64, .f32⟩
  | 37 => ⟨S64, .f32⟩
  | 38 => ⟨S_, .f32⟩
  | 39 => ⟨S64, .f32⟩
  | 40 => ⟨S64, .f32⟩
  | 41 => ⟨S_, .f32⟩
  | 42 => ⟨S64, .f32⟩
  | 43 => ⟨S64, .f32⟩
  | 44 => ⟨S4096, .f32⟩
  | 45 => ⟨S4096x1, .f32⟩
  | 46 => ⟨S1x64, .f32⟩
  | 47 => ⟨S4096x64, .f32⟩
  | 48 => ⟨S4096x64, .f32⟩
  | 49 => ⟨S4096x64, .f32⟩
  | 50 => ⟨S4096x64, .f32⟩
  | 51 => ⟨S4096x1x64, .f32⟩
  | 52 => ⟨S4096x64, .f32⟩
  | 53 => ⟨S4096x1x64, .f32⟩
  | 54 => ⟨S2x4096x16x64, .f32⟩
  | 55 => ⟨S2x4096x16x64, .f32⟩
  | 56 => ⟨S1x4096x1x64, .f32⟩
  | 57 => ⟨S2x4096x16x64, .f32⟩
  | 58 => ⟨S2x4096x16x64, .f32⟩
  | 59 => ⟨S1x4096x1x64, .f32⟩
  | 60 => ⟨S2x4096x16x64, .f32⟩
  | 61 => ⟨S2x4096x16x64, .f32⟩
  | 62 => ⟨S2x4096x16x64, .f32⟩
  | 63 => ⟨S1x4096x1x64, .f32⟩
  | 64 => ⟨S2x4096x16x64, .f32⟩
  | 65 => ⟨S2x4096x16x64, .f32⟩
  | 66 => ⟨S1x4096x1x64, .f32⟩
  | 67 => ⟨S2x4096x16x64, .f32⟩
  | 68 => ⟨S2x4096x16x64, .f32⟩
  | 69 => ⟨S2x4096x16x64, .f32⟩
  | 70 => ⟨S2x4096x16x128, .f32⟩
  | 71 => ⟨S2x4096x2x4x128, .f32⟩
  | 72 => ⟨S2x4096x1x4x128, .f32⟩
  | 73 => ⟨S2x4096x4x128, .f32⟩
  | 74 => ⟨S64, .f32⟩
  | 75 => ⟨S_, .f32⟩
  | 76 => ⟨S64, .f32⟩
  | 77 => ⟨S64, .f32⟩
  | 78 => ⟨S_, .f32⟩
  | 79 => ⟨S64, .f32⟩
  | 80 => ⟨S64, .f32⟩
  | 81 => ⟨S64, .f32⟩
  | 82 => ⟨S_, .f32⟩
  | 83 => ⟨S64, .f32⟩
  | 84 => ⟨S64, .f32⟩
  | 85 => ⟨S_, .f32⟩
  | 86 => ⟨S64, .f32⟩
  | 87 => ⟨S64, .f32⟩
  | 88 => ⟨S4096, .f32⟩
  | 89 => ⟨S4096x1, .f32⟩
  | 90 => ⟨S1x64, .f32⟩
  | 91 => ⟨S4096x64, .f32⟩
  | 92 => ⟨S4096x64, .f32⟩
  | 93 => ⟨S4096x64, .f32⟩
  | 94 => ⟨S4096x64, .f32⟩
  | 95 => ⟨S4096x1x64, .f32⟩
  | 96 => ⟨S4096x64, .f32⟩
  | 97 => ⟨S4096x1x64, .f32⟩
  | 98 => ⟨S2x4096x4x64, .f32⟩
  | 99 => ⟨S2x4096x4x64, .f32⟩
  | 100 => ⟨S1x4096x1x64, .f32⟩
  | 101 => ⟨S2x4096x4x64, .f32⟩
  | 102 => ⟨S2x4096x4x64, .f32⟩
  | 103 => ⟨S1x4096x1x64, .f32⟩
  | 104 => ⟨S2x4096x4x64, .f32⟩
  | 105 => ⟨S2x4096x4x64, .f32⟩
  | 106 => ⟨S2x4096x4x64, .f32⟩
  | 107 => ⟨S1x4096x1x64, .f32⟩
  | 108 => ⟨S2x4096x4x64, .f32⟩
  | 109 => ⟨S2x4096x4x64, .f32⟩
  | 110 => ⟨S1x4096x1x64, .f32⟩
  | 111 => ⟨S2x4096x4x64, .f32⟩
  | 112 => ⟨S2x4096x4x64, .f32⟩
  | 113 => ⟨S2x4096x4x64, .f32⟩
  | 114 => ⟨S2x4096x4x128, .f32⟩
  | 115 => ⟨S2x4096x1x4x128, .f32⟩
  | 116 => ⟨S2x4096x4x128, .f32⟩
  | 117 => ⟨S2x4096x1x4x128, .f32⟩
  | 118 => ⟨S2x4096x1x4x128, .f32⟩
  | 119 => ⟨S2x4096x2x4x128, .f32⟩
  | 120 => ⟨S2x4096x16x128, .f32⟩
  | 121 => ⟨S64, .f32⟩
  | 122 => ⟨S_, .f32⟩
  | 123 => ⟨S64, .f32⟩
  | 124 => ⟨S64, .f32⟩
  | 125 => ⟨S_, .f32⟩
  | 126 => ⟨S64, .f32⟩
  | 127 => ⟨S64, .f32⟩
  | _ => ⟨S2x4096x2048, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S_, .f32⟩
  | 5 => ⟨S64, .f32⟩
  | 6 => ⟨S64, .f32⟩
  | 7 => ⟨S4096, .f32⟩
  | 8 => ⟨S4096x1, .f32⟩
  | 9 => ⟨S1x64, .f32⟩
  | 10 => ⟨S4096x64, .f32⟩
  | 11 => ⟨S4096x64, .f32⟩
  | 12 => ⟨S4096x64, .f32⟩
  | 13 => ⟨S4096x64, .f32⟩
  | 14 => ⟨S4096x1x64, .f32⟩
  | 15 => ⟨S4096x64, .f32⟩
  | 16 => ⟨S4096x1x64, .f32⟩
  | 17 => ⟨S2x4096x16x64, .f32⟩
  | 18 => ⟨S2x4096x16x64, .f32⟩
  | 19 => ⟨S1x4096x1x64, .f32⟩
  | 20 => ⟨S2x4096x16x64, .f32⟩
  | 21 => ⟨S2x4096x16x64, .f32⟩
  | 22 => ⟨S1x4096x1x64, .f32⟩
  | 23 => ⟨S2x4096x16x64, .f32⟩
  | 24 => ⟨S2x4096x16x64, .f32⟩
  | 25 => ⟨S2x4096x16x64, .f32⟩
  | 26 => ⟨S1x4096x1x64, .f32⟩
  | 27 => ⟨S2x4096x16x64, .f32⟩
  | 28 => ⟨S2x4096x16x64, .f32⟩
  | 29 => ⟨S1x4096x1x64, .f32⟩
  | 30 => ⟨S2x4096x16x64, .f32⟩
  | 31 => ⟨S2x4096x16x64, .f32⟩
  | 32 => ⟨S2x4096x16x64, .f32⟩
  | 33 => ⟨S2x4096x16x128, .f32⟩
  | 34 => ⟨S2x4096x1x128, .f32⟩
  | 35 => ⟨S64, .f32⟩
  | 36 => ⟨S_, .f32⟩
  | 37 => ⟨S64, .f32⟩
  | 38 => ⟨S64, .f32⟩
  | 39 => ⟨S_, .f32⟩
  | 40 => ⟨S64, .f32⟩
  | 41 => ⟨S64, .f32⟩
  | 42 => ⟨S64, .f32⟩
  | 43 => ⟨S_, .f32⟩
  | 44 => ⟨S64, .f32⟩
  | 45 => ⟨S64, .f32⟩
  | 46 => ⟨S_, .f32⟩
  | 47 => ⟨S64, .f32⟩
  | 48 => ⟨S64, .f32⟩
  | 49 => ⟨S4096, .f32⟩
  | 50 => ⟨S4096x1, .f32⟩
  | 51 => ⟨S1x64, .f32⟩
  | 52 => ⟨S4096x64, .f32⟩
  | 53 => ⟨S4096x64, .f32⟩
  | 54 => ⟨S4096x64, .f32⟩
  | 55 => ⟨S4096x64, .f32⟩
  | 56 => ⟨S4096x1x64, .f32⟩
  | 57 => ⟨S4096x64, .f32⟩
  | 58 => ⟨S4096x1x64, .f32⟩
  | 59 => ⟨S2x4096x1x64, .f32⟩
  | 60 => ⟨S2x4096x1x64, .f32⟩
  | 61 => ⟨S1x4096x1x64, .f32⟩
  | 62 => ⟨S2x4096x1x64, .f32⟩
  | 63 => ⟨S2x4096x1x64, .f32⟩
  | 64 => ⟨S1x4096x1x64, .f32⟩
  | 65 => ⟨S2x4096x1x64, .f32⟩
  | 66 => ⟨S2x4096x1x64, .f32⟩
  | 67 => ⟨S2x4096x1x64, .f32⟩
  | 68 => ⟨S1x4096x1x64, .f32⟩
  | 69 => ⟨S2x4096x1x64, .f32⟩
  | 70 => ⟨S2x4096x1x64, .f32⟩
  | 71 => ⟨S1x4096x1x64, .f32⟩
  | 72 => ⟨S2x4096x1x64, .f32⟩
  | 73 => ⟨S2x4096x1x64, .f32⟩
  | 74 => ⟨S2x4096x1x64, .f32⟩
  | 75 => ⟨S2x4096x1x128, .f32⟩
  | 76 => ⟨S2x4096x128, .f32⟩
  | 77 => ⟨S8192x2048, .f32⟩
  | 78 => ⟨S8192x2048, .f32⟩
  | 79 => ⟨S8192x1024, .f32⟩
  | 80 => ⟨S8192x128, .f32⟩
  | 81 => ⟨S8192x16, .f32⟩
  | 82 => ⟨S_, .f32⟩
  | 83 => ⟨S8192x112, .f32⟩
  | 84 => ⟨S8192x5376, .f32⟩
  | 85 => ⟨S1x2048, .f32⟩
  | 86 => ⟨S2048, .f32⟩
  | 87 => ⟨S128x8x2048, .f32⟩
  | 88 => ⟨S_, .f32⟩
  | 89 => ⟨S128x8, .f32⟩
  | 90 => ⟨S128x8x1, .f32⟩
  | 91 => ⟨S_, .f32⟩
  | 92 => ⟨S128x8x1, .f32⟩
  | 93 => ⟨S128x8x1, .f32⟩
  | 94 => ⟨S_, .f32⟩
  | 95 => ⟨S128x8x1, .f32⟩
  | 96 => ⟨S128x8x1, .f32⟩
  | 97 => ⟨S128x8x1, .f32⟩
  | 98 => ⟨S128x8x2048, .f32⟩
  | 99 => ⟨S128x8x2048, .f32⟩
  | 100 => ⟨S1x1x2048, .f32⟩
  | 101 => ⟨S128x8x2048, .f32⟩
  | 102 => ⟨S128x8x2048, .f32⟩
  | 103 => ⟨S8, .i32⟩
  | 104 => ⟨S_, .i32⟩
  | 105 => ⟨S8, .i32⟩
  | 106 => ⟨S8, .i32⟩
  | 107 => ⟨S128x8x5264, .f32⟩
  | 108 => ⟨S128x8x2048, .f32⟩
  | 109 => ⟨S128x8x1024, .f32⟩
  | 110 => ⟨S128x8x2048, .f32⟩
  | 111 => ⟨S128x8x128, .f32⟩
  | 112 => ⟨S128x8x16, .f32⟩
  | 113 => ⟨S128x8x16x128, .f32⟩
  | 114 => ⟨S64, .f32⟩
  | 115 => ⟨S_, .f32⟩
  | 116 => ⟨S64, .f32⟩
  | 117 => ⟨S64, .f32⟩
  | 118 => ⟨S_, .f32⟩
  | 119 => ⟨S64, .f32⟩
  | 120 => ⟨S64, .f32⟩
  | 121 => ⟨S64, .f32⟩
  | 122 => ⟨S_, .f32⟩
  | 123 => ⟨S64, .f32⟩
  | 124 => ⟨S64, .f32⟩
  | 125 => ⟨S_, .f32⟩
  | 126 => ⟨S64, .f32⟩
  | 127 => ⟨S64, .f32⟩
  | _ => ⟨S2x4096x2048, .f32⟩

abbrev hbmTy0_2 (i : Nat) : BufTy := match i % 128 with
  | 0 => ⟨S8, .f32⟩
  | 1 => ⟨S8x1, .f32⟩
  | 2 => ⟨S1x64, .f32⟩
  | 3 => ⟨S8x64, .f32⟩
  | 4 => ⟨S8x64, .f32⟩
  | 5 => ⟨S8x64, .f32⟩
  | 6 => ⟨S8x64, .f32⟩
  | 7 => ⟨S8x1x64, .f32⟩
  | 8 => ⟨S8x64, .f32⟩
  | 9 => ⟨S8x1x64, .f32⟩
  | 10 => ⟨S128x8x16x64, .f32⟩
  | 11 => ⟨S128x8x16x64, .f32⟩
  | 12 => ⟨S1x8x1x64, .f32⟩
  | 13 => ⟨S128x8x16x64, .f32⟩
  | 14 => ⟨S128x8x16x64, .f32⟩
  | 15 => ⟨S1x8x1x64, .f32⟩
  | 16 => ⟨S128x8x16x64, .f32⟩
  | 17 => ⟨S128x8x16x64, .f32⟩
  | 18 => ⟨S128x8x16x64, .f32⟩
  | 19 => ⟨S1x8x1x64, .f32⟩
  | 20 => ⟨S128x8x16x64, .f32⟩
  | 21 => ⟨S128x8x16x64, .f32⟩
  | 22 => ⟨S1x8x1x64, .f32⟩
  | 23 => ⟨S128x8x16x64, .f32⟩
  | 24 => ⟨S128x8x16x64, .f32⟩
  | 25 => ⟨S128x8x16x64, .f32⟩
  | 26 => ⟨S128x8x16x128, .f32⟩
  | 27 => ⟨S128x8x2x4x128, .f32⟩
  | 28 => ⟨S128x8x1x4x128, .f32⟩
  | 29 => ⟨S128x8x4x128, .f32⟩
  | 30 => ⟨S64, .f32⟩
  | 31 => ⟨S_, .f32⟩
  | 32 => ⟨S64, .f32⟩
  | 33 => ⟨S64, .f32⟩
  | 34 => ⟨S_, .f32⟩
  | 35 => ⟨S64, .f32⟩
  | 36 => ⟨S64, .f32⟩
  | 37 => ⟨S64, .f32⟩
  | 38 => ⟨S_, .f32⟩
  | 39 => ⟨S64, .f32⟩
  | 40 => ⟨S64, .f32⟩
  | 41 => ⟨S_, .f32⟩
  | 42 => ⟨S64, .f32⟩
  | 43 => ⟨S64, .f32⟩
  | 44 => ⟨S8, .f32⟩
  | 45 => ⟨S8x1, .f32⟩
  | 46 => ⟨S1x64, .f32⟩
  | 47 => ⟨S8x64, .f32⟩
  | 48 => ⟨S8x64, .f32⟩
  | 49 => ⟨S8x64, .f32⟩
  | 50 => ⟨S8x64, .f32⟩
  | 51 => ⟨S8x1x64, .f32⟩
  | 52 => ⟨S8x64, .f32⟩
  | 53 => ⟨S8x1x64, .f32⟩
  | 54 => ⟨S128x8x4x64, .f32⟩
  | 55 => ⟨S128x8x4x64, .f32⟩
  | 56 => ⟨S1x8x1x64, .f32⟩
  | 57 => ⟨S128x8x4x64, .f32⟩
  | 58 => ⟨S128x8x4x64, .f32⟩
  | 59 => ⟨S1x8x1x64, .f32⟩
  | 60 => ⟨S128x8x4x64, .f32⟩
  | 61 => ⟨S128x8x4x64, .f32⟩
  | 62 => ⟨S128x8x4x64, .f32⟩
  | 63 => ⟨S1x8x1x64, .f32⟩
  | 64 => ⟨S128x8x4x64, .f32⟩
  | 65 => ⟨S128x8x4x64, .f32⟩
  | 66 => ⟨S1x8x1x64, .f32⟩
  | 67 => ⟨S128x8x4x64, .f32⟩
  | 68 => ⟨S128x8x4x64, .f32⟩
  | 69 => ⟨S128x8x4x64, .f32⟩
  | 70 => ⟨S128x8x4x128, .f32⟩
  | 71 => ⟨S128x8x1x4x128, .f32⟩
  | 72 => ⟨S128x8x4x128, .f32⟩
  | 73 => ⟨S128x8x1x4x128, .f32⟩
  | 74 => ⟨S128x8x1x4x128, .f32⟩
  | 75 => ⟨S128x8x2x4x128, .f32⟩
  | 76 => ⟨S128x8x16x128, .f32⟩
  | 77 => ⟨S64, .f32⟩
  | 78 => ⟨S_, .f32⟩
  | 79 => ⟨S64, .f32⟩
  | 80 => ⟨S64, .f32⟩
  | 81 => ⟨S_, .f32⟩
  | 82 => ⟨S64, .f32⟩
  | 83 => ⟨S64, .f32⟩
  | 84 => ⟨S64, .f32⟩
  | 85 => ⟨S_, .f32⟩
  | 86 => ⟨S64, .f32⟩
  | 87 => ⟨S64, .f32⟩
  | 88 => ⟨S_, .f32⟩
  | 89 => ⟨S64, .f32⟩
  | 90 => ⟨S64, .f32⟩
  | 91 => ⟨S8, .f32⟩
  | 92 => ⟨S8x1, .f32⟩
  | 93 => ⟨S1x64, .f32⟩
  | 94 => ⟨S8x64, .f32⟩
  | 95 => ⟨S8x64, .f32⟩
  | 96 => ⟨S8x64, .f32⟩
  | 97 => ⟨S8x64, .f32⟩
  | 98 => ⟨S8x1x64, .f32⟩
  | 99 => ⟨S8x64, .f32⟩
  | 100 => ⟨S8x1x64, .f32⟩
  | 101 => ⟨S128x8x16x64, .f32⟩
  | 102 => ⟨S128x8x16x64, .f32⟩
  | 103 => ⟨S1x8x1x64, .f32⟩
  | 104 => ⟨S128x8x16x64, .f32⟩
  | 105 => ⟨S128x8x16x64, .f32⟩
  | 106 => ⟨S1x8x1x64, .f32⟩
  | 107 => ⟨S128x8x16x64, .f32⟩
  | 108 => ⟨S128x8x16x64, .f32⟩
  | 109 => ⟨S128x8x16x64, .f32⟩
  | 110 => ⟨S1x8x1x64, .f32⟩
  | 111 => ⟨S128x8x16x64, .f32⟩
  | 112 => ⟨S128x8x16x64, .f32⟩
  | 113 => ⟨S1x8x1x64, .f32⟩
  | 114 => ⟨S128x8x16x64, .f32⟩
  | 115 => ⟨S128x8x16x64, .f32⟩
  | 116 => ⟨S128x8x16x64, .f32⟩
  | 117 => ⟨S128x8x16x128, .f32⟩
  | 118 => ⟨S128x8x1x128, .f32⟩
  | 119 => ⟨S64, .f32⟩
  | 120 => ⟨S_, .f32⟩
  | 121 => ⟨S64, .f32⟩
  | 122 => ⟨S64, .f32⟩
  | 123 => ⟨S_, .f32⟩
  | 124 => ⟨S64, .f32⟩
  | 125 => ⟨S64, .f32⟩
  | 126 => ⟨S64, .f32⟩
  | 127 => ⟨S_, .f32⟩
  | _ => ⟨S2x4096x2048, .f32⟩

abbrev hbmTy0_3 (i : Nat) : BufTy := match i % 128 with
  | 0 => ⟨S64, .f32⟩
  | 1 => ⟨S64, .f32⟩
  | 2 => ⟨S_, .f32⟩
  | 3 => ⟨S64, .f32⟩
  | 4 => ⟨S64, .f32⟩
  | 5 => ⟨S8, .f32⟩
  | 6 => ⟨S8x1, .f32⟩
  | 7 => ⟨S1x64, .f32⟩
  | 8 => ⟨S8x64, .f32⟩
  | 9 => ⟨S8x64, .f32⟩
  | 10 => ⟨S8x64, .f32⟩
  | 11 => ⟨S8x64, .f32⟩
  | 12 => ⟨S8x1x64, .f32⟩
  | 13 => ⟨S8x64, .f32⟩
  | 14 => ⟨S8x1x64, .f32⟩
  | 15 => ⟨S128x8x1x64, .f32⟩
  | 16 => ⟨S128x8x1x64, .f32⟩
  | 17 => ⟨S1x8x1x64, .f32⟩
  | 18 => ⟨S128x8x1x64, .f32⟩
  | 19 => ⟨S128x8x1x64, .f32⟩
  | 20 => ⟨S1x8x1x64, .f32⟩
  | 21 => ⟨S128x8x1x64, .f32⟩
  | 22 => ⟨S128x8x1x64, .f32⟩
  | 23 => ⟨S128x8x1x64, .f32⟩
  | 24 => ⟨S1x8x1x64, .f32⟩
  | 25 => ⟨S128x8x1x64, .f32⟩
  | 26 => ⟨S128x8x1x64, .f32⟩
  | 27 => ⟨S1x8x1x64, .f32⟩
  | 28 => ⟨S128x8x1x64, .f32⟩
  | 29 => ⟨S128x8x1x64, .f32⟩
  | 30 => ⟨S128x8x1x64, .f32⟩
  | 31 => ⟨S128x8x1x128, .f32⟩
  | 32 => ⟨S128x8x128, .f32⟩
  | 33 => ⟨S1024x2048, .f32⟩
  | 34 => ⟨S1024x2048, .f32⟩
  | 35 => ⟨S1024x1024, .f32⟩
  | 36 => ⟨S1024x128, .f32⟩
  | 37 => ⟨S1024x16, .f32⟩
  | 38 => ⟨S_, .f32⟩
  | 39 => ⟨S1024x112, .f32⟩
  | 40 => ⟨S1024x5376, .f32⟩
  | 41 => ⟨S9216x5376, .f32⟩
  | 42 => ⟨S9216x5376, .bf16⟩
  | _ => ⟨S2x4096x2048, .f32⟩

abbrev hbmTy (i : Nat) : BufTy := match i / 128 with
  | 0 => hbmTy0_0 i
  | 1 => hbmTy0_1 i
  | 2 => hbmTy0_2 i
  | 3 => hbmTy0_3 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_6 : Ref sig .tc := ⟨.hbm, 75, rfl⟩
abbrev main_v64 : Ref sig .tc := ⟨.hbm, 76, rfl⟩
abbrev main_v65 : Ref sig .tc := ⟨.hbm, 77, rfl⟩
abbrev main_cst_7 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_8 : Ref sig .tc := ⟨.hbm, 82, rfl⟩
abbrev main_v69 : Ref sig .tc := ⟨.hbm, 83, rfl⟩
abbrev main_v70 : Ref sig .tc := ⟨.hbm, 84, rfl⟩
abbrev main_cst_9 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_cst_10 : Ref sig .tc := ⟨.hbm, 122, rfl⟩
abbrev main_v107 : Ref sig .tc := ⟨.hbm, 123, rfl⟩
abbrev main_v108 : Ref sig .tc := ⟨.hbm, 124, rfl⟩
abbrev main_cst_11 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_cst_12 : Ref sig .tc := ⟨.hbm, 129, rfl⟩
abbrev main_v112 : Ref sig .tc := ⟨.hbm, 130, rfl⟩
abbrev main_v113 : Ref sig .tc := ⟨.hbm, 131, rfl⟩
abbrev main_cst_13 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_cst_14 : Ref sig .tc := ⟨.hbm, 164, rfl⟩
abbrev main_v145 : Ref sig .tc := ⟨.hbm, 165, rfl⟩
abbrev main_v146 : Ref sig .tc := ⟨.hbm, 166, rfl⟩
abbrev main_cst_15 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_cst_16 : Ref sig .tc := ⟨.hbm, 171, rfl⟩
abbrev main_v150 : Ref sig .tc := ⟨.hbm, 172, rfl⟩
abbrev main_v151 : Ref sig .tc := ⟨.hbm, 173, rfl⟩
abbrev main_cst_17 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_cst_18 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_cst_19 : Ref sig .tc := ⟨.hbm, 216, rfl⟩
abbrev main_v192 : Ref sig .tc := ⟨.hbm, 217, rfl⟩
abbrev main_v193 : Ref sig .tc := ⟨.hbm, 218, rfl⟩
abbrev main_cst_20 : Ref sig .tc := ⟨.hbm, 219, rfl⟩
abbrev main_v194 : Ref sig .tc := ⟨.hbm, 220, rfl⟩
abbrev main_v195 : Ref sig .tc := ⟨.hbm, 221, rfl⟩
abbrev main_cst_21 : Ref sig .tc := ⟨.hbm, 222, rfl⟩
abbrev main_v196 : Ref sig .tc := ⟨.hbm, 223, rfl⟩
abbrev main_v197 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_c : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_cst_22 : Ref sig .tc := ⟨.hbm, 243, rfl⟩
abbrev main_v215 : Ref sig .tc := ⟨.hbm, 244, rfl⟩
abbrev main_v216 : Ref sig .tc := ⟨.hbm, 245, rfl⟩
abbrev main_cst_23 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_cst_24 : Ref sig .tc := ⟨.hbm, 250, rfl⟩
abbrev main_v220 : Ref sig .tc := ⟨.hbm, 251, rfl⟩
abbrev main_v221 : Ref sig .tc := ⟨.hbm, 252, rfl⟩
abbrev main_cst_25 : Ref sig .tc := ⟨.hbm, 253, rfl⟩
abbrev main_v222 : Ref sig .tc := ⟨.hbm, 254, rfl⟩
abbrev main_v223 : Ref sig .tc := ⟨.hbm, 255, rfl⟩
abbrev main_v224 : Ref sig .tc := ⟨.hbm, 256, rfl⟩
abbrev main_v225 : Ref sig .tc := ⟨.hbm, 257, rfl⟩
abbrev main_v226 : Ref sig .tc := ⟨.hbm, 258, rfl⟩
abbrev main_v227 : Ref sig .tc := ⟨.hbm, 259, rfl⟩
abbrev main_v228 : Ref sig .tc := ⟨.hbm, 260, rfl⟩
abbrev main_v229 : Ref sig .tc := ⟨.hbm, 261, rfl⟩
abbrev main_v230 : Ref sig .tc := ⟨.hbm, 262, rfl⟩
abbrev main_v231 : Ref sig .tc := ⟨.hbm, 263, rfl⟩
abbrev main_v232 : Ref sig .tc := ⟨.hbm, 264, rfl⟩
abbrev main_v233 : Ref sig .tc := ⟨.hbm, 265, rfl⟩
abbrev main_v234 : Ref sig .tc := ⟨.hbm, 266, rfl⟩
abbrev main_v235 : Ref sig .tc := ⟨.hbm, 267, rfl⟩
abbrev main_v236 : Ref sig .tc := ⟨.hbm, 268, rfl⟩
abbrev main_v237 : Ref sig .tc := ⟨.hbm, 269, rfl⟩
abbrev main_v238 : Ref sig .tc := ⟨.hbm, 270, rfl⟩
abbrev main_v239 : Ref sig .tc := ⟨.hbm, 271, rfl⟩
abbrev main_v240 : Ref sig .tc := ⟨.hbm, 272, rfl⟩
abbrev main_v241 : Ref sig .tc := ⟨.hbm, 273, rfl⟩
abbrev main_v242 : Ref sig .tc := ⟨.hbm, 274, rfl⟩
abbrev main_v243 : Ref sig .tc := ⟨.hbm, 275, rfl⟩
abbrev main_v244 : Ref sig .tc := ⟨.hbm, 276, rfl⟩
abbrev main_v245 : Ref sig .tc := ⟨.hbm, 277, rfl⟩
abbrev main_v246 : Ref sig .tc := ⟨.hbm, 278, rfl⟩
abbrev main_v247 : Ref sig .tc := ⟨.hbm, 279, rfl⟩
abbrev main_v248 : Ref sig .tc := ⟨.hbm, 280, rfl⟩
abbrev main_v249 : Ref sig .tc := ⟨.hbm, 281, rfl⟩
abbrev main_v250 : Ref sig .tc := ⟨.hbm, 282, rfl⟩
abbrev main_v251 : Ref sig .tc := ⟨.hbm, 283, rfl⟩
abbrev main_v252 : Ref sig .tc := ⟨.hbm, 284, rfl⟩
abbrev main_v253 : Ref sig .tc := ⟨.hbm, 285, rfl⟩
abbrev main_v254 : Ref sig .tc := ⟨.hbm, 286, rfl⟩
abbrev main_cst_26 : Ref sig .tc := ⟨.hbm, 287, rfl⟩
abbrev main_v255 : Ref sig .tc := ⟨.hbm, 288, rfl⟩
abbrev main_v256 : Ref sig .tc := ⟨.hbm, 289, rfl⟩
abbrev main_cst_27 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_cst_28 : Ref sig .tc := ⟨.hbm, 294, rfl⟩
abbrev main_v260 : Ref sig .tc := ⟨.hbm, 295, rfl⟩
abbrev main_v261 : Ref sig .tc := ⟨.hbm, 296, rfl⟩
abbrev main_cst_29 : Ref sig .tc := ⟨.hbm, 297, rfl⟩
abbrev main_v262 : Ref sig .tc := ⟨.hbm, 298, rfl⟩
abbrev main_v263 : Ref sig .tc := ⟨.hbm, 299, rfl⟩
abbrev main_v264 : Ref sig .tc := ⟨.hbm, 300, rfl⟩
abbrev main_v265 : Ref sig .tc := ⟨.hbm, 301, rfl⟩
abbrev main_v266 : Ref sig .tc := ⟨.hbm, 302, rfl⟩
abbrev main_v267 : Ref sig .tc := ⟨.hbm, 303, rfl⟩
abbrev main_v268 : Ref sig .tc := ⟨.hbm, 304, rfl⟩
abbrev main_v269 : Ref sig .tc := ⟨.hbm, 305, rfl⟩
abbrev main_v270 : Ref sig .tc := ⟨.hbm, 306, rfl⟩
abbrev main_v271 : Ref sig .tc := ⟨.hbm, 307, rfl⟩
abbrev main_v272 : Ref sig .tc := ⟨.hbm, 308, rfl⟩
abbrev main_v273 : Ref sig .tc := ⟨.hbm, 309, rfl⟩
abbrev main_v274 : Ref sig .tc := ⟨.hbm, 310, rfl⟩
abbrev main_v275 : Ref sig .tc := ⟨.hbm, 311, rfl⟩
abbrev main_v276 : Ref sig .tc := ⟨.hbm, 312, rfl⟩
abbrev main_v277 : Ref sig .tc := ⟨.hbm, 313, rfl⟩
abbrev main_v278 : Ref sig .tc := ⟨.hbm, 314, rfl⟩
abbrev main_v279 : Ref sig .tc := ⟨.hbm, 315, rfl⟩
abbrev main_v280 : Ref sig .tc := ⟨.hbm, 316, rfl⟩
abbrev main_v281 : Ref sig .tc := ⟨.hbm, 317, rfl⟩
abbrev main_v282 : Ref sig .tc := ⟨.hbm, 318, rfl⟩
abbrev main_v283 : Ref sig .tc := ⟨.hbm, 319, rfl⟩
abbrev main_v284 : Ref sig .tc := ⟨.hbm, 320, rfl⟩
abbrev main_v285 : Ref sig .tc := ⟨.hbm, 321, rfl⟩
abbrev main_v286 : Ref sig .tc := ⟨.hbm, 322, rfl⟩
abbrev main_v287 : Ref sig .tc := ⟨.hbm, 323, rfl⟩
abbrev main_v288 : Ref sig .tc := ⟨.hbm, 324, rfl⟩
abbrev main_v289 : Ref sig .tc := ⟨.hbm, 325, rfl⟩
abbrev main_v290 : Ref sig .tc := ⟨.hbm, 326, rfl⟩
abbrev main_v291 : Ref sig .tc := ⟨.hbm, 327, rfl⟩
abbrev main_v292 : Ref sig .tc := ⟨.hbm, 328, rfl⟩
abbrev main_v293 : Ref sig .tc := ⟨.hbm, 329, rfl⟩
abbrev main_v294 : Ref sig .tc := ⟨.hbm, 330, rfl⟩
abbrev main_v295 : Ref sig .tc := ⟨.hbm, 331, rfl⟩
abbrev main_v296 : Ref sig .tc := ⟨.hbm, 332, rfl⟩
abbrev main_v297 : Ref sig .tc := ⟨.hbm, 333, rfl⟩
abbrev main_cst_30 : Ref sig .tc := ⟨.hbm, 334, rfl⟩
abbrev main_v298 : Ref sig .tc := ⟨.hbm, 335, rfl⟩
abbrev main_v299 : Ref sig .tc := ⟨.hbm, 336, rfl⟩
abbrev main_cst_31 : Ref sig .tc := ⟨.hbm, 337, rfl⟩
abbrev main_v300 : Ref sig .tc := ⟨.hbm, 338, rfl⟩
abbrev main_v301 : Ref sig .tc := ⟨.hbm, 339, rfl⟩
abbrev main_v302 : Ref sig .tc := ⟨.hbm, 340, rfl⟩
abbrev main_cst_32 : Ref sig .tc := ⟨.hbm, 341, rfl⟩
abbrev main_v303 : Ref sig .tc := ⟨.hbm, 342, rfl⟩
abbrev main_v304 : Ref sig .tc := ⟨.hbm, 343, rfl⟩
abbrev main_cst_33 : Ref sig .tc := ⟨.hbm, 344, rfl⟩
abbrev main_v305 : Ref sig .tc := ⟨.hbm, 345, rfl⟩
abbrev main_v306 : Ref sig .tc := ⟨.hbm, 346, rfl⟩
abbrev main_v307 : Ref sig .tc := ⟨.hbm, 347, rfl⟩
abbrev main_v308 : Ref sig .tc := ⟨.hbm, 348, rfl⟩
abbrev main_v309 : Ref sig .tc := ⟨.hbm, 349, rfl⟩
abbrev main_v310 : Ref sig .tc := ⟨.hbm, 350, rfl⟩
abbrev main_v311 : Ref sig .tc := ⟨.hbm, 351, rfl⟩
abbrev main_v312 : Ref sig .tc := ⟨.hbm, 352, rfl⟩
abbrev main_v313 : Ref sig .tc := ⟨.hbm, 353, rfl⟩
abbrev main_v314 : Ref sig .tc := ⟨.hbm, 354, rfl⟩
abbrev main_v315 : Ref sig .tc := ⟨.hbm, 355, rfl⟩
abbrev main_v316 : Ref sig .tc := ⟨.hbm, 356, rfl⟩
abbrev main_v317 : Ref sig .tc := ⟨.hbm, 357, rfl⟩
abbrev main_v318 : Ref sig .tc := ⟨.hbm, 358, rfl⟩
abbrev main_v319 : Ref sig .tc := ⟨.hbm, 359, rfl⟩
abbrev main_v320 : Ref sig .tc := ⟨.hbm, 360, rfl⟩
abbrev main_v321 : Ref sig .tc := ⟨.hbm, 361, rfl⟩
abbrev main_v322 : Ref sig .tc := ⟨.hbm, 362, rfl⟩
abbrev main_v323 : Ref sig .tc := ⟨.hbm, 363, rfl⟩
abbrev main_v324 : Ref sig .tc := ⟨.hbm, 364, rfl⟩
abbrev main_v325 : Ref sig .tc := ⟨.hbm, 365, rfl⟩
abbrev main_v326 : Ref sig .tc := ⟨.hbm, 366, rfl⟩
abbrev main_v327 : Ref sig .tc := ⟨.hbm, 367, rfl⟩
abbrev main_v328 : Ref sig .tc := ⟨.hbm, 368, rfl⟩
abbrev main_v329 : Ref sig .tc := ⟨.hbm, 369, rfl⟩
abbrev main_v330 : Ref sig .tc := ⟨.hbm, 370, rfl⟩
abbrev main_v331 : Ref sig .tc := ⟨.hbm, 371, rfl⟩
abbrev main_v332 : Ref sig .tc := ⟨.hbm, 372, rfl⟩
abbrev main_v333 : Ref sig .tc := ⟨.hbm, 373, rfl⟩
abbrev main_v334 : Ref sig .tc := ⟨.hbm, 374, rfl⟩
abbrev main_v335 : Ref sig .tc := ⟨.hbm, 375, rfl⟩
abbrev main_cst_34 : Ref sig .tc := ⟨.hbm, 376, rfl⟩
abbrev main_v336 : Ref sig .tc := ⟨.hbm, 377, rfl⟩
abbrev main_v337 : Ref sig .tc := ⟨.hbm, 378, rfl⟩
abbrev main_cst_35 : Ref sig .tc := ⟨.hbm, 379, rfl⟩
abbrev main_v338 : Ref sig .tc := ⟨.hbm, 380, rfl⟩
abbrev main_v339 : Ref sig .tc := ⟨.hbm, 381, rfl⟩
abbrev main_v340 : Ref sig .tc := ⟨.hbm, 382, rfl⟩
abbrev main_cst_36 : Ref sig .tc := ⟨.hbm, 383, rfl⟩
abbrev main_v341 : Ref sig .tc := ⟨.hbm, 384, rfl⟩
abbrev main_v342 : Ref sig .tc := ⟨.hbm, 385, rfl⟩
abbrev main_cst_37 : Ref sig .tc := ⟨.hbm, 386, rfl⟩
abbrev main_v343 : Ref sig .tc := ⟨.hbm, 387, rfl⟩
abbrev main_v344 : Ref sig .tc := ⟨.hbm, 388, rfl⟩
abbrev main_v345 : Ref sig .tc := ⟨.hbm, 389, rfl⟩
abbrev main_v346 : Ref sig .tc := ⟨.hbm, 390, rfl⟩
abbrev main_v347 : Ref sig .tc := ⟨.hbm, 391, rfl⟩
abbrev main_v348 : Ref sig .tc := ⟨.hbm, 392, rfl⟩
abbrev main_v349 : Ref sig .tc := ⟨.hbm, 393, rfl⟩
abbrev main_v350 : Ref sig .tc := ⟨.hbm, 394, rfl⟩
abbrev main_v351 : Ref sig .tc := ⟨.hbm, 395, rfl⟩
abbrev main_v352 : Ref sig .tc := ⟨.hbm, 396, rfl⟩
abbrev main_v353 : Ref sig .tc := ⟨.hbm, 397, rfl⟩
abbrev main_v354 : Ref sig .tc := ⟨.hbm, 398, rfl⟩
abbrev main_v355 : Ref sig .tc := ⟨.hbm, 399, rfl⟩
abbrev main_v356 : Ref sig .tc := ⟨.hbm, 400, rfl⟩
abbrev main_v357 : Ref sig .tc := ⟨.hbm, 401, rfl⟩
abbrev main_v358 : Ref sig .tc := ⟨.hbm, 402, rfl⟩
abbrev main_v359 : Ref sig .tc := ⟨.hbm, 403, rfl⟩
abbrev main_v360 : Ref sig .tc := ⟨.hbm, 404, rfl⟩
abbrev main_v361 : Ref sig .tc := ⟨.hbm, 405, rfl⟩
abbrev main_v362 : Ref sig .tc := ⟨.hbm, 406, rfl⟩
abbrev main_v363 : Ref sig .tc := ⟨.hbm, 407, rfl⟩
abbrev main_v364 : Ref sig .tc := ⟨.hbm, 408, rfl⟩
abbrev main_v365 : Ref sig .tc := ⟨.hbm, 409, rfl⟩
abbrev main_v366 : Ref sig .tc := ⟨.hbm, 410, rfl⟩
abbrev main_v367 : Ref sig .tc := ⟨.hbm, 411, rfl⟩
abbrev main_v368 : Ref sig .tc := ⟨.hbm, 412, rfl⟩
abbrev main_v369 : Ref sig .tc := ⟨.hbm, 413, rfl⟩
abbrev main_v370 : Ref sig .tc := ⟨.hbm, 414, rfl⟩
abbrev main_v371 : Ref sig .tc := ⟨.hbm, 415, rfl⟩
abbrev main_v372 : Ref sig .tc := ⟨.hbm, 416, rfl⟩
abbrev main_v373 : Ref sig .tc := ⟨.hbm, 417, rfl⟩
abbrev main_v374 : Ref sig .tc := ⟨.hbm, 418, rfl⟩
abbrev main_v375 : Ref sig .tc := ⟨.hbm, 419, rfl⟩
abbrev main_v376 : Ref sig .tc := ⟨.hbm, 420, rfl⟩
abbrev main_v377 : Ref sig .tc := ⟨.hbm, 421, rfl⟩
abbrev main_cst_38 : Ref sig .tc := ⟨.hbm, 422, rfl⟩
abbrev main_v378 : Ref sig .tc := ⟨.hbm, 423, rfl⟩
abbrev main_v379 : Ref sig .tc := ⟨.hbm, 424, rfl⟩
abbrev main_v380 : Ref sig .tc := ⟨.hbm, 425, rfl⟩
abbrev main_v381 : Ref sig .tc := ⟨.hbm, 426, rfl⟩

abbrev nD : Nat := 1
abbrev τ : Topo := Topo.v7x

variable {F : FTy → Type} [FloatOps F]
-- ==== Kernel6.lean ====
abbrev S2x4096x2048 : Shape := ⟨3, ![2, 4096, 2048]⟩
abbrev S128x8x2048 : Shape := ⟨3, ![128, 8, 2048]⟩
abbrev S4x2048 : Shape := ⟨2, ![4, 2048]⟩
abbrev S2048x4608 : Shape := ⟨2, ![2048, 4608]⟩
abbrev S36 : Shape := ⟨1, ![36]⟩
abbrev S8192x2048 : Shape := ⟨2, ![8192, 2048]⟩
abbrev S1024x2048 : Shape := ⟨2, ![1024, 2048]⟩
abbrev S9216x2048 : Shape := ⟨2, ![9216, 2048]⟩
abbrev S4096 : Shape := ⟨1, ![4096]⟩
abbrev S1x4096 : Shape := ⟨2, ![1, 4096]⟩
abbrev S2x4096 : Shape := ⟨2, ![2, 4096]⟩
abbrev S8192 : Shape := ⟨1, ![8192]⟩
abbrev S8 : Shape := ⟨1, ![8]⟩
abbrev S_ : Shape := ⟨0, ![]⟩
abbrev S1x8 : Shape := ⟨2, ![1, 8]⟩
abbrev S128x8 : Shape := ⟨2, ![128, 8]⟩
abbrev S1024 : Shape := ⟨1, ![1024]⟩
abbrev S9216 : Shape := ⟨1, ![9216]⟩
abbrev S64 : Shape := ⟨1, ![64]⟩
abbrev S9216x1 : Shape := ⟨2, ![9216, 1]⟩
abbrev S1x64 : Shape := ⟨2, ![1, 64]⟩
abbrev S9216x64 : Shape := ⟨2, ![9216, 64]⟩
abbrev S9216x128 : Shape := ⟨2, ![9216, 128]⟩
abbrev S1x9216x1x128 : Shape := ⟨4, ![1, 9216, 1, 128]⟩
abbrev S1x2048 : Shape := ⟨2, ![1, 2048]⟩
abbrev S2048 : Shape := ⟨1, ![2048]⟩
abbrev S9216x4608 : Shape := ⟨2, ![9216, 4608]⟩
abbrev S2048x768 : Shape := ⟨2, ![2048, 768]⟩
abbrev S1024x128 : Shape := ⟨2, ![1024, 128]⟩
abbrev S1024x768 : Shape := ⟨2, ![1024, 768]⟩
abbrev S1024x1 : Shape := ⟨2, ![1024, 1]⟩
abbrev S1 : Shape := ⟨1, ![1]⟩

abbrev nBuf : Space → Nat
  | .hbm => 56
  | .vmem => 14
  | .smem => 1
  | _ => 0

abbrev bufTy : (tb : Table) → Fin (tcTables nBuf tb) → BufTy
  | .hbm, ⟨0, _⟩ => ⟨S2x4096x2048, .f32⟩
  | .hbm, ⟨1, _⟩ => ⟨S128x8x2048, .f32⟩
  | .hbm, ⟨2, _⟩ => ⟨S4x2048, .f32⟩
  | .hbm, ⟨3, _⟩ => ⟨S2048x4608, .f32⟩
  | .hbm, ⟨4, _⟩ => ⟨S8192x2048, .f32⟩
  | .hbm, ⟨5, _⟩ => ⟨S1024x2048, .f32⟩
  | .hbm, ⟨6, _⟩ => ⟨S9216x2048, .f32⟩
  | .hbm, ⟨7, _⟩ => ⟨S4096, .i32⟩
  | .hbm, ⟨8, _⟩ => ⟨S1x4096, .i32⟩
  | .hbm, ⟨9, _⟩ => ⟨S2x4096, .i32⟩
  | .hbm, ⟨10, _⟩ => ⟨S8192, .i32⟩
  | .hbm, ⟨11, _⟩ => ⟨S8, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S1x8, .i32⟩
  | .hbm, ⟨16, _⟩ => ⟨S128x8, .i32⟩
  | .hbm, ⟨17, _⟩ => ⟨S1024, .i32⟩
  | .hbm, ⟨18, _⟩ => ⟨S9216, .i32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S9216, .f32⟩
  | .hbm, ⟨34, _⟩ => ⟨S9216x1, .f32⟩
  | .hbm, ⟨35, _⟩ => ⟨S1x64, .f32⟩
  | .hbm, ⟨36, _⟩ => ⟨S9216x64, .f32⟩
  | .hbm, ⟨37, _⟩ => ⟨S9216x64, .f32⟩
  | .hbm, ⟨38, _⟩ => ⟨S9216x64, .f32⟩
  | .hbm, ⟨39, _⟩ => ⟨S9216x64, .f32⟩
  | .hbm, ⟨40, _⟩ => ⟨S9216x64, .f32⟩
  | .hbm, ⟨41, _⟩ => ⟨S9216x128, .f32⟩
  | .hbm, ⟨42, _⟩ => ⟨S9216x64, .f32⟩
  | .hbm, ⟨43, _⟩ => ⟨S9216x128, .f32⟩
  | .hbm, ⟨44, _⟩ => ⟨S1x9216x1x128, .f32⟩
  | .hbm, ⟨45, _⟩ => ⟨S1x9216x1x128, .f32⟩
  | .hbm, ⟨46, _⟩ => ⟨S9216x128, .f32⟩
  | .hbm, ⟨47, _⟩ => ⟨S1x9216x1x128, .f32⟩
  | .hbm, ⟨48, _⟩ => ⟨S1x9216x1x128, .f32⟩
  | .hbm, ⟨49, _⟩ => ⟨S9216x128, .f32⟩
  | .hbm, ⟨50, _⟩ => ⟨S1x2048, .f32⟩
  | .hbm, ⟨51, _⟩ => ⟨S2048, .f32⟩
  | .hbm, ⟨52, _⟩ => ⟨S1x2048, .f32⟩
  | .hbm, ⟨53, _⟩ => ⟨S2048x4608, .bf16⟩
  | .hbm, ⟨54, _⟩ => ⟨S9216x4608, .f32⟩
  | .hbm, ⟨55, _⟩ => ⟨S9216x4608, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x768, .f32⟩
  | .local _ .vmem, ⟨10, _⟩ => ⟨S1024x768, .f32⟩
  | .local _ .vmem, ⟨11, _⟩ => ⟨S1024x768, .bf16⟩
  | .local _ .vmem, ⟨12, _⟩ => ⟨S1024x768, .bf16⟩
  | .local _ .vmem, ⟨13, _⟩ => ⟨S1024x2048, .bf16⟩
  | .local _ .smem, ⟨0, _⟩ => ⟨S36, .i32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45_0 : Ref sig .tc := ⟨.hbm, 54, rfl⟩
abbrev main_v45_1 : Ref sig .tc := ⟨.hbm, 55, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![9, 6], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_8 : BitVec 32) : Fin 1 → Nat :=
  let arg1 : BitVec 32 := BitVec.ofNat 32 (i 1).val
  let c6_i32 : BitVec 32 := 6#32
  let v16 : BitVec 32 := Scalar.muli arg1 c6_i32
  let v17 : BitVec 32 := Scalar.addi v16 c0_i32_8
  let v18 : Index := Scalar.indexCast v17
  ![v18.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S2x4096x2048 : Shape := ⟨3, ![2, 4096, 2048]⟩
abbrev S128x8x2048 : Shape := ⟨3, ![128, 8, 2048]⟩
abbrev S4x2048 : Shape := ⟨2, ![4, 2048]⟩
abbrev S2048x4608 : Shape := ⟨2, ![2048, 4608]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S4096 : Shape := ⟨1, ![4096]⟩
abbrev S2x4096x4608 : Shape := ⟨3, ![2, 4096, 4608]⟩
abbrev S2x4096x3x12x128 : Shape := ⟨5, ![2, 4096, 3, 12, 128]⟩
abbrev S2x4096x3x10x128 : Shape := ⟨5, ![2, 4096, 3, 10, 128]⟩
abbrev S2x4096x3x2x128 : Shape := ⟨5, ![2, 4096, 3, 2, 128]⟩
abbrev S2x4096x30x128 : Shape := ⟨4, ![2, 4096, 30, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S2x4096x30x64 : Shape := ⟨4, ![2, 4096, 30, 64]⟩
abbrev S1x4096x1x64 : Shape := ⟨4, ![1, 4096, 1, 64]⟩
abbrev S8192x4608 : Shape := ⟨2, ![8192, 4608]⟩
abbrev S128x8 : Shape := ⟨2, ![128, 8]⟩
abbrev S128x8x1 : Shape := ⟨3, ![128, 8, 1]⟩
abbrev S8 : Shape := ⟨1, ![8]⟩
abbrev S128x8x4608 : Shape := ⟨3, ![128, 8, 4608]⟩
abbrev S128x8x3x12x128 : Shape := ⟨5, ![128, 8, 3, 12, 128]⟩
abbrev S128x8x3x10x128 : Shape := ⟨5, ![128, 8, 3, 10, 128]⟩
abbrev S128x8x3x2x128 : Shape := ⟨5, ![128, 8, 3, 2, 128]⟩
abbrev S128x8x30x128 : Shape := ⟨4, ![128, 8, 30, 128]⟩
abbrev S8x1 : Shape := ⟨2, ![8, 1]⟩
abbrev S8x64 : Shape := ⟨2, ![8, 64]⟩
abbrev S8x1x64 : Shape := ⟨3, ![8, 1, 64]⟩
abbrev S128x8x30x64 : Shape := ⟨4, ![128, 8, 30, 64]⟩
abbrev S1x8x1x64 : Shape := ⟨4, ![1, 8, 1, 64]⟩
abbrev S1024x4608 : Shape := ⟨2, ![1024, 4608]⟩
abbrev S9216x4608 : Shape := ⟨2, ![9216, 4608]⟩

abbrev nBuf : Space → Nat
  | .hbm => 145
  | .vmem => 0
  | .smem => 0
  | _ => 0

abbrev hbmTy0_0 (i : Nat) : BufTy := match i % 128 with
  | 0 => ⟨S2x4096x2048, .f32⟩
  | 1 => ⟨S128x8x2048, .f32⟩
  | 2 => ⟨S4x2048, .f32⟩
  | 3 => ⟨S2048x4608, .f32⟩
  | 4 => ⟨S1x2048, .f32⟩
  | 5 => ⟨S2048, .f32⟩
  | 6 => ⟨S2x4096x2048, .f32⟩
  | 7 => ⟨S_, .f32⟩
  | 8 => ⟨S2x4096, .f32⟩
  | 9 => ⟨S2x4096x1, .f32⟩
  | 10 => ⟨S_, .f32⟩
  | 11 => ⟨S2x4096x1, .f32⟩
  | 12 => ⟨S2x4096x1, .f32⟩
  | 13 => ⟨S_, .f32⟩
  | 14 => ⟨S2x4096x1, .f32⟩
  | 15 => ⟨S2x4096x1, .f32⟩
  | 16 => ⟨S2x4096x1, .f32⟩
  | 17 => ⟨S2x4096x2048, .f32⟩
  | 18 => ⟨S2x4096x2048, .f32⟩
  | 19 => ⟨S1x1x2048, .f32⟩
  | 20 => ⟨S2x4096x2048, .f32⟩
  | 21 => ⟨S2x4096x2048, .f32⟩
  | 22 => ⟨S4096, .i32⟩
  | 23 => ⟨S2x4096x4608, .f32⟩
  | 24 => ⟨S2x4096x3x12x128, .f32⟩
  | 25 => ⟨S2x4096x3x10x128, .f32⟩
  | 26 => ⟨S2x4096x3x2x128, .f32⟩
  | 27 => ⟨S2x4096x30x128, .f32⟩
  | 28 => ⟨S64, .f32⟩
  | 29 => ⟨S_, .f32⟩
  | 30 => ⟨S64, .f32⟩
  | 31 => ⟨S64, .f32⟩
  | 32 => ⟨S_, .f32⟩
  | 33 => ⟨S64, .f32⟩
  | 34 => ⟨S64, .f32⟩
  | 35 => ⟨S64, .f32⟩
  | 36 => ⟨S_, .f32⟩
  | 37 => ⟨S64, .f32⟩
  | 38 => ⟨S64, .f32⟩
  | 39 => ⟨S_, .f32⟩
  | 40 => ⟨S64, .f32⟩
  | 41 => ⟨S64, .f32⟩
  | 42 => ⟨S4096, .f32⟩
  | 43 => ⟨S4096x1, .f32⟩
  | 44 => ⟨S1x64, .f32⟩
  | 45 => ⟨S4096x64, .f32⟩
  | 46 => ⟨S4096x64, .f32⟩
  | 47 => ⟨S4096x64, .f32⟩
  | 48 => ⟨S4096x64, .f32⟩
  | 49 => ⟨S4096x1x64, .f32⟩
  | 50 => ⟨S4096x64, .f32⟩
  | 51 => ⟨S4096x1x64, .f32⟩
  | 52 => ⟨S2x4096x30x64, .f32⟩
  | 53 => ⟨S2x4096x30x64, .f32⟩
  | 54 => ⟨S1x4096x1x64, .f32⟩
  | 55 => ⟨S2x4096x30x64, .f32⟩
  | 56 => ⟨S2x4096x30x64, .f32⟩
  | 57 => ⟨S1x4096x1x64, .f32⟩
  | 58 => ⟨S2x4096x30x64, .f32⟩
  | 59 => ⟨S2x4096x30x64, .f32⟩
  | 60 => ⟨S2x4096x30x64, .f32⟩
  | 61 => ⟨S1x4096x1x64, .f32⟩
  | 62 => ⟨S2x4096x30x64, .f32⟩
  | 63 => ⟨S2x4096x30x64, .f32⟩
  | 64 => ⟨S1x4096x1x64, .f32⟩
  | 65 => ⟨S2x4096x30x64, .f32⟩
  | 66 => ⟨S2x4096x30x64, .f32⟩
  | 67 => ⟨S2x4096x30x64, .f32⟩
  | 68 => ⟨S2x4096x30x128, .f32⟩
  | 69 => ⟨S2x4096x3x10x128, .f32⟩
  | 70 => ⟨S2x4096x3x12x128, .f32⟩
  | 71 => ⟨S8192x4608, .f32⟩
  | 72 => ⟨S1x2048, .f32⟩
  | 73 => ⟨S2048, .f32⟩
  | 74 => ⟨S128x8x2048, .f32⟩
  | 75 => ⟨S_, .f32⟩
  | 76 => ⟨S128x8, .f32⟩
  | 77 => ⟨S128x8x1, .f32⟩
  | 78 => ⟨S_, .f32⟩
  | 79 => ⟨S128x8x1, .f32⟩
  | 80 => ⟨S128x8x1, .f32⟩
  | 81 => ⟨S_, .f32⟩
  | 82 => ⟨S128x8x1, .f32⟩
  | 83 => ⟨S128x8x1, .f32⟩
  | 84 => ⟨S128x8x1, .f32⟩
  | 85 => ⟨S128x8x2048, .f32⟩
  | 86 => ⟨S128x8x2048, .f32⟩
  | 87 => ⟨S1x1x2048, .f32⟩
  | 88 => ⟨S128x8x2048, .f32⟩
  | 89 => ⟨S128x8x2048, .f32⟩
  | 90 => ⟨S8, .i32⟩
  | 91 => ⟨S_, .i32⟩
  | 92 => ⟨S8, .i32⟩
  | 93 => ⟨S8, .i32⟩
  | 94 => ⟨S128x8x4608, .f32⟩
  | 95 => ⟨S128x8x3x12x128, .f32⟩
  | 96 => ⟨S128x8x3x10x128, .f32⟩
  | 97 => ⟨S128x8x3x2x128, .f32⟩
  | 98 => ⟨S128x8x30x128, .f32⟩
  | 99 => ⟨S64, .f32⟩
  | 100 => ⟨S_, .f32⟩
  | 101 => ⟨S64, .f32⟩
  | 102 => ⟨S64, .f32⟩
  | 103 => ⟨S_, .f32⟩
  | 104 => ⟨S64, .f32⟩
  | 105 => ⟨S64, .f32⟩
  | 106 => ⟨S64, .f32⟩
  | 107 => ⟨S_, .f32⟩
  | 108 => ⟨S64, .f32⟩
  | 109 => ⟨S64, .f32⟩
  | 110 => ⟨S_, .f32⟩
  | 111 => ⟨S64, .f32⟩
  | 112 => ⟨S64, .f32⟩
  | 113 => ⟨S8, .f32⟩
  | 114 => ⟨S8x1, .f32⟩
  | 115 => ⟨S1x64, .f32⟩
  | 116 => ⟨S8x64, .f32⟩
  | 117 => ⟨S8x64, .f32⟩
  | 118 => ⟨S8x64, .f32⟩
  | 119 => ⟨S8x64, .f32⟩
  | 120 => ⟨S8x1x64, .f32⟩
  | 121 => ⟨S8x64, .f32⟩
  | 122 => ⟨S8x1x64, .f32⟩
  | 123 => ⟨S128x8x30x64, .f32⟩
  | 124 => ⟨S128x8x30x64, .f32⟩
  | 125 => ⟨S1x8x1x64, .f32⟩
  | 126 => ⟨S128x8x30x64, .f32⟩
  | 127 => ⟨S128x8x30x64, .f32⟩
  | _ => ⟨S2x4096x2048, .f32⟩

abbrev hbmTy0_1 (i : Nat) : BufTy := match i % 128 with
  | 0 => ⟨S1x8x1x64, .f32⟩
  | 1 => ⟨S128x8x30x64, .f32⟩
  | 2 => ⟨S128x8x30x64, .f32⟩
  | 3 => ⟨S128x8x30x64, .f32⟩
  | 4 => ⟨S1x8x1x64, .f32⟩
  | 5 => ⟨S128x8x30x64, .f32⟩
  | 6 => ⟨S128x8x30x64, .f32⟩
  | 7 => ⟨S1x8x1x64, .f32⟩
  | 8 => ⟨S128x8x30x64, .f32⟩
  | 9 => ⟨S128x8x30x64, .f32⟩
  | 10 => ⟨S128x8x30x64, .f32⟩
  | 11 => ⟨S128x8x30x128, .f32⟩
  | 12 => ⟨S128x8x3x10x128, .f32⟩
  | 13 => ⟨S128x8x3x12x128, .f32⟩
  | 14 => ⟨S1024x4608, .f32⟩
  | 15 => ⟨S9216x4608, .f32⟩
  | 16 => ⟨S9216x4608, .bf16⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_6 : Ref sig .tc := ⟨.hbm, 75, rfl⟩
abbrev main_v64 : Ref sig .tc := ⟨.hbm, 76, rfl⟩
abbrev main_v65 : Ref sig .tc := ⟨.hbm, 77, rfl⟩
abbrev main_cst_7 : Ref sig .tc := ⟨.hbm, 78, rfl⟩
abbrev main_v66 : Ref sig .tc := ⟨.hbm, 79, rfl⟩
abbrev main_v67 : Ref sig .tc := ⟨.hbm, 80, rfl⟩
abbrev main_cst_8 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_c : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_cst_9 : Ref sig .tc := ⟨.hbm, 100, rfl⟩
abbrev main_v85 : Ref sig .tc := ⟨.hbm, 101, rfl⟩
abbrev main_v86 : Ref sig .tc := ⟨.hbm, 102, rfl⟩
abbrev main_cst_10 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_cst_11 : Ref sig .tc := ⟨.hbm, 107, rfl⟩
abbrev main_v90 : Ref sig .tc := ⟨.hbm, 108, rfl⟩
abbrev main_v91 : Ref sig .tc := ⟨.hbm, 109, rfl⟩
abbrev main_cst_12 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩

abbrev nD : Nat := 1
abbrev τ : Topo := Topo.v7x

variable {F : FTy → Type} [FloatOps F]
-- ==== Kernel7.lean ====
abbrev S2x4096x2048 : Shape := ⟨3, ![2, 4096, 2048]⟩
abbrev S128x8x2048 : Shape := ⟨3, ![128, 8, 2048]⟩
abbrev S4x2048 : Shape := ⟨2, ![4, 2048]⟩
abbrev S2048x2560 : Shape := ⟨2, ![2048, 2560]⟩
abbrev S20 : Shape := ⟨1, ![20]⟩
abbrev S8192x2048 : Shape := ⟨2, ![8192, 2048]⟩
abbrev S1024x2048 : Shape := ⟨2, ![1024, 2048]⟩
abbrev S9216x2048 : Shape := ⟨2, ![9216, 2048]⟩
abbrev S4096 : Shape := ⟨1, ![4096]⟩
abbrev S1x4096 : Shape := ⟨2, ![1, 4096]⟩
abbrev S2x4096 : Shape := ⟨2, ![2, 4096]⟩
abbrev S8192 : Shape := ⟨1, ![8192]⟩
abbrev S8 : Shape := ⟨1, ![8]⟩
abbrev S_ : Shape := ⟨0, ![]⟩
abbrev S1x8 : Shape := ⟨2, ![1, 8]⟩
abbrev S128x8 : Shape := ⟨2, ![128, 8]⟩
abbrev S1024 : Shape := ⟨1, ![1024]⟩
abbrev S9216 : Shape := ⟨1, ![9216]⟩
abbrev S32 : Shape := ⟨1, ![32]⟩
abbrev S9216x1 : Shape := ⟨2, ![9216, 1]⟩
abbrev S1x32 : Shape := ⟨2, ![1, 32]⟩
abbrev S9216x32 : Shape := ⟨2, ![9216, 32]⟩
abbrev S9216x64 : Shape := ⟨2, ![9216, 64]⟩
abbrev S1x9216x1x64 : Shape := ⟨4, ![1, 9216, 1, 64]⟩
abbrev S1x9216x2x64 : Shape := ⟨4, ![1, 9216, 2, 64]⟩
abbrev S9216x128 : Shape := ⟨2, ![9216, 128]⟩
abbrev S1x2048 : Shape := ⟨2, ![1, 2048]⟩
abbrev S2048 : Shape := ⟨1, ![2048]⟩
abbrev S9216x2560 : Shape := ⟨2, ![9216, 2560]⟩
abbrev S2048x640 : Shape := ⟨2, ![2048, 640]⟩
abbrev S1024x128 : Shape := ⟨2, ![1024, 128]⟩
abbrev S1024x640 : Shape := ⟨2, ![1024, 640]⟩
abbrev S1024x1 : Shape := ⟨2, ![1024, 1]⟩
abbrev S1 : Shape := ⟨1, ![1]⟩

abbrev nBuf : Space → Nat
  | .hbm => 56
  | .vmem => 14
  | .smem => 1
  | _ => 0

abbrev bufTy : (tb : Table) → Fin (tcTables nBuf tb) → BufTy
  | .hbm, ⟨0, _⟩ => ⟨S2x4096x2048, .f32⟩
  | .hbm, ⟨1, _⟩ => ⟨S128x8x2048, .f32⟩
  | .hbm, ⟨2, _⟩ => ⟨S4x2048, .f32⟩
  | .hbm, ⟨3, _⟩ => ⟨S2048x2560, .f32⟩
  | .hbm, ⟨4, _⟩ => ⟨S8192x2048, .f32⟩
  | .hbm, ⟨5, _⟩ => ⟨S1024x2048, .f32⟩
  | .hbm, ⟨6, _⟩ => ⟨S9216x2048, .f32⟩
  | .hbm, ⟨7, _⟩ => ⟨S4096, .i32⟩
  | .hbm, ⟨8, _⟩ => ⟨S1x4096, .i32⟩
  | .hbm, ⟨9, _⟩ => ⟨S2x4096, .i32⟩
  | .hbm, ⟨10, _⟩ => ⟨S8192, .i32⟩
  | .hbm, ⟨11, _⟩ => ⟨S8, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S1x8, .i32⟩
  | .hbm, ⟨16, _⟩ => ⟨S128x8, .i32⟩
  | .hbm, ⟨17, _⟩ => ⟨S1024, .i32⟩
  | .hbm, ⟨18, _⟩ => ⟨S9216, .i32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S9216, .f32⟩
  | .hbm, ⟨34, _⟩ => ⟨S9216x1, .f32⟩
  | .hbm, ⟨35, _⟩ => ⟨S1x32, .f32⟩
  | .hbm, ⟨36, _⟩ => ⟨S9216x32, .f32⟩
  | .hbm, ⟨37, _⟩ => ⟨S9216x32, .f32⟩
  | .hbm, ⟨38, _⟩ => ⟨S9216x32, .f32⟩
  | .hbm, ⟨39, _⟩ => ⟨S9216x32, .f32⟩
  | .hbm, ⟨40, _⟩ => ⟨S9216x32, .f32⟩
  | .hbm, ⟨41, _⟩ => ⟨S9216x64, .f32⟩
  | .hbm, ⟨42, _⟩ => ⟨S9216x32, .f32⟩
  | .hbm, ⟨43, _⟩ => ⟨S9216x64, .f32⟩
  | .hbm, ⟨44, _⟩ => ⟨S1x9216x1x64, .f32⟩
  | .hbm, ⟨45, _⟩ => ⟨S1x9216x2x64, .f32⟩
  | .hbm, ⟨46, _⟩ => ⟨S9216x128, .f32⟩
  | .hbm, ⟨47, _⟩ => ⟨S1x9216x1x64, .f32⟩
  | .hbm, ⟨48, _⟩ => ⟨S1x9216x2x64, .f32⟩
  | .hbm, ⟨49, _⟩ => ⟨S9216x128, .f32⟩
  | .hbm, ⟨50, _⟩ => ⟨S1x2048, .f32⟩
  | .hbm, ⟨51, _⟩ => ⟨S2048, .f32⟩
  | .hbm, ⟨52, _⟩ => ⟨S1x2048, .f32⟩
  | .hbm, ⟨53, _⟩ => ⟨S2048x2560, .bf16⟩
  | .hbm, ⟨54, _⟩ => ⟨S9216x2560, .f32⟩
  | .hbm, ⟨55, _⟩ => ⟨S9216x2560, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x640, .bf16⟩
  | .local _ .vmem, ⟨4, _⟩ => ⟨S2048x640, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x640, .f32⟩
  | .local _ .vmem, ⟨10, _⟩ => ⟨S1024x640, .f32⟩
  | .local _ .vmem, ⟨11, _⟩ => ⟨S1024x640, .bf16⟩
  | .local _ .vmem, ⟨12, _⟩ => ⟨S1024x640, .bf16⟩
  | .local _ .vmem, ⟨13, _⟩ => ⟨S1024x2048, .bf16⟩
  | .local _ .smem, ⟨0, _⟩ => ⟨S20, .i32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45_0 : Ref sig .tc := ⟨.hbm, 54, rfl⟩
abbrev main_v45_1 : Ref sig .tc := ⟨.hbm, 55, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![9, 4], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_13 : BitVec 32) : Fin 1 → Nat :=
  let arg1 : BitVec 32 := BitVec.ofNat 32 (i 1).val
  let c5_i32 : BitVec 32 := 5#32
  let v37 : BitVec 32 := Scalar.muli arg1 c5_i32
  let v38 : BitVec 32 := Scalar.addi v37 c0_i32_13
  let v39 : Index := Scalar.indexCast v38
  ![v39.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S2x4096x2048 : Shape := ⟨3, ![2, 4096, 2048]⟩
abbrev S128x8x2048 : Shape := ⟨3, ![128, 8, 2048]⟩
abbrev S4x2048 : Shape := ⟨2, ![4, 2048]⟩
abbrev S2048x2560 : Shape := ⟨2, ![2048, 2560]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S4096 : Shape := ⟨1, ![4096]⟩
abbrev S2x4096x2560 : Shape := ⟨3, ![2, 4096, 2560]⟩
abbrev S2x4096x40x64 : Shape := ⟨4, ![2, 4096, 40, 64]⟩
abbrev S2x4096x36x64 : Shape := ⟨4, ![2, 4096, 36, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S2x4096x36x32 : Shape := ⟨4, ![2, 4096, 36, 32]⟩
abbrev S1x4096x1x32 : Shape := ⟨4, ![1, 4096, 1, 32]⟩
abbrev S2x4096x4x64 : Shape := ⟨4, ![2, 4096, 4, 64]⟩
abbrev S8192x2560 : Shape := ⟨2, ![8192, 2560]⟩
abbrev S128x8 : Shape := ⟨2, ![128, 8]⟩
abbrev S128x8x1 : Shape := ⟨3, ![128, 8, 1]⟩
abbrev S8 : Shape := ⟨1, ![8]⟩
abbrev S128x8x2560 : Shape := ⟨3, ![128, 8, 2560]⟩
abbrev S128x8x40x64 : Shape := ⟨4, ![128, 8, 40, 64]⟩
abbrev S128x8x36x64 : Shape := ⟨4, ![128, 8, 36, 64]⟩
abbrev S8x1 : Shape := ⟨2, ![8, 1]⟩
abbrev S8x32 : Shape := ⟨2, ![8, 32]⟩
abbrev S8x1x32 : Shape := ⟨3, ![8, 1, 32]⟩
abbrev S128x8x36x32 : Shape := ⟨4, ![128, 8, 36, 32]⟩
abbrev S1x8x1x32 : Shape := ⟨4, ![1, 8, 1, 32]⟩
abbrev S128x8x4x64 : Shape := ⟨4, ![128, 8, 4, 64]⟩
abbrev S1024x2560 : Shape := ⟨2, ![1024, 2560]⟩
abbrev S9216x2560 : Shape := ⟨2, ![9216, 2560]⟩

abbrev nBuf : Space → Nat
  | .hbm => 141
  | .vmem => 0
  | .smem => 0
  | _ => 0

abbrev hbmTy0_0 (i : Nat) : BufTy := match i % 128 with
  | 0 => ⟨S2x4096x2048, .f32⟩
  | 1 => ⟨S128x8x2048, .f32⟩
  | 2 => ⟨S4x2048, .f32⟩
  | 3 => ⟨S2048x2560, .f32⟩
  | 4 => ⟨S1x2048, .f32⟩
  | 5 => ⟨S2048, .f32⟩
  | 6 => ⟨S2x4096x2048, .f32⟩
  | 7 => ⟨S_, .f32⟩
  | 8 => ⟨S2x4096, .f32⟩
  | 9 => ⟨S2x4096x1, .f32⟩
  | 10 => ⟨S_, .f32⟩
  | 11 => ⟨S2x4096x1, .f32⟩
  | 12 => ⟨S2x4096x1, .f32⟩
  | 13 => ⟨S_, .f32⟩
  | 14 => ⟨S2x4096x1, .f32⟩
  | 15 => ⟨S2x4096x1, .f32⟩
  | 16 => ⟨S2x4096x1, .f32⟩
  | 17 => ⟨S2x4096x2048, .f32⟩
  | 18 => ⟨S2x4096x2048, .f32⟩
  | 19 => ⟨S1x1x2048, .f32⟩
  | 20 => ⟨S2x4096x2048, .f32⟩
  | 21 => ⟨S2x4096x2048, .f32⟩
  | 22 => ⟨S4096, .i32⟩
  | 23 => ⟨S2x4096x2560, .f32⟩
  | 24 => ⟨S2x4096x40x64, .f32⟩
  | 25 => ⟨S2x4096x36x64, .f32⟩
  | 26 => ⟨S32, .f32⟩
  | 27 => ⟨S_, .f32⟩
  | 28 => ⟨S32, .f32⟩
  | 29 => ⟨S32, .f32⟩
  | 30 => ⟨S_, .f32⟩
  | 31 => ⟨S32, .f32⟩
  | 32 => ⟨S32, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S4096, .f32⟩
  | 41 => ⟨S4096x1, .f32⟩
  | 42 => ⟨S1x32, .f32⟩
  | 43 => ⟨S4096x32, .f32⟩
  | 44 => ⟨S4096x32, .f32⟩
  | 45 => ⟨S4096x32, .f32⟩
  | 46 => ⟨S4096x32, .f32⟩
  | 47 => ⟨S4096x1x32, .f32⟩
  | 48 => ⟨S4096x32, .f32⟩
  | 49 => ⟨S4096x1x32, .f32⟩
  | 50 => ⟨S2x4096x36x32, .f32⟩
  | 51 => ⟨S2x4096x36x32, .f32⟩
  | 52 => ⟨S1x4096x1x32, .f32⟩
  | 53 => ⟨S2x4096x36x32, .f32⟩
  | 54 => ⟨S2x4096x36x32, .f32⟩
  | 55 => ⟨S1x4096x1x32, .f32⟩
  | 56 => ⟨S2x4096x36x32, .f32⟩
  | 57 => ⟨S2x4096x36x32, .f32⟩
  | 58 => ⟨S2x4096x36x32, .f32⟩
  | 59 => ⟨S1x4096x1x32, .f32⟩
  | 60 => ⟨S2x4096x36x32, .f32⟩
  | 61 => ⟨S2x4096x36x32, .f32⟩
  | 62 => ⟨S1x4096x1x32, .f32⟩
  | 63 => ⟨S2x4096x36x32, .f32⟩
  | 64 => ⟨S2x4096x36x32, .f32⟩
  | 65 => ⟨S2x4096x36x32, .f32⟩
  | 66 => ⟨S2x4096x36x64, .f32⟩
  | 67 => ⟨S2x4096x4x64, .f32⟩
  | 68 => ⟨S2x4096x40x64, .f32⟩
  | 69 => ⟨S8192x2560, .f32⟩
  | 70 => ⟨S1x2048, .f32⟩
  | 71 => ⟨S2048, .f32⟩
  | 72 => ⟨S128x8x2048, .f32⟩
  | 73 => ⟨S_, .f32⟩
  | 74 => ⟨S128x8, .f32⟩
  | 75 => ⟨S128x8x1, .f32⟩
  | 76 => ⟨S_, .f32⟩
  | 77 => ⟨S128x8x1, .f32⟩
  | 78 => ⟨S128x8x1, .f32⟩
  | 79 => ⟨S_, .f32⟩
  | 80 => ⟨S128x8x1, .f32⟩
  | 81 => ⟨S128x8x1, .f32⟩
  | 82 => ⟨S128x8x1, .f32⟩
  | 83 => ⟨S128x8x2048, .f32⟩
  | 84 => ⟨S128x8x2048, .f32⟩
  | 85 => ⟨S1x1x2048, .f32⟩
  | 86 => ⟨S128x8x2048, .f32⟩
  | 87 => ⟨S128x8x2048, .f32⟩
  | 88 => ⟨S8, .i32⟩
  | 89 => ⟨S_, .i32⟩
  | 90 => ⟨S8, .i32⟩
  | 91 => ⟨S8, .i32⟩
  | 92 => ⟨S128x8x2560, .f32⟩
  | 93 => ⟨S128x8x40x64, .f32⟩
  | 94 => ⟨S128x8x36x64, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S32, .f32⟩
  | 103 => ⟨S_, .f32⟩
  | 104 => ⟨S32, .f32⟩
  | 105 => ⟨S32, .f32⟩
  | 106 => ⟨S_, .f32⟩
  | 107 => ⟨S32, .f32⟩
  | 108 => ⟨S32, .f32⟩
  | 109 => ⟨S8, .f32⟩
  | 110 => ⟨S8x1, .f32⟩
  | 111 => ⟨S1x32, .f32⟩
  | 112 => ⟨S8x32, .f32⟩
  | 113 => ⟨S8x32, .f32⟩
  | 114 => ⟨S8x32, .f32⟩
  | 115 => ⟨S8x32, .f32⟩
  | 116 => ⟨S8x1x32, .f32⟩
  | 117 => ⟨S8x32, .f32⟩
  | 118 => ⟨S8x1x32, .f32⟩
  | 119 => ⟨S128x8x36x32, .f32⟩
  | 120 => ⟨S128x8x36x32, .f32⟩
  | 121 => ⟨S1x8x1x32, .f32⟩
  | 122 => ⟨S128x8x36x32, .f32⟩
  | 123 => ⟨S128x8x36x32, .f32⟩
  | 124 => ⟨S1x8x1x32, .f32⟩
  | 125 => ⟨S128x8x36x32, .f32⟩
  | 126 => ⟨S128x8x36x32, .f32⟩
  | 127 => ⟨S128x8x36x32, .f32⟩
  | _ => ⟨S2x4096x2048, .f32⟩

abbrev hbmTy0_1 (i : Nat) : BufTy := match i % 128 with
  | 0 => ⟨S1x8x1x32, .f32⟩
  | 1 => ⟨S128x8x36x32, .f32⟩
  | 2 => ⟨S128x8x36x32, .f32⟩
  | 3 => ⟨S1x8x1x32, .f32⟩
  | 4 => ⟨S128x8x36x32, .f32⟩
  | 5 => ⟨S128x8x36x32, .f32⟩
  | 6 => ⟨S128x8x36x32, .f32⟩
  | 7 => ⟨S128x8x36x64, .f32⟩
  | 8 => ⟨S128x8x4x64, .f32⟩
  | 9 => ⟨S128x8x40x64, .f32⟩
  | 10 => ⟨S1024x2560, .f32⟩
  | 11 => ⟨S9216x2560, .f32⟩
  | 12 => ⟨S9216x2560, .bf16⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_6 : Ref sig .tc := ⟨.hbm, 73, rfl⟩
abbrev main_v62 : Ref sig .tc := ⟨.hbm, 74, rfl⟩
abbrev main_v63 : Ref sig .tc := ⟨.hbm, 75, rfl⟩
abbrev main_cst_7 : Ref sig .tc := ⟨.hbm, 76, rfl⟩
abbrev main_v64 : Ref sig .tc := ⟨.hbm, 77, rfl⟩
abbrev main_v65 : Ref sig .tc := ⟨.hbm, 78, rfl⟩
abbrev main_cst_8 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_c : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_9 : Ref sig .tc := ⟨.hbm, 96, rfl⟩
abbrev main_v81 : Ref sig .tc := ⟨.hbm, 97, rfl⟩
abbrev main_v82 : Ref sig .tc := ⟨.hbm, 98, rfl⟩
abbrev main_cst_10 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_cst_11 : Ref sig .tc := ⟨.hbm, 103, rfl⟩
abbrev main_v86 : Ref sig .tc := ⟨.hbm, 104, rfl⟩
abbrev main_v87 : Ref sig .tc := ⟨.hbm, 105, rfl⟩
abbrev main_cst_12 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩

abbrev nD : Nat := 1
abbrev τ : Topo := Topo.v7x

variable {F : FTy → Type} [FloatOps F]
-- ==== Kernel8.lean ====
abbrev S2x4096x2048 : Shape := ⟨3, ![2, 4096, 2048]⟩
abbrev S128x8x2048 : Shape := ⟨3, ![128, 8, 2048]⟩
abbrev S4x2048 : Shape := ⟨2, ![4, 2048]⟩
abbrev S2048x1088 : Shape := ⟨2, ![2048, 1088]⟩
abbrev S9 : Shape := ⟨1, ![9]⟩
abbrev S8192x2048 : Shape := ⟨2, ![8192, 2048]⟩
abbrev S1024x2048 : Shape := ⟨2, ![1024, 2048]⟩
abbrev S9216x2048 : Shape := ⟨2, ![9216, 2048]⟩
abbrev S4096 : Shape := ⟨1, ![4096]⟩
abbrev S1x4096 : Shape := ⟨2, ![1, 4096]⟩
abbrev S2x4096 : Shape := ⟨2, ![2, 4096]⟩
abbrev S8192 : Shape := ⟨1, ![8192]⟩
abbrev S8 : Shape := ⟨1, ![8]⟩
abbrev S_ : Shape := ⟨0, ![]⟩
abbrev S1x8 : Shape := ⟨2, ![1, 8]⟩
abbrev S128x8 : Shape := ⟨2, ![128, 8]⟩
abbrev S1024 : Shape := ⟨1, ![1024]⟩
abbrev S9216 : Shape := ⟨1, ![9216]⟩
abbrev S32 : Shape := ⟨1, ![32]⟩
abbrev S9216x1 : Shape := ⟨2, ![9216, 1]⟩
abbrev S1x32 : Shape := ⟨2, ![1, 32]⟩
abbrev S9216x32 : Shape := ⟨2, ![9216, 32]⟩
abbrev S9216x64 : Shape := ⟨2, ![9216, 64]⟩
abbrev S1x9216x1x64 : Shape := ⟨4, ![1, 9216, 1, 64]⟩
abbrev S1x9216x2x64 : Shape := ⟨4, ![1, 9216, 2, 64]⟩
abbrev S9216x128 : Shape := ⟨2, ![9216, 128]⟩
abbrev S2048x64 : Shape := ⟨2, ![2048, 64]⟩
abbrev S2048x1152 : Shape := ⟨2, ![2048, 1152]⟩
abbrev S1x2048 : Shape := ⟨2, ![1, 2048]⟩
abbrev S2048 : Shape := ⟨1, ![2048]⟩
abbrev S9216x1152 : Shape := ⟨2, ![9216, 1152]⟩
abbrev S2048x384 : Shape := ⟨2, ![2048, 384]⟩
abbrev S1024x128 : Shape := ⟨2, ![1024, 128]⟩
abbrev S1024x384 : Shape := ⟨2, ![1024, 384]⟩
abbrev S1024x1 : Shape := ⟨2, ![1024, 1]⟩
abbrev S1 : Shape := ⟨1, ![1]⟩

abbrev nBuf : Space → Nat
  | .hbm => 59
  | .vmem => 14
  | .smem => 1
  | _ => 0

abbrev bufTy : (tb : Table) → Fin (tcTables nBuf tb) → BufTy
  | .hbm, ⟨0, _⟩ => ⟨S2x4096x2048, .f32⟩
  | .hbm, ⟨1, _⟩ => ⟨S128x8x2048, .f32⟩
  | .hbm, ⟨2, _⟩ => ⟨S4x2048, .f32⟩
  | .hbm, ⟨3, _⟩ => ⟨S2048x1088, .f32⟩
  | .hbm, ⟨4, _⟩ => ⟨S8192x2048, .f32⟩
  | .hbm, ⟨5, _⟩ => ⟨S1024x2048, .f32⟩
  | .hbm, ⟨6, _⟩ => ⟨S9216x2048, .f32⟩
  | .hbm, ⟨7, _⟩ => ⟨S4096, .i32⟩
  | .hbm, ⟨8, _⟩ => ⟨S1x4096, .i32⟩
  | .hbm, ⟨9, _⟩ => ⟨S2x4096, .i32⟩
  | .hbm, ⟨10, _⟩ => ⟨S8192, .i32⟩
  | .hbm, ⟨11, _⟩ => ⟨S8, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S1x8, .i32⟩
  | .hbm, ⟨16, _⟩ => ⟨S128x8, .i32⟩
  | .hbm, ⟨17, _⟩ => ⟨S1024, .i32⟩
  | .hbm, ⟨18, _⟩ => ⟨S9216, .i32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S9216, .f32⟩
  | .hbm, ⟨34, _⟩ => ⟨S9216x1, .f32⟩
  | .hbm, ⟨35, _⟩ => ⟨S1x32, .f32⟩
  | .hbm, ⟨36, _⟩ => ⟨S9216x32, .f32⟩
  | .hbm, ⟨37, _⟩ => ⟨S9216x32, .f32⟩
  | .hbm, ⟨38, _⟩ => ⟨S9216x32, .f32⟩
  | .hbm, ⟨39, _⟩ => ⟨S9216x32, .f32⟩
  | .hbm, ⟨40, _⟩ => ⟨S9216x32, .f32⟩
  | .hbm, ⟨41, _⟩ => ⟨S9216x64, .f32⟩
  | .hbm, ⟨42, _⟩ => ⟨S9216x32, .f32⟩
  | .hbm, ⟨43, _⟩ => ⟨S9216x64, .f32⟩
  | .hbm, ⟨44, _⟩ => ⟨S1x9216x1x64, .f32⟩
  | .hbm, ⟨45, _⟩ => ⟨S1x9216x2x64, .f32⟩
  | .hbm, ⟨46, _⟩ => ⟨S9216x128, .f32⟩
  | .hbm, ⟨47, _⟩ => ⟨S1x9216x1x64, .f32⟩
  | .hbm, ⟨48, _⟩ => ⟨S1x9216x2x64, .f32⟩
  | .hbm, ⟨49, _⟩ => ⟨S9216x128, .f32⟩
  | .hbm, ⟨50, _⟩ => ⟨S_, .f32⟩
  | .hbm, ⟨51, _⟩ => ⟨S2048x64, .f32⟩
  | .hbm, ⟨52, _⟩ => ⟨S2048x1152, .f32⟩
  | .hbm, ⟨53, _⟩ => ⟨S1x2048, .f32⟩
  | .hbm, ⟨54, _⟩ => ⟨S2048, .f32⟩
  | .hbm, ⟨55, _⟩ => ⟨S1x2048, .f32⟩
  | .hbm, ⟨56, _⟩ => ⟨S2048x1152, .bf16⟩
  | .hbm, ⟨57, _⟩ => ⟨S9216x1152, .f32⟩
  | .hbm, ⟨58, _⟩ => ⟨S9216x1152, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x384, .bf16⟩
  | .local _ .vmem, ⟨4, _⟩ => ⟨S2048x384, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x384, .f32⟩
  | .local _ .vmem, ⟨10, _⟩ => ⟨S1024x384, .f32⟩
  | .local _ .vmem, ⟨11, _⟩ => ⟨S1024x384, .bf16⟩
  | .local _ .vmem, ⟨12, _⟩ => ⟨S1024x384, .bf16⟩
  | .local _ .vmem, ⟨13, _⟩ => ⟨S1024x2048, .bf16⟩
  | .local _ .smem, ⟨0, _⟩ => ⟨S9, .i32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47_0 : Ref sig .tc := ⟨.hbm, 57, rfl⟩
abbrev main_v47_1 : Ref sig .tc := ⟨.hbm, 58, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![9, 3], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_13 : BitVec 32) : Fin 1 → Nat :=
  let arg1 : BitVec 32 := BitVec.ofNat 32 (i 1).val
  let c3_i32 : BitVec 32 := 3#32
  let v37 : BitVec 32 := Scalar.muli arg1 c3_i32
  let v38 : BitVec 32 := Scalar.addi v37 c0_i32_13
  let v39 : Index := Scalar.indexCast v38
  ![v39.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S2x4096x2048 : Shape := ⟨3, ![2, 4096, 2048]⟩
abbrev S128x8x2048 : Shape := ⟨3, ![128, 8, 2048]⟩
abbrev S4x2048 : Shape := ⟨2, ![4, 2048]⟩
abbrev S2048x1088 : Shape := ⟨2, ![2048, 1088]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S4096 : Shape := ⟨1, ![4096]⟩
abbrev S2x4096x1088 : Shape := ⟨3, ![2, 4096, 1088]⟩
abbrev S2x4096x512 : Shape := ⟨3, ![2, 4096, 512]⟩
abbrev S2x4096x64 : Shape := ⟨3, ![2, 4096, 64]⟩
abbrev S2x4096x1x64 : Shape := ⟨4, ![2, 4096, 1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S2x4096x1x32 : Shape := ⟨4, ![2, 4096, 1, 32]⟩
abbrev S1x4096x1x32 : Shape := ⟨4, ![1, 4096, 1, 32]⟩
abbrev S8192x512 : Shape := ⟨2, ![8192, 512]⟩
abbrev S8192x64 : Shape := ⟨2, ![8192, 64]⟩
abbrev S8192x1152 : Shape := ⟨2, ![8192, 1152]⟩
abbrev S128x8 : Shape := ⟨2, ![128, 8]⟩
abbrev S128x8x1 : Shape := ⟨3, ![128, 8, 1]⟩
abbrev S8 : Shape := ⟨1, ![8]⟩
abbrev S128x8x1088 : Shape := ⟨3, ![128, 8, 1088]⟩
abbrev S128x8x512 : Shape := ⟨3, ![128, 8, 512]⟩
abbrev S128x8x64 : Shape := ⟨3, ![128, 8, 64]⟩
abbrev S128x8x1x64 : Shape := ⟨4, ![128, 8, 1, 64]⟩
abbrev S8x1 : Shape := ⟨2, ![8, 1]⟩
abbrev S8x32 : Shape := ⟨2, ![8, 32]⟩
abbrev S8x1x32 : Shape := ⟨3, ![8, 1, 32]⟩
abbrev S128x8x1x32 : Shape := ⟨4, ![128, 8, 1, 32]⟩
abbrev S1x8x1x32 : Shape := ⟨4, ![1, 8, 1, 32]⟩
abbrev S1024x512 : Shape := ⟨2, ![1024, 512]⟩
abbrev S1024x64 : Shape := ⟨2, ![1024, 64]⟩
abbrev S1024x1152 : Shape := ⟨2, ![1024, 1152]⟩
abbrev S9216x1152 : Shape := ⟨2, ![9216, 1152]⟩

abbrev nBuf : Space → Nat
  | .hbm => 153
  | .vmem => 0
  | .smem => 0
  | _ => 0

abbrev hbmTy0_0 (i : Nat) : BufTy := match i % 128 with
  | 0 => ⟨S2x4096x2048, .f32⟩
  | 1 => ⟨S128x8x2048, .f32⟩
  | 2 => ⟨S4x2048, .f32⟩
  | 3 => ⟨S2048x1088, .f32⟩
  | 4 => ⟨S1x2048, .f32⟩
  | 5 => ⟨S2048, .f32⟩
  | 6 => ⟨S2x4096x2048, .f32⟩
  | 7 => ⟨S_, .f32⟩
  | 8 => ⟨S2x4096, .f32⟩
  | 9 => ⟨S2x4096x1, .f32⟩
  | 10 => ⟨S_, .f32⟩
  | 11 => ⟨S2x4096x1, .f32⟩
  | 12 => ⟨S2x4096x1, .f32⟩
  | 13 => ⟨S_, .f32⟩
  | 14 => ⟨S2x4096x1, .f32⟩
  | 15 => ⟨S2x4096x1, .f32⟩
  | 16 => ⟨S2x4096x1, .f32⟩
  | 17 => ⟨S2x4096x2048, .f32⟩
  | 18 => ⟨S2x4096x2048, .f32⟩
  | 19 => ⟨S1x1x2048, .f32⟩
  | 20 => ⟨S2x4096x2048, .f32⟩
  | 21 => ⟨S2x4096x2048, .f32⟩
  | 22 => ⟨S4096, .i32⟩
  | 23 => ⟨S2x4096x1088, .f32⟩
  | 24 => ⟨S2x4096x512, .f32⟩
  | 25 => ⟨S2x4096x512, .f32⟩
  | 26 => ⟨S2x4096x64, .f32⟩
  | 27 => ⟨S2x4096x1x64, .f32⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S4096, .f32⟩
  | 43 => ⟨S4096x1, .f32⟩
  | 44 => ⟨S1x32, .f32⟩
  | 45 => ⟨S4096x32, .f32⟩
  | 46 => ⟨S4096x32, .f32⟩
  | 47 => ⟨S4096x32, .f32⟩
  | 48 => ⟨S4096x32, .f32⟩
  | 49 => ⟨S4096x1x32, .f32⟩
  | 50 => ⟨S4096x32, .f32⟩
  | 51 => ⟨S4096x1x32, .f32⟩
  | 52 => ⟨S2x4096x1x32, .f32⟩
  | 53 => ⟨S2x4096x1x32, .f32⟩
  | 54 => ⟨S1x4096x1x32, .f32⟩
  | 55 => ⟨S2x4096x1x32, .f32⟩
  | 56 => ⟨S2x4096x1x32, .f32⟩
  | 57 => ⟨S1x4096x1x32, .f32⟩
  | 58 => ⟨S2x4096x1x32, .f32⟩
  | 59 => ⟨S2x4096x1x32, .f32⟩
  | 60 => ⟨S2x4096x1x32, .f32⟩
  | 61 => ⟨S1x4096x1x32, .f32⟩
  | 62 => ⟨S2x4096x1x32, .f32⟩
  | 63 => ⟨S2x4096x1x32, .f32⟩
  | 64 => ⟨S1x4096x1x32, .f32⟩
  | 65 => ⟨S2x4096x1x32, .f32⟩
  | 66 => ⟨S2x4096x1x32, .f32⟩
  | 67 => ⟨S2x4096x1x32, .f32⟩
  | 68 => ⟨S2x4096x1x64, .f32⟩
  | 69 => ⟨S2x4096x64, .f32⟩
  | 70 => ⟨S8192x512, .f32⟩
  | 71 => ⟨S8192x512, .f32⟩
  | 72 => ⟨S8192x64, .f32⟩
  | 73 => ⟨S_, .f32⟩
  | 74 => ⟨S8192x64, .f32⟩
  | 75 => ⟨S8192x1152, .f32⟩
  | 76 => ⟨S1x2048, .f32⟩
  | 77 => ⟨S2048, .f32⟩
  | 78 => ⟨S128x8x2048, .f32⟩
  | 79 => ⟨S_, .f32⟩
  | 80 => ⟨S128x8, .f32⟩
  | 81 => ⟨S128x8x1, .f32⟩
  | 82 => ⟨S_, .f32⟩
  | 83 => ⟨S128x8x1, .f32⟩
  | 84 => ⟨S128x8x1, .f32⟩
  | 85 => ⟨S_, .f32⟩
  | 86 => ⟨S128x8x1, .f32⟩
  | 87 => ⟨S128x8x1, .f32⟩
  | 88 => ⟨S128x8x1, .f32⟩
  | 89 => ⟨S128x8x2048, .f32⟩
  | 90 => ⟨S128x8x2048, .f32⟩
  | 91 => ⟨S1x1x2048, .f32⟩
  | 92 => ⟨S128x8x2048, .f32⟩
  | 93 => ⟨S128x8x2048, .f32⟩
  | 94 => ⟨S8, .i32⟩
  | 95 => ⟨S_, .i32⟩
  | 96 => ⟨S8, .i32⟩
  | 97 => ⟨S8, .i32⟩
  | 98 => ⟨S128x8x1088, .f32⟩
  | 99 => ⟨S128x8x512, .f32⟩
  | 100 => ⟨S128x8x512, .f32⟩
  | 101 => ⟨S128x8x64, .f32⟩
  | 102 => ⟨S128x8x1x64, .f32⟩
  | 103 => ⟨S32, .f32⟩
  | 104 => ⟨S_, .f32⟩
  | 105 => ⟨S32, .f32⟩
  | 106 => ⟨S32, .f32⟩
  | 107 => ⟨S_, .f32⟩
  | 108 => ⟨S32, .f32⟩
  | 109 => ⟨S32, .f32⟩
  | 110 => ⟨S32, .f32⟩
  | 111 => ⟨S_, .f32⟩
  | 112 => ⟨S32, .f32⟩
  | 113 => ⟨S32, .f32⟩
  | 114 => ⟨S_, .f32⟩
  | 115 => ⟨S32, .f32⟩
  | 116 => ⟨S32, .f32⟩
  | 117 => ⟨S8, .f32⟩
  | 118 => ⟨S8x1, .f32⟩
  | 119 => ⟨S1x32, .f32⟩
  | 120 => ⟨S8x32, .f32⟩
  | 121 => ⟨S8x32, .f32⟩
  | 122 => ⟨S8x32, .f32⟩
  | 123 => ⟨S8x32, .f32⟩
  | 124 => ⟨S8x1x32, .f32⟩
  | 125 => ⟨S8x32, .f32⟩
  | 126 => ⟨S8x1x32, .f32⟩
  | 127 => ⟨S128x8x1x32, .f32⟩
  | _ => ⟨S2x4096x2048, .f32⟩

abbrev hbmTy0_1 (i : Nat) : BufTy := match i % 128 with
  | 0 => ⟨S128x8x1x32, .f32⟩
  | 1 => ⟨S1x8x1x32, .f32⟩
  | 2 => ⟨S128x8x1x32, .f32⟩
  | 3 => ⟨S128x8x1x32, .f32⟩
  | 4 => ⟨S1x8x1x32, .f32⟩
  | 5 => ⟨S128x8x1x32, .f32⟩
  | 6 => ⟨S128x8x1x32, .f32⟩
  | 7 => ⟨S128x8x1x32, .f32⟩
  | 8 => ⟨S1x8x1x32, .f32⟩
  | 9 => ⟨S128x8x1x32, .f32⟩
  | 10 => ⟨S128x8x1x32, .f32⟩
  | 11 => ⟨S1x8x1x32, .f32⟩
  | 12 => ⟨S128x8x1x32, .f32⟩
  | 13 => ⟨S128x8x1x32, .f32⟩
  | 14 => ⟨S128x8x1x32, .f32⟩
  | 15 => ⟨S128x8x1x64, .f32⟩
  | 16 => ⟨S128x8x64, .f32⟩
  | 17 => ⟨S1024x512, .f32⟩
  | 18 => ⟨S1024x512, .f32⟩
  | 19 => ⟨S1024x64, .f32⟩
  | 20 => ⟨S_, .f32⟩
  | 21 => ⟨S1024x64, .f32⟩
  | 22 => ⟨S1024x1152, .f32⟩
  | 23 => ⟨S9216x1152, .f32⟩
  | 24 => ⟨S9216x1152, .bf16⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_6 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_7 : Ref sig .tc := ⟨.hbm, 79, rfl⟩
abbrev main_v67 : Ref sig .tc := ⟨.hbm, 80, rfl⟩
abbrev main_v68 : Ref sig .tc := ⟨.hbm, 81, rfl⟩
abbrev main_cst_8 : Ref sig .tc := ⟨.hbm, 82, rfl⟩
abbrev main_v69 : Ref sig .tc := ⟨.hbm, 83, rfl⟩
abbrev main_v70 : Ref sig .tc := ⟨.hbm, 84, rfl⟩
abbrev main_cst_9 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_c : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_10 : Ref sig .tc := ⟨.hbm, 104, rfl⟩
abbrev main_v88 : Ref sig .tc := ⟨.hbm, 105, rfl⟩
abbrev main_v89 : Ref sig .tc := ⟨.hbm, 106, rfl⟩
abbrev main_cst_11 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_cst_12 : Ref sig .tc := ⟨.hbm, 111, rfl⟩
abbrev main_v93 : Ref sig .tc := ⟨.hbm, 112, rfl⟩
abbrev main_v94 : Ref sig .tc := ⟨.hbm, 113, rfl⟩
abbrev main_cst_13 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_cst_14 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩

abbrev nD : Nat := 1
abbrev τ : Topo := Topo.v7x

variable {F : FTy → Type} [FloatOps F]
-- ==== Kernel9.lean ====
abbrev S9216x1152 : Shape := ⟨2, ![9216, 1152]⟩
abbrev S512 : Shape := ⟨1, ![512]⟩
abbrev S1x512 : Shape := ⟨2, ![1, 512]⟩
abbrev S9216x512 : Shape := ⟨2, ![9216, 512]⟩
abbrev S512x512 : Shape := ⟨2, ![512, 512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S9216x1152, .f32⟩
  | .hbm, ⟨1, _⟩ => ⟨S512, .f32⟩
  | .hbm, ⟨2, _⟩ => ⟨S1x512, .f32⟩
  | .hbm, ⟨3, _⟩ => ⟨S9216x512, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x512, .f32⟩
  | .local _ .vmem, ⟨4, _⟩ => ⟨S512x512, .f32⟩
  | _, _ => ⟨S9216x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S9216x1152 : Shape := ⟨2, ![9216, 1152]⟩
abbrev S512 : Shape := ⟨1, ![512]⟩
abbrev S9216x512 : Shape := ⟨2, ![9216, 512]⟩
abbrev S_ : Shape := ⟨0, ![]⟩
abbrev S9216 : Shape := ⟨1, ![9216]⟩
abbrev S9216x1 : Shape := ⟨2, ![9216, 1]⟩
abbrev S1x512 : Shape := ⟨2, ![1, 512]⟩

abbrev nBuf : Space → Nat
  | .hbm => 19
  | .vmem => 0
  | .smem => 0
  | _ => 0

abbrev bufTy : (tb : Table) → Fin (tcTables nBuf tb) → BufTy
  | .hbm, ⟨0, _⟩ => ⟨S9216x1152, .f32⟩
  | .hbm, ⟨1, _⟩ => ⟨S512, .f32⟩
  | .hbm, ⟨2, _⟩ => ⟨S9216x512, .f32⟩
  | .hbm, ⟨3, _⟩ => ⟨S9216x512, .f32⟩
  | .hbm, ⟨4, _⟩ => ⟨S_, .f32⟩
  | .hbm, ⟨5, _⟩ => ⟨S9216, .f32⟩
  | .hbm, ⟨6, _⟩ => ⟨S9216x1, .f32⟩
  | .hbm, ⟨7, _⟩ => ⟨S_, .f32⟩
  | .hbm, ⟨8, _⟩ => ⟨S9216x1, .f32⟩
  | .hbm, ⟨9, _⟩ => ⟨S9216x1, .f32⟩
  | .hbm, ⟨10, _⟩ => ⟨S_, .f32⟩
  | .hbm, ⟨11, _⟩ => ⟨S9216x1, .f32⟩
  | .hbm, ⟨12, _⟩ => ⟨S9216x1, .f32⟩
  | .hbm, ⟨13, _⟩ => ⟨S9216x1, .f32⟩
  | .hbm, ⟨14, _⟩ => ⟨S9216x512, .f32⟩
  | .hbm, ⟨15, _⟩ => ⟨S9216x512, .f32⟩
  | .hbm, ⟨16, _⟩ => ⟨S1x512, .f32⟩
  | .hbm, ⟨17, _⟩ => ⟨S9216x512, .f32⟩
  | .hbm, ⟨18, _⟩ => ⟨S9216x512, .f32⟩
  | _, _ => ⟨S9216x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.OutRef.lean ====
module
public import proofs.«01_k».proof.Proof.Gen.Reference3Ideal.Run
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.OutRef
open Cert.Reference3Ideal Cert.Reference3Ideal.Gen

/-- The reference's result on the prompt rows. -/
def Rp (op : FVec Ideal S2x4096x16x128 .f32) (w : FVec Ideal S2048x2048 .f32) (xp : FVec Ideal S2x4096x2048 .f32) : FVec Ideal S2x4096x2048 .f32 :=
  addf xp (Host.dotGeneral dot_S2x4096x2048_S2048x2048_S2x4096x2048_2_0_01_1_n_n none (shapeCast _ op shapeCasts_S2x4096x16x128_S2x4096x2048) w)
/-- The reference's result on the sample rows. -/
def Rs (os : FVec Ideal S128x8x16x128 .f32) (w : FVec Ideal S2048x2048 .f32) (xs : FVec Ideal S128x8x2048 .f32) : FVec Ideal S128x8x2048 .f32 :=
  addf xs (Host.dotGeneral dot_S128x8x2048_S2048x2048_S128x8x2048_2_0_01_1_n_n none (shapeCast _ os shapeCasts_S128x8x16x128_S128x8x2048) w)
/-- The prompt rows above the sample rows, as one array. -/
def stack (xp : FVec Ideal S2x4096x2048 .f32) (xs : FVec Ideal S128x8x2048 .f32) : FVec Ideal S9216x2048 .f32 :=
  concatenate S9216x2048 0 [⟨S8192x2048, shapeCast _ xp shapeCasts_S2x4096x2048_S8192x2048⟩,
    ⟨S1024x2048, shapeCast _ xs shapeCasts_S128x8x2048_S1024x2048⟩] concatenates_S8192x2048_S1024x2048_S9216x2048_d0

/-- The heads of a prompt row side by side. -/
def hp (op : FVec Ideal S2x4096x16x128 .f32) : FVec Ideal S2x4096x2048 .f32 := shapeCast _ op shapeCasts_S2x4096x16x128_S2x4096x2048
/-- The heads of a sample row side by side. -/
def hs (os : FVec Ideal S128x8x16x128 .f32) : FVec Ideal S128x8x2048 .f32 := shapeCast _ os shapeCasts_S128x8x16x128_S128x8x2048

theorem Rp_at (op : FVec Ideal S2x4096x16x128 .f32) (w : FVec Ideal S2048x2048 .f32) (xp : FVec Ideal S2x4096x2048 .f32) (r : S2x4096x2048.Idx) :
    Rp op w xp r = xp r + ∑ k : Fin 2048, hp op (ix3 (r 0) (r 1) k) * w (ix2 k (r 2)) := by
  rw [Rp, ← hp]
  generalize hp op = a
  pointwise
theorem Rs_at (os : FVec Ideal S128x8x16x128 .f32) (w : FVec Ideal S2048x2048 .f32) (xs : FVec Ideal S128x8x2048 .f32) (r : S128x8x2048.Idx) :
    Rs os w xs r = xs r + ∑ k : Fin 2048, hs os (ix3 (r 0) (r 1) k) * w (ix2 k (r 2)) := by
  rw [Rs, ← hs]
  generalize hs os = a
  pointwise

/-- The reference's whole result at a row and a lane: the activation plus the row of heads against that lane's weights. -/
theorem ref_at (op : FVec Ideal S2x4096x16x128 .f32) (os : FVec Ideal S128x8x16x128 .f32) (w : FVec Ideal S2048x2048 .f32)
    (xp : FVec Ideal S2x4096x2048 .f32) (xs : FVec Ideal S128x8x2048 .f32) (r : S9216x2048.Idx) :
    stack (Rp op w xp) (Rs os w xs) r = stack xp xs r + ∑ k : Fin 2048, stack (hp op) (hs os) (ix2 (r 0) k) * w (ix2 k (r 1)) := by
  generalize e : hp op = a
  generalize e' : hs os = b
  pointwise [stack, Rp_at, Rs_at, e, e']
  split <;> rfl
end Cert.OutRef
end
-- ==== Proof.OutValue.lean ====
module
public import proofs.«01_k».proof.Proof.Gen.Kernel3Ideal.Value
public import proofs.«01_k».proof.Proof.OutRef
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.Out
open Cert.Kernel3Ideal Cert.Kernel3Ideal.Gen Cert.OutRef
variable (m : (ℓ : Loc nD τ sig) → Buf (Elt Ideal) ℓ)

/-- Which block of its array each operand stages at grid point `t`: row tile `t / 4`, lane tile `t % 4`. -/
theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

/-- The stacked activations the call reads. -/
theorem entry2 (c : Dev nD) : V m c main_v2 = stack (m ((c : Thread nD τ).loc main_arg3)) (m ((c : Thread nD τ).loc main_arg4)) := by
  entry_read
  rfl
/-- The stacked rows of heads the call reads. -/
theorem entry6 (c : Dev nD) (r : S9216x2048.Idx) : (V m c main_v6 : FVec Ideal S9216x2048 .bf16) r
    = stack (hp (m ((c : Thread nD τ).loc main_arg0))) (hs (m ((c : Thread nD τ).loc main_arg1))) r := by
  entry_read
  rw [stack, hp, hs, shapeCast_comp, shapeCast_comp]
  rfl
theorem entry7 (c : Dev nD) (r : S2048x2048.Idx) :
    (V m c main_v7 : FVec Ideal S2048x2048 .bf16) r = (m ((c : Thread nD τ).loc main_arg2) : FVec Ideal S2048x2048 .f32) r := by
  entry_read
  pointwise

theorem pay_at (x : Vec Ideal S1024x512 .f32) (a : Vec Ideal S1024x2048 .bf16) (w : Vec Ideal S2048x512 .bf16) (r : S1024x512.Idx) :
    k0_pay1 x a w r = x r + ∑ k : Fin 2048, a (ix2 (r 0) k) * w (ix2 k (r 1)) := by
  pointwise [k0_pay1]

/-- After the run the result array is the reference's term. -/
theorem final (c : Dev nD) : (dats m 0 c).arrAt 3 cfg0.N
    = stack (Rp (m ((c : Thread nD τ).loc main_arg0)) (m ((c : Thread nD τ).loc main_arg2)) (m ((c : Thread nD τ).loc main_arg3)))
      (Rs (m ((c : Thread nD τ).loc main_arg1)) (m ((c : Thread nD τ).loc main_arg2)) (m ((c : Thread nD τ).loc main_arg4))) := by
  refine (dats m 0 c).arrAt_eq_of_covers 3 _ (by decide +kernel) fun t hf y => ?_
  blk_simp
  rw [after0_3, ref_at]
  frame_out
  rw [pay_at]
  refine congrArg₂ (· + ·) ?_ (Finset.sum_congr rfl fun k _ => congrArg₂ (· * ·) ?_ ?_)
  · rw [← entry2 m c]
    blk_ext [iblk, idx t]
  · refine Eq.trans ?_ (entry6 m c _)
    blk_ext [iblk, idx t]
  · refine Eq.trans ?_ (entry7 m c _)
    blk_ext [iblk, idx t]
end Cert.Out
end
-- ==== Proof.NormRef.lean ====
module
public import proofs.«01_k».proof.Proof.Gen.Reference4Ideal.Run
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.NormRef
open Cert.Reference4Ideal Cert.Reference4Ideal.Gen

/-- A row of activations, normalised by its root mean square and scaled by the gain. -/
def xnorm (x g : Fin 2048 → EReal) (k : Fin 2048) : EReal :=
  x k * Ideal.rsqrt (Ideal.div (∑ a, x a * x a) (Ideal.ofBits FTy.f32 1157627904#32) + Ideal.ofBits FTy.f32 897988541#32) * g k

/-- The reference's result on the prompt rows. -/
def Np (xp : FVec Ideal S2x4096x2048 .f32) (g : FVec Ideal S2048 .f32) : FVec Ideal S2x4096x2048 .f32 :=
  (mulf (mulf xp (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf xp xp) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g)))
/-- The reference's result on the sample rows. -/
def Ns (xs : FVec Ideal S128x8x2048 .f32) (g : FVec Ideal S2048 .f32) : FVec Ideal S128x8x2048 .f32 :=
  (mulf (mulf xs (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf xs xs) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 g)))

theorem Np_at (xp : FVec Ideal S2x4096x2048 .f32) (g : FVec Ideal S2048 .f32) (r : S2x4096x2048.Idx) :
    Np xp g r = xnorm (fun k => xp (ix3 (r 0) (r 1) k)) (fun k => g (ix1 k)) (r 2) := by
  pointwise [Np, xnorm]
theorem Ns_at (xs : FVec Ideal S128x8x2048 .f32) (g : FVec Ideal S2048 .f32) (r : S128x8x2048.Idx) :
    Ns xs g r = xnorm (fun k => xs (ix3 (r 0) (r 1) k)) (fun k => g (ix1 k)) (r 2) := by
  pointwise [Ns, xnorm]

/-- The prompt rows above the sample rows, as one array. -/
def stack (xp : FVec Ideal S2x4096x2048 .f32) (xs : FVec Ideal S128x8x2048 .f32) : FVec Ideal S9216x2048 .f32 :=
  concatenate S9216x2048 0 [⟨S8192x2048, shapeCast _ xp shapeCasts_S2x4096x2048_S8192x2048⟩,
    ⟨S1024x2048, shapeCast _ xs shapeCasts_S128x8x2048_S1024x2048⟩] concatenates_S8192x2048_S1024x2048_S9216x2048_d0

/-- The reference's whole result, row by row of the stacked activations. -/
theorem ref_at (xp : FVec Ideal S2x4096x2048 .f32) (xs : FVec Ideal S128x8x2048 .f32) (g : FVec Ideal S2048 .f32) (r : S9216x2048.Idx) :
    stack (Np xp g) (Ns xs g) r = xnorm (fun k => stack xp xs (ix2 (r 0) k)) (fun k => g (ix1 k)) (r 1) := by
  pointwise [stack, Np_at, Ns_at]
  split <;> rfl
end Cert.NormRef
end
-- ==== Proof.NormValue.lean ====
module
public import proofs.«01_k».proof.Proof.Gen.Kernel4Ideal.Value
public import proofs.«01_k».proof.Proof.NormRef
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.Norm
open Cert.Kernel4Ideal Cert.Kernel4Ideal.Gen Cert.NormRef
variable (m : (ℓ : Loc nD τ sig) → Buf (Elt Ideal) ℓ)

/-- Which block of its array each operand stages at grid point `t`: row tile `t`, and the whole gain. -/
theorem idx : ∀ t : Fin cfg0.N, win0_0.index t = ![t.val, 0] ∧ win0_1.index t = ![0, 0] ∧ win0_2.index t = ![t.val, 0] :=
  (by decide +kernel : ∀ t : Fin grid0.N, _)

/-- The stacked activations the call reads. -/
theorem entry2 (c : Dev nD) : V m c main_v2 = stack (m ((c : Thread nD τ).loc main_arg0)) (m ((c : Thread nD τ).loc main_arg1)) := by
  entry_read
  rfl
theorem entry3 (c : Dev nD) (r : S1x2048.Idx) :
    (V m c main_v3 : FVec Ideal S1x2048 .f32) r = (m ((c : Thread nD τ).loc main_arg2) : FVec Ideal S2048 .f32) (ix1 (r 1)) := by
  entry_read
  pointwise

theorem pay_at (a : Vec Ideal S512x2048 .f32) (g : Vec Ideal S1x2048 .f32) (r : S512x2048.Idx) :
    k0_pay1 a g r = xnorm (fun k => a (ix2 (r 0) k)) (fun k => g (ix2 0 k)) (r 1) := by
  pointwise [k0_pay1, xnorm]

/-- After the run the result array is the reference's term. -/
theorem final (c : Dev nD) : (dats m 0 c).arrAt 2 cfg0.N
    = stack (Np (m ((c : Thread nD τ).loc main_arg0)) (m ((c : Thread nD τ).loc main_arg2)))
      (Ns (m ((c : Thread nD τ).loc main_arg1)) (m ((c : Thread nD τ).loc main_arg2))) := by
  refine (dats m 0 c).arrAt_eq_of_covers 2 _ (by decide +kernel) fun t hf y => ?_
  blk_simp
  rw [after0_2, ref_at]
  frame_out
  rw [pay_at]
  have e1 : (win0_2.blk t).view.emb y 1 = y 1 := by
    refine Fin.ext ?_
    blk_simp [idx t]
  rw [e1]
  congr 1
  · funext k
    rw [← entry2 m c]
    blk_ext [iblk, idx t]
  · funext k
    refine Eq.trans ?_ (entry3 m c (ix2 0 k))
    blk_ext [iblk, idx t]
end Cert.Norm
end
-- ==== Proof.ProjARef.lean ====
module
public import proofs.«01_k».proof.Proof.Gen.Reference5Ideal.Run
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.ProjARef
open Cert.Reference5Ideal Cert.Reference5Ideal.Gen

/-- The rotary frequencies, one for each pair of lanes of a head. -/
def freqs : FVec Ideal S64 .f32 :=
  Host.powf (broadcastInDim S64 ![] bcast_S_S64 (constant S_ .f32 0x461C4000#32)) (Host.divf (Host.negf (addf (broadcastInDim S64 ![] bcast_S_S64 (constant S_ .f32 0x00000000#32)) (mulf (broadcastInDim S64 ![] bcast_S_S64 (constant S_ .f32 0x40000000#32)) (sitofp .f32 (iotaInDim S64 32 0))))) (broadcastInDim S64 ![] bcast_S_S64 (constant S_ .f32 0x43000000#32)))
/-- The angles of the prompt positions. -/
def angP : FVec Ideal S4096x64 .f32 :=
  mulf (broadcastInDim S4096x64 ![0, 1] bcast_S4096x1_S4096x64_0_1 (broadcastInDim S4096x1 ![0] bcast_S4096_S4096x1_0 (sitofp .f32 (iotaInDim S4096 32 0)))) (broadcastInDim S4096x64 ![0, 1] bcast_S1x64_S4096x64_0_1 (broadcastInDim S1x64 ![1] bcast_S64_S1x64_1 freqs))
/-- The angles of the sample positions. -/
def angS : FVec Ideal S8x64 .f32 :=
  mulf (broadcastInDim S8x64 ![0, 1] bcast_S8x1_S8x64_0_1 (broadcastInDim S8x1 ![0] bcast_S8_S8x1_0 (sitofp .f32 (addi (broadcastInDim S8 ![] bcast_S_S8 (constantI S_ 32 8192#32)) (iotaInDim S8 32 0))))) (broadcastInDim S8x64 ![0, 1] bcast_S1x64_S8x64_0_1 (broadcastInDim S1x64 ![1] bcast_S64_S1x64_1 freqs))

theorem angP_at (r : S4096x64.Idx) : angP r = FloatOps.sitofp (F := Ideal) FTy.f32 (BitVec.ofNat 32 (r 0).val) * freqs (ix1 (r 1)) := by
  generalize e : freqs = f
  pointwise [angP, e]
theorem angS_at (r : S8x64.Idx) :
    angS r = FloatOps.sitofp (F := Ideal) FTy.f32 (IntOp.addi 8192#32 (BitVec.ofNat 32 (r 0).val)) * freqs (ix1 (r 1)) := by
  generalize e : freqs = f
  pointwise [angS, e]

/-- One head's lanes rotated: the first half takes away, the second half adds. -/
def rope (y : Fin 128 → EReal) (cs sn : Fin 64 → EReal) (d : Fin 128) : EReal :=
  if h : d.val < 64 then y d * cs ⟨d.val, h⟩ - y ⟨64 + d.val, by omega⟩ * sn ⟨d.val, h⟩
  else y ⟨64 + (d.val - 64), by omega⟩ * cs ⟨d.val - 64, by omega⟩ + y ⟨d.val - 64, by omega⟩ * sn ⟨d.val - 64, by omega⟩

/-- The queries' lanes. -/
def colQ (y : Fin 5264 → EReal) (cs sn : Fin 64 → EReal) (j : Fin 2048) : EReal :=
  rope (fun d => y ⟨j.val / 128 * 128 + d.val, by omega⟩) cs sn ⟨j.val % 128, by omega⟩
/-- The indexer queries' lanes. -/
def colQi (y : Fin 5264 → EReal) (cs sn : Fin 64 → EReal) (j : Fin 2048) : EReal :=
  rope (fun d => y ⟨3072 + (j.val / 128 * 128 + d.val), by omega⟩) cs sn ⟨j.val % 128, by omega⟩
/-- The keys' and values' lanes: the keys are rotated. -/
def colKv (y : Fin 5264 → EReal) (cs sn : Fin 64 → EReal) (j : Fin 1024) : EReal :=
  if _ : j.val / 512 < 1 then rope (fun d => y ⟨2048 + (j.val / 128 % 4 * 128 + d.val), by omega⟩) cs sn ⟨j.val % 128, by omega⟩
  else y ⟨2048 + (512 + j.val / 128 % 4 * 128 + j.val % 128), by omega⟩
/-- The indexer keys' lanes. -/
def colKi (y : Fin 5264 → EReal) (cs sn : Fin 64 → EReal) (j : Fin 128) : EReal :=
  rope (fun d => y ⟨5120 + d.val, by omega⟩) cs sn j
/-- The indexer weights' lanes. -/
def colWi (y : Fin 5264 → EReal) (j : Fin 16) : EReal := y ⟨5248 + j.val, by omega⟩
/-- All lanes of a row, in the order of the result array. -/
def col (y : Fin 5264 → EReal) (cs sn : Fin 64 → EReal) (j : Fin 5376) : EReal :=
  if h0 : j.val < 2048 then colQ y cs sn ⟨j.val, h0⟩
  else if h1 : j.val - 2048 < 2048 then colQi y cs sn ⟨j.val - 2048, h1⟩
  else if h2 : j.val - 2048 - 2048 < 1024 then colKv y cs sn ⟨j.val - 2048 - 2048, h2⟩
  else if h3 : j.val - 2048 - 2048 - 1024 < 128 then colKi y cs sn ⟨j.val - 2048 - 2048 - 1024, h3⟩
  else if h4 : j.val - 2048 - 2048 - 1024 - 128 < 16 then colWi y ⟨j.val - 2048 - 2048 - 1024 - 128, h4⟩
  else 0

/-- The rotation of sixteen heads of the prompt rows. -/
def ropeP16 (cs sn : FVec Ideal S4096x64 .f32) (x : FVec Ideal S2x4096x16x128 .f32) : FVec Ideal S2x4096x16x128 .f32 :=
  concatenate S2x4096x16x128 3 [⟨S2x4096x16x64, (subf (mulf (extractStridedSlice S2x4096x16x64 ![0, 0, 0, 0] x slices_S2x4096x16x128_S2x4096x16x64_0_0_0_0) (broadcastInDim S2x4096x16x64 ![0, 1, 2, 3] bcast_S1x4096x1x64_S2x4096x16x64_0_1_2_3 (broadcastInDim S1x4096x1x64 ![1, 2, 3] bcast_S4096x1x64_S1x4096x1x64_1_2_3 (broadcastInDim S4096x1x64 ![0, 2] bcast_S4096x64_S4096x1x64_0_2 cs)))) (mulf (extractStridedSlice S2x4096x16x64 ![0, 0, 0, 64] x slices_S2x4096x16x128_S2x4096x16x64_0_0_0_64) (broadcastInDim S2x4096x16x64 ![0, 1, 2, 3] bcast_S1x4096x1x64_S2x4096x16x64_0_1_2_3 (broadcastInDim S1x4096x1x64 ![1, 2, 3] bcast_S4096x1x64_S1x4096x1x64_1_2_3 (broadcastInDim S4096x1x64 ![0, 2] bcast_S4096x64_S4096x1x64_0_2 sn)))))⟩,
    ⟨S2x4096x16x64, (addf (mulf (extractStridedSlice S2x4096x16x64 ![0, 0, 0, 64] x slices_S2x4096x16x128_S2x4096x16x64_0_0_0_64) (broadcastInDim S2x4096x16x64 ![0, 1, 2, 3] bcast_S1x4096x1x64_S2x4096x16x64_0_1_2_3 (broadcastInDim S1x4096x1x64 ![1, 2, 3] bcast_S4096x1x64_S1x4096x1x64_1_2_3 (broadcastInDim S4096x1x64 ![0, 2] bcast_S4096x64_S4096x1x64_0_2 cs)))) (mulf (extractStridedSlice S2x4096x16x64 ![0, 0, 0, 0] x slices_S2x4096x16x128_S2x4096x16x64_0_0_0_0) (broadcastInDim S2x4096x16x64 ![0, 1, 2, 3] bcast_S1x4096x1x64_S2x4096x16x64_0_1_2_3 (broadcastInDim S1x4096x1x64 ![1, 2, 3] bcast_S4096x1x64_S1x4096x1x64_1_2_3 (broadcastInDim S4096x1x64 ![0, 2] bcast_S4096x64_S4096x1x64_0_2 sn)))))⟩] concatenates_S2x4096x16x64_S2x4096x16x64_S2x4096x16x128_d3
theorem ropeP16_at (cs sn : FVec Ideal S4096x64 .f32) (x : FVec Ideal S2x4096x16x128 .f32) (r : S2x4096x16x128.Idx) :
    ropeP16 cs sn x r = rope (fun d => x (ix4 (r 0) (r 1) (r 2) d)) (fun d => cs (ix2 (r 1) d)) (fun d => sn (ix2 (r 1) d)) (r 3) := by
  pointwise [ropeP16, rope]

/-- The rotation of four heads of the prompt rows. -/
def ropeP4 (cs sn : FVec Ideal S4096x64 .f32) (x : FVec Ideal S2x4096x4x128 .f32) : FVec Ideal S2x4096x4x128 .f32 :=
  concatenate S2x4096x4x128 3 [⟨S2x4096x4x64, (subf (mulf (extractStridedSlice S2x4096x4x64 ![0, 0, 0, 0] x slices_S2x4096x4x128_S2x4096x4x64_0_0_0_0) (broadcastInDim S2x4096x4x64 ![0, 1, 2, 3] bcast_S1x4096x1x64_S2x4096x4x64_0_1_2_3 (broadcastInDim S1x4096x1x64 ![1, 2, 3] bcast_S4096x1x64_S1x4096x1x64_1_2_3 (broadcastInDim S4096x1x64 ![0, 2] bcast_S4096x64_S4096x1x64_0_2 cs)))) (mulf (extractStridedSlice S2x4096x4x64 ![0, 0, 0, 64] x slices_S2x4096x4x128_S2x4096x4x64_0_0_0_64) (broadcastInDim S2x4096x4x64 ![0, 1, 2, 3] bcast_S1x4096x1x64_S2x4096x4x64_0_1_2_3 (broadcastInDim S1x4096x1x64 ![1, 2, 3] bcast_S4096x1x64_S1x4096x1x64_1_2_3 (broadcastInDim S4096x1x64 ![0, 2] bcast_S4096x64_S4096x1x64_0_2 sn)))))⟩,
    ⟨S2x4096x4x64, (addf (mulf (extractStridedSlice S2x4096x4x64 ![0, 0, 0, 64] x slices_S2x4096x4x128_S2x4096x4x64_0_0_0_64) (broadcastInDim S2x4096x4x64 ![0, 1, 2, 3] bcast_S1x4096x1x64_S2x4096x4x64_0_1_2_3 (broadcastInDim S1x4096x1x64 ![1, 2, 3] bcast_S4096x1x64_S1x4096x1x64_1_2_3 (broadcastInDim S4096x1x64 ![0, 2] bcast_S4096x64_S4096x1x64_0_2 cs)))) (mulf (extractStridedSlice S2x4096x4x64 ![0, 0, 0, 0] x slices_S2x4096x4x128_S2x4096x4x64_0_0_0_0) (broadcastInDim S2x4096x4x64 ![0, 1, 2, 3] bcast_S1x4096x1x64_S2x4096x4x64_0_1_2_3 (broadcastInDim S1x4096x1x64 ![1, 2, 3] bcast_S4096x1x64_S1x4096x1x64_1_2_3 (broadcastInDim S4096x1x64 ![0, 2] bcast_S4096x64_S4096x1x64_0_2 sn)))))⟩] concatenates_S2x4096x4x64_S2x4096x4x64_S2x4096x4x128_d3
theorem ropeP4_at (cs sn : FVec Ideal S4096x64 .f32) (x : FVec Ideal S2x4096x4x128 .f32) (r : S2x4096x4x128.Idx) :
    ropeP4 cs sn x r = rope (fun d => x (ix4 (r 0) (r 1) (r 2) d)) (fun d => cs (ix2 (r 1) d)) (fun d => sn (ix2 (r 1) d)) (r 3) := by
  pointwise [ropeP4, rope]

/-- The rotation of one head of the prompt rows. -/
def ropeP1 (cs sn : FVec Ideal S4096x64 .f32) (x : FVec Ideal S2x4096x1x128 .f32) : FVec Ideal S2x4096x1x128 .f32 :=
  concatenate S2x4096x1x128 3 [⟨S2x4096x1x64, (subf (mulf (extractStridedSlice S2x4096x1x64 ![0, 0, 0, 0] x slices_S2x4096x1x128_S2x4096x1x64_0_0_0_0) (broadcastInDim S2x4096x1x64 ![0, 1, 2, 3] bcast_S1x4096x1x64_S2x4096x1x64_0_1_2_3 (broadcastInDim S1x4096x1x64 ![1, 2, 3] bcast_S4096x1x64_S1x4096x1x64_1_2_3 (broadcastInDim S4096x1x64 ![0, 2] bcast_S4096x64_S4096x1x64_0_2 cs)))) (mulf (extractStridedSlice S2x4096x1x64 ![0, 0, 0, 64] x slices_S2x4096x1x128_S2x4096x1x64_0_0_0_64) (broadcastInDim S2x4096x1x64 ![0, 1, 2, 3] bcast_S1x4096x1x64_S2x4096x1x64_0_1_2_3 (broadcastInDim S1x4096x1x64 ![1, 2, 3] bcast_S4096x1x64_S1x4096x1x64_1_2_3 (broadcastInDim S4096x1x64 ![0, 2] bcast_S4096x64_S4096x1x64_0_2 sn)))))⟩,
    ⟨S2x4096x1x64, (addf (mulf (extractStridedSlice S2x4096x1x64 ![0, 0, 0, 64] x slices_S2x4096x1x128_S2x4096x1x64_0_0_0_64) (broadcastInDim S2x4096x1x64 ![0, 1, 2, 3] bcast_S1x4096x1x64_S2x4096x1x64_0_1_2_3 (broadcastInDim S1x4096x1x64 ![1, 2, 3] bcast_S4096x1x64_S1x4096x1x64_1_2_3 (broadcastInDim S4096x1x64 ![0, 2] bcast_S4096x64_S4096x1x64_0_2 cs)))) (mulf (extractStridedSlice S2x4096x1x64 ![0, 0, 0, 0] x slices_S2x4096x1x128_S2x4096x1x64_0_0_0_0) (broadcastInDim S2x4096x1x64 ![0, 1, 2, 3] bcast_S1x4096x1x64_S2x4096x1x64_0_1_2_3 (broadcastInDim S1x4096x1x64 ![1, 2, 3] bcast_S4096x1x64_S1x4096x1x64_1_2_3 (broadcastInDim S4096x1x64 ![0, 2] bcast_S4096x64_S4096x1x64_0_2 sn)))))⟩] concatenates_S2x4096x1x64_S2x4096x1x64_S2x4096x1x128_d3
theorem ropeP1_at (cs sn : FVec Ideal S4096x64 .f32) (x : FVec Ideal S2x4096x1x128 .f32) (r : S2x4096x1x128.Idx) :
    ropeP1 cs sn x r = rope (fun d => x (ix4 (r 0) (r 1) 0 d)) (fun d => cs (ix2 (r 1) d)) (fun d => sn (ix2 (r 1) d)) (r 3) := by
  pointwise [ropeP1, rope]

/-- The position of a prompt row in its sequence. -/
def rowP (a : Fin 8192) : Fin 4096 := ⟨a.val % 4096, Nat.mod_lt _ (by decide)⟩
/-- The sequence of a prompt row. -/
def batP (a : Fin 8192) : Fin 2 := ⟨a.val / 4096, by omega⟩

/-- The queries of the prompt rows. -/
def qP (cs sn : FVec Ideal S4096x64 .f32) (H : FVec Ideal S2x4096x5264 .f32) : FVec Ideal S8192x2048 .f32 :=
  (shapeCast _ (ropeP16 cs sn (shapeCast _ (extractStridedSlice S2x4096x2048 ![0, 0, 0] H slices_S2x4096x5264_S2x4096x2048_0_0_0) shapeCasts_S2x4096x2048_S2x4096x16x128)) shapeCasts_S2x4096x16x128_S8192x2048)
theorem qP_at (cs sn : FVec Ideal S4096x64 .f32) (H : FVec Ideal S2x4096x5264 .f32) (r : S8192x2048.Idx) : qP cs sn H r = colQ (fun l => H (ix3 (batP (r 0)) (rowP (r 0)) l)) (fun d => cs (ix2 (rowP (r 0)) d)) (fun d => sn (ix2 (rowP (r 0)) d)) (r 1) := by
  pointwise [qP, ropeP16_at, ropeP4_at, ropeP1_at, colQ, batP, rowP]

/-- The indexer's queries of the prompt rows. -/
def qiP (cs sn : FVec Ideal S4096x64 .f32) (H : FVec Ideal S2x4096x5264 .f32) : FVec Ideal S8192x2048 .f32 :=
  (shapeCast _ (ropeP16 cs sn (shapeCast _ (extractStridedSlice S2x4096x2048 ![0, 0, 3072] H slices_S2x4096x5264_S2x4096x2048_0_0_3072) shapeCasts_S2x4096x2048_S2x4096x16x128)) shapeCasts_S2x4096x16x128_S8192x2048)
theorem qiP_at (cs sn : FVec Ideal S4096x64 .f32) (H : FVec Ideal S2x4096x5264 .f32) (r : S8192x2048.Idx) : qiP cs sn H r = colQi (fun l => H (ix3 (batP (r 0)) (rowP (r 0)) l)) (fun d => cs (ix2 (rowP (r 0)) d)) (fun d => sn (ix2 (rowP (r 0)) d)) (r 1) := by
  pointwise [qiP, ropeP16_at, ropeP4_at, ropeP1_at, colQi, batP, rowP]

/-- The keys and values of the prompt rows. -/
def kvP (cs sn : FVec Ideal S4096x64 .f32) (H : FVec Ideal S2x4096x5264 .f32) : FVec Ideal S8192x1024 .f32 :=
  (shapeCast _ (concatenate S2x4096x2x4x128 2 [⟨S2x4096x1x4x128, (broadcastInDim S2x4096x1x4x128 ![0, 1, 3, 4] bcast_S2x4096x4x128_S2x4096x1x4x128_0_1_3_4 (ropeP4 cs sn (shapeCast _ (extractStridedSlice S2x4096x1x4x128 ![0, 0, 0, 0, 0] (shapeCast S2x4096x2x4x128 (extractStridedSlice S2x4096x1024 ![0, 0, 2048] H slices_S2x4096x5264_S2x4096x1024_0_0_2048) shapeCasts_S2x4096x1024_S2x4096x2x4x128) slices_S2x4096x2x4x128_S2x4096x1x4x128_0_0_0_0_0) shapeCasts_S2x4096x1x4x128_S2x4096x4x128)))⟩, ⟨S2x4096x1x4x128, (broadcastInDim S2x4096x1x4x128 ![0, 1, 3, 4] bcast_S2x4096x4x128_S2x4096x1x4x128_0_1_3_4 (shapeCast _ (extractStridedSlice S2x4096x1x4x128 ![0, 0, 1, 0, 0] (shapeCast S2x4096x2x4x128 (extractStridedSlice S2x4096x1024 ![0, 0, 2048] H slices_S2x4096x5264_S2x4096x1024_0_0_2048) shapeCasts_S2x4096x1024_S2x4096x2x4x128) slices_S2x4096x2x4x128_S2x4096x1x4x128_0_0_1_0_0) shapeCasts_S2x4096x1x4x128_S2x4096x4x128))⟩] concatenates_S2x4096x1x4x128_S2x4096x1x4x128_S2x4096x2x4x128_d2) shapeCasts_S2x4096x2x4x128_S8192x1024)
theorem kvP_at (cs sn : FVec Ideal S4096x64 .f32) (H : FVec Ideal S2x4096x5264 .f32) (r : S8192x1024.Idx) : kvP cs sn H r = colKv (fun l => H (ix3 (batP (r 0)) (rowP (r 0)) l)) (fun d => cs (ix2 (rowP (r 0)) d)) (fun d => sn (ix2 (rowP (r 0)) d)) (r 1) := by
  pointwise [kvP, ropeP16_at, ropeP4_at, ropeP1_at, colKv, batP, rowP]

/-- The indexer's keys of the prompt rows. -/
def kiP (cs sn : FVec Ideal S4096x64 .f32) (H : FVec Ideal S2x4096x5264 .f32) : FVec Ideal S8192x128 .f32 :=
  (shapeCast _ (shapeCast S2x4096x128 (ropeP1 cs sn (broadcastInDim S2x4096x1x128 ![0, 1, 3] bcast_S2x4096x128_S2x4096x1x128_0_1_3 (extractStridedSlice S2x4096x128 ![0, 0, 5120] H slices_S2x4096x5264_S2x4096x128_0_0_5120))) shapeCasts_S2x4096x1x128_S2x4096x128) shapeCasts_S2x4096x128_S8192x128)
theorem kiP_at (cs sn : FVec Ideal S4096x64 .f32) (H : FVec Ideal S2x4096x5264 .f32) (r : S8192x128.Idx) : kiP cs sn H r = colKi (fun l => H (ix3 (batP (r 0)) (rowP (r 0)) l)) (fun d => cs (ix2 (rowP (r 0)) d)) (fun d => sn (ix2 (rowP (r 0)) d)) (r 1) := by
  pointwise [kiP, ropeP16_at, ropeP4_at, ropeP1_at, colKi, batP, rowP]

/-- The indexer's weights of the prompt rows. -/
def wiP (cs sn : FVec Ideal S4096x64 .f32) (H : FVec Ideal S2x4096x5264 .f32) : FVec Ideal S8192x16 .f32 :=
  (shapeCast _ (extractStridedSlice S2x4096x16 ![0, 0, 5248] H slices_S2x4096x5264_S2x4096x16_0_0_5248) shapeCasts_S2x4096x16_S8192x16)
theorem wiP_at (cs sn : FVec Ideal S4096x64 .f32) (H : FVec Ideal S2x4096x5264 .f32) (r : S8192x16.Idx) : wiP cs sn H r = colWi (fun l => H (ix3 (batP (r 0)) (rowP (r 0)) l)) (r 1) := by
  pointwise [wiP, ropeP16_at, ropeP4_at, ropeP1_at, colWi, batP, rowP]

/-- The pieces of the prompt rows side by side. -/
def layP (cs sn : FVec Ideal S4096x64 .f32) (H : FVec Ideal S2x4096x5264 .f32) : FVec Ideal S8192x5376 .f32 :=
  concatenate S8192x5376 1 [⟨S8192x2048, qP cs sn H⟩, ⟨S8192x2048, qiP cs sn H⟩, ⟨S8192x1024, kvP cs sn H⟩, ⟨S8192x128, kiP cs sn H⟩,
    ⟨S8192x16, wiP cs sn H⟩, ⟨S8192x112, broadcastInDim S8192x112 ![] bcast_S_S8192x112 (constant S_ .f32 0x00000000#32)⟩]
    concatenates_S8192x2048_S8192x2048_S8192x1024_S8192x128_S8192x16_S8192x112_S8192x5376_d1
theorem layP_at (cs sn : FVec Ideal S4096x64 .f32) (H : FVec Ideal S2x4096x5264 .f32) (r : S8192x5376.Idx) : layP cs sn H r = col (fun l => H (ix3 (batP (r 0)) (rowP (r 0)) l)) (fun d => cs (ix2 (rowP (r 0)) d)) (fun d => sn (ix2 (rowP (r 0)) d)) (r 1) := by
  pointwise [layP, qP_at, qiP_at, kvP_at, kiP_at, wiP_at, col]

/-- The rotation of sixteen heads of the sample rows. -/
def ropeS16 (cs sn : FVec Ideal S8x64 .f32) (x : FVec Ideal S128x8x16x128 .f32) : FVec Ideal S128x8x16x128 .f32 :=
  concatenate S128x8x16x128 3 [⟨S128x8x16x64, (subf (mulf (extractStridedSlice S128x8x16x64 ![0, 0, 0, 0] x slices_S128x8x16x128_S128x8x16x64_0_0_0_0) (broadcastInDim S128x8x16x64 ![0, 1, 2, 3] bcast_S1x8x1x64_S128x8x16x64_0_1_2_3 (broadcastInDim S1x8x1x64 ![1, 2, 3] bcast_S8x1x64_S1x8x1x64_1_2_3 (broadcastInDim S8x1x64 ![0, 2] bcast_S8x64_S8x1x64_0_2 cs)))) (mulf (extractStridedSlice S128x8x16x64 ![0, 0, 0, 64] x slices_S128x8x16x128_S128x8x16x64_0_0_0_64) (broadcastInDim S128x8x16x64 ![0, 1, 2, 3] bcast_S1x8x1x64_S128x8x16x64_0_1_2_3 (broadcastInDim S1x8x1x64 ![1, 2, 3] bcast_S8x1x64_S1x8x1x64_1_2_3 (broadcastInDim S8x1x64 ![0, 2] bcast_S8x64_S8x1x64_0_2 sn)))))⟩,
    ⟨S128x8x16x64, (addf (mulf (extractStridedSlice S128x8x16x64 ![0, 0, 0, 64] x slices_S128x8x16x128_S128x8x16x64_0_0_0_64) (broadcastInDim S128x8x16x64 ![0, 1, 2, 3] bcast_S1x8x1x64_S128x8x16x64_0_1_2_3 (broadcastInDim S1x8x1x64 ![1, 2, 3] bcast_S8x1x64_S1x8x1x64_1_2_3 (broadcastInDim S8x1x64 ![0, 2] bcast_S8x64_S8x1x64_0_2 cs)))) (mulf (extractStridedSlice S128x8x16x64 ![0, 0, 0, 0] x slices_S128x8x16x128_S128x8x16x64_0_0_0_0) (broadcastInDim S128x8x16x64 ![0, 1, 2, 3] bcast_S1x8x1x64_S128x8x16x64_0_1_2_3 (broadcastInDim S1x8x1x64 ![1, 2, 3] bcast_S8x1x64_S1x8x1x64_1_2_3 (broadcastInDim S8x1x64 ![0, 2] bcast_S8x64_S8x1x64_0_2 sn)))))⟩] concatenates_S128x8x16x64_S128x8x16x64_S128x8x16x128_d3
theorem ropeS16_at (cs sn : FVec Ideal S8x64 .f32) (x : FVec Ideal S128x8x16x128 .f32) (r : S128x8x16x128.Idx) :
    ropeS16 cs sn x r = rope (fun d => x (ix4 (r 0) (r 1) (r 2) d)) (fun d => cs (ix2 (r 1) d)) (fun d => sn (ix2 (r 1) d)) (r 3) := by
  pointwise [ropeS16, rope]

/-- The rotation of four heads of the sample rows. -/
def ropeS4 (cs sn : FVec Ideal S8x64 .f32) (x : FVec Ideal S128x8x4x128 .f32) : FVec Ideal S128x8x4x128 .f32 :=
  concatenate S128x8x4x128 3 [⟨S128x8x4x64, (subf (mulf (extractStridedSlice S128x8x4x64 ![0, 0, 0, 0] x slices_S128x8x4x128_S128x8x4x64_0_0_0_0) (broadcastInDim S128x8x4x64 ![0, 1, 2, 3] bcast_S1x8x1x64_S128x8x4x64_0_1_2_3 (broadcastInDim S1x8x1x64 ![1, 2, 3] bcast_S8x1x64_S1x8x1x64_1_2_3 (broadcastInDim S8x1x64 ![0, 2] bcast_S8x64_S8x1x64_0_2 cs)))) (mulf (extractStridedSlice S128x8x4x64 ![0, 0, 0, 64] x slices_S128x8x4x128_S128x8x4x64_0_0_0_64) (broadcastInDim S128x8x4x64 ![0, 1, 2, 3] bcast_S1x8x1x64_S128x8x4x64_0_1_2_3 (broadcastInDim S1x8x1x64 ![1, 2, 3] bcast_S8x1x64_S1x8x1x64_1_2_3 (broadcastInDim S8x1x64 ![0, 2] bcast_S8x64_S8x1x64_0_2 sn)))))⟩,
    ⟨S128x8x4x64, (addf (mulf (extractStridedSlice S128x8x4x64 ![0, 0, 0, 64] x slices_S128x8x4x128_S128x8x4x64_0_0_0_64) (broadcastInDim S128x8x4x64 ![0, 1, 2, 3] bcast_S1x8x1x64_S128x8x4x64_0_1_2_3 (broadcastInDim S1x8x1x64 ![1, 2, 3] bcast_S8x1x64_S1x8x1x64_1_2_3 (broadcastInDim S8x1x64 ![0, 2] bcast_S8x64_S8x1x64_0_2 cs)))) (mulf (extractStridedSlice S128x8x4x64 ![0, 0, 0, 0] x slices_S128x8x4x128_S128x8x4x64_0_0_0_0) (broadcastInDim S128x8x4x64 ![0, 1, 2, 3] bcast_S1x8x1x64_S128x8x4x64_0_1_2_3 (broadcastInDim S1x8x1x64 ![1, 2, 3] bcast_S8x1x64_S1x8x1x64_1_2_3 (broadcastInDim S8x1x64 ![0, 2] bcast_S8x64_S8x1x64_0_2 sn)))))⟩] concatenates_S128x8x4x64_S128x8x4x64_S128x8x4x128_d3
theorem ropeS4_at (cs sn : FVec Ideal S8x64 .f32) (x : FVec Ideal S128x8x4x128 .f32) (r : S128x8x4x128.Idx) :
    ropeS4 cs sn x r = rope (fun d => x (ix4 (r 0) (r 1) (r 2) d)) (fun d => cs (ix2 (r 1) d)) (fun d => sn (ix2 (r 1) d)) (r 3) := by
  pointwise [ropeS4, rope]

/-- The rotation of one head of the sample rows. -/
def ropeS1 (cs sn : FVec Ideal S8x64 .f32) (x : FVec Ideal S128x8x1x128 .f32) : FVec Ideal S128x8x1x128 .f32 :=
  concatenate S128x8x1x128 3 [⟨S128x8x1x64, (subf (mulf (extractStridedSlice S128x8x1x64 ![0, 0, 0, 0] x slices_S128x8x1x128_S128x8x1x64_0_0_0_0) (broadcastInDim S128x8x1x64 ![0, 1, 2, 3] bcast_S1x8x1x64_S128x8x1x64_0_1_2_3 (broadcastInDim S1x8x1x64 ![1, 2, 3] bcast_S8x1x64_S1x8x1x64_1_2_3 (broadcastInDim S8x1x64 ![0, 2] bcast_S8x64_S8x1x64_0_2 cs)))) (mulf (extractStridedSlice S128x8x1x64 ![0, 0, 0, 64] x slices_S128x8x1x128_S128x8x1x64_0_0_0_64) (broadcastInDim S128x8x1x64 ![0, 1, 2, 3] bcast_S1x8x1x64_S128x8x1x64_0_1_2_3 (broadcastInDim S1x8x1x64 ![1, 2, 3] bcast_S8x1x64_S1x8x1x64_1_2_3 (broadcastInDim S8x1x64 ![0, 2] bcast_S8x64_S8x1x64_0_2 sn)))))⟩,
    ⟨S128x8x1x64, (addf (mulf (extractStridedSlice S128x8x1x64 ![0, 0, 0, 64] x slices_S128x8x1x128_S128x8x1x64_0_0_0_64) (broadcastInDim S128x8x1x64 ![0, 1, 2, 3] bcast_S1x8x1x64_S128x8x1x64_0_1_2_3 (broadcastInDim S1x8x1x64 ![1, 2, 3] bcast_S8x1x64_S1x8x1x64_1_2_3 (broadcastInDim S8x1x64 ![0, 2] bcast_S8x64_S8x1x64_0_2 cs)))) (mulf (extractStridedSlice S128x8x1x64 ![0, 0, 0, 0] x slices_S128x8x1x128_S128x8x1x64_0_0_0_0) (broadcastInDim S128x8x1x64 ![0, 1, 2, 3] bcast_S1x8x1x64_S128x8x1x64_0_1_2_3 (broadcastInDim S1x8x1x64 ![1, 2, 3] bcast_S8x1x64_S1x8x1x64_1_2_3 (broadcastInDim S8x1x64 ![0, 2] bcast_S8x64_S8x1x64_0_2 sn)))))⟩] concatenates_S128x8x1x64_S128x8x1x64_S128x8x1x128_d3
theorem ropeS1_at (cs sn : FVec Ideal S8x64 .f32) (x : FVec Ideal S128x8x1x128 .f32) (r : S128x8x1x128.Idx) :
    ropeS1 cs sn x r = rope (fun d => x (ix4 (r 0) (r 1) 0 d)) (fun d => cs (ix2 (r 1) d)) (fun d => sn (ix2 (r 1) d)) (r 3) := by
  pointwise [ropeS1, rope]

/-- The position of a sample row in its sequence. -/
def rowS (a : Fin 1024) : Fin 8 := ⟨a.val % 8, Nat.mod_lt _ (by decide)⟩
/-- The sequence of a sample row. -/
def batS (a : Fin 1024) : Fin 128 := ⟨a.val / 8, by omega⟩

/-- The queries of the sample rows. -/
def qS (cs sn : FVec Ideal S8x64 .f32) (H : FVec Ideal S128x8x5264 .f32) : FVec Ideal S1024x2048 .f32 :=
  (shapeCast _ (ropeS16 cs sn (shapeCast _ (extractStridedSlice S128x8x2048 ![0, 0, 0] H slices_S128x8x5264_S128x8x2048_0_0_0) shapeCasts_S128x8x2048_S128x8x16x128)) shapeCasts_S128x8x16x128_S1024x2048)
theorem qS_at (cs sn : FVec Ideal S8x64 .f32) (H : FVec Ideal S128x8x5264 .f32) (r : S1024x2048.Idx) : qS cs sn H r = colQ (fun l => H (ix3 (batS (r 0)) (rowS (r 0)) l)) (fun d => cs (ix2 (rowS (r 0)) d)) (fun d => sn (ix2 (rowS (r 0)) d)) (r 1) := by
  pointwise [qS, ropeS16_at, ropeS4_at, ropeS1_at, colQ, batS, rowS]

/-- The indexer's queries of the sample rows. -/
def qiS (cs sn : FVec Ideal S8x64 .f32) (H : FVec Ideal S128x8x5264 .f32) : FVec Ideal S1024x2048 .f32 :=
  (shapeCast _ (ropeS16 cs sn (shapeCast _ (extractStridedSlice S128x8x2048 ![0, 0, 3072] H slices_S128x8x5264_S128x8x2048_0_0_3072) shapeCasts_S128x8x2048_S128x8x16x128)) shapeCasts_S128x8x16x128_S1024x2048)
theorem qiS_at (cs sn : FVec Ideal S8x64 .f32) (H : FVec Ideal S128x8x5264 .f32) (r : S1024x2048.Idx) : qiS cs sn H r = colQi (fun l => H (ix3 (batS (r 0)) (rowS (r 0)) l)) (fun d => cs (ix2 (rowS (r 0)) d)) (fun d => sn (ix2 (rowS (r 0)) d)) (r 1) := by
  pointwise [qiS, ropeS16_at, ropeS4_at, ropeS1_at, colQi, batS, rowS]

/-- The keys and values of the sample rows. -/
def kvS (cs sn : FVec Ideal S8x64 .f32) (H : FVec Ideal S128x8x5264 .f32) : FVec Ideal S1024x1024 .f32 :=
  (shapeCast _ (concatenate S128x8x2x4x128 2 [⟨S128x8x1x4x128, (broadcastInDim S128x8x1x4x128 ![0, 1, 3, 4] bcast_S128x8x4x128_S128x8x1x4x128_0_1_3_4 (ropeS4 cs sn (shapeCast _ (extractStridedSlice S128x8x1x4x128 ![0, 0, 0, 0, 0] (shapeCast S128x8x2x4x128 (extractStridedSlice S128x8x1024 ![0, 0, 2048] H slices_S128x8x5264_S128x8x1024_0_0_2048) shapeCasts_S128x8x1024_S128x8x2x4x128) slices_S128x8x2x4x128_S128x8x1x4x128_0_0_0_0_0) shapeCasts_S128x8x1x4x128_S128x8x4x128)))⟩, ⟨S128x8x1x4x128, (broadcastInDim S128x8x1x4x128 ![0, 1, 3, 4] bcast_S128x8x4x128_S128x8x1x4x128_0_1_3_4 (shapeCast _ (extractStridedSlice S128x8x1x4x128 ![0, 0, 1, 0, 0] (shapeCast S128x8x2x4x128 (extractStridedSlice S128x8x1024 ![0, 0, 2048] H slices_S128x8x5264_S128x8x1024_0_0_2048) shapeCasts_S128x8x1024_S128x8x2x4x128) slices_S128x8x2x4x128_S128x8x1x4x128_0_0_1_0_0) shapeCasts_S128x8x1x4x128_S128x8x4x128))⟩] concatenates_S128x8x1x4x128_S128x8x1x4x128_S128x8x2x4x128_d2) shapeCasts_S128x8x2x4x128_S1024x1024)
theorem kvS_at (cs sn : FVec Ideal S8x64 .f32) (H : FVec Ideal S128x8x5264 .f32) (r : S1024x1024.Idx) : kvS cs sn H r = colKv (fun l => H (ix3 (batS (r 0)) (rowS (r 0)) l)) (fun d => cs (ix2 (rowS (r 0)) d)) (fun d => sn (ix2 (rowS (r 0)) d)) (r 1) := by
  pointwise [kvS, ropeS16_at, ropeS4_at, ropeS1_at, colKv, batS, rowS]

/-- The indexer's keys of the sample rows. -/
def kiS (cs sn : FVec Ideal S8x64 .f32) (H : FVec Ideal S128x8x5264 .f32) : FVec Ideal S1024x128 .f32 :=
  (shapeCast _ (shapeCast S128x8x128 (ropeS1 cs sn (broadcastInDim S128x8x1x128 ![0, 1, 3] bcast_S128x8x128_S128x8x1x128_0_1_3 (extractStridedSlice S128x8x128 ![0, 0, 5120] H slices_S128x8x5264_S128x8x128_0_0_5120))) shapeCasts_S128x8x1x128_S128x8x128) shapeCasts_S128x8x128_S1024x128)
theorem kiS_at (cs sn : FVec Ideal S8x64 .f32) (H : FVec Ideal S128x8x5264 .f32) (r : S1024x128.Idx) : kiS cs sn H r = colKi (fun l => H (ix3 (batS (r 0)) (rowS (r 0)) l)) (fun d => cs (ix2 (rowS (r 0)) d)) (fun d => sn (ix2 (rowS (r 0)) d)) (r 1) := by
  pointwise [kiS, ropeS16_at, ropeS4_at, ropeS1_at, colKi, batS, rowS]

/-- The indexer's weights of the sample rows. -/
def wiS (cs sn : FVec Ideal S8x64 .f32) (H : FVec Ideal S128x8x5264 .f32) : FVec Ideal S1024x16 .f32 :=
  (shapeCast _ (extractStridedSlice S128x8x16 ![0, 0, 5248] H slices_S128x8x5264_S128x8x16_0_0_5248) shapeCasts_S128x8x16_S1024x16)
theorem wiS_at (cs sn : FVec Ideal S8x64 .f32) (H : FVec Ideal S128x8x5264 .f32) (r : S1024x16.Idx) : wiS cs sn H r = colWi (fun l => H (ix3 (batS (r 0)) (rowS (r 0)) l)) (r 1) := by
  pointwise [wiS, ropeS16_at, ropeS4_at, ropeS1_at, colWi, batS, rowS]

/-- The pieces of the sample rows side by side. -/
def layS (cs sn : FVec Ideal S8x64 .f32) (H : FVec Ideal S128x8x5264 .f32) : FVec Ideal S1024x5376 .f32 :=
  concatenate S1024x5376 1 [⟨S1024x2048, qS cs sn H⟩, ⟨S1024x2048, qiS cs sn H⟩, ⟨S1024x1024, kvS cs sn H⟩, ⟨S1024x128, kiS cs sn H⟩,
    ⟨S1024x16, wiS cs sn H⟩, ⟨S1024x112, broadcastInDim S1024x112 ![] bcast_S_S1024x112 (constant S_ .f32 0x00000000#32)⟩]
    concatenates_S1024x2048_S1024x2048_S1024x1024_S1024x128_S1024x16_S1024x112_S1024x5376_d1
theorem layS_at (cs sn : FVec Ideal S8x64 .f32) (H : FVec Ideal S128x8x5264 .f32) (r : S1024x5376.Idx) : layS cs sn H r = col (fun l => H (ix3 (batS (r 0)) (rowS (r 0)) l)) (fun d => cs (ix2 (rowS (r 0)) d)) (fun d => sn (ix2 (rowS (r 0)) d)) (r 1) := by
  pointwise [layS, qS_at, qiS_at, kvS_at, kiS_at, wiS_at, col]
end Cert.ProjARef
end
-- ==== Proof.ProjASpec.lean ====
module
public import proofs.«01_k».proof.Proof.ProjARef
@[expose] public section
set_option maxRecDepth 16384
noncomputable section
open Idealize.ShloMosaic Idealize.ShloMosaic.TcCoe Idealize.SL.Sem
namespace Cert.ProjARef
open Cert.Reference5Ideal Cert.Reference5Ideal.Gen Cert.Reference5Ideal.Value

/-- One row of activations, normalised. -/
def xnorm (x g : Fin 2048 → EReal) (k : Fin 2048) : EReal :=
  x k * Ideal.rsqrt (Ideal.div (∑ l, x l * x l) (Ideal.ofBits FTy.f32 1157627904#32) + Ideal.ofBits FTy.f32 897988541#32) * g k
/-- One row of activations, normalised and projected. -/
def lanes (x g : Fin 2048 → EReal) (w : Fin 2048 → Fin 5264 → EReal) (l : Fin 5264) : EReal :=
  ∑ k, xnorm x g k * w k l
/-- One row of the result: the projected row, its heads rotated by the angles of position `p`. -/
def rowRes (x g : Fin 2048 → EReal) (w : Fin 2048 → Fin 5264 → EReal) (p : EReal) (j : Fin 5376) : EReal :=
  col (lanes x g w) (fun d => Ideal.cos (p * freqs (ix1 d))) (fun d => Ideal.sin (p * freqs (ix1 d))) j

/-- The projected prompt rows. -/
def hP (x : FVec Ideal S2x4096x2048 .f32) (g : FVec Ideal S4x2048 .f32) (w : FVec Ideal S2048x5264 .f32) : FVec Ideal S2x4096x5264 .f32 :=
  Host.dotGeneral dot_S2x4096x2048_S2048x5264_S2x4096x5264_2_0_01_1_n_n none (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ (extractStridedSlice S1x2048 ![0, 0] g slices_S4x2048_S1x2048_0_0) shapeCasts_S1x2048_S2048)))) w
/-- The projected sample rows. -/
def hS (x : FVec Ideal S128x8x2048 .f32) (g : FVec Ideal S4x2048 .f32) (w : FVec Ideal S2048x5264 .f32) : FVec Ideal S128x8x5264 .f32 :=
  Host.dotGeneral dot_S128x8x2048_S2048x5264_S128x8x5264_2_0_01_1_n_n none (mulf (mulf x (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf x x) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 (shapeCast _ (extractStridedSlice S1x2048 ![0, 0] g slices_S4x2048_S1x2048_0_0) shapeCasts_S1x2048_S2048)))) w
theorem hP_at (x : FVec Ideal S2x4096x2048 .f32) (g : FVec Ideal S4x2048 .f32) (w : FVec Ideal S2048x5264 .f32) (r : S2x4096x5264.Idx) :
    hP x g w r = lanes (fun k => x (ix3 (r 0) (r 1) k)) (fun k => g (ix2 0 k)) (fun k l => w (ix2 k l)) (r 2) := by
  pointwise [hP, lanes, xnorm]
theorem hS_at (x : FVec Ideal S128x8x2048 .f32) (g : FVec Ideal S4x2048 .f32) (w : FVec Ideal S2048x5264 .f32) (r : S128x8x5264.Idx) :
    hS x g w r = lanes (fun k => x (ix3 (r 0) (r 1) k)) (fun k => g (ix2 0 k)) (fun k l => w (ix2 k l)) (r 2) := by
  pointwise [hS, lanes, xnorm]

theorem cosP_at (r : S4096x64.Idx) : Host.cos angP r = Ideal.cos (FloatOps.sitofp (F := Ideal) FTy.f32 (BitVec.ofNat 32 (r 0).val) * freqs (ix1 (r 1))) :=
  congrArg Ideal.cos (angP_at r)
theorem sinP_at (r : S4096x64.Idx) : Host.sin angP r = Ideal.sin (FloatOps.sitofp (F := Ideal) FTy.f32 (BitVec.ofNat 32 (r 0).val) * freqs (ix1 (r 1))) :=
  congrArg Ideal.sin (angP_at r)
theorem cosS_at (r : S8x64.Idx) : Host.cos angS r = Ideal.cos (FloatOps.sitofp (F := Ideal) FTy.f32 (IntOp.addi 8192#32 (BitVec.ofNat 32 (r 0).val)) * freqs (ix1 (r 1))) :=
  congrArg Ideal.cos (angS_at r)
theorem sinS_at (r : S8x64.Idx) : Host.sin angS r = Ideal.sin (FloatOps.sitofp (F := Ideal) FTy.f32 (IntOp.addi 8192#32 (BitVec.ofNat 32 (r 0).val)) * freqs (ix1 (r 1))) :=
  congrArg Ideal.sin (angS_at r)

/-- The prompt rows of the reference's result. -/
def outP (x : FVec Ideal S2x4096x2048 .f32) (g : FVec Ideal S4x2048 .f32) (w : FVec Ideal S2048x5264 .f32) : FVec Ideal S8192x5376 .f32 :=
  layP (Host.cos angP) (Host.sin angP) (hP x g w)
/-- The sample rows of the reference's result. -/
def outS (x : FVec Ideal S128x8x2048 .f32) (g : FVec Ideal S4x2048 .f32) (w : FVec Ideal S2048x5264 .f32) : FVec Ideal S1024x5376 .f32 :=
  layS (Host.cos angS) (Host.sin angS) (hS x g w)
theorem outP_at (x : FVec Ideal S2x4096x2048 .f32) (g : FVec Ideal S4x2048 .f32) (w : FVec Ideal S2048x5264 .f32) (r : S8192x5376.Idx) :
    outP x g w r = rowRes (fun k => x (ix3 (batP (r 0)) (rowP (r 0)) k)) (fun k => g (ix2 0 k)) (fun k l => w (ix2 k l))
      (FloatOps.sitofp (F := Ideal) FTy.f32 (BitVec.ofNat 32 (rowP (r 0)).val)) (r 1) := by
  refine (layP_at _ _ _ r).trans ?_
  unfold rowRes
  have e : (fun l => hP x g w (ix3 (batP (r 0)) (rowP (r 0)) l)) = lanes (fun k => x (ix3 (batP (r 0)) (rowP (r 0)) k)) (fun k => g (ix2 0 k)) (fun k l => w (ix2 k l)) :=
    funext fun l => hP_at x g w _
  exact congrArg (fun y => col y _ _ (r 1)) e
theorem outS_at (x : FVec Ideal S128x8x2048 .f32) (g : FVec Ideal S4x2048 .f32) (w : FVec Ideal S2048x5264 .f32) (r : S1024x5376.Idx) :
    outS x g w r = rowRes (fun k => x (ix3 (batS (r 0)) (rowS (r 0)) k)) (fun k => g (ix2 0 k)) (fun k l => w (ix2 k l))
      (FloatOps.sitofp (F := Ideal) FTy.f32 (IntOp.addi 8192#32 (BitVec.ofNat 32 (rowS (r 0)).val))) (r 1) := by
  refine (layS_at _ _ _ r).trans ?_
  unfold rowRes
  have e : (fun l => hS x g w (ix3 (batS (r 0)) (rowS (r 0)) l)) = lanes (fun k => x (ix3 (batS (r 0)) (rowS (r 0)) k)) (fun k => g (ix2 0 k)) (fun k l => w (ix2 k l)) :=
    funext fun l => hS_at x g w _
  exact congrArg (fun y => col y _ _ (r 1)) e

/-- The reference's result. -/
def refArr (x0 : FVec Ideal S2x4096x2048 .f32) (x1 : FVec Ideal S128x8x2048 .f32) (g : FVec Ideal S4x2048 .f32) (w : FVec Ideal S2048x5264 .f32) :
    FVec Ideal S9216x5376 .f32 :=
  concatenate S9216x5376 0 [⟨S8192x5376, outP x0 g w⟩, ⟨S1024x5376, outS x1 g w⟩] concatenates_S8192x5376_S1024x5376_S9216x5376_d0
theorem refArr_at (x0 : FVec Ideal S2x4096x2048 .f32) (x1 : FVec Ideal S128x8x2048 .f32) (g : FVec Ideal S4x2048 .f32) (w : FVec Ideal S2048x5264 .f32)
    (r : S9216x5376.Idx) :
    refArr x0 x1 g w r = if h : (show Fin 9216 from r 0).val < 8192 then outP x0 g w (ix2 ⟨(r 0).val, h⟩ (r 1))
      else outS x1 g w (ix2 ⟨(r 0).val - 8192, by have := (show Fin 9216 from r 0).isLt; exact (by omega : (show Fin 9216 from r 0).val - 8192 < 1024)⟩ (r 1)) := by
  unfold refArr
  generalize outP x0 g w = a
  generalize outS x1 g w = b
  pointwise

theorem res188 (V0 : Valuation τ sig (Elt Ideal)) : res_main_v188 V0 = layP (Host.cos angP) (Host.sin angP) (res_main_v16 V0) := by
  rfl
theorem res379 (V0 : Valuation τ sig (Elt Ideal)) : res_main_v379 V0 = layS (Host.cos angS) (Host.sin angS) (res_main_v207 V0) := by
  rfl
/-- The composed term of the reference's run is its result. -/
theorem res_eq (m : (ℓ : Loc nD τ sig) → Buf (Elt Ideal) ℓ) (c : Dev nD) :
    concatenate S9216x5376 0 [⟨S8192x5376, (res_main_v188 (StableHlo.launchContents m c))⟩, ⟨S1024x5376, (res_main_v379 (StableHlo.launchContents m c))⟩] concatenates_S8192x5376_S1024x5376_S9216x5376_d0
      = refArr (m ((c : Thread nD τ).loc main_arg0)) (m ((c : Thread nD τ).loc main_arg1)) (m ((c : Thread nD τ).loc main_arg2)) (m ((c : Thread nD τ).loc main_arg3)) := by
  rw [res188, res379]
  rfl
end Cert.ProjARef
end
-- ==== Proof.ProjAEntry.lean ====
module
public import proofs.«01_k».proof.Proof.Gen.Kernel5.Frame
public import proofs.«01_k».proof.Proof.Gen.Kernel5Ideal.Frame
public import proofs.«01_k».proof.Proof.ProjASpec
public import Idealize.ShloMosaic.Lib.Pipeline.ValueKit
public import Idealize.ShloMosaic.Lib.Pipeline.Covers
public import Idealize.ShloMosaic.Lib.Pointwise
@[expose] public section
set_option maxRecDepth 65536
noncomputable section
open Idealize.ShloMosaic Idealize.ShloMosaic.TcCoe Idealize.SL.Sem
namespace Cert.ProjA
/-- The call's table is read at literal places only, so nothing is asked of it. -/
theorem ok (m : (ℓ : Loc Cert.Kernel5.nD Cert.Kernel5.τ Cert.Kernel5.sig) → Buf (Elt Bits) ℓ) : Cert.Kernel5.Gen.Ok m := trivial

open Cert.Kernel5Ideal Cert.Kernel5Ideal.Gen
open Cert.ProjARef (rowRes lanes xnorm freqs col rope colQ colQi colKv colKi colWi)
variable (m : (ℓ : Loc nD τ sig) → Buf (Elt Ideal) ℓ)

theorem okIdeal : Ok m := trivial

/-- Which block of its array each operand stages at grid point `t`: row tile `t / 7`, lane tile `t % 7`. -/
theorem idx : ∀ t : Fin (cfgM m (okIdeal m)).N, ((cfgM m (okIdeal m)).win 0).index t = ![t.val / 7, 0] ∧ ((cfgM m (okIdeal m)).win 1).index t = ![0, 0]
    ∧ ((cfgM m (okIdeal m)).win 2).index t = ![0, t.val % 7] ∧ ((cfgM m (okIdeal m)).win 3).index t = ![t.val / 7, 0]
    ∧ ((cfgM m (okIdeal m)).win 4).index t = ![t.val / 7, 0] ∧ ((cfgM m (okIdeal m)).win 5).index t = ![t.val / 7, t.val % 7]
    ∧ ((cfgM m (okIdeal m)).win 6).index t = ![t.val / 7, t.val % 7] :=
  (by decide +kernel : ∀ t : Fin grid0.N, cc0_transform_0 (grid0.coords t) = ![t.val / 7, 0] ∧ cc0_transform_1 (grid0.coords t) = ![0, 0]
    ∧ cc0_transform_2 (grid0.coords t) = ![0, t.val % 7] ∧ cc0_transform_3 (grid0.coords t) = ![t.val / 7, 0]
    ∧ cc0_transform_4 (grid0.coords t) = ![t.val / 7, 0] ∧ cc0_transform_5 (grid0.coords t) = ![t.val / 7, t.val % 7]
    ∧ cc0_transform_6 (grid0.coords t) = ![t.val / 7, t.val % 7])
theorem covers5 : ((cfgM m (okIdeal m)).win 5).Covers :=
  Pipeline.Window.covers_of_index_surj _ rfl (by decide : ∀ a : Fin 2, 0 < S1024x768.size a)
    (by decide +kernel : ∀ β : (a : Fin 2) → Fin ((S9216x5376.size a + S1024x768.size a - 1) / S1024x768.size a), ∃ t : Fin grid0.N, ∀ a, cc0_transform_5 (grid0.coords t) a = β a)
theorem covers6 : ((cfgM m (okIdeal m)).win 6).Covers :=
  Pipeline.Window.covers_of_index_surj _ rfl (by decide : ∀ a : Fin 2, 0 < S1024x768.size a)
    (by decide +kernel : ∀ β : (a : Fin 2) → Fin ((S9216x5376.size a + S1024x768.size a - 1) / S1024x768.size a), ∃ t : Fin grid0.N, ∀ a, cc0_transform_6 (grid0.coords t) a = β a)
theorem off_at : ∀ t : Fin grid0.N, ∀ u : Fin 6, k0_off1 (grid0.coords t) (BitVec.ofNat 32 u.val) 0 = t.val % 7 * 6 + u.val := by
  decide +kernel

/-- The table of the groups of lanes that are rotated. -/
theorem tbl_at (i : S42.Idx) : (tbl m 0 : IVec S42 32) i = lit0 (S42.rowMajor i) := by
  rfl
theorem lit_at : ∀ i : Fin 42, Scalar.cmpi .sgt (lit0 i) 0#32 = if i.val < 36 ∨ i.val = 40 then 1#1 else 0#1 := by
  decide +kernel

/-- The activations of one row of the stacked array. -/
def rowX (c : Dev nD) (R : Fin 9216) (k : Fin 2048) : EReal :=
  if h : R.val < 8192 then (m ((c : Thread nD τ).loc main_arg0) : FVec Ideal S2x4096x2048 .f32) (ix3 ⟨R.val / 4096, by omega⟩ ⟨R.val % 4096, by omega⟩ k)
  else (m ((c : Thread nD τ).loc main_arg1) : FVec Ideal S128x8x2048 .f32) (ix3 ⟨(R.val - 8192) / 8, by omega⟩ ⟨(R.val - 8192) % 8, by omega⟩ k)
/-- The position of a row in its sequence. -/
def pos (R : Fin 9216) : EReal :=
  FloatOps.sitofp (F := Ideal) FTy.f32 (if h : R.val < 8192 then BitVec.ofNat 32 (R.val % 4096)
    else IntOp.addi 8192#32 (BitVec.ofNat 32 ((R.val - 8192) % 8)))
/-- The row of gains. -/
def gain (c : Dev nD) (k : Fin 2048) : EReal := (m ((c : Thread nD τ).loc main_arg2) : FVec Ideal S4x2048 .f32) (ix2 0 k)
/-- The weights. -/
def wts (c : Dev nD) (k : Fin 2048) (l : Fin 5264) : EReal := (m ((c : Thread nD τ).loc main_arg3) : FVec Ideal S2048x5264 .f32) (ix2 k l)
/-- The columns in the kernel's order, and columns of zeros. -/
def pick (y : Fin 5264 → EReal) (J : Fin 5376) : EReal :=
  if h0 : J.val < 2048 then y ⟨J.val, by omega⟩
  else if h1 : J.val - 2048 < 2048 then y ⟨3072 + (J.val - 2048), by omega⟩
  else if h2 : J.val - 2048 - 2048 < 1024 then y ⟨2048 + (J.val - 2048 - 2048), by omega⟩
  else if h3 : J.val - 2048 - 2048 - 1024 < 128 then y ⟨5120 + (J.val - 2048 - 2048 - 1024), by omega⟩
  else if h4 : J.val - 2048 - 2048 - 1024 - 128 < 16 then y ⟨5248 + (J.val - 2048 - 2048 - 1024 - 128), by omega⟩
  else 0
/-- One row's table of cosines, twice side by side. -/
def cs2 (p : EReal) (d : Fin 128) : EReal :=
  if h : d.val < 64 then Ideal.cos (p * freqs (ix1 ⟨d.val, h⟩)) else Ideal.cos (p * freqs (ix1 ⟨d.val - 64, by omega⟩))
/-- One row's table of sines, its first half negated. -/
def sn2 (p : EReal) (d : Fin 128) : EReal :=
  if h : d.val < 64 then - Ideal.sin (p * freqs (ix1 ⟨d.val, h⟩)) else Ideal.sin (p * freqs (ix1 ⟨d.val - 64, by omega⟩))

theorem entry2 (c : Dev nD) (r : S9216x2048.Idx) :
    (V m c main_v2 : FVec Ideal S9216x2048 .f32) r = rowX m c (r 0) (r 1) := by
  entry_read
  pointwise [rowX]
theorem entry50 (c : Dev nD) (r : S1x2048.Idx) :
    (V m c main_v50 : FVec Ideal S1x2048 .f32) r = gain m c (r 1) := by
  entry_read
  pointwise [gain]
theorem entry37 (c : Dev nD) (r : S9216x128.Idx) :
    (V m c main_v37 : FVec Ideal S9216x128 .f32) r = cs2 (pos (r 0)) (r 1) := by
  entry_read
  pointwise [cs2, pos, freqs]
theorem entry40 (c : Dev nD) (r : S9216x128.Idx) :
    (V m c main_v40 : FVec Ideal S9216x128 .f32) r = sn2 (pos (r 0)) (r 1) := by
  entry_read
  pointwise [sn2, pos, freqs]
theorem entry41 (c : Dev nD) (r : S2048x2048.Idx) :
    (V m c main_v41 : FVec Ideal S2048x2048 .f32) r = wts m c (r 0) ⟨0 + (r 1).val, by have := (show Fin 2048 from r 1).isLt; exact (by omega : 0 + (show Fin 2048 from r 1).val < 5264)⟩ := by
  entry_read
  pointwise [wts]
theorem entry43 (c : Dev nD) (r : S2048x2048.Idx) :
    (V m c main_v43 : FVec Ideal S2048x2048 .f32) r = wts m c (r 0) ⟨3072 + (r 1).val, by have := (show Fin 2048 from r 1).isLt; exact (by omega : 3072 + (show Fin 2048 from r 1).val < 5264)⟩ := by
  entry_read
  pointwise [wts]
theorem entry42 (c : Dev nD) (r : S2048x1024.Idx) :
    (V m c main_v42 : FVec Ideal S2048x1024 .f32) r = wts m c (r 0) ⟨2048 + (r 1).val, by have := (show Fin 1024 from r 1).isLt; exact (by omega : 2048 + (show Fin 1024 from r 1).val < 5264)⟩ := by
  entry_read
  pointwise [wts]
theorem entry44 (c : Dev nD) (r : S2048x128.Idx) :
    (V m c main_v44 : FVec Ideal S2048x128 .f32) r = wts m c (r 0) ⟨5120 + (r 1).val, by have := (show Fin 128 from r 1).isLt; exact (by omega : 5120 + (show Fin 128 from r 1).val < 5264)⟩ := by
  entry_read
  pointwise [wts]
theorem entry45 (c : Dev nD) (r : S2048x16.Idx) :
    (V m c main_v45 : FVec Ideal S2048x16 .f32) r = wts m c (r 0) ⟨5248 + (r 1).val, by have := (show Fin 16 from r 1).isLt; exact (by omega : 5248 + (show Fin 16 from r 1).val < 5264)⟩ := by
  entry_read
  pointwise [wts]
theorem entry46 (c : Dev nD) (r : S2048x112.Idx) : (V m c main_v46 : FVec Ideal S2048x112 .f32) r = (0 : EReal) := by
  entry_read
  pointwise
theorem cat_at (a b : FVec Ideal S2048x2048 .f32) (c : FVec Ideal S2048x1024 .f32) (d : FVec Ideal S2048x128 .f32) (e : FVec Ideal S2048x16 .f32)
    (f : FVec Ideal S2048x112 .f32) (y : Fin 2048 → Fin 5264 → EReal)
    (ha : ∀ r, a r = y (r 0) ⟨(r 1).val, by have := (show Fin 2048 from r 1).isLt; exact (by omega : (show Fin 2048 from r 1).val < 5264)⟩)
    (hb : ∀ r, b r = y (r 0) ⟨3072 + (r 1).val, by have := (show Fin 2048 from r 1).isLt; exact (by omega : 3072 + (show Fin 2048 from r 1).val < 5264)⟩)
    (hc : ∀ r, c r = y (r 0) ⟨2048 + (r 1).val, by have := (show Fin 1024 from r 1).isLt; exact (by omega : 2048 + (show Fin 1024 from r 1).val < 5264)⟩)
    (hd : ∀ r, d r = y (r 0) ⟨5120 + (r 1).val, by have := (show Fin 128 from r 1).isLt; exact (by omega : 5120 + (show Fin 128 from r 1).val < 5264)⟩)
    (he : ∀ r, e r = y (r 0) ⟨5248 + (r 1).val, by have := (show Fin 16 from r 1).isLt; exact (by omega : 5248 + (show Fin 16 from r 1).val < 5264)⟩)
    (hf : ∀ r, f r = 0) (r : S2048x5376.Idx) :
    concatenate S2048x5376 1 [⟨S2048x2048, a⟩, ⟨S2048x2048, b⟩, ⟨S2048x1024, c⟩, ⟨S2048x128, d⟩, ⟨S2048x16, e⟩, ⟨S2048x112, f⟩] concatenates_S2048x2048_S2048x2048_S2048x1024_S2048x128_S2048x16_S2048x112_S2048x5376_d1 r = pick (y (r 0)) (r 1) := by
  pointwise [pick, ha, hb, hc, hd, he, hf]
set_option maxHeartbeats 8000000 in
theorem entry51' (c : Dev nD) : (V m c main_v51 : FVec Ideal S2048x5376 .bf16) =
    concatenate S2048x5376 1 [⟨S2048x2048, (V m c main_v41 : FVec Ideal S2048x2048 .f32)⟩, ⟨S2048x2048, (V m c main_v43 : FVec Ideal S2048x2048 .f32)⟩, ⟨S2048x1024, (V m c main_v42 : FVec Ideal S2048x1024 .f32)⟩, ⟨S2048x128, (V m c main_v44 : FVec Ideal S2048x128 .f32)⟩, ⟨S2048x16, (V m c main_v45 : FVec Ideal S2048x16 .f32)⟩, ⟨S2048x112, (V m c main_v46 : FVec Ideal S2048x112 .f32)⟩] concatenates_S2048x2048_S2048x2048_S2048x1024_S2048x128_S2048x16_S2048x112_S2048x5376_d1 := by
  rfl
/-- The weights the call reads: the columns in another order. -/
theorem entry51 (c : Dev nD) (r : S2048x5376.Idx) :
    (V m c main_v51 : FVec Ideal S2048x5376 .bf16) r = pick (wts m c (r 0)) (r 1) := by
  rw [entry51']
  exact cat_at _ _ _ _ _ _ (wts m c) (fun r => (entry41 m c r).trans (congrArg (wts m c (r 0)) (Fin.ext (Nat.zero_add _))))
    (entry43 m c) (entry42 m c) (entry44 m c) (entry45 m c) (entry46 m c) r

/-- What the kernel keeps in lane `J` of a row with lanes `f`. -/
def mix (f : Fin 5376 → EReal) (p : EReal) (J : Fin 5376) : EReal :=
  if J.val / 128 < 36 ∨ J.val / 128 = 40 then
    f J * cs2 p ⟨J.val % 128, by omega⟩ + f ⟨J.val / 128 * 128 + (J.val % 128 + 64) % 128, by omega⟩ * sn2 p ⟨J.val % 128, by omega⟩
  else f J
/-- The kernel's row, column for column: picking columns and then multiplying is multiplying and then picking. -/
theorem sum_pick (x : Fin 2048 → EReal) (w : Fin 2048 → Fin 5264 → EReal) (J : Fin 5376) :
    ∑ k, x k * pick (w k) J = pick (fun l => ∑ k, x k * w k l) J := by
  unfold pick
  split
  · rfl
  split
  · rfl
  split
  · rfl
  split
  · rfl
  split
  · rfl
  simp

/-- Rotating one head by the tables, with the first half of the sines negated, is the reference's rotation. -/
theorem rot (g : Fin 128 → EReal) (p : EReal) (e : Fin 128) :
    g e * cs2 p e + g ⟨(e.val + 64) % 128, by omega⟩ * sn2 p e
      = rope g (fun d => Ideal.cos (p * freqs (ix1 d))) (fun d => Ideal.sin (p * freqs (ix1 d))) e := by
  unfold cs2 sn2 rope
  by_cases h : e.val < 64
  · have e1 : (⟨(e.val + 64) % 128, by omega⟩ : Fin 128) = ⟨64 + e.val, by omega⟩ := Fin.ext (by simp only; omega)
    rw [dif_pos h, dif_pos h, dif_pos h, e1, sub_eq_add_neg, mul_neg]
  · have e1 : (⟨(e.val + 64) % 128, by omega⟩ : Fin 128) = ⟨e.val - 64, by omega⟩ := Fin.ext (by simp only; omega)
    have e2 : (⟨64 + (e.val - 64), by omega⟩ : Fin 128) = e := Fin.ext (by simp only; omega)
    rw [dif_neg h, dif_neg h, dif_neg h, e1, e2]
theorem pick0 (y : Fin 5264 → EReal) (J : Fin 5376) (l : Fin 5264) (h : J.val < 2048) (hl : l.val = J.val) : pick y J = y l := by
  unfold pick
  rw [dif_pos h]
  exact congrArg y (Fin.ext hl.symm)
theorem pick1 (y : Fin 5264 → EReal) (J : Fin 5376) (l : Fin 5264) (h0 : 2048 ≤ J.val) (h : J.val < 4096) (hl : l.val = J.val + 1024) : pick y J = y l := by
  unfold pick
  rw [dif_neg (by omega), dif_pos (by omega)]
  exact congrArg y (Fin.ext (by simp only; omega))
theorem pick2 (y : Fin 5264 → EReal) (J : Fin 5376) (l : Fin 5264) (h0 : 4096 ≤ J.val) (h : J.val < 5120) (hl : l.val + 2048 = J.val) : pick y J = y l := by
  unfold pick
  rw [dif_neg (by omega), dif_neg (by omega), dif_pos (by omega)]
  exact congrArg y (Fin.ext (by simp only; omega))
theorem pick3 (y : Fin 5264 → EReal) (J : Fin 5376) (l : Fin 5264) (h0 : 5120 ≤ J.val) (hl : l.val = J.val) : pick y J = y l := by
  unfold pick
  by_cases h : J.val < 5248
  · rw [dif_neg (by omega), dif_neg (by omega), dif_neg (by omega), dif_pos (by omega)]
    exact congrArg y (Fin.ext (by simp only; omega))
  · rw [dif_neg (by omega), dif_neg (by omega), dif_neg (by omega), dif_neg (by omega), dif_pos (by omega)]
    exact congrArg y (Fin.ext (by simp only; omega))

/-- Rotating by the tables gives the reference's row. -/
theorem mix_pick (y : Fin 5264 → EReal) (p : EReal) (J : Fin 5376) :
    mix (pick y) p J = col y (fun d => Ideal.cos (p * freqs (ix1 d))) (fun d => Ideal.sin (p * freqs (ix1 d))) J := by
  have hJ := J.isLt
  unfold mix col
  by_cases h0 : J.val < 2048
  · rw [if_pos (by omega), dif_pos h0]
    unfold colQ
    rw [← rot, pick0 y J ⟨J.val / 128 * 128 + J.val % 128, by omega⟩ h0 (by simp only; omega),
      pick0 y ⟨J.val / 128 * 128 + (J.val % 128 + 64) % 128, by omega⟩ ⟨J.val / 128 * 128 + (J.val % 128 + 64) % 128, by omega⟩ (by simp only; omega) rfl]
  rw [dif_neg h0]
  by_cases h1 : J.val - 2048 < 2048
  · rw [if_pos (by omega), dif_pos h1]
    unfold colQi
    rw [← rot, pick1 y J ⟨3072 + ((J.val - 2048) / 128 * 128 + (J.val - 2048) % 128), by omega⟩ (by omega) (by omega) (by simp only; omega),
      pick1 y ⟨J.val / 128 * 128 + (J.val % 128 + 64) % 128, by omega⟩ ⟨3072 + ((J.val - 2048) / 128 * 128 + ((J.val - 2048) % 128 + 64) % 128), by omega⟩
        (by simp only; omega) (by simp only; omega) (by simp only; omega)]
    have e : (⟨J.val % 128, by omega⟩ : Fin 128) = ⟨(J.val - 2048) % 128, by omega⟩ := Fin.ext (by simp only; omega)
    rw [e]
  rw [dif_neg h1]
  by_cases h2 : J.val - 2048 - 2048 < 1024
  · rw [dif_pos h2]
    unfold colKv
    by_cases h3 : (J.val - 2048 - 2048) / 512 < 1
    · rw [if_pos (by omega), dif_pos h3]
      rw [← rot, pick2 y J ⟨2048 + ((J.val - 2048 - 2048) / 128 % 4 * 128 + (J.val - 2048 - 2048) % 128), by omega⟩ (by omega) (by omega) (by simp only; omega),
        pick2 y ⟨J.val / 128 * 128 + (J.val % 128 + 64) % 128, by omega⟩ ⟨2048 + ((J.val - 2048 - 2048) / 128 % 4 * 128 + ((J.val - 2048 - 2048) % 128 + 64) % 128), by omega⟩
          (by simp only; omega) (by simp only; omega) (by simp only; omega)]
      have e : (⟨J.val % 128, by omega⟩ : Fin 128) = ⟨(J.val - 2048 - 2048) % 128, by omega⟩ := Fin.ext (by simp only; omega)
      rw [e]
    · rw [if_neg (by omega), dif_neg h3]
      exact pick2 y J _ (by omega) (by omega) (by simp only; omega)
  rw [dif_neg h2]
  by_cases h3 : J.val - 2048 - 2048 - 1024 < 128
  · rw [if_pos (by omega), dif_pos h3]
    unfold colKi
    rw [← rot, pick3 y J ⟨5120 + (J.val - 2048 - 2048 - 1024), by omega⟩ (by omega) (by simp only; omega),
      pick3 y ⟨J.val / 128 * 128 + (J.val % 128 + 64) % 128, by omega⟩ ⟨5120 + ((J.val - 2048 - 2048 - 1024) + 64) % 128, by omega⟩
        (by simp only; omega) (by simp only; omega)]
    have e : (⟨J.val % 128, by omega⟩ : Fin 128) = ⟨J.val - 2048 - 2048 - 1024, by omega⟩ := Fin.ext (by simp only; omega)
    rw [e]
  rw [dif_neg h3, if_neg (by omega)]
  by_cases h4 : J.val - 2048 - 2048 - 1024 - 128 < 16
  · rw [dif_pos h4]
    unfold colWi
    exact pick3 y J _ (by omega) (by simp only; omega)
  · rw [dif_neg h4]
    unfold pick
    rw [dif_neg (by omega), dif_neg (by omega), dif_neg (by omega), dif_neg (by omega), dif_neg (by omega)]

/-- One group of 128 lanes of a block, rotated or not. -/
def sel (fl : BitVec 32) (a : FVec Ideal S1024x768 .f32) (cs sn : FVec Ideal S1024x128 .f32) (o : Nat) (ho : o + 128 ≤ 768) (x : S1024x128.Idx) : EReal :=
  Scalar.select (Scalar.cmpi .sgt fl 0#32)
    (a (ix2 (x 0) ⟨o + (show Fin 128 from x 1).val, by have := (show Fin 128 from x 1).isLt; omega⟩) * cs x
      + a (ix2 (x 0) ⟨o + ((show Fin 128 from x 1).val + 128 - 64) % 128, by omega⟩) * sn x)
    (a (ix2 (x 0) ⟨o + (show Fin 128 from x 1).val, by have := (show Fin 128 from x 1).isLt; omega⟩))
theorem pay5_at (xn : FVec Ideal S1024x2048 .bf16) (w : FVec Ideal S2048x768 .bf16) (cs sn : FVec Ideal S1024x128 .f32) (fl : BitVec 32) (x : S1024x128.Idx) :
    k0_pay5 (F := Ideal) xn w cs sn fl x = sel fl (k0_pay4 xn w) cs sn 0 (by decide) x := by
  pointwise [sel, k0_pay5]
theorem pay6_at (xn : FVec Ideal S1024x2048 .bf16) (w : FVec Ideal S2048x768 .bf16) (cs sn : FVec Ideal S1024x128 .f32) (fl : BitVec 32) (x : S1024x128.Idx) :
    k0_pay6 (F := Ideal) xn w cs sn fl x = sel fl (k0_pay4 xn w) cs sn 0 (by decide) x := by
  pointwise [sel, k0_pay6, k0_pay5]
theorem pay11_at (xn : FVec Ideal S1024x2048 .bf16) (w : FVec Ideal S2048x768 .bf16) (cs sn : FVec Ideal S1024x128 .f32) (fl : BitVec 32) (x : S1024x128.Idx) :
    k0_pay11 (F := Ideal) (k0_pay7 xn w) (k0_pay8 cs) (k0_pay9 sn) (k0_pay10 xn w) fl x = sel fl (k0_pay4 xn w) cs sn 128 (by decide) x := by
  pointwise [sel, k0_pay11, k0_pay7, k0_pay8, k0_pay9, k0_pay10]
theorem pay12_at (xn : FVec Ideal S1024x2048 .bf16) (w : FVec Ideal S2048x768 .bf16) (cs sn : FVec Ideal S1024x128 .f32) (fl : BitVec 32) (x : S1024x128.Idx) :
    k0_pay12 (F := Ideal) (k0_pay7 xn w) (k0_pay8 cs) (k0_pay9 sn) (k0_pay10 xn w) fl x = sel fl (k0_pay4 xn w) cs sn 128 (by decide) x := by
  pointwise [sel, k0_pay12, k0_pay11, k0_pay7, k0_pay8, k0_pay9, k0_pay10]
theorem pay13_at (xn : FVec Ideal S1024x2048 .bf16) (w : FVec Ideal S2048x768 .bf16) (cs sn : FVec Ideal S1024x128 .f32) (fl : BitVec 32) (x : S1024x128.Idx) :
    k0_pay13 (F := Ideal) (k0_pay4 xn w) cs sn fl x = sel fl (k0_pay4 xn w) cs sn 256 (by decide) x := by
  pointwise [sel, k0_pay13]
theorem pay14_at (xn : FVec Ideal S1024x2048 .bf16) (w : FVec Ideal S2048x768 .bf16) (cs sn : FVec Ideal S1024x128 .f32) (fl : BitVec 32) (x : S1024x128.Idx) :
    k0_pay14 (F := Ideal) (k0_pay4 xn w) cs sn fl x = sel fl (k0_pay4 xn w) cs sn 256 (by decide) x := by
  pointwise [sel, k0_pay14, k0_pay13]
theorem pay17_at (xn : FVec Ideal S1024x2048 .bf16) (w : FVec Ideal S2048x768 .bf16) (cs sn : FVec Ideal S1024x128 .f32) (fl : BitVec 32) (x : S1024x128.Idx) :
    k0_pay17 (F := Ideal) (k0_pay15 (k0_pay4 xn w)) (k0_pay16 cs) sn fl x = sel fl (k0_pay4 xn w) cs sn 384 (by decide) x := by
  pointwise [sel, k0_pay17, k0_pay15, k0_pay16]
theorem pay18_at (xn : FVec Ideal S1024x2048 .bf16) (w : FVec Ideal S2048x768 .bf16) (cs sn : FVec Ideal S1024x128 .f32) (fl : BitVec 32) (x : S1024x128.Idx) :
    k0_pay18 (F := Ideal) (k0_pay15 (k0_pay4 xn w)) (k0_pay16 cs) sn fl x = sel fl (k0_pay4 xn w) cs sn 384 (by decide) x := by
  pointwise [sel, k0_pay18, k0_pay17, k0_pay15, k0_pay16]
theorem pay19_at (xn : FVec Ideal S1024x2048 .bf16) (w : FVec Ideal S2048x768 .bf16) (cs sn : FVec Ideal S1024x128 .f32) (fl : BitVec 32) (x : S1024x128.Idx) :
    k0_pay19 (F := Ideal) (k0_pay4 xn w) cs sn fl x = sel fl (k0_pay4 xn w) cs sn 512 (by decide) x := by
  pointwise [sel, k0_pay19]
theorem pay20_at (xn : FVec Ideal S1024x2048 .bf16) (w : FVec Ideal S2048x768 .bf16) (cs sn : FVec Ideal S1024x128 .f32) (fl : BitVec 32) (x : S1024x128.Idx) :
    k0_pay20 (F := Ideal) (k0_pay4 xn w) cs sn fl x = sel fl (k0_pay4 xn w) cs sn 512 (by decide) x := by
  pointwise [sel, k0_pay20, k0_pay19]
theorem pay1_at (xn : FVec Ideal S1024x2048 .bf16) (w : FVec Ideal S2048x768 .bf16) (cs sn : FVec Ideal S1024x128 .f32) (fl : BitVec 32) (x : S1024x128.Idx) :
    k0_pay1 (F := Ideal) (k0_pay21 (k0_pay4 xn w)) cs sn fl x = sel fl (k0_pay4 xn w) cs sn 640 (by decide) x := by
  pointwise [sel, k0_pay1, k0_pay21]
theorem pay2_at (xn : FVec Ideal S1024x2048 .bf16) (w : FVec Ideal S2048x768 .bf16) (cs sn : FVec Ideal S1024x128 .f32) (fl : BitVec 32) (x : S1024x128.Idx) :
    k0_pay2 (F := Ideal) (k0_pay21 (k0_pay4 xn w)) cs sn fl x = sel fl (k0_pay4 xn w) cs sn 640 (by decide) x := by
  pointwise [sel, k0_pay2, k0_pay1, k0_pay21]
theorem pay3_at (a : FVec Ideal S1024x2048 .f32) (g : FVec Ideal S1x2048 .f32) (x : S1024x2048.Idx) :
    k0_pay3 (F := Ideal) a g x = xnorm (fun k => a (ix2 (x 0) k)) (fun k => g (ix2 0 k)) (x 1) := by
  pointwise [k0_pay3, xnorm]
theorem pay4_at (xn : FVec Ideal S1024x2048 .bf16) (w : FVec Ideal S2048x768 .bf16) (x : S1024x768.Idx) :
    k0_pay4 (F := Ideal) xn w x = ∑ k, xn (ix2 (x 0) k) * w (ix2 k (x 1)) := by
  pointwise [k0_pay4]
end Cert.ProjA
end
-- ==== Proof.ProjABlock.lean ====
module
public import proofs.«01_k».proof.Proof.ProjAEntry
@[expose] public section
set_option maxRecDepth 16384
noncomputable section
open Idealize.ShloMosaic Idealize.ShloMosaic.TcCoe Idealize.SL.Sem
namespace Cert.ProjA
open Cert.Kernel5Ideal Cert.Kernel5Ideal.Gen
open Cert.ProjARef (rowRes lanes xnorm freqs col refArr refArr_at outP_at outS_at)
variable (m : (ℓ : Loc nD τ sig) → Buf (Elt Ideal) ℓ)

/-- The row block staged at point `t`. -/
def rows (c : Dev nD) (t : Fin (cfgM m (okIdeal m)).N) : Vec Ideal S1024x2048 .f32 := iblk m (okIdeal m) c 0 t
/-- The gain block of point `t`. -/
def gains (c : Dev nD) (t : Fin (cfgM m (okIdeal m)).N) : FVec Ideal S1x2048 .f32 := iblk m (okIdeal m) c 1 t
/-- The weight block of point `t`. -/
def wblk (c : Dev nD) (t : Fin (cfgM m (okIdeal m)).N) : FVec Ideal S2048x768 .bf16 := iblk m (okIdeal m) c 2 t
/-- The normalised row block of point `t`. -/
def xn (c : Dev nD) (t : Fin (cfgM m (okIdeal m)).N) : FVec Ideal S1024x2048 .bf16 := k0_pay3 (rows m c t) (gains m c t)

theorem lt63 (t : Fin (cfgM m (okIdeal m)).N) : t.val < 63 := t.isLt

theorem rows_prev (c : Dev nD) (t u : Fin (cfgM m (okIdeal m)).N) (h : t.val / 7 = u.val / 7) : rows m c t = rows m c u := by
  funext r
  blk_ext [rows, iblk, V, idx m t, idx m u, h]
theorem gains_prev (c : Dev nD) (t u : Fin (cfgM m (okIdeal m)).N) : gains m c t = gains m c u := by
  funext r
  blk_ext [gains, iblk, V, idx m t, idx m u]
theorem xn_prev (c : Dev nD) (t u : Fin (cfgM m (okIdeal m)).N) (h : t.val / 7 = u.val / 7) : xn m c t = xn m c u :=
  congrArg₂ k0_pay3 (rows_prev m c t u h) (gains_prev m c t u)

/-- The carried scratch after point `t` is the normalised row block of `t`'s row tile. -/
theorem scr (c : Dev nD) : ∀ (n : ℕ) (t : Fin (cfgM m (okIdeal m)).N), t.val = n → (outsAt0 m (okIdeal m) c t.val t.isLt).2.2 = xn m c t := by
  intro n
  induction n with
  | zero =>
    intro t ht
    rw [outsAt0_A m _ c t (by omega)]
    funext r
    frame_out
    exact congrFun (congrArg₂ k0_pay3 (Memref.IsWhole.read_unread _ _) (Memref.IsWhole.read_unread _ _)) r
  | succ n ih =>
    intro t ht
    by_cases h : t.val % 7 = 0
    · rw [outsAt0_A m _ c t h]
      funext r
      frame_out
      exact congrFun (congrArg₂ k0_pay3 (Memref.IsWhole.read_unread _ _) (Memref.IsWhole.read_unread _ _)) r
    · have hp : t.val - 1 < (cfgM m (okIdeal m)).N := Nat.lt_of_le_of_lt (Nat.sub_le _ _) t.isLt
      have e := ih ⟨t.val - 1, hp⟩ (by simp only; omega)
      rw [outsAt0_B m _ c t h]
      dsimp only [sout0_B_0]
      dsimp only at e
      exact e.trans (xn_prev m c _ _ (by simp only; omega))

/-- The row of the stacked array that row `a` of the block of point `t` is. -/
def row (t : Fin (cfgM m (okIdeal m)).N) (a : Fin 1024) : Fin 9216 := ⟨t.val / 7 * 1024 + a.val, by have := lt63 m t; omega⟩
/-- The lane of the result array that lane `b` of the block of point `t` is. -/
def lane (t : Fin (cfgM m (okIdeal m)).N) (b : Fin 768) : Fin 5376 := ⟨t.val % 7 * 768 + b.val, by have := lt63 m t; omega⟩

theorem xn_at (c : Dev nD) (t : Fin (cfgM m (okIdeal m)).N) (a : Fin 1024) (k : Fin 2048) :
    xn m c t (ix2 a k) = xnorm (rowX m c (row m t a)) (gain m c) k := by
  rw [xn, pay3_at]
  have e : ∀ k, rows m c t (ix2 a k) = rowX m c (row m t a) k := fun k => by
    refine Eq.trans ?_ (entry2 m c (ix2 (row m t a) k))
    blk_ext [rows, iblk, idx m t, row]
  have e' : ∀ k, gains m c t (ix2 0 k) = gain m c k := fun k => by
    refine Eq.trans ?_ (entry50 m c (ix2 0 k))
    blk_ext [gains, iblk, idx m t]
  exact congrArg₂ (fun x g => xnorm x g k) (funext e) (funext e')
theorem wts_at (c : Dev nD) (t : Fin (cfgM m (okIdeal m)).N) (k : Fin 2048) (b : Fin 768) :
    wblk m c t (ix2 k b) = pick (wts m c k) (lane m t b) := by
  refine Eq.trans ?_ (entry51 m c (ix2 k (lane m t b)))
  blk_ext [wblk, iblk, idx m t, lane]
theorem cos_at (c : Dev nD) (t : Fin (cfgM m (okIdeal m)).N) (x : S1024x128.Idx) :
    (iblk m (okIdeal m) c 3 t : Vec Ideal S1024x128 .f32) x = cs2 (pos (row m t (x 0))) (x 1) := by
  refine Eq.trans ?_ (entry37 m c (ix2 (row m t (x 0)) (x 1)))
  blk_ext [iblk, idx m t, row]
theorem sin_at (c : Dev nD) (t : Fin (cfgM m (okIdeal m)).N) (x : S1024x128.Idx) :
    (iblk m (okIdeal m) c 4 t : Vec Ideal S1024x128 .f32) x = sn2 (pos (row m t (x 0))) (x 1) := by
  refine Eq.trans ?_ (entry40 m c (ix2 (row m t (x 0)) (x 1)))
  blk_ext [iblk, idx m t, row]

/-- The product of point `t`'s row block and weights. -/
def acc (c : Dev nD) (t : Fin (cfgM m (okIdeal m)).N) : FVec Ideal S1024x768 .f32 := k0_pay4 (xn m c t) (wblk m c t)
/-- One row of the kernel's product, all lanes. -/
def line (c : Dev nD) (R : Fin 9216) (J : Fin 5376) : EReal := pick (lanes (rowX m c R) (gain m c) (wts m c)) J
theorem acc_at (c : Dev nD) (t : Fin (cfgM m (okIdeal m)).N) (a : Fin 1024) (b : Fin 768) :
    acc m c t (ix2 a b) = line m c (row m t a) (lane m t b) := by
  rw [acc, pay4_at]
  refine (Finset.sum_congr rfl fun k _ => congrArg₂ (· * ·) (xn_at m c t a k) (wts_at m c t k b)).trans ?_
  exact sum_pick _ _ _

/-- A block of the result at one place. -/
def res (c : Dev nD) (t : Fin (cfgM m (okIdeal m)).N) (y : S1024x768.Idx) : EReal :=
  mix (line m c (row m t (y 0))) (pos (row m t (y 0))) (lane m t (y 1))

theorem select_one (b : BitVec 1) (P : Prop) [Decidable P] (h : b = if P then 1#1 else 0#1) (x y : EReal) :
    Scalar.select b x y = if P then x else y := by
  subst h
  by_cases hp : P
  · rw [if_pos hp, if_pos hp]; rfl
  · rw [if_neg hp, if_neg hp]; rfl

theorem ite_mix {P Q : Prop} [Decidable P] [Decidable Q] (h : P ↔ Q) {a a' b b' x x' z z' : EReal} (ea : a = a') (eb : b = b') (ex : x = x') (ez : z = z') :
    (if P then a * x + b * z else a) = if Q then a' * x' + b' * z' else a' := by
  subst ea eb ex ez
  exact if_congr h rfl rfl

theorem sel_at (c : Dev nD) (t : Fin (cfgM m (okIdeal m)).N) (u : Fin 6) (o : Nat) (ho : o + 128 ≤ 768) (e : o = 128 * u.val) (fl : BitVec 32)
    (hfl : fl = lit0 ⟨t.val % 7 * 6 + u.val, by omega⟩) (y : S1024x768.Idx) (x : S1024x128.Idx)
    (e0 : (y 0).val = (x 0).val) (e1 : (y 1).val = o + (x 1).val) :
    sel fl (acc m c t) (iblk m (okIdeal m) c 3 t) (iblk m (okIdeal m) c 4 t) o ho x = res m c t y := by
  have hx : (show Fin 128 from x 1).val < 128 := (show Fin 128 from x 1).isLt
  have ey0 : (show Fin 1024 from y 0) = (show Fin 1024 from x 0) := Fin.ext e0
  have ey1 : (show Fin 768 from y 1) = ⟨o + (show Fin 128 from x 1).val, by omega⟩ := Fin.ext e1
  have hl : (lane m t (y 1)).val = t.val % 7 * 768 + (o + (show Fin 128 from x 1).val) := congrArg (t.val % 7 * 768 + ·) e1
  have hd : (lane m t (y 1)).val / 128 = t.val % 7 * 6 + u.val := by rw [hl]; omega
  have hm : (lane m t (y 1)).val % 128 = (show Fin 128 from x 1).val := by rw [hl]; omega
  have l0 : lane m t ⟨o + (show Fin 128 from x 1).val, by omega⟩ = lane m t (y 1) := Fin.ext hl.symm
  have hx' : (x 1).val < 128 := hx
  have hl' : (lane m t (y 1)).val = t.val % 7 * 768 + (o + (x 1).val) := hl
  have hm' : (lane m t (y 1)).val % 128 = (x 1).val := hm
  have l1 : lane m t ⟨o + ((show Fin 128 from x 1).val + 128 - 64) % 128, by omega⟩
      = ⟨(lane m t (y 1)).val / 128 * 128 + ((lane m t (y 1)).val % 128 + 64) % 128, by have := (lane m t (y 1)).isLt; omega⟩ := by
    refine Fin.ext ?_
    show t.val % 7 * 768 + (o + ((x 1).val + 128 - 64) % 128) = (lane m t (y 1)).val / 128 * 128 + ((lane m t (y 1)).val % 128 + 64) % 128
    rw [hd, hm']
    omega
  have r0 : row m t (y 0) = row m t (x 0) := congrArg (row m t) ey0
  have d0 : (⟨(lane m t (y 1)).val % 128, by omega⟩ : Fin 128) = x 1 := Fin.ext hm
  have hs := lit_at ⟨t.val % 7 * 6 + u.val, by omega⟩
  rw [← hfl] at hs
  have ec := cos_at m c t x
  have es := sin_at m c t x
  have ea := acc_at m c t (show Fin 1024 from x 0) ⟨o + (show Fin 128 from x 1).val, by omega⟩
  have eb := acc_at m c t (show Fin 1024 from x 0) ⟨o + ((show Fin 128 from x 1).val + 128 - 64) % 128, by omega⟩
  have r0' : row m t (show Fin 1024 from x 0) = row m t (y 0) := r0.symm
  refine (select_one _ _ hs _ _).trans (ite_mix (by simp only [hd]) (ea.trans ?_) (eb.trans ?_) (ec.trans ?_) (es.trans ?_))
  · exact congrArg₂ (line m c) r0' l0
  · exact congrArg₂ (line m c) r0' l1
  · exact congrArg₂ cs2 (congrArg pos r0') d0.symm
  · exact congrArg₂ sn2 (congrArg pos r0') d0.symm

/-- A flag read at the place of group `u` of point `t`. -/
theorem flag_at (t : Fin (cfgM m (okIdeal m)).N) (u : Fin 6) (i : S42.Idx) (h : (i 0).val = t.val % 7 * 6 + u.val) :
    (tbl m 0 : IVec S42 32) i = lit0 ⟨t.val % 7 * 6 + u.val, by omega⟩ := by
  rw [tbl_at]
  refine congrArg lit0 (Fin.ext ?_)
  have e : ∀ j : Fin 42, (S42.rowMajor (ix1 j)).val = j.val := by decide +kernel
  have hi : i = ix1 (i 0) := funext fun a => by rw [Fin.fin_one_eq_zero a]; rfl
  rw [hi]
  exact (e _).trans h

theorem sel_block (c : Dev nD) (t : Fin (cfgM m (okIdeal m)).N) (u : Fin 6) (o : Nat) (ho : o + 128 ≤ 768) (e : o = 128 * u.val) (fl : BitVec 32)
    (X : FVec Ideal S1024x2048 .bf16) (W : FVec Ideal S2048x768 .bf16) (C S : FVec Ideal S1024x128 .f32)
    (hX : X = xn m c t) (hW : W = wblk m c t) (hC : C = iblk m (okIdeal m) c 3 t) (hS : S = iblk m (okIdeal m) c 4 t)
    (i : S42.Idx) (hfl : fl = (tbl m 0 : IVec S42 32) i) (hi : (i 0).val = t.val % 7 * 6 + u.val) (y : S1024x768.Idx) (x : S1024x128.Idx)
    (e0 : (y 0).val = (x 0).val) (e1 : (y 1).val = o + (x 1).val) :
    sel fl (k0_pay4 X W) C S o ho x = res m c t y := by
  subst hX hW hC hS
  exact sel_at m c t u o ho e fl (hfl.trans (flag_at m t u i hi)) y x e0 e1

set_option maxHeartbeats 8000000 in
theorem block5 (c : Dev nD) (t : Fin (cfgM m (okIdeal m)).N) (y : S1024x768.Idx) :
    (outsAt0 m (okIdeal m) c t.val t.isLt).1 y = res m c t y := by
  by_cases h : t.val % 7 = 0
  · skip
    rw [outsAt0_A m _ c t h]
    frame_out
    canon_tiles x h
    · refine (pay1_at _ _ _ _ _ x).trans ?_
      exact sel_block m c t 5 640 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 5) y x h0 h1
    · refine (pay19_at _ _ _ _ _ x).trans ?_
      exact sel_block m c t 4 512 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 4) y x h0 h1
    · refine (pay17_at _ _ _ _ _ x).trans ?_
      exact sel_block m c t 3 384 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 3) y x h0 h1
    · refine (pay13_at _ _ _ _ _ x).trans ?_
      exact sel_block m c t 2 256 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 2) y x h0 h1
    · refine (pay11_at _ _ _ _ _ x).trans ?_
      exact sel_block m c t 1 128 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 1) y x h0 h1
    · refine (pay5_at _ _ _ _ _ x).trans ?_
      exact sel_block m c t 0 0 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 0) y x h0 (h1.trans (Nat.zero_add _).symm)
  · have hp : t.val - 1 < (cfgM m (okIdeal m)).N := Nat.lt_of_le_of_lt (Nat.sub_le _ _) t.isLt
    rw [outsAt0_B m _ c t h]
    frame_out
    canon_tiles x h
    · refine (pay1_at _ _ _ _ _ x).trans ?_
      exact sel_block m c t 5 640 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 5) y x h0 h1
    · refine (pay19_at _ _ _ _ _ x).trans ?_
      exact sel_block m c t 4 512 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 4) y x h0 h1
    · refine (pay17_at _ _ _ _ _ x).trans ?_
      exact sel_block m c t 3 384 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 3) y x h0 h1
    · refine (pay13_at _ _ _ _ _ x).trans ?_
      exact sel_block m c t 2 256 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 2) y x h0 h1
    · refine (pay11_at _ _ _ _ _ x).trans ?_
      exact sel_block m c t 1 128 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 1) y x h0 h1
    · refine (pay5_at _ _ _ _ _ x).trans ?_
      exact sel_block m c t 0 0 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 0) y x h0 (h1.trans (Nat.zero_add _).symm)
set_option maxHeartbeats 8000000 in
theorem block6 (c : Dev nD) (t : Fin (cfgM m (okIdeal m)).N) (y : S1024x768.Idx) :
    (outsAt0 m (okIdeal m) c t.val t.isLt).2.1 y = res m c t y := by
  by_cases h : t.val % 7 = 0
  · skip
    rw [outsAt0_A m _ c t h]
    frame_out
    canon_tiles x h
    · refine (pay2_at _ _ _ _ _ x).trans ?_
      exact sel_block m c t 5 640 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 5) y x h0 h1
    · refine (pay20_at _ _ _ _ _ x).trans ?_
      exact sel_block m c t 4 512 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 4) y x h0 h1
    · refine (pay18_at _ _ _ _ _ x).trans ?_
      exact sel_block m c t 3 384 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 3) y x h0 h1
    · refine (pay14_at _ _ _ _ _ x).trans ?_
      exact sel_block m c t 2 256 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 2) y x h0 h1
    · refine (pay12_at _ _ _ _ _ x).trans ?_
      exact sel_block m c t 1 128 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 1) y x h0 h1
    · refine (pay6_at _ _ _ _ _ x).trans ?_
      exact sel_block m c t 0 0 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 0) y x h0 (h1.trans (Nat.zero_add _).symm)
  · have hp : t.val - 1 < (cfgM m (okIdeal m)).N := Nat.lt_of_le_of_lt (Nat.sub_le _ _) t.isLt
    rw [outsAt0_B m _ c t h]
    frame_out
    canon_tiles x h
    · refine (pay2_at _ _ _ _ _ x).trans ?_
      exact sel_block m c t 5 640 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 5) y x h0 h1
    · refine (pay20_at _ _ _ _ _ x).trans ?_
      exact sel_block m c t 4 512 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 4) y x h0 h1
    · refine (pay18_at _ _ _ _ _ x).trans ?_
      exact sel_block m c t 3 384 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 3) y x h0 h1
    · refine (pay14_at _ _ _ _ _ x).trans ?_
      exact sel_block m c t 2 256 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 2) y x h0 h1
    · refine (pay12_at _ _ _ _ _ x).trans ?_
      exact sel_block m c t 1 128 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 1) y x h0 h1
    · refine (pay6_at _ _ _ _ _ x).trans ?_
      exact sel_block m c t 0 0 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 0) y x h0 (h1.trans (Nat.zero_add _).symm)
end Cert.ProjA
end
-- ==== Proof.ProjAValue.lean ====
module
public import proofs.«01_k».proof.Proof.ProjABlock
public import Idealize.ShloMosaic.Lib.Pipeline.ValueKit
public import Idealize.ShloMosaic.Lib.Pointwise
@[expose] public section
set_option maxRecDepth 65536
noncomputable section
open Idealize.ShloMosaic Idealize.ShloMosaic.TcCoe Idealize.SL.Sem
namespace Cert.ProjA
open Cert.Kernel5Ideal Cert.Kernel5Ideal.Gen
open Cert.ProjARef (rowRes lanes xnorm freqs col refArr refArr_at outP_at outS_at rowP batP rowS batS)
variable (m : (ℓ : Loc nD τ sig) → Buf (Elt Ideal) ℓ)

/-- The reference's result of the launch arrays. -/
def want (c : Dev nD) : FVec Ideal S9216x5376 .f32 :=
  refArr (m ((c : Thread nD τ).loc main_arg0)) (m ((c : Thread nD τ).loc main_arg1)) (m ((c : Thread nD τ).loc main_arg2)) (m ((c : Thread nD τ).loc main_arg3))

/-- The reference's result at one place, in the kernel's order of work. -/
theorem want_at (c : Dev nD) (R : Fin 9216) (J : Fin 5376) : want m c (ix2 R J) = mix (line m c R) (pos R) J := by
  refine Eq.trans ?_ (mix_pick _ _ _).symm
  refine (refArr_at _ _ _ _ _).trans ?_
  by_cases h : R.val < 8192
  · refine (dif_pos h).trans ((outP_at _ _ _ _).trans ?_)
    have e0 : rowX m c R = fun k => (m ((c : Thread nD τ).loc main_arg0) : FVec Ideal S2x4096x2048 .f32) (ix3 (batP ⟨R.val, h⟩) (rowP ⟨R.val, h⟩) k) :=
      funext fun k => dif_pos h
    have e1 : pos R = FloatOps.sitofp (F := Ideal) FTy.f32 (BitVec.ofNat 32 (rowP ⟨R.val, h⟩).val) := congrArg (fun b => FloatOps.sitofp (F := Ideal) FTy.f32 b) (dif_pos h)
    rw [e0, e1]
    rfl
  · refine (dif_neg h).trans ((outS_at _ _ _ _).trans ?_)
    have e0 : rowX m c R = fun k => (m ((c : Thread nD τ).loc main_arg1) : FVec Ideal S128x8x2048 .f32) (ix3 (batS ⟨R.val - 8192, by omega⟩) (rowS ⟨R.val - 8192, by omega⟩) k) :=
      funext fun k => dif_neg h
    have e1 : pos R = FloatOps.sitofp (F := Ideal) FTy.f32 (IntOp.addi 8192#32 (BitVec.ofNat 32 (rowS ⟨R.val - 8192, by omega⟩).val)) := congrArg (fun b => FloatOps.sitofp (F := Ideal) FTy.f32 b) (dif_neg h)
    rw [e0, e1]
    rfl

/-- Where an element of the result block of point `t` lies in the result array. -/
def place (t : Fin (cfgM m (okIdeal m)).N) (y : S1024x768.Idx) : S9216x5376.Idx := ix2 (row m t (y 0)) (lane m t (y 1))

/-- After the run the first result array is the reference's term. -/
theorem final5 (c : Dev nD) : (dats m (okIdeal m) 0 c).arrAt 5 (cfgM m (okIdeal m)).N = want m c := by
  refine (dats m (okIdeal m) 0 c).arrAt_eq_of_covers 5 _ (covers5 m) fun t hf y => ?_
  blk_simp
  rw [after0_5]
  refine (block5 m c t y).trans ?_
  refine Eq.trans ?_ (congrArg (want m c) (?_ : place m t y = _))
  · exact (want_at m c _ _).symm
  · refine funext fun a => ?_
    match a with
    | ⟨0, _⟩ =>
      refine Fin.ext ?_
      blk_simp [place, idx m t, row]
      try rfl
    | ⟨1, _⟩ =>
      refine Fin.ext ?_
      blk_simp [place, idx m t, lane]
      try rfl
/-- After the run the second result array, the same values in the narrow format, is the reference's term. -/
theorem final6 (c : Dev nD) : (dats m (okIdeal m) 0 c).arrAt 6 (cfgM m (okIdeal m)).N = truncf .bf16 (want m c) bitsLt_bf16_f32 := by
  refine (dats m (okIdeal m) 0 c).arrAt_eq_of_covers 6 _ (covers6 m) fun t hf y => ?_
  blk_simp
  rw [after0_6]
  refine (block6 m c t y).trans ?_
  refine Eq.trans ?_ (congrArg (want m c) (?_ : place m t y = _))
  · exact (want_at m c _ _).symm
  · refine funext fun a => ?_
    match a with
    | ⟨0, _⟩ =>
      refine Fin.ext ?_
      blk_simp [place, idx m t, row]
      try rfl
    | ⟨1, _⟩ =>
      refine Fin.ext ?_
      blk_simp [place, idx m t, lane]
      try rfl
/-- The reference's run leaves these results and its arguments. -/
theorem refRun (m' : (ℓ : Loc Cert.Reference5Ideal.nD Cert.Reference5Ideal.τ Cert.Reference5Ideal.sig) → Buf (Elt Ideal) ℓ) (g' : Dev Cert.Reference5Ideal.nD → PrngReg)
    (h : ∀ c : Dev nD,
      m' ((c.tc : Thread Cert.Reference5Ideal.nD Cert.Reference5Ideal.τ).loc Cert.Reference5Ideal.main_arg0) = m ((c.tc : Thread nD τ).loc main_arg0)
      ∧ m' ((c.tc : Thread Cert.Reference5Ideal.nD Cert.Reference5Ideal.τ).loc Cert.Reference5Ideal.main_arg1) = m ((c.tc : Thread nD τ).loc main_arg1)
      ∧ m' ((c.tc : Thread Cert.Reference5Ideal.nD Cert.Reference5Ideal.τ).loc Cert.Reference5Ideal.main_arg2) = m ((c.tc : Thread nD τ).loc main_arg2)
      ∧ m' ((c.tc : Thread Cert.Reference5Ideal.nD Cert.Reference5Ideal.τ).loc Cert.Reference5Ideal.main_arg3) = m ((c.tc : Thread nD τ).loc main_arg3)) :
    θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
      r.2.mem ((c.tc : Thread Cert.Reference5Ideal.nD Cert.Reference5Ideal.τ).loc Cert.Reference5Ideal.main_v380) = want m c
      ∧ r.2.mem ((c.tc : Thread Cert.Reference5Ideal.nD Cert.Reference5Ideal.τ).loc Cert.Reference5Ideal.main_v381) = truncf .bf16 (want m c) bitsLt_bf16_f32
      ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)) := by
  refine θ_run_mono (Cert.Reference5Ideal.Value.run m' g') fun r hr c => ?_
  obtain ⟨h0, h1, h2, h3⟩ := h c
  have e := Cert.ProjARef.res_eq m' c
  rw [h0, h1, h2, h3] at e
  obtain ⟨a, b, rest⟩ := hr c
  refine ⟨a.trans e, b.trans ?_, rest⟩
  exact congrArg (fun z : FVec Ideal S9216x5376 .f32 => truncf .bf16 z bitsLt_bf16_f32) e
end Cert.ProjA
end
-- ==== Proof.ProjCRef.lean ====
module
public import proofs.«01_k».proof.Proof.Gen.Reference6Ideal.Run
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.ProjCRef
open Cert.Reference6Ideal Cert.Reference6Ideal.Gen

/-- The rotary frequencies, one for each pair of lanes of a head. -/
def freqs : FVec Ideal S64 .f32 :=
  Host.powf (broadcastInDim S64 ![] bcast_S_S64 (constant S_ .f32 0x461C4000#32)) (Host.divf (Host.negf (addf (broadcastInDim S64 ![] bcast_S_S64 (constant S_ .f32 0x00000000#32)) (mulf (broadcastInDim S64 ![] bcast_S_S64 (constant S_ .f32 0x40000000#32)) (sitofp .f32 (iotaInDim S64 32 0))))) (broadcastInDim S64 ![] bcast_S_S64 (constant S_ .f32 0x43000000#32)))
/-- The angles of the prompt positions. -/
def angP : FVec Ideal S4096x64 .f32 :=
  mulf (broadcastInDim S4096x64 ![0, 1] bcast_S4096x1_S4096x64_0_1 (broadcastInDim S4096x1 ![0] bcast_S4096_S4096x1_0 (sitofp .f32 (iotaInDim S4096 32 0)))) (broadcastInDim S4096x64 ![0, 1] bcast_S1x64_S4096x64_0_1 (broadcastInDim S1x64 ![1] bcast_S64_S1x64_1 freqs))
/-- The angles of the sample positions. -/
def angS : FVec Ideal S8x64 .f32 :=
  mulf (broadcastInDim S8x64 ![0, 1] bcast_S8x1_S8x64_0_1 (broadcastInDim S8x1 ![0] bcast_S8_S8x1_0 (sitofp .f32 (addi (broadcastInDim S8 ![] bcast_S_S8 (constantI S_ 32 8192#32)) (iotaInDim S8 32 0))))) (broadcastInDim S8x64 ![0, 1] bcast_S1x64_S8x64_0_1 (broadcastInDim S1x64 ![1] bcast_S64_S1x64_1 freqs))

theorem angP_at (r : S4096x64.Idx) : angP r = FloatOps.sitofp (F := Ideal) FTy.f32 (BitVec.ofNat 32 (r 0).val) * freqs (ix1 (r 1)) := by
  generalize e : freqs = f
  pointwise [angP, e]
theorem angS_at (r : S8x64.Idx) :
    angS r = FloatOps.sitofp (F := Ideal) FTy.f32 (IntOp.addi 8192#32 (BitVec.ofNat 32 (r 0).val)) * freqs (ix1 (r 1)) := by
  generalize e : freqs = f
  pointwise [angS, e]

/-- One head's lanes rotated: the first half takes away, the second half adds. -/
def rope (y : Fin 128 → EReal) (cs sn : Fin 64 → EReal) (d : Fin 128) : EReal :=
  if h : d.val < 64 then y d * cs ⟨d.val, h⟩ - y ⟨64 + d.val, by omega⟩ * sn ⟨d.val, h⟩
  else y ⟨64 + (d.val - 64), by omega⟩ * cs ⟨d.val - 64, by omega⟩ + y ⟨d.val - 64, by omega⟩ * sn ⟨d.val - 64, by omega⟩

/-- All lanes of a row: in each of three groups of twelve heads, the first ten heads rotated. -/
def col (y : Fin 4608 → EReal) (cs sn : Fin 64 → EReal) (j : Fin 4608) : EReal :=
  if _ : j.val / 128 % 12 < 10 then rope (fun d => y ⟨(j.val / 1536 * 10 + j.val / 128 % 12) / 10 * 1536 + (j.val / 1536 * 10 + j.val / 128 % 12) % 10 * 128 + d.val, by omega⟩) cs sn ⟨j.val % 128, by omega⟩
  else y ⟨j.val / 1536 * 1536 + (10 + (j.val / 128 % 12 - 10)) * 128 + j.val % 128, by omega⟩

/-- The rotation of thirty heads of the prompt rows. -/
def ropeP30 (cs sn : FVec Ideal S4096x64 .f32) (x : FVec Ideal S2x4096x30x128 .f32) : FVec Ideal S2x4096x30x128 .f32 :=
  concatenate S2x4096x30x128 3 [⟨S2x4096x30x64, (subf (mulf (extractStridedSlice S2x4096x30x64 ![0, 0, 0, 0] x slices_S2x4096x30x128_S2x4096x30x64_0_0_0_0) (broadcastInDim S2x4096x30x64 ![0, 1, 2, 3] bcast_S1x4096x1x64_S2x4096x30x64_0_1_2_3 (broadcastInDim S1x4096x1x64 ![1, 2, 3] bcast_S4096x1x64_S1x4096x1x64_1_2_3 (broadcastInDim S4096x1x64 ![0, 2] bcast_S4096x64_S4096x1x64_0_2 cs)))) (mulf (extractStridedSlice S2x4096x30x64 ![0, 0, 0, 64] x slices_S2x4096x30x128_S2x4096x30x64_0_0_0_64) (broadcastInDim S2x4096x30x64 ![0, 1, 2, 3] bcast_S1x4096x1x64_S2x4096x30x64_0_1_2_3 (broadcastInDim S1x4096x1x64 ![1, 2, 3] bcast_S4096x1x64_S1x4096x1x64_1_2_3 (broadcastInDim S4096x1x64 ![0, 2] bcast_S4096x64_S4096x1x64_0_2 sn)))))⟩,
    ⟨S2x4096x30x64, (addf (mulf (extractStridedSlice S2x4096x30x64 ![0, 0, 0, 64] x slices_S2x4096x30x128_S2x4096x30x64_0_0_0_64) (broadcastInDim S2x4096x30x64 ![0, 1, 2, 3] bcast_S1x4096x1x64_S2x4096x30x64_0_1_2_3 (broadcastInDim S1x4096x1x64 ![1, 2, 3] bcast_S4096x1x64_S1x4096x1x64_1_2_3 (broadcastInDim S4096x1x64 ![0, 2] bcast_S4096x64_S4096x1x64_0_2 cs)))) (mulf (extractStridedSlice S2x4096x30x64 ![0, 0, 0, 0] x slices_S2x4096x30x128_S2x4096x30x64_0_0_0_0) (broadcastInDim S2x4096x30x64 ![0, 1, 2, 3] bcast_S1x4096x1x64_S2x4096x30x64_0_1_2_3 (broadcastInDim S1x4096x1x64 ![1, 2, 3] bcast_S4096x1x64_S1x4096x1x64_1_2_3 (broadcastInDim S4096x1x64 ![0, 2] bcast_S4096x64_S4096x1x64_0_2 sn)))))⟩] concatenates_S2x4096x30x64_S2x4096x30x64_S2x4096x30x128_d3
theorem ropeP30_at (cs sn : FVec Ideal S4096x64 .f32) (x : FVec Ideal S2x4096x30x128 .f32) (r : S2x4096x30x128.Idx) :
    ropeP30 cs sn x r = rope (fun d => x (ix4 (r 0) (r 1) (r 2) d)) (fun d => cs (ix2 (r 1) d)) (fun d => sn (ix2 (r 1) d)) (r 3) := by
  pointwise [ropeP30, rope]

/-- The position of a prompt row in its sequence. -/
def rowP (a : Fin 8192) : Fin 4096 := ⟨a.val % 4096, Nat.mod_lt _ (by decide)⟩
/-- The sequence of a prompt row. -/
def batP (a : Fin 8192) : Fin 2 := ⟨a.val / 4096, by omega⟩

/-- The heads of the prompt rows side by side, those of queries and keys rotated. -/
def layP (cs sn : FVec Ideal S4096x64 .f32) (H : FVec Ideal S2x4096x4608 .f32) : FVec Ideal S8192x4608 .f32 :=
  shapeCast _ (concatenate S2x4096x3x12x128 3 [⟨S2x4096x3x10x128, (shapeCast _ (ropeP30 cs sn (shapeCast _ (extractStridedSlice S2x4096x3x10x128 ![0, 0, 0, 0, 0] (shapeCast _ H shapeCasts_S2x4096x4608_S2x4096x3x12x128) slices_S2x4096x3x12x128_S2x4096x3x10x128_0_0_0_0_0) shapeCasts_S2x4096x3x10x128_S2x4096x30x128)) shapeCasts_S2x4096x30x128_S2x4096x3x10x128)⟩,
    ⟨S2x4096x3x2x128, (extractStridedSlice S2x4096x3x2x128 ![0, 0, 0, 10, 0] (shapeCast _ H shapeCasts_S2x4096x4608_S2x4096x3x12x128) slices_S2x4096x3x12x128_S2x4096x3x2x128_0_0_0_10_0)⟩]
    concatenates_S2x4096x3x10x128_S2x4096x3x2x128_S2x4096x3x12x128_d3) shapeCasts_S2x4096x3x12x128_S8192x4608
theorem layP_at (cs sn : FVec Ideal S4096x64 .f32) (H : FVec Ideal S2x4096x4608 .f32) (r : S8192x4608.Idx) : layP cs sn H r = col (fun l => H (ix3 (batP (r 0)) (rowP (r 0)) l)) (fun d => cs (ix2 (rowP (r 0)) d)) (fun d => sn (ix2 (rowP (r 0)) d)) (r 1) := by
  pointwise [layP, ropeP30_at, col, batP, rowP]

/-- The rotation of thirty heads of the sample rows. -/
def ropeS30 (cs sn : FVec Ideal S8x64 .f32) (x : FVec Ideal S128x8x30x128 .f32) : FVec Ideal S128x8x30x128 .f32 :=
  concatenate S128x8x30x128 3 [⟨S128x8x30x64, (subf (mulf (extractStridedSlice S128x8x30x64 ![0, 0, 0, 0] x slices_S128x8x30x128_S128x8x30x64_0_0_0_0) (broadcastInDim S128x8x30x64 ![0, 1, 2, 3] bcast_S1x8x1x64_S128x8x30x64_0_1_2_3 (broadcastInDim S1x8x1x64 ![1, 2, 3] bcast_S8x1x64_S1x8x1x64_1_2_3 (broadcastInDim S8x1x64 ![0, 2] bcast_S8x64_S8x1x64_0_2 cs)))) (mulf (extractStridedSlice S128x8x30x64 ![0, 0, 0, 64] x slices_S128x8x30x128_S128x8x30x64_0_0_0_64) (broadcastInDim S128x8x30x64 ![0, 1, 2, 3] bcast_S1x8x1x64_S128x8x30x64_0_1_2_3 (broadcastInDim S1x8x1x64 ![1, 2, 3] bcast_S8x1x64_S1x8x1x64_1_2_3 (broadcastInDim S8x1x64 ![0, 2] bcast_S8x64_S8x1x64_0_2 sn)))))⟩,
    ⟨S128x8x30x64, (addf (mulf (extractStridedSlice S128x8x30x64 ![0, 0, 0, 64] x slices_S128x8x30x128_S128x8x30x64_0_0_0_64) (broadcastInDim S128x8x30x64 ![0, 1, 2, 3] bcast_S1x8x1x64_S128x8x30x64_0_1_2_3 (broadcastInDim S1x8x1x64 ![1, 2, 3] bcast_S8x1x64_S1x8x1x64_1_2_3 (broadcastInDim S8x1x64 ![0, 2] bcast_S8x64_S8x1x64_0_2 cs)))) (mulf (extractStridedSlice S128x8x30x64 ![0, 0, 0, 0] x slices_S128x8x30x128_S128x8x30x64_0_0_0_0) (broadcastInDim S128x8x30x64 ![0, 1, 2, 3] bcast_S1x8x1x64_S128x8x30x64_0_1_2_3 (broadcastInDim S1x8x1x64 ![1, 2, 3] bcast_S8x1x64_S1x8x1x64_1_2_3 (broadcastInDim S8x1x64 ![0, 2] bcast_S8x64_S8x1x64_0_2 sn)))))⟩] concatenates_S128x8x30x64_S128x8x30x64_S128x8x30x128_d3
theorem ropeS30_at (cs sn : FVec Ideal S8x64 .f32) (x : FVec Ideal S128x8x30x128 .f32) (r : S128x8x30x128.Idx) :
    ropeS30 cs sn x r = rope (fun d => x (ix4 (r 0) (r 1) (r 2) d)) (fun d => cs (ix2 (r 1) d)) (fun d => sn (ix2 (r 1) d)) (r 3) := by
  pointwise [ropeS30, rope]

/-- The position of a sample row in its sequence. -/
def rowS (a : Fin 1024) : Fin 8 := ⟨a.val % 8, Nat.mod_lt _ (by decide)⟩
/-- The sequence of a sample row. -/
def batS (a : Fin 1024) : Fin 128 := ⟨a.val / 8, by omega⟩

/-- The heads of the sample rows side by side, those of queries and keys rotated. -/
def layS (cs sn : FVec Ideal S8x64 .f32) (H : FVec Ideal S128x8x4608 .f32) : FVec Ideal S1024x4608 .f32 :=
  shapeCast _ (concatenate S128x8x3x12x128 3 [⟨S128x8x3x10x128, (shapeCast _ (ropeS30 cs sn (shapeCast _ (extractStridedSlice S128x8x3x10x128 ![0, 0, 0, 0, 0] (shapeCast _ H shapeCasts_S128x8x4608_S128x8x3x12x128) slices_S128x8x3x12x128_S128x8x3x10x128_0_0_0_0_0) shapeCasts_S128x8x3x10x128_S128x8x30x128)) shapeCasts_S128x8x30x128_S128x8x3x10x128)⟩,
    ⟨S128x8x3x2x128, (extractStridedSlice S128x8x3x2x128 ![0, 0, 0, 10, 0] (shapeCast _ H shapeCasts_S128x8x4608_S128x8x3x12x128) slices_S128x8x3x12x128_S128x8x3x2x128_0_0_0_10_0)⟩]
    concatenates_S128x8x3x10x128_S128x8x3x2x128_S128x8x3x12x128_d3) shapeCasts_S128x8x3x12x128_S1024x4608
theorem layS_at (cs sn : FVec Ideal S8x64 .f32) (H : FVec Ideal S128x8x4608 .f32) (r : S1024x4608.Idx) : layS cs sn H r = col (fun l => H (ix3 (batS (r 0)) (rowS (r 0)) l)) (fun d => cs (ix2 (rowS (r 0)) d)) (fun d => sn (ix2 (rowS (r 0)) d)) (r 1) := by
  pointwise [layS, ropeS30_at, col, batS, rowS]
end Cert.ProjCRef
end
-- ==== Proof.ProjCSpec.lean ====
module
public import proofs.«01_k».proof.Proof.ProjCRef
@[expose] public section
set_option maxRecDepth 16384
noncomputable section
open Idealize.ShloMosaic Idealize.ShloMosaic.TcCoe Idealize.SL.Sem
namespace Cert.ProjCRef
open Cert.Reference6Ideal Cert.Reference6Ideal.Gen Cert.Reference6Ideal.Value

/-- One row of activations, normalised. -/
def xnorm (x g : Fin 2048 → EReal) (k : Fin 2048) : EReal :=
  x k * Ideal.rsqrt (Ideal.div (∑ l, x l * x l) (Ideal.ofBits FTy.f32 1157627904#32) + Ideal.ofBits FTy.f32 897988541#32) * g k
/-- One row of activations, normalised and projected. -/
def lanes (x g : Fin 2048 → EReal) (w : Fin 2048 → Fin 4608 → EReal) (l : Fin 4608) : EReal :=
  ∑ k, xnorm x g k * w k l
/-- One row of the result: the projected row, its heads rotated by the angles of position `p`. -/
def rowRes (x g : Fin 2048 → EReal) (w : Fin 2048 → Fin 4608 → EReal) (p : EReal) (j : Fin 4608) : EReal :=
  col (lanes x g w) (fun d => Ideal.cos (p * freqs (ix1 d))) (fun d => Ideal.sin (p * freqs (ix1 d))) j

/-- The projected prompt rows. -/
def hP (x : FVec Ideal S2x4096x2048 .f32) (g : FVec Ideal S4x2048 .f32) (w : FVec Ideal S2048x4608 .f32) : FVec Ideal S2x4096x4608 .f32 :=
  Host.dotGeneral dot_S2x4096x2048_S2048x4608_S2x4096x4608_2_0_01_1_n_n none (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ (extractStridedSlice S1x2048 ![2, 0] g slices_S4x2048_S1x2048_2_0) shapeCasts_S1x2048_S2048)))) w
/-- The projected sample rows. -/
def hS (x : FVec Ideal S128x8x2048 .f32) (g : FVec Ideal S4x2048 .f32) (w : FVec Ideal S2048x4608 .f32) : FVec Ideal S128x8x4608 .f32 :=
  Host.dotGeneral dot_S128x8x2048_S2048x4608_S128x8x4608_2_0_01_1_n_n none (mulf (mulf x (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf x x) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 (shapeCast _ (extractStridedSlice S1x2048 ![2, 0] g slices_S4x2048_S1x2048_2_0) shapeCasts_S1x2048_S2048)))) w
theorem hP_at (x : FVec Ideal S2x4096x2048 .f32) (g : FVec Ideal S4x2048 .f32) (w : FVec Ideal S2048x4608 .f32) (r : S2x4096x4608.Idx) :
    hP x g w r = lanes (fun k => x (ix3 (r 0) (r 1) k)) (fun k => g (ix2 2 k)) (fun k l => w (ix2 k l)) (r 2) := by
  pointwise [hP, lanes, xnorm]
theorem hS_at (x : FVec Ideal S128x8x2048 .f32) (g : FVec Ideal S4x2048 .f32) (w : FVec Ideal S2048x4608 .f32) (r : S128x8x4608.Idx) :
    hS x g w r = lanes (fun k => x (ix3 (r 0) (r 1) k)) (fun k => g (ix2 2 k)) (fun k l => w (ix2 k l)) (r 2) := by
  pointwise [hS, lanes, xnorm]

theorem cosP_at (r : S4096x64.Idx) : Host.cos angP r = Ideal.cos (FloatOps.sitofp (F := Ideal) FTy.f32 (BitVec.ofNat 32 (r 0).val) * freqs (ix1 (r 1))) :=
  congrArg Ideal.cos (angP_at r)
theorem sinP_at (r : S4096x64.Idx) : Host.sin angP r = Ideal.sin (FloatOps.sitofp (F := Ideal) FTy.f32 (BitVec.ofNat 32 (r 0).val) * freqs (ix1 (r 1))) :=
  congrArg Ideal.sin (angP_at r)
theorem cosS_at (r : S8x64.Idx) : Host.cos angS r = Ideal.cos (FloatOps.sitofp (F := Ideal) FTy.f32 (IntOp.addi 8192#32 (BitVec.ofNat 32 (r 0).val)) * freqs (ix1 (r 1))) :=
  congrArg Ideal.cos (angS_at r)
theorem sinS_at (r : S8x64.Idx) : Host.sin angS r = Ideal.sin (FloatOps.sitofp (F := Ideal) FTy.f32 (IntOp.addi 8192#32 (BitVec.ofNat 32 (r 0).val)) * freqs (ix1 (r 1))) :=
  congrArg Ideal.sin (angS_at r)

/-- The prompt rows of the reference's result. -/
def outP (x : FVec Ideal S2x4096x2048 .f32) (g : FVec Ideal S4x2048 .f32) (w : FVec Ideal S2048x4608 .f32) : FVec Ideal S8192x4608 .f32 :=
  layP (Host.cos angP) (Host.sin angP) (hP x g w)
/-- The sample rows of the reference's result. -/
def outS (x : FVec Ideal S128x8x2048 .f32) (g : FVec Ideal S4x2048 .f32) (w : FVec Ideal S2048x4608 .f32) : FVec Ideal S1024x4608 .f32 :=
  layS (Host.cos angS) (Host.sin angS) (hS x g w)
theorem outP_at (x : FVec Ideal S2x4096x2048 .f32) (g : FVec Ideal S4x2048 .f32) (w : FVec Ideal S2048x4608 .f32) (r : S8192x4608.Idx) :
    outP x g w r = rowRes (fun k => x (ix3 (batP (r 0)) (rowP (r 0)) k)) (fun k => g (ix2 2 k)) (fun k l => w (ix2 k l))
      (FloatOps.sitofp (F := Ideal) FTy.f32 (BitVec.ofNat 32 (rowP (r 0)).val)) (r 1) := by
  refine (layP_at _ _ _ r).trans ?_
  unfold rowRes
  have e : (fun l => hP x g w (ix3 (batP (r 0)) (rowP (r 0)) l)) = lanes (fun k => x (ix3 (batP (r 0)) (rowP (r 0)) k)) (fun k => g (ix2 2 k)) (fun k l => w (ix2 k l)) :=
    funext fun l => hP_at x g w _
  exact congrArg (fun y => col y _ _ (r 1)) e
theorem outS_at (x : FVec Ideal S128x8x2048 .f32) (g : FVec Ideal S4x2048 .f32) (w : FVec Ideal S2048x4608 .f32) (r : S1024x4608.Idx) :
    outS x g w r = rowRes (fun k => x (ix3 (batS (r 0)) (rowS (r 0)) k)) (fun k => g (ix2 2 k)) (fun k l => w (ix2 k l))
      (FloatOps.sitofp (F := Ideal) FTy.f32 (IntOp.addi 8192#32 (BitVec.ofNat 32 (rowS (r 0)).val))) (r 1) := by
  refine (layS_at _ _ _ r).trans ?_
  unfold rowRes
  have e : (fun l => hS x g w (ix3 (batS (r 0)) (rowS (r 0)) l)) = lanes (fun k => x (ix3 (batS (r 0)) (rowS (r 0)) k)) (fun k => g (ix2 2 k)) (fun k l => w (ix2 k l)) :=
    funext fun l => hS_at x g w _
  exact congrArg (fun y => col y _ _ (r 1)) e

/-- The reference's result. -/
def refArr (x0 : FVec Ideal S2x4096x2048 .f32) (x1 : FVec Ideal S128x8x2048 .f32) (g : FVec Ideal S4x2048 .f32) (w : FVec Ideal S2048x4608 .f32) :
    FVec Ideal S9216x4608 .f32 :=
  concatenate S9216x4608 0 [⟨S8192x4608, outP x0 g w⟩, ⟨S1024x4608, outS x1 g w⟩] concatenates_S8192x4608_S1024x4608_S9216x4608_d0
theorem refArr_at (x0 : FVec Ideal S2x4096x2048 .f32) (x1 : FVec Ideal S128x8x2048 .f32) (g : FVec Ideal S4x2048 .f32) (w : FVec Ideal S2048x4608 .f32)
    (r : S9216x4608.Idx) :
    refArr x0 x1 g w r = if h : (show Fin 9216 from r 0).val < 8192 then outP x0 g w (ix2 ⟨(r 0).val, h⟩ (r 1))
      else outS x1 g w (ix2 ⟨(r 0).val - 8192, by have := (show Fin 9216 from r 0).isLt; exact (by omega : (show Fin 9216 from r 0).val - 8192 < 1024)⟩ (r 1)) := by
  unfold refArr
  generalize outP x0 g w = a
  generalize outS x1 g w = b
  pointwise

/-- The composed term of the reference's run is its result. -/
theorem res_eq (m : (ℓ : Loc nD τ sig) → Buf (Elt Ideal) ℓ) (c : Dev nD) :
    res_main_v124 m c = refArr (m ((c : Thread nD τ).loc main_arg0)) (m ((c : Thread nD τ).loc main_arg1)) (m ((c : Thread nD τ).loc main_arg2)) (m ((c : Thread nD τ).loc main_arg3)) := by
  rfl
/-- The second result is the first in the narrow format. -/
theorem res_eq' (m : (ℓ : Loc nD τ sig) → Buf (Elt Ideal) ℓ) (c : Dev nD) :
    res_main_v125 m c = truncf .bf16 (refArr (m ((c : Thread nD τ).loc main_arg0)) (m ((c : Thread nD τ).loc main_arg1)) (m ((c : Thread nD τ).loc main_arg2)) (m ((c : Thread nD τ).loc main_arg3))) bitsLt_bf16_f32 := by
  rfl
end Cert.ProjCRef
end
-- ==== Proof.ProjCEntry.lean ====
module
public import proofs.«01_k».proof.Proof.Gen.Kernel6.Frame
public import proofs.«01_k».proof.Proof.Gen.Kernel6Ideal.Frame
public import proofs.«01_k».proof.Proof.ProjCSpec
public import Idealize.ShloMosaic.Lib.Pipeline.ValueKit
public import Idealize.ShloMosaic.Lib.Pipeline.Covers
public import Idealize.ShloMosaic.Lib.Pointwise
@[expose] public section
set_option maxRecDepth 65536
noncomputable section
open Idealize.ShloMosaic Idealize.ShloMosaic.TcCoe Idealize.SL.Sem
namespace Cert.ProjC
/-- The call's table is read at literal places only, so nothing is asked of it. -/
theorem ok (m : (ℓ : Loc Cert.Kernel6.nD Cert.Kernel6.τ Cert.Kernel6.sig) → Buf (Elt Bits) ℓ) : Cert.Kernel6.Gen.Ok m := trivial

open Cert.Kernel6Ideal Cert.Kernel6Ideal.Gen
open Cert.ProjCRef (rowRes lanes xnorm freqs col rope)
variable (m : (ℓ : Loc nD τ sig) → Buf (Elt Ideal) ℓ)

theorem okIdeal : Ok m := trivial

/-- Which block of its array each operand stages at grid point `t`: row tile `t / 6`, lane tile `t % 6`. -/
theorem idx : ∀ t : Fin (cfgM m (okIdeal m)).N, ((cfgM m (okIdeal m)).win 0).index t = ![t.val / 6, 0] ∧ ((cfgM m (okIdeal m)).win 1).index t = ![0, 0]
    ∧ ((cfgM m (okIdeal m)).win 2).index t = ![0, t.val % 6] ∧ ((cfgM m (okIdeal m)).win 3).index t = ![t.val / 6, 0]
    ∧ ((cfgM m (okIdeal m)).win 4).index t = ![t.val / 6, 0] ∧ ((cfgM m (okIdeal m)).win 5).index t = ![t.val / 6, t.val % 6]
    ∧ ((cfgM m (okIdeal m)).win 6).index t = ![t.val / 6, t.val % 6] :=
  (by decide +kernel : ∀ t : Fin grid0.N, cc0_transform_0 (grid0.coords t) = ![t.val / 6, 0] ∧ cc0_transform_1 (grid0.coords t) = ![0, 0]
    ∧ cc0_transform_2 (grid0.coords t) = ![0, t.val % 6] ∧ cc0_transform_3 (grid0.coords t) = ![t.val / 6, 0]
    ∧ cc0_transform_4 (grid0.coords t) = ![t.val / 6, 0] ∧ cc0_transform_5 (grid0.coords t) = ![t.val / 6, t.val % 6]
    ∧ cc0_transform_6 (grid0.coords t) = ![t.val / 6, t.val % 6])
theorem covers5 : ((cfgM m (okIdeal m)).win 5).Covers :=
  Pipeline.Window.covers_of_index_surj _ rfl (by decide : ∀ a : Fin 2, 0 < S1024x768.size a)
    (by decide +kernel : ∀ β : (a : Fin 2) → Fin ((S9216x4608.size a + S1024x768.size a - 1) / S1024x768.size a), ∃ t : Fin grid0.N, ∀ a, cc0_transform_5 (grid0.coords t) a = β a)
theorem covers6 : ((cfgM m (okIdeal m)).win 6).Covers :=
  Pipeline.Window.covers_of_index_surj _ rfl (by decide : ∀ a : Fin 2, 0 < S1024x768.size a)
    (by decide +kernel : ∀ β : (a : Fin 2) → Fin ((S9216x4608.size a + S1024x768.size a - 1) / S1024x768.size a), ∃ t : Fin grid0.N, ∀ a, cc0_transform_6 (grid0.coords t) a = β a)
theorem off_at : ∀ t : Fin grid0.N, ∀ u : Fin 6, k0_off1 (grid0.coords t) (BitVec.ofNat 32 u.val) 0 = t.val % 6 * 6 + u.val := by
  decide +kernel

/-- The table of the groups of lanes that are rotated. -/
theorem tbl_at (i : S36.Idx) : (tbl m 0 : IVec S36 32) i = lit0 (S36.rowMajor i) := by
  rfl
theorem lit_at : ∀ i : Fin 36, Scalar.cmpi .sgt (lit0 i) 0#32 = if i.val % 12 < 10 then 1#1 else 0#1 := by
  decide +kernel

/-- The activations of one row of the stacked array. -/
def rowX (c : Dev nD) (R : Fin 9216) (k : Fin 2048) : EReal :=
  if h : R.val < 8192 then (m ((c : Thread nD τ).loc main_arg0) : FVec Ideal S2x4096x2048 .f32) (ix3 ⟨R.val / 4096, by omega⟩ ⟨R.val % 4096, by omega⟩ k)
  else (m ((c : Thread nD τ).loc main_arg1) : FVec Ideal S128x8x2048 .f32) (ix3 ⟨(R.val - 8192) / 8, by omega⟩ ⟨(R.val - 8192) % 8, by omega⟩ k)
/-- The position of a row in its sequence. -/
def pos (R : Fin 9216) : EReal :=
  FloatOps.sitofp (F := Ideal) FTy.f32 (if h : R.val < 8192 then BitVec.ofNat 32 (R.val % 4096)
    else IntOp.addi 8192#32 (BitVec.ofNat 32 ((R.val - 8192) % 8)))
/-- The row of gains. -/
def gain (c : Dev nD) (k : Fin 2048) : EReal := (m ((c : Thread nD τ).loc main_arg2) : FVec Ideal S4x2048 .f32) (ix2 2 k)
/-- The weights. -/
def wts (c : Dev nD) (k : Fin 2048) (l : Fin 4608) : EReal := (m ((c : Thread nD τ).loc main_arg3) : FVec Ideal S2048x4608 .f32) (ix2 k l)
/-- One row's table of cosines, twice side by side. -/
def cs2 (p : EReal) (d : Fin 128) : EReal :=
  if h : d.val < 64 then Ideal.cos (p * freqs (ix1 ⟨d.val, h⟩)) else Ideal.cos (p * freqs (ix1 ⟨d.val - 64, by omega⟩))
/-- One row's table of sines, its first half negated. -/
def sn2 (p : EReal) (d : Fin 128) : EReal :=
  if h : d.val < 64 then - Ideal.sin (p * freqs (ix1 ⟨d.val, h⟩)) else Ideal.sin (p * freqs (ix1 ⟨d.val - 64, by omega⟩))

theorem entry2 (c : Dev nD) (r : S9216x2048.Idx) :
    (V m c main_v2 : FVec Ideal S9216x2048 .f32) r = rowX m c (r 0) (r 1) := by
  entry_read
  pointwise [rowX]
theorem entry43 (c : Dev nD) (r : S1x2048.Idx) :
    (V m c main_v43 : FVec Ideal S1x2048 .f32) r = gain m c (r 1) := by
  entry_read
  pointwise [gain]
theorem entry37 (c : Dev nD) (r : S9216x128.Idx) :
    (V m c main_v37 : FVec Ideal S9216x128 .f32) r = cs2 (pos (r 0)) (r 1) := by
  entry_read
  pointwise [cs2, pos, freqs]
theorem entry40 (c : Dev nD) (r : S9216x128.Idx) :
    (V m c main_v40 : FVec Ideal S9216x128 .f32) r = sn2 (pos (r 0)) (r 1) := by
  entry_read
  pointwise [sn2, pos, freqs]
theorem entry44 (c : Dev nD) (r : S2048x4608.Idx) :
    (V m c main_v44 : FVec Ideal S2048x4608 .bf16) r = wts m c (r 0) (r 1) := by
  entry_read
  pointwise [wts]

/-- What the kernel keeps in lane `J` of a row with lanes `f`. -/
def mix (f : Fin 4608 → EReal) (p : EReal) (J : Fin 4608) : EReal :=
  if J.val / 128 % 12 < 10 then
    f J * cs2 p ⟨J.val % 128, by omega⟩ + f ⟨J.val / 128 * 128 + (J.val % 128 + 64) % 128, by omega⟩ * sn2 p ⟨J.val % 128, by omega⟩
  else f J
/-- Rotating one head by the tables, with the first half of the sines negated, is the reference's rotation. -/
theorem rot (g : Fin 128 → EReal) (p : EReal) (e : Fin 128) :
    g e * cs2 p e + g ⟨(e.val + 64) % 128, by omega⟩ * sn2 p e
      = rope g (fun d => Ideal.cos (p * freqs (ix1 d))) (fun d => Ideal.sin (p * freqs (ix1 d))) e := by
  unfold cs2 sn2 rope
  by_cases h : e.val < 64
  · have e1 : (⟨(e.val + 64) % 128, by omega⟩ : Fin 128) = ⟨64 + e.val, by omega⟩ := Fin.ext (by simp only; omega)
    rw [dif_pos h, dif_pos h, dif_pos h, e1, sub_eq_add_neg, mul_neg]
  · have e1 : (⟨(e.val + 64) % 128, by omega⟩ : Fin 128) = ⟨e.val - 64, by omega⟩ := Fin.ext (by simp only; omega)
    have e2 : (⟨64 + (e.val - 64), by omega⟩ : Fin 128) = e := Fin.ext (by simp only; omega)
    rw [dif_neg h, dif_neg h, dif_neg h, e1, e2]
/-- Rotating by the tables gives the reference's row. -/
theorem mix_col (y : Fin 4608 → EReal) (p : EReal) (J : Fin 4608) :
    mix y p J = col y (fun d => Ideal.cos (p * freqs (ix1 d))) (fun d => Ideal.sin (p * freqs (ix1 d))) J := by
  have hJ := J.isLt
  unfold mix col
  by_cases h : J.val / 128 % 12 < 10
  · rw [if_pos h, dif_pos h, ← rot]
    have e0 : J = ⟨(J.val / 1536 * 10 + J.val / 128 % 12) / 10 * 1536 + (J.val / 1536 * 10 + J.val / 128 % 12) % 10 * 128 + J.val % 128, by omega⟩ :=
      Fin.ext (by simp only; omega)
    have e1 : (⟨J.val / 128 * 128 + (J.val % 128 + 64) % 128, by omega⟩ : Fin 4608)
        = ⟨(J.val / 1536 * 10 + J.val / 128 % 12) / 10 * 1536 + (J.val / 1536 * 10 + J.val / 128 % 12) % 10 * 128 + (J.val % 128 + 64) % 128, by omega⟩ :=
      Fin.ext (by simp only; omega)
    exact congrArg₂ (fun a b => a * cs2 p ⟨J.val % 128, by omega⟩ + b * sn2 p ⟨J.val % 128, by omega⟩) (congrArg y e0) (congrArg y e1)
  · rw [if_neg h, dif_neg h]
    exact congrArg y (Fin.ext (by simp only; omega))

/-- One group of 128 lanes of a block, rotated or not. -/
def sel (fl : BitVec 32) (a : FVec Ideal S1024x768 .f32) (cs sn : FVec Ideal S1024x128 .f32) (o : Nat) (ho : o + 128 ≤ 768) (x : S1024x128.Idx) : EReal :=
  Scalar.select (Scalar.cmpi .sgt fl 0#32)
    (a (ix2 (x 0) ⟨o + (show Fin 128 from x 1).val, by have := (show Fin 128 from x 1).isLt; omega⟩) * cs x
      + a (ix2 (x 0) ⟨o + ((show Fin 128 from x 1).val + 128 - 64) % 128, by omega⟩) * sn x)
    (a (ix2 (x 0) ⟨o + (show Fin 128 from x 1).val, by have := (show Fin 128 from x 1).isLt; omega⟩))
theorem pay5_at (xn : FVec Ideal S1024x2048 .bf16) (w : FVec Ideal S2048x768 .bf16) (cs sn : FVec Ideal S1024x128 .f32) (fl : BitVec 32) (x : S1024x128.Idx) :
    k0_pay5 (F := Ideal) xn w cs sn fl x = sel fl (k0_pay4 xn w) cs sn 0 (by decide) x := by
  pointwise [sel, k0_pay5]
theorem pay6_at (xn : FVec Ideal S1024x2048 .bf16) (w : FVec Ideal S2048x768 .bf16) (cs sn : FVec Ideal S1024x128 .f32) (fl : BitVec 32) (x : S1024x128.Idx) :
    k0_pay6 (F := Ideal) xn w cs sn fl x = sel fl (k0_pay4 xn w) cs sn 0 (by decide) x := by
  pointwise [sel, k0_pay6, k0_pay5]
theorem pay11_at (xn : FVec Ideal S1024x2048 .bf16) (w : FVec Ideal S2048x768 .bf16) (cs sn : FVec Ideal S1024x128 .f32) (fl : BitVec 32) (x : S1024x128.Idx) :
    k0_pay11 (F := Ideal) (k0_pay7 xn w) (k0_pay8 cs) (k0_pay9 sn) (k0_pay10 xn w) fl x = sel fl (k0_pay4 xn w) cs sn 128 (by decide) x := by
  pointwise [sel, k0_pay11, k0_pay7, k0_pay8, k0_pay9, k0_pay10]
theorem pay12_at (xn : FVec Ideal S1024x2048 .bf16) (w : FVec Ideal S2048x768 .bf16) (cs sn : FVec Ideal S1024x128 .f32) (fl : BitVec 32) (x : S1024x128.Idx) :
    k0_pay12 (F := Ideal) (k0_pay7 xn w) (k0_pay8 cs) (k0_pay9 sn) (k0_pay10 xn w) fl x = sel fl (k0_pay4 xn w) cs sn 128 (by decide) x := by
  pointwise [sel, k0_pay12, k0_pay11, k0_pay7, k0_pay8, k0_pay9, k0_pay10]
theorem pay13_at (xn : FVec Ideal S1024x2048 .bf16) (w : FVec Ideal S2048x768 .bf16) (cs sn : FVec Ideal S1024x128 .f32) (fl : BitVec 32) (x : S1024x128.Idx) :
    k0_pay13 (F := Ideal) (k0_pay4 xn w) cs sn fl x = sel fl (k0_pay4 xn w) cs sn 256 (by decide) x := by
  pointwise [sel, k0_pay13]
theorem pay14_at (xn : FVec Ideal S1024x2048 .bf16) (w : FVec Ideal S2048x768 .bf16) (cs sn : FVec Ideal S1024x128 .f32) (fl : BitVec 32) (x : S1024x128.Idx) :
    k0_pay14 (F := Ideal) (k0_pay4 xn w) cs sn fl x = sel fl (k0_pay4 xn w) cs sn 256 (by decide) x := by
  pointwise [sel, k0_pay14, k0_pay13]
theorem pay17_at (xn : FVec Ideal S1024x2048 .bf16) (w : FVec Ideal S2048x768 .bf16) (cs sn : FVec Ideal S1024x128 .f32) (fl : BitVec 32) (x : S1024x128.Idx) :
    k0_pay17 (F := Ideal) (k0_pay15 (k0_pay4 xn w)) (k0_pay16 cs) sn fl x = sel fl (k0_pay4 xn w) cs sn 384 (by decide) x := by
  pointwise [sel, k0_pay17, k0_pay15, k0_pay16]
theorem pay18_at (xn : FVec Ideal S1024x2048 .bf16) (w : FVec Ideal S2048x768 .bf16) (cs sn : FVec Ideal S1024x128 .f32) (fl : BitVec 32) (x : S1024x128.Idx) :
    k0_pay18 (F := Ideal) (k0_pay15 (k0_pay4 xn w)) (k0_pay16 cs) sn fl x = sel fl (k0_pay4 xn w) cs sn 384 (by decide) x := by
  pointwise [sel, k0_pay18, k0_pay17, k0_pay15, k0_pay16]
theorem pay19_at (xn : FVec Ideal S1024x2048 .bf16) (w : FVec Ideal S2048x768 .bf16) (cs sn : FVec Ideal S1024x128 .f32) (fl : BitVec 32) (x : S1024x128.Idx) :
    k0_pay19 (F := Ideal) (k0_pay4 xn w) cs sn fl x = sel fl (k0_pay4 xn w) cs sn 512 (by decide) x := by
  pointwise [sel, k0_pay19]
theorem pay20_at (xn : FVec Ideal S1024x2048 .bf16) (w : FVec Ideal S2048x768 .bf16) (cs sn : FVec Ideal S1024x128 .f32) (fl : BitVec 32) (x : S1024x128.Idx) :
    k0_pay20 (F := Ideal) (k0_pay4 xn w) cs sn fl x = sel fl (k0_pay4 xn w) cs sn 512 (by decide) x := by
  pointwise [sel, k0_pay20, k0_pay19]
theorem pay1_at (xn : FVec Ideal S1024x2048 .bf16) (w : FVec Ideal S2048x768 .bf16) (cs sn : FVec Ideal S1024x128 .f32) (fl : BitVec 32) (x : S1024x128.Idx) :
    k0_pay1 (F := Ideal) (k0_pay21 (k0_pay4 xn w)) cs sn fl x = sel fl (k0_pay4 xn w) cs sn 640 (by decide) x := by
  pointwise [sel, k0_pay1, k0_pay21]
theorem pay2_at (xn : FVec Ideal S1024x2048 .bf16) (w : FVec Ideal S2048x768 .bf16) (cs sn : FVec Ideal S1024x128 .f32) (fl : BitVec 32) (x : S1024x128.Idx) :
    k0_pay2 (F := Ideal) (k0_pay21 (k0_pay4 xn w)) cs sn fl x = sel fl (k0_pay4 xn w) cs sn 640 (by decide) x := by
  pointwise [sel, k0_pay2, k0_pay1, k0_pay21]
theorem pay3_at (a : FVec Ideal S1024x2048 .f32) (g : FVec Ideal S1x2048 .f32) (x : S1024x2048.Idx) :
    k0_pay3 (F := Ideal) a g x = xnorm (fun k => a (ix2 (x 0) k)) (fun k => g (ix2 0 k)) (x 1) := by
  pointwise [k0_pay3, xnorm]
theorem pay4_at (xn : FVec Ideal S1024x2048 .bf16) (w : FVec Ideal S2048x768 .bf16) (x : S1024x768.Idx) :
    k0_pay4 (F := Ideal) xn w x = ∑ k, xn (ix2 (x 0) k) * w (ix2 k (x 1)) := by
  pointwise [k0_pay4]
end Cert.ProjC
end
-- ==== Proof.ProjCBlock.lean ====
module
public import proofs.«01_k».proof.Proof.ProjCEntry
@[expose] public section
set_option maxRecDepth 16384
noncomputable section
open Idealize.ShloMosaic Idealize.ShloMosaic.TcCoe Idealize.SL.Sem
namespace Cert.ProjC
open Cert.Kernel6Ideal Cert.Kernel6Ideal.Gen
open Cert.ProjCRef (rowRes lanes xnorm freqs col refArr refArr_at outP_at outS_at)
variable (m : (ℓ : Loc nD τ sig) → Buf (Elt Ideal) ℓ)

/-- The row block staged at point `t`. -/
def rows (c : Dev nD) (t : Fin (cfgM m (okIdeal m)).N) : Vec Ideal S1024x2048 .f32 := iblk m (okIdeal m) c 0 t
/-- The gain block of point `t`. -/
def gains (c : Dev nD) (t : Fin (cfgM m (okIdeal m)).N) : FVec Ideal S1x2048 .f32 := iblk m (okIdeal m) c 1 t
/-- The weight block of point `t`. -/
def wblk (c : Dev nD) (t : Fin (cfgM m (okIdeal m)).N) : FVec Ideal S2048x768 .bf16 := iblk m (okIdeal m) c 2 t
/-- The normalised row block of point `t`. -/
def xn (c : Dev nD) (t : Fin (cfgM m (okIdeal m)).N) : FVec Ideal S1024x2048 .bf16 := k0_pay3 (rows m c t) (gains m c t)

theorem lt54 (t : Fin (cfgM m (okIdeal m)).N) : t.val < 54 := t.isLt

theorem rows_prev (c : Dev nD) (t u : Fin (cfgM m (okIdeal m)).N) (h : t.val / 6 = u.val / 6) : rows m c t = rows m c u := by
  funext r
  blk_ext [rows, iblk, V, idx m t, idx m u, h]
theorem gains_prev (c : Dev nD) (t u : Fin (cfgM m (okIdeal m)).N) : gains m c t = gains m c u := by
  funext r
  blk_ext [gains, iblk, V, idx m t, idx m u]
theorem xn_prev (c : Dev nD) (t u : Fin (cfgM m (okIdeal m)).N) (h : t.val / 6 = u.val / 6) : xn m c t = xn m c u :=
  congrArg₂ k0_pay3 (rows_prev m c t u h) (gains_prev m c t u)

/-- The carried scratch after point `t` is the normalised row block of `t`'s row tile. -/
theorem scr (c : Dev nD) : ∀ (n : ℕ) (t : Fin (cfgM m (okIdeal m)).N), t.val = n → (outsAt0 m (okIdeal m) c t.val t.isLt).2.2 = xn m c t := by
  intro n
  induction n with
  | zero =>
    intro t ht
    rw [outsAt0_A m _ c t (by omega)]
    funext r
    frame_out
    exact congrFun (congrArg₂ k0_pay3 (Memref.IsWhole.read_unread _ _) (Memref.IsWhole.read_unread _ _)) r
  | succ n ih =>
    intro t ht
    by_cases h : t.val % 6 = 0
    · rw [outsAt0_A m _ c t h]
      funext r
      frame_out
      exact congrFun (congrArg₂ k0_pay3 (Memref.IsWhole.read_unread _ _) (Memref.IsWhole.read_unread _ _)) r
    · have hp : t.val - 1 < (cfgM m (okIdeal m)).N := Nat.lt_of_le_of_lt (Nat.sub_le _ _) t.isLt
      have e := ih ⟨t.val - 1, hp⟩ (by simp only; omega)
      rw [outsAt0_B m _ c t h]
      dsimp only [sout0_B_0]
      dsimp only at e
      exact e.trans (xn_prev m c _ _ (by simp only; omega))

/-- The row of the stacked array that row `a` of the block of point `t` is. -/
def row (t : Fin (cfgM m (okIdeal m)).N) (a : Fin 1024) : Fin 9216 := ⟨t.val / 6 * 1024 + a.val, by have := lt54 m t; omega⟩
/-- The lane of the result array that lane `b` of the block of point `t` is. -/
def lane (t : Fin (cfgM m (okIdeal m)).N) (b : Fin 768) : Fin 4608 := ⟨t.val % 6 * 768 + b.val, by have := lt54 m t; omega⟩

theorem xn_at (c : Dev nD) (t : Fin (cfgM m (okIdeal m)).N) (a : Fin 1024) (k : Fin 2048) :
    xn m c t (ix2 a k) = xnorm (rowX m c (row m t a)) (gain m c) k := by
  rw [xn, pay3_at]
  have e : ∀ k, rows m c t (ix2 a k) = rowX m c (row m t a) k := fun k => by
    refine Eq.trans ?_ (entry2 m c (ix2 (row m t a) k))
    blk_ext [rows, iblk, idx m t, row]
  have e' : ∀ k, gains m c t (ix2 0 k) = gain m c k := fun k => by
    refine Eq.trans ?_ (entry43 m c (ix2 0 k))
    blk_ext [gains, iblk, idx m t]
  exact congrArg₂ (fun x g => xnorm x g k) (funext e) (funext e')
theorem wts_at (c : Dev nD) (t : Fin (cfgM m (okIdeal m)).N) (k : Fin 2048) (b : Fin 768) :
    wblk m c t (ix2 k b) = wts m c k (lane m t b) := by
  refine Eq.trans ?_ (entry44 m c (ix2 k (lane m t b)))
  blk_ext [wblk, iblk, idx m t, lane]
theorem cos_at (c : Dev nD) (t : Fin (cfgM m (okIdeal m)).N) (x : S1024x128.Idx) :
    (iblk m (okIdeal m) c 3 t : Vec Ideal S1024x128 .f32) x = cs2 (pos (row m t (x 0))) (x 1) := by
  refine Eq.trans ?_ (entry37 m c (ix2 (row m t (x 0)) (x 1)))
  blk_ext [iblk, idx m t, row]
theorem sin_at (c : Dev nD) (t : Fin (cfgM m (okIdeal m)).N) (x : S1024x128.Idx) :
    (iblk m (okIdeal m) c 4 t : Vec Ideal S1024x128 .f32) x = sn2 (pos (row m t (x 0))) (x 1) := by
  refine Eq.trans ?_ (entry40 m c (ix2 (row m t (x 0)) (x 1)))
  blk_ext [iblk, idx m t, row]

/-- The product of point `t`'s row block and weights. -/
def acc (c : Dev nD) (t : Fin (cfgM m (okIdeal m)).N) : FVec Ideal S1024x768 .f32 := k0_pay4 (xn m c t) (wblk m c t)
/-- One row of the kernel's product, all lanes. -/
def line (c : Dev nD) (R : Fin 9216) (J : Fin 4608) : EReal := lanes (rowX m c R) (gain m c) (wts m c) J
theorem acc_at (c : Dev nD) (t : Fin (cfgM m (okIdeal m)).N) (a : Fin 1024) (b : Fin 768) :
    acc m c t (ix2 a b) = line m c (row m t a) (lane m t b) := by
  rw [acc, pay4_at]
  exact Finset.sum_congr rfl fun k _ => congrArg₂ (· * ·) (xn_at m c t a k) (wts_at m c t k b)

/-- A block of the result at one place. -/
def res (c : Dev nD) (t : Fin (cfgM m (okIdeal m)).N) (y : S1024x768.Idx) : EReal :=
  mix (line m c (row m t (y 0))) (pos (row m t (y 0))) (lane m t (y 1))

theorem select_one (b : BitVec 1) (P : Prop) [Decidable P] (h : b = if P then 1#1 else 0#1) (x y : EReal) :
    Scalar.select b x y = if P then x else y := by
  subst h
  by_cases hp : P
  · rw [if_pos hp, if_pos hp]; rfl
  · rw [if_neg hp, if_neg hp]; rfl

theorem ite_mix {P Q : Prop} [Decidable P] [Decidable Q] (h : P ↔ Q) {a a' b b' x x' z z' : EReal} (ea : a = a') (eb : b = b') (ex : x = x') (ez : z = z') :
    (if P then a * x + b * z else a) = if Q then a' * x' + b' * z' else a' := by
  subst ea eb ex ez
  exact if_congr h rfl rfl

theorem sel_at (c : Dev nD) (t : Fin (cfgM m (okIdeal m)).N) (u : Fin 6) (o : Nat) (ho : o + 128 ≤ 768) (e : o = 128 * u.val) (fl : BitVec 32)
    (hfl : fl = lit0 ⟨t.val % 6 * 6 + u.val, by omega⟩) (y : S1024x768.Idx) (x : S1024x128.Idx)
    (e0 : (y 0).val = (x 0).val) (e1 : (y 1).val = o + (x 1).val) :
    sel fl (acc m c t) (iblk m (okIdeal m) c 3 t) (iblk m (okIdeal m) c 4 t) o ho x = res m c t y := by
  have hx : (show Fin 128 from x 1).val < 128 := (show Fin 128 from x 1).isLt
  have ey0 : (show Fin 1024 from y 0) = (show Fin 1024 from x 0) := Fin.ext e0
  have ey1 : (show Fin 768 from y 1) = ⟨o + (show Fin 128 from x 1).val, by omega⟩ := Fin.ext e1
  have hl : (lane m t (y 1)).val = t.val % 6 * 768 + (o + (show Fin 128 from x 1).val) := congrArg (t.val % 6 * 768 + ·) e1
  have hd : (lane m t (y 1)).val / 128 = t.val % 6 * 6 + u.val := by rw [hl]; omega
  have hm : (lane m t (y 1)).val % 128 = (show Fin 128 from x 1).val := by rw [hl]; omega
  have l0 : lane m t ⟨o + (show Fin 128 from x 1).val, by omega⟩ = lane m t (y 1) := Fin.ext hl.symm
  have hx' : (x 1).val < 128 := hx
  have hl' : (lane m t (y 1)).val = t.val % 6 * 768 + (o + (x 1).val) := hl
  have hm' : (lane m t (y 1)).val % 128 = (x 1).val := hm
  have l1 : lane m t ⟨o + ((show Fin 128 from x 1).val + 128 - 64) % 128, by omega⟩
      = ⟨(lane m t (y 1)).val / 128 * 128 + ((lane m t (y 1)).val % 128 + 64) % 128, by have := (lane m t (y 1)).isLt; omega⟩ := by
    refine Fin.ext ?_
    show t.val % 6 * 768 + (o + ((x 1).val + 128 - 64) % 128) = (lane m t (y 1)).val / 128 * 128 + ((lane m t (y 1)).val % 128 + 64) % 128
    rw [hd, hm']
    omega
  have r0 : row m t (y 0) = row m t (x 0) := congrArg (row m t) ey0
  have d0 : (⟨(lane m t (y 1)).val % 128, by omega⟩ : Fin 128) = x 1 := Fin.ext hm
  have hs := lit_at ⟨t.val % 6 * 6 + u.val, by omega⟩
  rw [← hfl] at hs
  have ec := cos_at m c t x
  have es := sin_at m c t x
  have ea := acc_at m c t (show Fin 1024 from x 0) ⟨o + (show Fin 128 from x 1).val, by omega⟩
  have eb := acc_at m c t (show Fin 1024 from x 0) ⟨o + ((show Fin 128 from x 1).val + 128 - 64) % 128, by omega⟩
  have r0' : row m t (show Fin 1024 from x 0) = row m t (y 0) := r0.symm
  refine (select_one _ _ hs _ _).trans (ite_mix (by simp only [hd]) (ea.trans ?_) (eb.trans ?_) (ec.trans ?_) (es.trans ?_))
  · exact congrArg₂ (line m c) r0' l0
  · exact congrArg₂ (line m c) r0' l1
  · exact congrArg₂ cs2 (congrArg pos r0') d0.symm
  · exact congrArg₂ sn2 (congrArg pos r0') d0.symm

/-- A flag read at the place of group `u` of point `t`. -/
theorem flag_at (t : Fin (cfgM m (okIdeal m)).N) (u : Fin 6) (i : S36.Idx) (h : (i 0).val = t.val % 6 * 6 + u.val) :
    (tbl m 0 : IVec S36 32) i = lit0 ⟨t.val % 6 * 6 + u.val, by omega⟩ := by
  rw [tbl_at]
  refine congrArg lit0 (Fin.ext ?_)
  have e : ∀ j : Fin 36, (S36.rowMajor (ix1 j)).val = j.val := by decide +kernel
  have hi : i = ix1 (i 0) := funext fun a => by rw [Fin.fin_one_eq_zero a]; rfl
  rw [hi]
  exact (e _).trans h

theorem sel_block (c : Dev nD) (t : Fin (cfgM m (okIdeal m)).N) (u : Fin 6) (o : Nat) (ho : o + 128 ≤ 768) (e : o = 128 * u.val) (fl : BitVec 32)
    (X : FVec Ideal S1024x2048 .bf16) (W : FVec Ideal S2048x768 .bf16) (C S : FVec Ideal S1024x128 .f32)
    (hX : X = xn m c t) (hW : W = wblk m c t) (hC : C = iblk m (okIdeal m) c 3 t) (hS : S = iblk m (okIdeal m) c 4 t)
    (i : S36.Idx) (hfl : fl = (tbl m 0 : IVec S36 32) i) (hi : (i 0).val = t.val % 6 * 6 + u.val) (y : S1024x768.Idx) (x : S1024x128.Idx)
    (e0 : (y 0).val = (x 0).val) (e1 : (y 1).val = o + (x 1).val) :
    sel fl (k0_pay4 X W) C S o ho x = res m c t y := by
  subst hX hW hC hS
  exact sel_at m c t u o ho e fl (hfl.trans (flag_at m t u i hi)) y x e0 e1

set_option maxHeartbeats 8000000 in
theorem block5 (c : Dev nD) (t : Fin (cfgM m (okIdeal m)).N) (y : S1024x768.Idx) :
    (outsAt0 m (okIdeal m) c t.val t.isLt).1 y = res m c t y := by
  by_cases h : t.val % 6 = 0
  · skip
    rw [outsAt0_A m _ c t h]
    frame_out
    canon_tiles x h
    · refine (pay1_at _ _ _ _ _ x).trans ?_
      exact sel_block m c t 5 640 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 5) y x h0 h1
    · refine (pay19_at _ _ _ _ _ x).trans ?_
      exact sel_block m c t 4 512 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 4) y x h0 h1
    · refine (pay17_at _ _ _ _ _ x).trans ?_
      exact sel_block m c t 3 384 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 3) y x h0 h1
    · refine (pay13_at _ _ _ _ _ x).trans ?_
      exact sel_block m c t 2 256 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 2) y x h0 h1
    · refine (pay11_at _ _ _ _ _ x).trans ?_
      exact sel_block m c t 1 128 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 1) y x h0 h1
    · refine (pay5_at _ _ _ _ _ x).trans ?_
      exact sel_block m c t 0 0 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 0) y x h0 (h1.trans (Nat.zero_add _).symm)
  · have hp : t.val - 1 < (cfgM m (okIdeal m)).N := Nat.lt_of_le_of_lt (Nat.sub_le _ _) t.isLt
    rw [outsAt0_B m _ c t h]
    frame_out
    canon_tiles x h
    · refine (pay1_at _ _ _ _ _ x).trans ?_
      exact sel_block m c t 5 640 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 5) y x h0 h1
    · refine (pay19_at _ _ _ _ _ x).trans ?_
      exact sel_block m c t 4 512 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 4) y x h0 h1
    · refine (pay17_at _ _ _ _ _ x).trans ?_
      exact sel_block m c t 3 384 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 3) y x h0 h1
    · refine (pay13_at _ _ _ _ _ x).trans ?_
      exact sel_block m c t 2 256 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 2) y x h0 h1
    · refine (pay11_at _ _ _ _ _ x).trans ?_
      exact sel_block m c t 1 128 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 1) y x h0 h1
    · refine (pay5_at _ _ _ _ _ x).trans ?_
      exact sel_block m c t 0 0 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 0) y x h0 (h1.trans (Nat.zero_add _).symm)
set_option maxHeartbeats 8000000 in
theorem block6 (c : Dev nD) (t : Fin (cfgM m (okIdeal m)).N) (y : S1024x768.Idx) :
    (outsAt0 m (okIdeal m) c t.val t.isLt).2.1 y = res m c t y := by
  by_cases h : t.val % 6 = 0
  · skip
    rw [outsAt0_A m _ c t h]
    frame_out
    canon_tiles x h
    · refine (pay2_at _ _ _ _ _ x).trans ?_
      exact sel_block m c t 5 640 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 5) y x h0 h1
    · refine (pay20_at _ _ _ _ _ x).trans ?_
      exact sel_block m c t 4 512 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 4) y x h0 h1
    · refine (pay18_at _ _ _ _ _ x).trans ?_
      exact sel_block m c t 3 384 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 3) y x h0 h1
    · refine (pay14_at _ _ _ _ _ x).trans ?_
      exact sel_block m c t 2 256 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 2) y x h0 h1
    · refine (pay12_at _ _ _ _ _ x).trans ?_
      exact sel_block m c t 1 128 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 1) y x h0 h1
    · refine (pay6_at _ _ _ _ _ x).trans ?_
      exact sel_block m c t 0 0 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 0) y x h0 (h1.trans (Nat.zero_add _).symm)
  · have hp : t.val - 1 < (cfgM m (okIdeal m)).N := Nat.lt_of_le_of_lt (Nat.sub_le _ _) t.isLt
    rw [outsAt0_B m _ c t h]
    frame_out
    canon_tiles x h
    · refine (pay2_at _ _ _ _ _ x).trans ?_
      exact sel_block m c t 5 640 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 5) y x h0 h1
    · refine (pay20_at _ _ _ _ _ x).trans ?_
      exact sel_block m c t 4 512 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 4) y x h0 h1
    · refine (pay18_at _ _ _ _ _ x).trans ?_
      exact sel_block m c t 3 384 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 3) y x h0 h1
    · refine (pay14_at _ _ _ _ _ x).trans ?_
      exact sel_block m c t 2 256 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 2) y x h0 h1
    · refine (pay12_at _ _ _ _ _ x).trans ?_
      exact sel_block m c t 1 128 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 1) y x h0 h1
    · refine (pay6_at _ _ _ _ _ x).trans ?_
      exact sel_block m c t 0 0 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 0) y x h0 (h1.trans (Nat.zero_add _).symm)
end Cert.ProjC
end
-- ==== Proof.ProjCValue.lean ====
module
public import proofs.«01_k».proof.Proof.ProjCBlock
public import Idealize.ShloMosaic.Lib.Pipeline.ValueKit
public import Idealize.ShloMosaic.Lib.Pointwise
@[expose] public section
set_option maxRecDepth 65536
noncomputable section
open Idealize.ShloMosaic Idealize.ShloMosaic.TcCoe Idealize.SL.Sem
namespace Cert.ProjC
open Cert.Kernel6Ideal Cert.Kernel6Ideal.Gen
open Cert.ProjCRef (rowRes lanes xnorm freqs col refArr refArr_at outP_at outS_at rowP batP rowS batS)
variable (m : (ℓ : Loc nD τ sig) → Buf (Elt Ideal) ℓ)

/-- The reference's result of the launch arrays. -/
def want (c : Dev nD) : FVec Ideal S9216x4608 .f32 :=
  refArr (m ((c : Thread nD τ).loc main_arg0)) (m ((c : Thread nD τ).loc main_arg1)) (m ((c : Thread nD τ).loc main_arg2)) (m ((c : Thread nD τ).loc main_arg3))

/-- The reference's result at one place, in the kernel's order of work. -/
theorem want_at (c : Dev nD) (R : Fin 9216) (J : Fin 4608) : want m c (ix2 R J) = mix (line m c R) (pos R) J := by
  refine Eq.trans ?_ (mix_col _ _ _).symm
  refine (refArr_at _ _ _ _ _).trans ?_
  by_cases h : R.val < 8192
  · refine (dif_pos h).trans ((outP_at _ _ _ _).trans ?_)
    have e0 : rowX m c R = fun k => (m ((c : Thread nD τ).loc main_arg0) : FVec Ideal S2x4096x2048 .f32) (ix3 (batP ⟨R.val, h⟩) (rowP ⟨R.val, h⟩) k) :=
      funext fun k => dif_pos h
    have e1 : pos R = FloatOps.sitofp (F := Ideal) FTy.f32 (BitVec.ofNat 32 (rowP ⟨R.val, h⟩).val) := congrArg (fun b => FloatOps.sitofp (F := Ideal) FTy.f32 b) (dif_pos h)
    show _ = col (lanes (rowX m c R) (gain m c) (wts m c)) _ _ J
    rw [e0, e1]
    rfl
  · refine (dif_neg h).trans ((outS_at _ _ _ _).trans ?_)
    have e0 : rowX m c R = fun k => (m ((c : Thread nD τ).loc main_arg1) : FVec Ideal S128x8x2048 .f32) (ix3 (batS ⟨R.val - 8192, by omega⟩) (rowS ⟨R.val - 8192, by omega⟩) k) :=
      funext fun k => dif_neg h
    have e1 : pos R = FloatOps.sitofp (F := Ideal) FTy.f32 (IntOp.addi 8192#32 (BitVec.ofNat 32 (rowS ⟨R.val - 8192, by omega⟩).val)) := congrArg (fun b => FloatOps.sitofp (F := Ideal) FTy.f32 b) (dif_neg h)
    show _ = col (lanes (rowX m c R) (gain m c) (wts m c)) _ _ J
    rw [e0, e1]
    rfl

/-- Where an element of the result block of point `t` lies in the result array. -/
def place (t : Fin (cfgM m (okIdeal m)).N) (y : S1024x768.Idx) : S9216x4608.Idx := ix2 (row m t (y 0)) (lane m t (y 1))

/-- After the run the first result array is the reference's term. -/
theorem final5 (c : Dev nD) : (dats m (okIdeal m) 0 c).arrAt 5 (cfgM m (okIdeal m)).N = want m c := by
  refine (dats m (okIdeal m) 0 c).arrAt_eq_of_covers 5 _ (covers5 m) fun t hf y => ?_
  blk_simp
  rw [after0_5]
  refine (block5 m c t y).trans ?_
  refine Eq.trans ?_ (congrArg (want m c) (?_ : place m t y = _))
  · exact (want_at m c _ _).symm
  · refine funext fun a => ?_
    match a with
    | ⟨0, _⟩ =>
      refine Fin.ext ?_
      blk_simp [place, idx m t, row]
      try rfl
    | ⟨1, _⟩ =>
      refine Fin.ext ?_
      blk_simp [place, idx m t, lane]
      try rfl
/-- After the run the second result array, the same values in the narrow format, is the reference's term. -/
theorem final6 (c : Dev nD) : (dats m (okIdeal m) 0 c).arrAt 6 (cfgM m (okIdeal m)).N = truncf .bf16 (want m c) bitsLt_bf16_f32 := by
  refine (dats m (okIdeal m) 0 c).arrAt_eq_of_covers 6 _ (covers6 m) fun t hf y => ?_
  blk_simp
  rw [after0_6]
  refine (block6 m c t y).trans ?_
  refine Eq.trans ?_ (congrArg (want m c) (?_ : place m t y = _))
  · exact (want_at m c _ _).symm
  · refine funext fun a => ?_
    match a with
    | ⟨0, _⟩ =>
      refine Fin.ext ?_
      blk_simp [place, idx m t, row]
      try rfl
    | ⟨1, _⟩ =>
      refine Fin.ext ?_
      blk_simp [place, idx m t, lane]
      try rfl
/-- The reference's run leaves these results and its arguments. -/
theorem refRun (m' : (ℓ : Loc Cert.Reference6Ideal.nD Cert.Reference6Ideal.τ Cert.Reference6Ideal.sig) → Buf (Elt Ideal) ℓ) (g' : Dev Cert.Reference6Ideal.nD → PrngReg)
    (h : ∀ c : Dev nD,
      m' ((c.tc : Thread Cert.Reference6Ideal.nD Cert.Reference6Ideal.τ).loc Cert.Reference6Ideal.main_arg0) = m ((c.tc : Thread nD τ).loc main_arg0)
      ∧ m' ((c.tc : Thread Cert.Reference6Ideal.nD Cert.Reference6Ideal.τ).loc Cert.Reference6Ideal.main_arg1) = m ((c.tc : Thread nD τ).loc main_arg1)
      ∧ m' ((c.tc : Thread Cert.Reference6Ideal.nD Cert.Reference6Ideal.τ).loc Cert.Reference6Ideal.main_arg2) = m ((c.tc : Thread nD τ).loc main_arg2)
      ∧ m' ((c.tc : Thread Cert.Reference6Ideal.nD Cert.Reference6Ideal.τ).loc Cert.Reference6Ideal.main_arg3) = m ((c.tc : Thread nD τ).loc main_arg3)) :
    θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
      r.2.mem ((c.tc : Thread Cert.Reference6Ideal.nD Cert.Reference6Ideal.τ).loc Cert.Reference6Ideal.main_v124) = want m c
      ∧ r.2.mem ((c.tc : Thread Cert.Reference6Ideal.nD Cert.Reference6Ideal.τ).loc Cert.Reference6Ideal.main_v125) = truncf .bf16 (want m c) bitsLt_bf16_f32
      ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)) := by
  refine θ_run_mono (Cert.Reference6Ideal.Value.run m' g') fun r hr c => ?_
  obtain ⟨h0, h1, h2, h3⟩ := h c
  have e := Cert.ProjCRef.res_eq m' c
  have e' := Cert.ProjCRef.res_eq' m' c
  rw [h0, h1, h2, h3] at e e'
  obtain ⟨a, b, rest⟩ := hr c
  exact ⟨a.trans e, b.trans e', rest⟩
end Cert.ProjC
end
-- ==== Proof.ProjBRef.lean ====
module
public import proofs.«01_k».proof.Proof.Gen.Reference7Ideal.Run
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.ProjBRef
open Cert.Reference7Ideal Cert.Reference7Ideal.Gen

/-- The rotary frequencies, one for each pair of lanes of a head. -/
def freqs : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))
/-- The angles of the prompt positions. -/
def angP : FVec Ideal S4096x32 .f32 :=
  mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 freqs))
/-- The angles of the sample positions. -/
def angS : FVec Ideal S8x32 .f32 :=
  mulf (broadcastInDim S8x32 ![0, 1] bcast_S8x1_S8x32_0_1 (broadcastInDim S8x1 ![0] bcast_S8_S8x1_0 (sitofp .f32 (addi (broadcastInDim S8 ![] bcast_S_S8 (constantI S_ 32 8192#32)) (iotaInDim S8 32 0))))) (broadcastInDim S8x32 ![0, 1] bcast_S1x32_S8x32_0_1 (broadcastInDim S1x32 ![1] bcast_S32_S1x32_1 freqs))

theorem angP_at (r : S4096x32.Idx) : angP r = FloatOps.sitofp (F := Ideal) FTy.f32 (BitVec.ofNat 32 (r 0).val) * freqs (ix1 (r 1)) := by
  generalize e : freqs = f
  pointwise [angP, e]
theorem angS_at (r : S8x32.Idx) :
    angS r = FloatOps.sitofp (F := Ideal) FTy.f32 (IntOp.addi 8192#32 (BitVec.ofNat 32 (r 0).val)) * freqs (ix1 (r 1)) := by
  generalize e : freqs = f
  pointwise [angS, e]

/-- One head's lanes rotated: the first half takes away, the second half adds. -/
def rope (y : Fin 64 → EReal) (cs sn : Fin 32 → EReal) (d : Fin 64) : EReal :=
  if h : d.val < 32 then y d * cs ⟨d.val, h⟩ - y ⟨32 + d.val, by omega⟩ * sn ⟨d.val, h⟩
  else y ⟨32 + (d.val - 32), by omega⟩ * cs ⟨d.val - 32, by omega⟩ + y ⟨d.val - 32, by omega⟩ * sn ⟨d.val - 32, by omega⟩

/-- All lanes of a row: the first thirty-six heads rotated. -/
def col (y : Fin 2560 → EReal) (cs sn : Fin 32 → EReal) (j : Fin 2560) : EReal :=
  if _ : j.val / 64 < 36 then rope (fun d => y ⟨j.val / 64 * 64 + d.val, by omega⟩) cs sn ⟨j.val % 64, by omega⟩
  else y ⟨(36 + (j.val / 64 - 36)) * 64 + j.val % 64, by omega⟩

/-- The rotation of thirty-six heads of the prompt rows. -/
def ropeP36 (cs sn : FVec Ideal S4096x32 .f32) (x : FVec Ideal S2x4096x36x64 .f32) : FVec Ideal S2x4096x36x64 .f32 :=
  concatenate S2x4096x36x64 3 [⟨S2x4096x36x32, (subf (mulf (extractStridedSlice S2x4096x36x32 ![0, 0, 0, 0] x slices_S2x4096x36x64_S2x4096x36x32_0_0_0_0) (broadcastInDim S2x4096x36x32 ![0, 1, 2, 3] bcast_S1x4096x1x32_S2x4096x36x32_0_1_2_3 (broadcastInDim S1x4096x1x32 ![1, 2, 3] bcast_S4096x1x32_S1x4096x1x32_1_2_3 (broadcastInDim S4096x1x32 ![0, 2] bcast_S4096x32_S4096x1x32_0_2 cs)))) (mulf (extractStridedSlice S2x4096x36x32 ![0, 0, 0, 32] x slices_S2x4096x36x64_S2x4096x36x32_0_0_0_32) (broadcastInDim S2x4096x36x32 ![0, 1, 2, 3] bcast_S1x4096x1x32_S2x4096x36x32_0_1_2_3 (broadcastInDim S1x4096x1x32 ![1, 2, 3] bcast_S4096x1x32_S1x4096x1x32_1_2_3 (broadcastInDim S4096x1x32 ![0, 2] bcast_S4096x32_S4096x1x32_0_2 sn)))))⟩,
    ⟨S2x4096x36x32, (addf (mulf (extractStridedSlice S2x4096x36x32 ![0, 0, 0, 32] x slices_S2x4096x36x64_S2x4096x36x32_0_0_0_32) (broadcastInDim S2x4096x36x32 ![0, 1, 2, 3] bcast_S1x4096x1x32_S2x4096x36x32_0_1_2_3 (broadcastInDim S1x4096x1x32 ![1, 2, 3] bcast_S4096x1x32_S1x4096x1x32_1_2_3 (broadcastInDim S4096x1x32 ![0, 2] bcast_S4096x32_S4096x1x32_0_2 cs)))) (mulf (extractStridedSlice S2x4096x36x32 ![0, 0, 0, 0] x slices_S2x4096x36x64_S2x4096x36x32_0_0_0_0) (broadcastInDim S2x4096x36x32 ![0, 1, 2, 3] bcast_S1x4096x1x32_S2x4096x36x32_0_1_2_3 (broadcastInDim S1x4096x1x32 ![1, 2, 3] bcast_S4096x1x32_S1x4096x1x32_1_2_3 (broadcastInDim S4096x1x32 ![0, 2] bcast_S4096x32_S4096x1x32_0_2 sn)))))⟩] concatenates_S2x4096x36x32_S2x4096x36x32_S2x4096x36x64_d3
theorem ropeP36_at (cs sn : FVec Ideal S4096x32 .f32) (x : FVec Ideal S2x4096x36x64 .f32) (r : S2x4096x36x64.Idx) :
    ropeP36 cs sn x r = rope (fun d => x (ix4 (r 0) (r 1) (r 2) d)) (fun d => cs (ix2 (r 1) d)) (fun d => sn (ix2 (r 1) d)) (r 3) := by
  pointwise [ropeP36, rope]

/-- The position of a prompt row in its sequence. -/
def rowP (a : Fin 8192) : Fin 4096 := ⟨a.val % 4096, Nat.mod_lt _ (by decide)⟩
/-- The sequence of a prompt row. -/
def batP (a : Fin 8192) : Fin 2 := ⟨a.val / 4096, by omega⟩

/-- The heads of the prompt rows side by side, those of queries and keys rotated. -/
def layP (cs sn : FVec Ideal S4096x32 .f32) (H : FVec Ideal S2x4096x2560 .f32) : FVec Ideal S8192x2560 .f32 :=
  shapeCast _ (concatenate S2x4096x40x64 2 [⟨S2x4096x36x64, (ropeP36 cs sn (extractStridedSlice S2x4096x36x64 ![0, 0, 0, 0] (shapeCast _ H shapeCasts_S2x4096x2560_S2x4096x40x64) slices_S2x4096x40x64_S2x4096x36x64_0_0_0_0))⟩,
    ⟨S2x4096x4x64, (extractStridedSlice S2x4096x4x64 ![0, 0, 36, 0] (shapeCast _ H shapeCasts_S2x4096x2560_S2x4096x40x64) slices_S2x4096x40x64_S2x4096x4x64_0_0_36_0)⟩]
    concatenates_S2x4096x36x64_S2x4096x4x64_S2x4096x40x64_d2) shapeCasts_S2x4096x40x64_S8192x2560
theorem layP_at (cs sn : FVec Ideal S4096x32 .f32) (H : FVec Ideal S2x4096x2560 .f32) (r : S8192x2560.Idx) : layP cs sn H r = col (fun l => H (ix3 (batP (r 0)) (rowP (r 0)) l)) (fun d => cs (ix2 (rowP (r 0)) d)) (fun d => sn (ix2 (rowP (r 0)) d)) (r 1) := by
  pointwise [layP, ropeP36_at, col, batP, rowP]

/-- The rotation of thirty-six heads of the sample rows. -/
def ropeS36 (cs sn : FVec Ideal S8x32 .f32) (x : FVec Ideal S128x8x36x64 .f32) : FVec Ideal S128x8x36x64 .f32 :=
  concatenate S128x8x36x64 3 [⟨S128x8x36x32, (subf (mulf (extractStridedSlice S128x8x36x32 ![0, 0, 0, 0] x slices_S128x8x36x64_S128x8x36x32_0_0_0_0) (broadcastInDim S128x8x36x32 ![0, 1, 2, 3] bcast_S1x8x1x32_S128x8x36x32_0_1_2_3 (broadcastInDim S1x8x1x32 ![1, 2, 3] bcast_S8x1x32_S1x8x1x32_1_2_3 (broadcastInDim S8x1x32 ![0, 2] bcast_S8x32_S8x1x32_0_2 cs)))) (mulf (extractStridedSlice S128x8x36x32 ![0, 0, 0, 32] x slices_S128x8x36x64_S128x8x36x32_0_0_0_32) (broadcastInDim S128x8x36x32 ![0, 1, 2, 3] bcast_S1x8x1x32_S128x8x36x32_0_1_2_3 (broadcastInDim S1x8x1x32 ![1, 2, 3] bcast_S8x1x32_S1x8x1x32_1_2_3 (broadcastInDim S8x1x32 ![0, 2] bcast_S8x32_S8x1x32_0_2 sn)))))⟩,
    ⟨S128x8x36x32, (addf (mulf (extractStridedSlice S128x8x36x32 ![0, 0, 0, 32] x slices_S128x8x36x64_S128x8x36x32_0_0_0_32) (broadcastInDim S128x8x36x32 ![0, 1, 2, 3] bcast_S1x8x1x32_S128x8x36x32_0_1_2_3 (broadcastInDim S1x8x1x32 ![1, 2, 3] bcast_S8x1x32_S1x8x1x32_1_2_3 (broadcastInDim S8x1x32 ![0, 2] bcast_S8x32_S8x1x32_0_2 cs)))) (mulf (extractStridedSlice S128x8x36x32 ![0, 0, 0, 0] x slices_S128x8x36x64_S128x8x36x32_0_0_0_0) (broadcastInDim S128x8x36x32 ![0, 1, 2, 3] bcast_S1x8x1x32_S128x8x36x32_0_1_2_3 (broadcastInDim S1x8x1x32 ![1, 2, 3] bcast_S8x1x32_S1x8x1x32_1_2_3 (broadcastInDim S8x1x32 ![0, 2] bcast_S8x32_S8x1x32_0_2 sn)))))⟩] concatenates_S128x8x36x32_S128x8x36x32_S128x8x36x64_d3
theorem ropeS36_at (cs sn : FVec Ideal S8x32 .f32) (x : FVec Ideal S128x8x36x64 .f32) (r : S128x8x36x64.Idx) :
    ropeS36 cs sn x r = rope (fun d => x (ix4 (r 0) (r 1) (r 2) d)) (fun d => cs (ix2 (r 1) d)) (fun d => sn (ix2 (r 1) d)) (r 3) := by
  pointwise [ropeS36, rope]

/-- The position of a sample row in its sequence. -/
def rowS (a : Fin 1024) : Fin 8 := ⟨a.val % 8, Nat.mod_lt _ (by decide)⟩
/-- The sequence of a sample row. -/
def batS (a : Fin 1024) : Fin 128 := ⟨a.val / 8, by omega⟩

/-- The heads of the sample rows side by side, those of queries and keys rotated. -/
def layS (cs sn : FVec Ideal S8x32 .f32) (H : FVec Ideal S128x8x2560 .f32) : FVec Ideal S1024x2560 .f32 :=
  shapeCast _ (concatenate S128x8x40x64 2 [⟨S128x8x36x64, (ropeS36 cs sn (extractStridedSlice S128x8x36x64 ![0, 0, 0, 0] (shapeCast _ H shapeCasts_S128x8x2560_S128x8x40x64) slices_S128x8x40x64_S128x8x36x64_0_0_0_0))⟩,
    ⟨S128x8x4x64, (extractStridedSlice S128x8x4x64 ![0, 0, 36, 0] (shapeCast _ H shapeCasts_S128x8x2560_S128x8x40x64) slices_S128x8x40x64_S128x8x4x64_0_0_36_0)⟩]
    concatenates_S128x8x36x64_S128x8x4x64_S128x8x40x64_d2) shapeCasts_S128x8x40x64_S1024x2560
theorem layS_at (cs sn : FVec Ideal S8x32 .f32) (H : FVec Ideal S128x8x2560 .f32) (r : S1024x2560.Idx) : layS cs sn H r = col (fun l => H (ix3 (batS (r 0)) (rowS (r 0)) l)) (fun d => cs (ix2 (rowS (r 0)) d)) (fun d => sn (ix2 (rowS (r 0)) d)) (r 1) := by
  pointwise [layS, ropeS36_at, col, batS, rowS]
end Cert.ProjBRef
end
-- ==== Proof.ProjBSpec.lean ====
module
public import proofs.«01_k».proof.Proof.ProjBRef
@[expose] public section
set_option maxRecDepth 16384
noncomputable section
open Idealize.ShloMosaic Idealize.ShloMosaic.TcCoe Idealize.SL.Sem
namespace Cert.ProjBRef
open Cert.Reference7Ideal Cert.Reference7Ideal.Gen Cert.Reference7Ideal.Value

/-- One row of activations, normalised. -/
def xnorm (x g : Fin 2048 → EReal) (k : Fin 2048) : EReal :=
  x k * Ideal.rsqrt (Ideal.div (∑ l, x l * x l) (Ideal.ofBits FTy.f32 1157627904#32) + Ideal.ofBits FTy.f32 897988541#32) * g k
/-- One row of activations, normalised and projected. -/
def lanes (x g : Fin 2048 → EReal) (w : Fin 2048 → Fin 2560 → EReal) (l : Fin 2560) : EReal :=
  ∑ k, xnorm x g k * w k l
/-- One row of the result: the projected row, its heads rotated by the angles of position `p`. -/
def rowRes (x g : Fin 2048 → EReal) (w : Fin 2048 → Fin 2560 → EReal) (p : EReal) (j : Fin 2560) : EReal :=
  col (lanes x g w) (fun d => Ideal.cos (p * freqs (ix1 d))) (fun d => Ideal.sin (p * freqs (ix1 d))) j

/-- The projected prompt rows. -/
def hP (x : FVec Ideal S2x4096x2048 .f32) (g : FVec Ideal S4x2048 .f32) (w : FVec Ideal S2048x2560 .f32) : FVec Ideal S2x4096x2560 .f32 :=
  Host.dotGeneral dot_S2x4096x2048_S2048x2560_S2x4096x2560_2_0_01_1_n_n none (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ (extractStridedSlice S1x2048 ![1, 0] g slices_S4x2048_S1x2048_1_0) shapeCasts_S1x2048_S2048)))) w
/-- The projected sample rows. -/
def hS (x : FVec Ideal S128x8x2048 .f32) (g : FVec Ideal S4x2048 .f32) (w : FVec Ideal S2048x2560 .f32) : FVec Ideal S128x8x2560 .f32 :=
  Host.dotGeneral dot_S128x8x2048_S2048x2560_S128x8x2560_2_0_01_1_n_n none (mulf (mulf x (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf x x) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 (shapeCast _ (extractStridedSlice S1x2048 ![1, 0] g slices_S4x2048_S1x2048_1_0) shapeCasts_S1x2048_S2048)))) w
theorem hP_at (x : FVec Ideal S2x4096x2048 .f32) (g : FVec Ideal S4x2048 .f32) (w : FVec Ideal S2048x2560 .f32) (r : S2x4096x2560.Idx) :
    hP x g w r = lanes (fun k => x (ix3 (r 0) (r 1) k)) (fun k => g (ix2 1 k)) (fun k l => w (ix2 k l)) (r 2) := by
  pointwise [hP, lanes, xnorm]
theorem hS_at (x : FVec Ideal S128x8x2048 .f32) (g : FVec Ideal S4x2048 .f32) (w : FVec Ideal S2048x2560 .f32) (r : S128x8x2560.Idx) :
    hS x g w r = lanes (fun k => x (ix3 (r 0) (r 1) k)) (fun k => g (ix2 1 k)) (fun k l => w (ix2 k l)) (r 2) := by
  pointwise [hS, lanes, xnorm]

theorem cosP_at (r : S4096x32.Idx) : Host.cos angP r = Ideal.cos (FloatOps.sitofp (F := Ideal) FTy.f32 (BitVec.ofNat 32 (r 0).val) * freqs (ix1 (r 1))) :=
  congrArg Ideal.cos (angP_at r)
theorem sinP_at (r : S4096x32.Idx) : Host.sin angP r = Ideal.sin (FloatOps.sitofp (F := Ideal) FTy.f32 (BitVec.ofNat 32 (r 0).val) * freqs (ix1 (r 1))) :=
  congrArg Ideal.sin (angP_at r)
theorem cosS_at (r : S8x32.Idx) : Host.cos angS r = Ideal.cos (FloatOps.sitofp (F := Ideal) FTy.f32 (IntOp.addi 8192#32 (BitVec.ofNat 32 (r 0).val)) * freqs (ix1 (r 1))) :=
  congrArg Ideal.cos (angS_at r)
theorem sinS_at (r : S8x32.Idx) : Host.sin angS r = Ideal.sin (FloatOps.sitofp (F := Ideal) FTy.f32 (IntOp.addi 8192#32 (BitVec.ofNat 32 (r 0).val)) * freqs (ix1 (r 1))) :=
  congrArg Ideal.sin (angS_at r)

/-- The prompt rows of the reference's result. -/
def outP (x : FVec Ideal S2x4096x2048 .f32) (g : FVec Ideal S4x2048 .f32) (w : FVec Ideal S2048x2560 .f32) : FVec Ideal S8192x2560 .f32 :=
  layP (Host.cos angP) (Host.sin angP) (hP x g w)
/-- The sample rows of the reference's result. -/
def outS (x : FVec Ideal S128x8x2048 .f32) (g : FVec Ideal S4x2048 .f32) (w : FVec Ideal S2048x2560 .f32) : FVec Ideal S1024x2560 .f32 :=
  layS (Host.cos angS) (Host.sin angS) (hS x g w)
theorem outP_at (x : FVec Ideal S2x4096x2048 .f32) (g : FVec Ideal S4x2048 .f32) (w : FVec Ideal S2048x2560 .f32) (r : S8192x2560.Idx) :
    outP x g w r = rowRes (fun k => x (ix3 (batP (r 0)) (rowP (r 0)) k)) (fun k => g (ix2 1 k)) (fun k l => w (ix2 k l))
      (FloatOps.sitofp (F := Ideal) FTy.f32 (BitVec.ofNat 32 (rowP (r 0)).val)) (r 1) := by
  refine (layP_at _ _ _ r).trans ?_
  unfold rowRes
  have e : (fun l => hP x g w (ix3 (batP (r 0)) (rowP (r 0)) l)) = lanes (fun k => x (ix3 (batP (r 0)) (rowP (r 0)) k)) (fun k => g (ix2 1 k)) (fun k l => w (ix2 k l)) :=
    funext fun l => hP_at x g w _
  exact congrArg (fun y => col y _ _ (r 1)) e
theorem outS_at (x : FVec Ideal S128x8x2048 .f32) (g : FVec Ideal S4x2048 .f32) (w : FVec Ideal S2048x2560 .f32) (r : S1024x2560.Idx) :
    outS x g w r = rowRes (fun k => x (ix3 (batS (r 0)) (rowS (r 0)) k)) (fun k => g (ix2 1 k)) (fun k l => w (ix2 k l))
      (FloatOps.sitofp (F := Ideal) FTy.f32 (IntOp.addi 8192#32 (BitVec.ofNat 32 (rowS (r 0)).val))) (r 1) := by
  refine (layS_at _ _ _ r).trans ?_
  unfold rowRes
  have e : (fun l => hS x g w (ix3 (batS (r 0)) (rowS (r 0)) l)) = lanes (fun k => x (ix3 (batS (r 0)) (rowS (r 0)) k)) (fun k => g (ix2 1 k)) (fun k l => w (ix2 k l)) :=
    funext fun l => hS_at x g w _
  exact congrArg (fun y => col y _ _ (r 1)) e

/-- The reference's result. -/
def refArr (x0 : FVec Ideal S2x4096x2048 .f32) (x1 : FVec Ideal S128x8x2048 .f32) (g : FVec Ideal S4x2048 .f32) (w : FVec Ideal S2048x2560 .f32) :
    FVec Ideal S9216x2560 .f32 :=
  concatenate S9216x2560 0 [⟨S8192x2560, outP x0 g w⟩, ⟨S1024x2560, outS x1 g w⟩] concatenates_S8192x2560_S1024x2560_S9216x2560_d0
theorem refArr_at (x0 : FVec Ideal S2x4096x2048 .f32) (x1 : FVec Ideal S128x8x2048 .f32) (g : FVec Ideal S4x2048 .f32) (w : FVec Ideal S2048x2560 .f32)
    (r : S9216x2560.Idx) :
    refArr x0 x1 g w r = if h : (show Fin 9216 from r 0).val < 8192 then outP x0 g w (ix2 ⟨(r 0).val, h⟩ (r 1))
      else outS x1 g w (ix2 ⟨(r 0).val - 8192, by have := (show Fin 9216 from r 0).isLt; exact (by omega : (show Fin 9216 from r 0).val - 8192 < 1024)⟩ (r 1)) := by
  unfold refArr
  generalize outP x0 g w = a
  generalize outS x1 g w = b
  pointwise

/-- The composed term of the reference's run is its result. -/
theorem res_eq (m : (ℓ : Loc nD τ sig) → Buf (Elt Ideal) ℓ) (c : Dev nD) :
    res_main_v120 m c = refArr (m ((c : Thread nD τ).loc main_arg0)) (m ((c : Thread nD τ).loc main_arg1)) (m ((c : Thread nD τ).loc main_arg2)) (m ((c : Thread nD τ).loc main_arg3)) := by
  rfl
/-- The second result is the first in the narrow format. -/
theorem res_eq' (m : (ℓ : Loc nD τ sig) → Buf (Elt Ideal) ℓ) (c : Dev nD) :
    res_main_v121 m c = truncf .bf16 (refArr (m ((c : Thread nD τ).loc main_arg0)) (m ((c : Thread nD τ).loc main_arg1)) (m ((c : Thread nD τ).loc main_arg2)) (m ((c : Thread nD τ).loc main_arg3))) bitsLt_bf16_f32 := by
  rfl
end Cert.ProjBRef
end
-- ==== Proof.ProjBEntry.lean ====
module
public import proofs.«01_k».proof.Proof.Gen.Kernel7.Frame
public import proofs.«01_k».proof.Proof.Gen.Kernel7Ideal.Frame
public import proofs.«01_k».proof.Proof.ProjBSpec
public import Idealize.ShloMosaic.Lib.Pipeline.ValueKit
public import Idealize.ShloMosaic.Lib.Pipeline.Covers
public import Idealize.ShloMosaic.Lib.Pointwise
@[expose] public section
set_option maxRecDepth 65536
noncomputable section
open Idealize.ShloMosaic Idealize.ShloMosaic.TcCoe Idealize.SL.Sem
namespace Cert.ProjB
/-- The call's table is read at literal places only, so nothing is asked of it. -/
theorem ok (m : (ℓ : Loc Cert.Kernel7.nD Cert.Kernel7.τ Cert.Kernel7.sig) → Buf (Elt Bits) ℓ) : Cert.Kernel7.Gen.Ok m := trivial

open Cert.Kernel7Ideal Cert.Kernel7Ideal.Gen
open Cert.ProjBRef (rowRes lanes xnorm freqs col rope)
variable (m : (ℓ : Loc nD τ sig) → Buf (Elt Ideal) ℓ)

theorem okIdeal : Ok m := trivial

/-- Which block of its array each operand stages at grid point `t`: row tile `t / 4`, lane tile `t % 4`. -/
theorem idx : ∀ t : Fin (cfgM m (okIdeal m)).N, ((cfgM m (okIdeal m)).win 0).index t = ![t.val / 4, 0] ∧ ((cfgM m (okIdeal m)).win 1).index t = ![0, 0]
    ∧ ((cfgM m (okIdeal m)).win 2).index t = ![0, t.val % 4] ∧ ((cfgM m (okIdeal m)).win 3).index t = ![t.val / 4, 0]
    ∧ ((cfgM m (okIdeal m)).win 4).index t = ![t.val / 4, 0] ∧ ((cfgM m (okIdeal m)).win 5).index t = ![t.val / 4, t.val % 4]
    ∧ ((cfgM m (okIdeal m)).win 6).index t = ![t.val / 4, t.val % 4] :=
  (by decide +kernel : ∀ t : Fin grid0.N, cc0_transform_0 (grid0.coords t) = ![t.val / 4, 0] ∧ cc0_transform_1 (grid0.coords t) = ![0, 0]
    ∧ cc0_transform_2 (grid0.coords t) = ![0, t.val % 4] ∧ cc0_transform_3 (grid0.coords t) = ![t.val / 4, 0]
    ∧ cc0_transform_4 (grid0.coords t) = ![t.val / 4, 0] ∧ cc0_transform_5 (grid0.coords t) = ![t.val / 4, t.val % 4]
    ∧ cc0_transform_6 (grid0.coords t) = ![t.val / 4, t.val % 4])
theorem covers5 : ((cfgM m (okIdeal m)).win 5).Covers :=
  Pipeline.Window.covers_of_index_surj _ rfl (by decide : ∀ a : Fin 2, 0 < S1024x640.size a)
    (by decide +kernel : ∀ β : (a : Fin 2) → Fin ((S9216x2560.size a + S1024x640.size a - 1) / S1024x640.size a), ∃ t : Fin grid0.N, ∀ a, cc0_transform_5 (grid0.coords t) a = β a)
theorem covers6 : ((cfgM m (okIdeal m)).win 6).Covers :=
  Pipeline.Window.covers_of_index_surj _ rfl (by decide : ∀ a : Fin 2, 0 < S1024x640.size a)
    (by decide +kernel : ∀ β : (a : Fin 2) → Fin ((S9216x2560.size a + S1024x640.size a - 1) / S1024x640.size a), ∃ t : Fin grid0.N, ∀ a, cc0_transform_6 (grid0.coords t) a = β a)
theorem off_at : ∀ t : Fin grid0.N, ∀ u : Fin 5, k0_off1 (grid0.coords t) (BitVec.ofNat 32 u.val) 0 = t.val % 4 * 5 + u.val := by
  decide +kernel

/-- The table of the groups of lanes that are rotated. -/
theorem tbl_at (i : S20.Idx) : (tbl m 0 : IVec S20 32) i = lit0 (S20.rowMajor i) := by
  rfl
theorem lit_at : ∀ i : Fin 20, Scalar.cmpi .sgt (lit0 i) 0#32 = if i.val < 18 then 1#1 else 0#1 := by
  decide +kernel

/-- The activations of one row of the stacked array. -/
def rowX (c : Dev nD) (R : Fin 9216) (k : Fin 2048) : EReal :=
  if h : R.val < 8192 then (m ((c : Thread nD τ).loc main_arg0) : FVec Ideal S2x4096x2048 .f32) (ix3 ⟨R.val / 4096, by omega⟩ ⟨R.val % 4096, by omega⟩ k)
  else (m ((c : Thread nD τ).loc main_arg1) : FVec Ideal S128x8x2048 .f32) (ix3 ⟨(R.val - 8192) / 8, by omega⟩ ⟨(R.val - 8192) % 8, by omega⟩ k)
/-- The position of a row in its sequence. -/
def pos (R : Fin 9216) : EReal :=
  FloatOps.sitofp (F := Ideal) FTy.f32 (if h : R.val < 8192 then BitVec.ofNat 32 (R.val % 4096)
    else IntOp.addi 8192#32 (BitVec.ofNat 32 ((R.val - 8192) % 8)))
/-- The row of gains. -/
def gain (c : Dev nD) (k : Fin 2048) : EReal := (m ((c : Thread nD τ).loc main_arg2) : FVec Ideal S4x2048 .f32) (ix2 1 k)
/-- The weights. -/
def wts (c : Dev nD) (k : Fin 2048) (l : Fin 2560) : EReal := (m ((c : Thread nD τ).loc main_arg3) : FVec Ideal S2048x2560 .f32) (ix2 k l)
/-- One row's table of cosines, for two heads and each of their halves. -/
def cs2 (p : EReal) (d : Fin 128) : EReal :=
  if h : d.val % 64 < 32 then Ideal.cos (p * freqs (ix1 ⟨d.val % 64, h⟩)) else Ideal.cos (p * freqs (ix1 ⟨d.val % 64 - 32, by omega⟩))
/-- One row's table of sines, those of the first half of a head negated. -/
def sn2 (p : EReal) (d : Fin 128) : EReal :=
  if h : d.val % 64 < 32 then - Ideal.sin (p * freqs (ix1 ⟨d.val % 64, h⟩)) else Ideal.sin (p * freqs (ix1 ⟨d.val % 64 - 32, by omega⟩))

theorem entry2 (c : Dev nD) (r : S9216x2048.Idx) :
    (V m c main_v2 : FVec Ideal S9216x2048 .f32) r = rowX m c (r 0) (r 1) := by
  entry_read
  pointwise [rowX]
theorem entryG (c : Dev nD) (r : S1x2048.Idx) :
    (V m c main_v43 : FVec Ideal S1x2048 .f32) r = gain m c (r 1) := by
  entry_read
  pointwise [gain]
theorem entry37 (c : Dev nD) (r : S9216x128.Idx) :
    (V m c main_v37 : FVec Ideal S9216x128 .f32) r = cs2 (pos (r 0)) (r 1) := by
  entry_read
  pointwise [cs2, pos, freqs]
theorem entry40 (c : Dev nD) (r : S9216x128.Idx) :
    (V m c main_v40 : FVec Ideal S9216x128 .f32) r = sn2 (pos (r 0)) (r 1) := by
  entry_read
  pointwise [sn2, pos, freqs]
theorem entryW (c : Dev nD) (r : S2048x2560.Idx) :
    (V m c main_v44 : FVec Ideal S2048x2560 .bf16) r = wts m c (r 0) (r 1) := by
  entry_read
  pointwise [wts]

/-- The lane that lane `d` of two heads is rotated with. -/
def pr (d : Fin 128) : Fin 128 := if d.val % 64 < 32 then ⟨(d.val + 128 - 96) % 128, by omega⟩ else ⟨(d.val + 128 - 32) % 128, by omega⟩
/-- What the kernel keeps in lane `J` of a row with lanes `f`. -/
def mix (f : Fin 2560 → EReal) (p : EReal) (J : Fin 2560) : EReal :=
  if J.val / 128 < 18 then
    f J * cs2 p ⟨J.val % 128, by omega⟩ + f ⟨J.val / 128 * 128 + (pr ⟨J.val % 128, by omega⟩).val, by omega⟩ * sn2 p ⟨J.val % 128, by omega⟩
  else f J
/-- Rotating one head by the tables, with the first half of the sines negated, is the reference's rotation. -/
theorem rot (g : Fin 64 → EReal) (p : EReal) (e : Fin 128) :
    g ⟨e.val % 64, by omega⟩ * cs2 p e + g ⟨(e.val % 64 + 32) % 64, by omega⟩ * sn2 p e
      = rope g (fun d => Ideal.cos (p * freqs (ix1 d))) (fun d => Ideal.sin (p * freqs (ix1 d))) ⟨e.val % 64, by omega⟩ := by
  unfold cs2 sn2 rope
  by_cases h : e.val % 64 < 32
  · have e1 : (⟨(e.val % 64 + 32) % 64, by omega⟩ : Fin 64) = ⟨32 + e.val % 64, by omega⟩ := Fin.ext (by simp only; omega)
    rw [dif_pos h, dif_pos h, dif_pos h, e1, sub_eq_add_neg, mul_neg]
  · have e1 : (⟨(e.val % 64 + 32) % 64, by omega⟩ : Fin 64) = ⟨e.val % 64 - 32, by omega⟩ := Fin.ext (by simp only; omega)
    have e2 : (⟨32 + (e.val % 64 - 32), by omega⟩ : Fin 64) = ⟨e.val % 64, by omega⟩ := Fin.ext (by simp only; omega)
    rw [dif_neg h, dif_neg h, dif_neg h, e1, e2]
theorem pr_at : ∀ d : Fin 128, (pr d).val = d.val / 64 * 64 + (d.val % 64 + 32) % 64 := by
  decide +kernel
/-- Rotating by the tables gives the reference's row. -/
theorem mix_col (y : Fin 2560 → EReal) (p : EReal) (J : Fin 2560) :
    mix y p J = col y (fun d => Ideal.cos (p * freqs (ix1 d))) (fun d => Ideal.sin (p * freqs (ix1 d))) J := by
  have hJ := J.isLt
  unfold mix col
  by_cases h : J.val / 128 < 18
  · have h' : J.val / 64 < 36 := by omega
    rw [if_pos h, dif_pos h']
    have e3 : (⟨J.val % 64, by omega⟩ : Fin 64) = ⟨(⟨J.val % 128, by omega⟩ : Fin 128).val % 64, by omega⟩ := Fin.ext (by simp only; omega)
    rw [e3, ← rot]
    have e0 : J = ⟨J.val / 64 * 64 + J.val % 128 % 64, by omega⟩ := Fin.ext (by simp only; omega)
    have e1 : (⟨J.val / 128 * 128 + (pr ⟨J.val % 128, by omega⟩).val, by omega⟩ : Fin 2560)
        = ⟨J.val / 64 * 64 + (J.val % 128 % 64 + 32) % 64, by omega⟩ :=
      Fin.ext (by simp only [pr_at]; omega)
    exact congrArg₂ (fun a b => a * cs2 p ⟨J.val % 128, by omega⟩ + b * sn2 p ⟨J.val % 128, by omega⟩) (congrArg y e0) (congrArg y e1)
  · have h' : ¬ J.val / 64 < 36 := by omega
    rw [if_neg h, dif_neg h']
    exact congrArg y (Fin.ext (by simp only; omega))

/-- Whether lane `n` is in the first half of its head. -/
def mask (n : ℕ) : BitVec 1 :=
  IntOp.cmpi CmpIPredicate.slt
    (Scalar.select
      (IntOp.andi (IntOp.xori (IntOp.cmpi CmpIPredicate.slt (IntOp.remsi ArithUnit.vector (BitVec.ofNat 32 n) (Scalar.select (Scalar.cmpi CmpIPredicate.eq 64#32 0#32) 1#32 64#32)) 0#32) (Scalar.cmpi CmpIPredicate.slt (Scalar.select (Scalar.cmpi CmpIPredicate.eq 64#32 0#32) 1#32 64#32) 0#32)) (IntOp.cmpi CmpIPredicate.ne (IntOp.remsi ArithUnit.vector (BitVec.ofNat 32 n) (Scalar.select (Scalar.cmpi CmpIPredicate.eq 64#32 0#32) 1#32 64#32)) 0#32))
      (IntOp.addi (IntOp.remsi ArithUnit.vector (BitVec.ofNat 32 n) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 n) (Scalar.select (Scalar.cmpi CmpIPredicate.eq 64#32 0#32) 1#32 64#32)))
    32#32
theorem mask_at : ∀ d : Fin 128, mask d.val = if d.val % 64 < 32 then 1#1 else 0#1 := by
  decide +kernel
/-- One group of 128 lanes of a block, two heads, rotated or not. -/
def sel (fl : BitVec 32) (a : FVec Ideal S1024x640 .f32) (cs sn : FVec Ideal S1024x128 .f32) (o : Nat) (ho : o + 128 ≤ 640) (x : S1024x128.Idx) : EReal :=
  Scalar.select (Scalar.cmpi .sgt fl 0#32)
    (a (ix2 (x 0) ⟨o + (show Fin 128 from x 1).val, by have := (show Fin 128 from x 1).isLt; omega⟩) * cs x
      + Scalar.select (mask (show Fin 128 from x 1).val) (a (ix2 (x 0) ⟨o + ((show Fin 128 from x 1).val + 128 - 96) % 128, by omega⟩))
          (a (ix2 (x 0) ⟨o + ((show Fin 128 from x 1).val + 128 - 32) % 128, by omega⟩)) * sn x)
    (a (ix2 (x 0) ⟨o + (show Fin 128 from x 1).val, by have := (show Fin 128 from x 1).isLt; omega⟩))
theorem pay7_at (xn : FVec Ideal S1024x2048 .bf16) (w : FVec Ideal S2048x640 .bf16) (cs sn : FVec Ideal S1024x128 .f32) (fl : BitVec 32) (x : S1024x128.Idx) :
    k0_pay7 (F := Ideal) (k0_pay5 xn w) (k0_pay6 xn w cs sn) fl x = sel fl (k0_pay4 xn w) cs sn 0 (by decide) x := by
  pointwise [sel, mask, k0_pay7, k0_pay5, k0_pay6]
theorem pay8_at (xn : FVec Ideal S1024x2048 .bf16) (w : FVec Ideal S2048x640 .bf16) (cs sn : FVec Ideal S1024x128 .f32) (fl : BitVec 32) (x : S1024x128.Idx) :
    k0_pay8 (F := Ideal) (k0_pay5 xn w) (k0_pay6 xn w cs sn) fl x = sel fl (k0_pay4 xn w) cs sn 0 (by decide) x := by
  pointwise [sel, mask, k0_pay8, k0_pay7, k0_pay5, k0_pay6]
theorem pay12_at (xn : FVec Ideal S1024x2048 .bf16) (w : FVec Ideal S2048x640 .bf16) (cs sn : FVec Ideal S1024x128 .f32) (fl : BitVec 32) (x : S1024x128.Idx) :
    k0_pay12 (F := Ideal) (k0_pay9 (k0_pay4 xn w)) (k0_pay10 (k0_pay4 xn w) cs) (k0_pay11 (k0_pay4 xn w) sn) fl x = sel fl (k0_pay4 xn w) cs sn 128 (by decide) x := by
  pointwise [sel, mask, k0_pay12, k0_pay9, k0_pay10, k0_pay11]
theorem pay13_at (xn : FVec Ideal S1024x2048 .bf16) (w : FVec Ideal S2048x640 .bf16) (cs sn : FVec Ideal S1024x128 .f32) (fl : BitVec 32) (x : S1024x128.Idx) :
    k0_pay13 (F := Ideal) (k0_pay9 (k0_pay4 xn w)) (k0_pay10 (k0_pay4 xn w) cs) (k0_pay11 (k0_pay4 xn w) sn) fl x = sel fl (k0_pay4 xn w) cs sn 128 (by decide) x := by
  pointwise [sel, mask, k0_pay13, k0_pay12, k0_pay9, k0_pay10, k0_pay11]
theorem pay18_at (xn : FVec Ideal S1024x2048 .bf16) (w : FVec Ideal S2048x640 .bf16) (cs sn : FVec Ideal S1024x128 .f32) (fl : BitVec 32) (x : S1024x128.Idx) :
    k0_pay18 (F := Ideal) (k0_pay14 (k0_pay4 xn w)) (k0_pay15 sn) (k0_pay16 (k0_pay4 xn w)) (k0_pay17 (k0_pay4 xn w) cs) fl x = sel fl (k0_pay4 xn w) cs sn 256 (by decide) x := by
  pointwise [sel, mask, k0_pay18, k0_pay14, k0_pay15, k0_pay16, k0_pay17]
theorem pay19_at (xn : FVec Ideal S1024x2048 .bf16) (w : FVec Ideal S2048x640 .bf16) (cs sn : FVec Ideal S1024x128 .f32) (fl : BitVec 32) (x : S1024x128.Idx) :
    k0_pay19 (F := Ideal) (k0_pay14 (k0_pay4 xn w)) (k0_pay15 sn) (k0_pay16 (k0_pay4 xn w)) (k0_pay17 (k0_pay4 xn w) cs) fl x = sel fl (k0_pay4 xn w) cs sn 256 (by decide) x := by
  pointwise [sel, mask, k0_pay19, k0_pay18, k0_pay14, k0_pay15, k0_pay16, k0_pay17]
theorem pay24_at (xn : FVec Ideal S1024x2048 .bf16) (w : FVec Ideal S2048x640 .bf16) (cs sn : FVec Ideal S1024x128 .f32) (fl : BitVec 32) (x : S1024x128.Idx) :
    k0_pay24 (F := Ideal) (k0_pay20 (k0_pay4 xn w)) (k0_pay21 cs) (k0_pay22 sn) (k0_pay23 (k0_pay4 xn w)) fl x = sel fl (k0_pay4 xn w) cs sn 384 (by decide) x := by
  pointwise [sel, mask, k0_pay24, k0_pay20, k0_pay21, k0_pay22, k0_pay23]
theorem pay25_at (xn : FVec Ideal S1024x2048 .bf16) (w : FVec Ideal S2048x640 .bf16) (cs sn : FVec Ideal S1024x128 .f32) (fl : BitVec 32) (x : S1024x128.Idx) :
    k0_pay25 (F := Ideal) (k0_pay20 (k0_pay4 xn w)) (k0_pay21 cs) (k0_pay22 sn) (k0_pay23 (k0_pay4 xn w)) fl x = sel fl (k0_pay4 xn w) cs sn 384 (by decide) x := by
  pointwise [sel, mask, k0_pay25, k0_pay24, k0_pay20, k0_pay21, k0_pay22, k0_pay23]
theorem pay1_at (xn : FVec Ideal S1024x2048 .bf16) (w : FVec Ideal S2048x640 .bf16) (cs sn : FVec Ideal S1024x128 .f32) (fl : BitVec 32) (x : S1024x128.Idx) :
    k0_pay1 (F := Ideal) (k0_pay26 (k0_pay4 xn w)) (k0_pay27 cs) (k0_pay28 sn) k0_pay29 (k0_pay30 (k0_pay4 xn w)) (k0_pay31 (k0_pay4 xn w)) fl x = sel fl (k0_pay4 xn w) cs sn 512 (by decide) x := by
  pointwise [sel, mask, k0_pay1, k0_pay26, k0_pay27, k0_pay28, k0_pay29, k0_pay30, k0_pay31]
theorem pay2_at (xn : FVec Ideal S1024x2048 .bf16) (w : FVec Ideal S2048x640 .bf16) (cs sn : FVec Ideal S1024x128 .f32) (fl : BitVec 32) (x : S1024x128.Idx) :
    k0_pay2 (F := Ideal) (k0_pay26 (k0_pay4 xn w)) (k0_pay27 cs) (k0_pay28 sn) k0_pay29 (k0_pay30 (k0_pay4 xn w)) (k0_pay31 (k0_pay4 xn w)) fl x = sel fl (k0_pay4 xn w) cs sn 512 (by decide) x := by
  pointwise [sel, mask, k0_pay2, k0_pay1, k0_pay26, k0_pay27, k0_pay28, k0_pay29, k0_pay30, k0_pay31]
theorem pay3_at (a : FVec Ideal S1024x2048 .f32) (g : FVec Ideal S1x2048 .f32) (x : S1024x2048.Idx) :
    k0_pay3 (F := Ideal) a g x = xnorm (fun k => a (ix2 (x 0) k)) (fun k => g (ix2 0 k)) (x 1) := by
  pointwise [k0_pay3, xnorm]
theorem pay4_at (xn : FVec Ideal S1024x2048 .bf16) (w : FVec Ideal S2048x640 .bf16) (x : S1024x640.Idx) :
    k0_pay4 (F := Ideal) xn w x = ∑ k, xn (ix2 (x 0) k) * w (ix2 k (x 1)) := by
  pointwise [k0_pay4]
end Cert.ProjB
end
-- ==== Proof.ProjBBlock.lean ====
module
public import proofs.«01_k».proof.Proof.ProjBEntry
@[expose] public section
set_option maxRecDepth 16384
noncomputable section
open Idealize.ShloMosaic Idealize.ShloMosaic.TcCoe Idealize.SL.Sem
namespace Cert.ProjB
open Cert.Kernel7Ideal Cert.Kernel7Ideal.Gen
open Cert.ProjBRef (rowRes lanes xnorm freqs col refArr refArr_at outP_at outS_at)
variable (m : (ℓ : Loc nD τ sig) → Buf (Elt Ideal) ℓ)

/-- The row block staged at point `t`. -/
def rows (c : Dev nD) (t : Fin (cfgM m (okIdeal m)).N) : Vec Ideal S1024x2048 .f32 := iblk m (okIdeal m) c 0 t
/-- The gain block of point `t`. -/
def gains (c : Dev nD) (t : Fin (cfgM m (okIdeal m)).N) : FVec Ideal S1x2048 .f32 := iblk m (okIdeal m) c 1 t
/-- The weight block of point `t`. -/
def wblk (c : Dev nD) (t : Fin (cfgM m (okIdeal m)).N) : FVec Ideal S2048x640 .bf16 := iblk m (okIdeal m) c 2 t
/-- The normalised row block of point `t`. -/
def xn (c : Dev nD) (t : Fin (cfgM m (okIdeal m)).N) : FVec Ideal S1024x2048 .bf16 := k0_pay3 (rows m c t) (gains m c t)

theorem lt36 (t : Fin (cfgM m (okIdeal m)).N) : t.val < 36 := t.isLt

theorem rows_prev (c : Dev nD) (t u : Fin (cfgM m (okIdeal m)).N) (h : t.val / 4 = u.val / 4) : rows m c t = rows m c u := by
  funext r
  blk_ext [rows, iblk, V, idx m t, idx m u, h]
theorem gains_prev (c : Dev nD) (t u : Fin (cfgM m (okIdeal m)).N) : gains m c t = gains m c u := by
  funext r
  blk_ext [gains, iblk, V, idx m t, idx m u]
theorem xn_prev (c : Dev nD) (t u : Fin (cfgM m (okIdeal m)).N) (h : t.val / 4 = u.val / 4) : xn m c t = xn m c u :=
  congrArg₂ k0_pay3 (rows_prev m c t u h) (gains_prev m c t u)

/-- The carried scratch after point `t` is the normalised row block of `t`'s row tile. -/
theorem scr (c : Dev nD) : ∀ (n : ℕ) (t : Fin (cfgM m (okIdeal m)).N), t.val = n → (outsAt0 m (okIdeal m) c t.val t.isLt).2.2 = xn m c t := by
  intro n
  induction n with
  | zero =>
    intro t ht
    rw [outsAt0_A m _ c t (by omega)]
    funext r
    frame_out
    exact congrFun (congrArg₂ k0_pay3 (Memref.IsWhole.read_unread _ _) (Memref.IsWhole.read_unread _ _)) r
  | succ n ih =>
    intro t ht
    by_cases h : t.val % 4 = 0
    · rw [outsAt0_A m _ c t h]
      funext r
      frame_out
      exact congrFun (congrArg₂ k0_pay3 (Memref.IsWhole.read_unread _ _) (Memref.IsWhole.read_unread _ _)) r
    · have hp : t.val - 1 < (cfgM m (okIdeal m)).N := Nat.lt_of_le_of_lt (Nat.sub_le _ _) t.isLt
      have e := ih ⟨t.val - 1, hp⟩ (by simp only; omega)
      rw [outsAt0_B m _ c t h]
      dsimp only [sout0_B_0]
      dsimp only at e
      exact e.trans (xn_prev m c _ _ (by simp only; omega))

/-- The row of the stacked array that row `a` of the block of point `t` is. -/
def row (t : Fin (cfgM m (okIdeal m)).N) (a : Fin 1024) : Fin 9216 := ⟨t.val / 4 * 1024 + a.val, by have := lt36 m t; omega⟩
/-- The lane of the result array that lane `b` of the block of point `t` is. -/
def lane (t : Fin (cfgM m (okIdeal m)).N) (b : Fin 640) : Fin 2560 := ⟨t.val % 4 * 640 + b.val, by have := lt36 m t; omega⟩

theorem xn_at (c : Dev nD) (t : Fin (cfgM m (okIdeal m)).N) (a : Fin 1024) (k : Fin 2048) :
    xn m c t (ix2 a k) = xnorm (rowX m c (row m t a)) (gain m c) k := by
  rw [xn, pay3_at]
  have e : ∀ k, rows m c t (ix2 a k) = rowX m c (row m t a) k := fun k => by
    refine Eq.trans ?_ (entry2 m c (ix2 (row m t a) k))
    blk_ext [rows, iblk, idx m t, row]
  have e' : ∀ k, gains m c t (ix2 0 k) = gain m c k := fun k => by
    refine Eq.trans ?_ (entryG m c (ix2 0 k))
    blk_ext [gains, iblk, idx m t]
  exact congrArg₂ (fun x g => xnorm x g k) (funext e) (funext e')
theorem wts_at (c : Dev nD) (t : Fin (cfgM m (okIdeal m)).N) (k : Fin 2048) (b : Fin 640) :
    wblk m c t (ix2 k b) = wts m c k (lane m t b) := by
  refine Eq.trans ?_ (entryW m c (ix2 k (lane m t b)))
  blk_ext [wblk, iblk, idx m t, lane]
theorem cos_at (c : Dev nD) (t : Fin (cfgM m (okIdeal m)).N) (x : S1024x128.Idx) :
    (iblk m (okIdeal m) c 3 t : Vec Ideal S1024x128 .f32) x = cs2 (pos (row m t (x 0))) (x 1) := by
  refine Eq.trans ?_ (entry37 m c (ix2 (row m t (x 0)) (x 1)))
  blk_ext [iblk, idx m t, row]
theorem sin_at (c : Dev nD) (t : Fin (cfgM m (okIdeal m)).N) (x : S1024x128.Idx) :
    (iblk m (okIdeal m) c 4 t : Vec Ideal S1024x128 .f32) x = sn2 (pos (row m t (x 0))) (x 1) := by
  refine Eq.trans ?_ (entry40 m c (ix2 (row m t (x 0)) (x 1)))
  blk_ext [iblk, idx m t, row]

/-- The product of point `t`'s row block and weights. -/
def acc (c : Dev nD) (t : Fin (cfgM m (okIdeal m)).N) : FVec Ideal S1024x640 .f32 := k0_pay4 (xn m c t) (wblk m c t)
/-- One row of the kernel's product, all lanes. -/
def line (c : Dev nD) (R : Fin 9216) (J : Fin 2560) : EReal := lanes (rowX m c R) (gain m c) (wts m c) J
theorem acc_at (c : Dev nD) (t : Fin (cfgM m (okIdeal m)).N) (a : Fin 1024) (b : Fin 640) :
    acc m c t (ix2 a b) = line m c (row m t a) (lane m t b) := by
  rw [acc, pay4_at]
  exact Finset.sum_congr rfl fun k _ => congrArg₂ (· * ·) (xn_at m c t a k) (wts_at m c t k b)

/-- A block of the result at one place. -/
def res (c : Dev nD) (t : Fin (cfgM m (okIdeal m)).N) (y : S1024x640.Idx) : EReal :=
  mix (line m c (row m t (y 0))) (pos (row m t (y 0))) (lane m t (y 1))

theorem select_one (b : BitVec 1) (P : Prop) [Decidable P] (h : b = if P then 1#1 else 0#1) (x y : EReal) :
    Scalar.select b x y = if P then x else y := by
  subst h
  by_cases hp : P
  · rw [if_pos hp, if_pos hp]; rfl
  · rw [if_neg hp, if_neg hp]; rfl

theorem ite_mix {P Q : Prop} [Decidable P] [Decidable Q] (h : P ↔ Q) {a a' b b' x x' z z' : EReal} (ea : a = a') (eb : b = b') (ex : x = x') (ez : z = z') :
    (if P then a * x + b * z else a) = if Q then a' * x' + b' * z' else a' := by
  subst ea eb ex ez
  exact if_congr h rfl rfl

theorem sel_at (c : Dev nD) (t : Fin (cfgM m (okIdeal m)).N) (u : Fin 5) (o : Nat) (ho : o + 128 ≤ 640) (e : o = 128 * u.val) (fl : BitVec 32)
    (hfl : fl = lit0 ⟨t.val % 4 * 5 + u.val, by omega⟩) (y : S1024x640.Idx) (x : S1024x128.Idx)
    (e0 : (y 0).val = (x 0).val) (e1 : (y 1).val = o + (x 1).val) :
    sel fl (acc m c t) (iblk m (okIdeal m) c 3 t) (iblk m (okIdeal m) c 4 t) o ho x = res m c t y := by
  have hx : (show Fin 128 from x 1).val < 128 := (show Fin 128 from x 1).isLt
  have ey0 : (show Fin 1024 from y 0) = (show Fin 1024 from x 0) := Fin.ext e0
  have ey1 : (show Fin 640 from y 1) = ⟨o + (show Fin 128 from x 1).val, by omega⟩ := Fin.ext e1
  have hl : (lane m t (y 1)).val = t.val % 4 * 640 + (o + (show Fin 128 from x 1).val) := congrArg (t.val % 4 * 640 + ·) e1
  have hd : (lane m t (y 1)).val / 128 = t.val % 4 * 5 + u.val := by rw [hl]; omega
  have hm : (lane m t (y 1)).val % 128 = (show Fin 128 from x 1).val := by rw [hl]; omega
  have l0 : lane m t ⟨o + (show Fin 128 from x 1).val, by omega⟩ = lane m t (y 1) := Fin.ext hl.symm
  have hx' : (x 1).val < 128 := hx
  have hl' : (lane m t (y 1)).val = t.val % 4 * 640 + (o + (x 1).val) := hl
  have hm' : (lane m t (y 1)).val % 128 = (x 1).val := hm
  have l1 : lane m t ⟨o + (pr (show Fin 128 from x 1)).val, by omega⟩
      = ⟨(lane m t (y 1)).val / 128 * 128 + (pr ⟨(lane m t (y 1)).val % 128, by omega⟩).val, by have := (lane m t (y 1)).isLt; omega⟩ := by
    refine Fin.ext ?_
    have hp : pr ⟨(lane m t (y 1)).val % 128, by omega⟩ = pr (show Fin 128 from x 1) := congrArg pr (Fin.ext hm)
    show t.val % 4 * 640 + (o + (pr (show Fin 128 from x 1)).val) = (lane m t (y 1)).val / 128 * 128 + (pr ⟨(lane m t (y 1)).val % 128, by omega⟩).val
    rw [hd, hp]
    omega
  have r0 : row m t (y 0) = row m t (x 0) := congrArg (row m t) ey0
  have d0 : (⟨(lane m t (y 1)).val % 128, by omega⟩ : Fin 128) = x 1 := Fin.ext hm
  have hs := lit_at ⟨t.val % 4 * 5 + u.val, by omega⟩
  rw [← hfl] at hs
  have ec := cos_at m c t x
  have es := sin_at m c t x
  have ea := acc_at m c t (show Fin 1024 from x 0) ⟨o + (show Fin 128 from x 1).val, by omega⟩
  have eb : Scalar.select (mask (show Fin 128 from x 1).val) (acc m c t (ix2 (show Fin 1024 from x 0) ⟨o + ((show Fin 128 from x 1).val + 128 - 96) % 128, by omega⟩))
      (acc m c t (ix2 (show Fin 1024 from x 0) ⟨o + ((show Fin 128 from x 1).val + 128 - 32) % 128, by omega⟩))
      = line m c (row m t (show Fin 1024 from x 0)) (lane m t ⟨o + (pr (show Fin 128 from x 1)).val, by omega⟩) := by
    refine (select_one _ _ (mask_at (show Fin 128 from x 1)) _ _).trans ?_
    by_cases hq : (show Fin 128 from x 1).val % 64 < 32
    · have ep : pr (show Fin 128 from x 1) = ⟨((show Fin 128 from x 1).val + 128 - 96) % 128, by omega⟩ := if_pos hq
      refine (if_pos hq).trans ((acc_at m c t _ _).trans (congrArg (line m c _) (Fin.ext ?_)))
      show t.val % 4 * 640 + (o + _) = t.val % 4 * 640 + (o + (pr (show Fin 128 from x 1)).val)
      rw [ep]
    · have ep : pr (show Fin 128 from x 1) = ⟨((show Fin 128 from x 1).val + 128 - 32) % 128, by omega⟩ := if_neg hq
      refine (if_neg hq).trans ((acc_at m c t _ _).trans (congrArg (line m c _) (Fin.ext ?_)))
      show t.val % 4 * 640 + (o + _) = t.val % 4 * 640 + (o + (pr (show Fin 128 from x 1)).val)
      rw [ep]
  have r0' : row m t (show Fin 1024 from x 0) = row m t (y 0) := r0.symm
  refine (select_one _ _ hs _ _).trans (ite_mix (by simp only [hd]) (ea.trans ?_) (eb.trans ?_) (ec.trans ?_) (es.trans ?_))
  · exact congrArg₂ (line m c) r0' l0
  · exact congrArg₂ (line m c) r0' l1
  · exact congrArg₂ cs2 (congrArg pos r0') d0.symm
  · exact congrArg₂ sn2 (congrArg pos r0') d0.symm

/-- A flag read at the place of group `u` of point `t`. -/
theorem flag_at (t : Fin (cfgM m (okIdeal m)).N) (u : Fin 5) (i : S20.Idx) (h : (i 0).val = t.val % 4 * 5 + u.val) :
    (tbl m 0 : IVec S20 32) i = lit0 ⟨t.val % 4 * 5 + u.val, by omega⟩ := by
  rw [tbl_at]
  refine congrArg lit0 (Fin.ext ?_)
  have e : ∀ j : Fin 20, (S20.rowMajor (ix1 j)).val = j.val := by decide +kernel
  have hi : i = ix1 (i 0) := funext fun a => by rw [Fin.fin_one_eq_zero a]; rfl
  rw [hi]
  exact (e _).trans h

theorem sel_block (c : Dev nD) (t : Fin (cfgM m (okIdeal m)).N) (u : Fin 5) (o : Nat) (ho : o + 128 ≤ 640) (e : o = 128 * u.val) (fl : BitVec 32)
    (X : FVec Ideal S1024x2048 .bf16) (W : FVec Ideal S2048x640 .bf16) (C S : FVec Ideal S1024x128 .f32)
    (hX : X = xn m c t) (hW : W = wblk m c t) (hC : C = iblk m (okIdeal m) c 3 t) (hS : S = iblk m (okIdeal m) c 4 t)
    (i : S20.Idx) (hfl : fl = (tbl m 0 : IVec S20 32) i) (hi : (i 0).val = t.val % 4 * 5 + u.val) (y : S1024x640.Idx) (x : S1024x128.Idx)
    (e0 : (y 0).val = (x 0).val) (e1 : (y 1).val = o + (x 1).val) :
    sel fl (k0_pay4 X W) C S o ho x = res m c t y := by
  subst hX hW hC hS
  exact sel_at m c t u o ho e fl (hfl.trans (flag_at m t u i hi)) y x e0 e1

set_option maxHeartbeats 8000000 in
theorem block5 (c : Dev nD) (t : Fin (cfgM m (okIdeal m)).N) (y : S1024x640.Idx) :
    (outsAt0 m (okIdeal m) c t.val t.isLt).1 y = res m c t y := by
  by_cases h : t.val % 4 = 0
  · skip
    rw [outsAt0_A m _ c t h]
    frame_out
    canon_tiles x h
    · refine (pay1_at _ _ _ _ _ x).trans ?_
      exact sel_block m c t 4 512 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 4) y x h0 h1
    · refine (pay24_at _ _ _ _ _ x).trans ?_
      exact sel_block m c t 3 384 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 3) y x h0 h1
    · refine (pay18_at _ _ _ _ _ x).trans ?_
      exact sel_block m c t 2 256 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 2) y x h0 h1
    · refine (pay12_at _ _ _ _ _ x).trans ?_
      exact sel_block m c t 1 128 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 1) y x h0 h1
    · refine (pay7_at _ _ _ _ _ x).trans ?_
      exact sel_block m c t 0 0 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 0) y x h0 (h1.trans (Nat.zero_add _).symm)
  · have hp : t.val - 1 < (cfgM m (okIdeal m)).N := Nat.lt_of_le_of_lt (Nat.sub_le _ _) t.isLt
    rw [outsAt0_B m _ c t h]
    frame_out
    canon_tiles x h
    · refine (pay1_at _ _ _ _ _ x).trans ?_
      exact sel_block m c t 4 512 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 4) y x h0 h1
    · refine (pay24_at _ _ _ _ _ x).trans ?_
      exact sel_block m c t 3 384 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 3) y x h0 h1
    · refine (pay18_at _ _ _ _ _ x).trans ?_
      exact sel_block m c t 2 256 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 2) y x h0 h1
    · refine (pay12_at _ _ _ _ _ x).trans ?_
      exact sel_block m c t 1 128 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 1) y x h0 h1
    · refine (pay7_at _ _ _ _ _ x).trans ?_
      exact sel_block m c t 0 0 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 0) y x h0 (h1.trans (Nat.zero_add _).symm)
set_option maxHeartbeats 8000000 in
theorem block6 (c : Dev nD) (t : Fin (cfgM m (okIdeal m)).N) (y : S1024x640.Idx) :
    (outsAt0 m (okIdeal m) c t.val t.isLt).2.1 y = res m c t y := by
  by_cases h : t.val % 4 = 0
  · skip
    rw [outsAt0_A m _ c t h]
    frame_out
    canon_tiles x h
    · refine (pay2_at _ _ _ _ _ x).trans ?_
      exact sel_block m c t 4 512 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 4) y x h0 h1
    · refine (pay25_at _ _ _ _ _ x).trans ?_
      exact sel_block m c t 3 384 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 3) y x h0 h1
    · refine (pay19_at _ _ _ _ _ x).trans ?_
      exact sel_block m c t 2 256 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 2) y x h0 h1
    · refine (pay13_at _ _ _ _ _ x).trans ?_
      exact sel_block m c t 1 128 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 1) y x h0 h1
    · refine (pay8_at _ _ _ _ _ x).trans ?_
      exact sel_block m c t 0 0 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 0) y x h0 (h1.trans (Nat.zero_add _).symm)
  · have hp : t.val - 1 < (cfgM m (okIdeal m)).N := Nat.lt_of_le_of_lt (Nat.sub_le _ _) t.isLt
    rw [outsAt0_B m _ c t h]
    frame_out
    canon_tiles x h
    · refine (pay2_at _ _ _ _ _ x).trans ?_
      exact sel_block m c t 4 512 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 4) y x h0 h1
    · refine (pay25_at _ _ _ _ _ x).trans ?_
      exact sel_block m c t 3 384 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 3) y x h0 h1
    · refine (pay19_at _ _ _ _ _ x).trans ?_
      exact sel_block m c t 2 256 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 2) y x h0 h1
    · refine (pay13_at _ _ _ _ _ x).trans ?_
      exact sel_block m c t 1 128 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 1) y x h0 h1
    · refine (pay8_at _ _ _ _ _ x).trans ?_
      exact sel_block m c t 0 0 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 0) y x h0 (h1.trans (Nat.zero_add _).symm)
end Cert.ProjB
end
-- ==== Proof.ProjBValue.lean ====
module
public import proofs.«01_k».proof.Proof.ProjBBlock
public import Idealize.ShloMosaic.Lib.Pipeline.ValueKit
public import Idealize.ShloMosaic.Lib.Pointwise
@[expose] public section
set_option maxRecDepth 65536
noncomputable section
open Idealize.ShloMosaic Idealize.ShloMosaic.TcCoe Idealize.SL.Sem
namespace Cert.ProjB
open Cert.Kernel7Ideal Cert.Kernel7Ideal.Gen
open Cert.ProjBRef (rowRes lanes xnorm freqs col refArr refArr_at outP_at outS_at rowP batP rowS batS)
variable (m : (ℓ : Loc nD τ sig) → Buf (Elt Ideal) ℓ)

/-- The reference's result of the launch arrays. -/
def want (c : Dev nD) : FVec Ideal S9216x2560 .f32 :=
  refArr (m ((c : Thread nD τ).loc main_arg0)) (m ((c : Thread nD τ).loc main_arg1)) (m ((c : Thread nD τ).loc main_arg2)) (m ((c : Thread nD τ).loc main_arg3))

/-- The reference's result at one place, in the kernel's order of work. -/
theorem want_at (c : Dev nD) (R : Fin 9216) (J : Fin 2560) : want m c (ix2 R J) = mix (line m c R) (pos R) J := by
  refine Eq.trans ?_ (mix_col _ _ _).symm
  refine (refArr_at _ _ _ _ _).trans ?_
  by_cases h : R.val < 8192
  · refine (dif_pos h).trans ((outP_at _ _ _ _).trans ?_)
    have e0 : rowX m c R = fun k => (m ((c : Thread nD τ).loc main_arg0) : FVec Ideal S2x4096x2048 .f32) (ix3 (batP ⟨R.val, h⟩) (rowP ⟨R.val, h⟩) k) :=
      funext fun k => dif_pos h
    have e1 : pos R = FloatOps.sitofp (F := Ideal) FTy.f32 (BitVec.ofNat 32 (rowP ⟨R.val, h⟩).val) := congrArg (fun b => FloatOps.sitofp (F := Ideal) FTy.f32 b) (dif_pos h)
    show _ = col (lanes (rowX m c R) (gain m c) (wts m c)) _ _ J
    rw [e0, e1]
    rfl
  · refine (dif_neg h).trans ((outS_at _ _ _ _).trans ?_)
    have e0 : rowX m c R = fun k => (m ((c : Thread nD τ).loc main_arg1) : FVec Ideal S128x8x2048 .f32) (ix3 (batS ⟨R.val - 8192, by omega⟩) (rowS ⟨R.val - 8192, by omega⟩) k) :=
      funext fun k => dif_neg h
    have e1 : pos R = FloatOps.sitofp (F := Ideal) FTy.f32 (IntOp.addi 8192#32 (BitVec.ofNat 32 (rowS ⟨R.val - 8192, by omega⟩).val)) := congrArg (fun b => FloatOps.sitofp (F := Ideal) FTy.f32 b) (dif_neg h)
    show _ = col (lanes (rowX m c R) (gain m c) (wts m c)) _ _ J
    rw [e0, e1]
    rfl

/-- Where an element of the result block of point `t` lies in the result array. -/
def place (t : Fin (cfgM m (okIdeal m)).N) (y : S1024x640.Idx) : S9216x2560.Idx := ix2 (row m t (y 0)) (lane m t (y 1))

/-- After the run the first result array is the reference's term. -/
theorem final5 (c : Dev nD) : (dats m (okIdeal m) 0 c).arrAt 5 (cfgM m (okIdeal m)).N = want m c := by
  refine (dats m (okIdeal m) 0 c).arrAt_eq_of_covers 5 _ (covers5 m) fun t hf y => ?_
  blk_simp
  rw [after0_5]
  refine (block5 m c t y).trans ?_
  refine Eq.trans ?_ (congrArg (want m c) (?_ : place m t y = _))
  · exact (want_at m c _ _).symm
  · refine funext fun a => ?_
    match a with
    | ⟨0, _⟩ =>
      refine Fin.ext ?_
      blk_simp [place, idx m t, row]
      try rfl
    | ⟨1, _⟩ =>
      refine Fin.ext ?_
      blk_simp [place, idx m t, lane]
      try rfl
/-- After the run the second result array, the same values in the narrow format, is the reference's term. -/
theorem final6 (c : Dev nD) : (dats m (okIdeal m) 0 c).arrAt 6 (cfgM m (okIdeal m)).N = truncf .bf16 (want m c) bitsLt_bf16_f32 := by
  refine (dats m (okIdeal m) 0 c).arrAt_eq_of_covers 6 _ (covers6 m) fun t hf y => ?_
  blk_simp
  rw [after0_6]
  refine (block6 m c t y).trans ?_
  refine Eq.trans ?_ (congrArg (want m c) (?_ : place m t y = _))
  · exact (want_at m c _ _).symm
  · refine funext fun a => ?_
    match a with
    | ⟨0, _⟩ =>
      refine Fin.ext ?_
      blk_simp [place, idx m t, row]
      try rfl
    | ⟨1, _⟩ =>
      refine Fin.ext ?_
      blk_simp [place, idx m t, lane]
      try rfl
/-- The reference's run leaves these results and its arguments. -/
theorem refRun (m' : (ℓ : Loc Cert.Reference7Ideal.nD Cert.Reference7Ideal.τ Cert.Reference7Ideal.sig) → Buf (Elt Ideal) ℓ) (g' : Dev Cert.Reference7Ideal.nD → PrngReg)
    (h : ∀ c : Dev nD,
      m' ((c.tc : Thread Cert.Reference7Ideal.nD Cert.Reference7Ideal.τ).loc Cert.Reference7Ideal.main_arg0) = m ((c.tc : Thread nD τ).loc main_arg0)
      ∧ m' ((c.tc : Thread Cert.Reference7Ideal.nD Cert.Reference7Ideal.τ).loc Cert.Reference7Ideal.main_arg1) = m ((c.tc : Thread nD τ).loc main_arg1)
      ∧ m' ((c.tc : Thread Cert.Reference7Ideal.nD Cert.Reference7Ideal.τ).loc Cert.Reference7Ideal.main_arg2) = m ((c.tc : Thread nD τ).loc main_arg2)
      ∧ m' ((c.tc : Thread Cert.Reference7Ideal.nD Cert.Reference7Ideal.τ).loc Cert.Reference7Ideal.main_arg3) = m ((c.tc : Thread nD τ).loc main_arg3)) :
    θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
      r.2.mem ((c.tc : Thread Cert.Reference7Ideal.nD Cert.Reference7Ideal.τ).loc Cert.Reference7Ideal.main_v120) = want m c
      ∧ r.2.mem ((c.tc : Thread Cert.Reference7Ideal.nD Cert.Reference7Ideal.τ).loc Cert.Reference7Ideal.main_v121) = truncf .bf16 (want m c) bitsLt_bf16_f32
      ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)) := by
  refine θ_run_mono (Cert.Reference7Ideal.Value.run m' g') fun r hr c => ?_
  obtain ⟨h0, h1, h2, h3⟩ := h c
  have e := Cert.ProjBRef.res_eq m' c
  have e' := Cert.ProjBRef.res_eq' m' c
  rw [h0, h1, h2, h3] at e e'
  obtain ⟨a, b, rest⟩ := hr c
  exact ⟨a.trans e, b.trans e', rest⟩
end Cert.ProjB
end
-- ==== Proof.ProjDRef.lean ====
module
public import proofs.«01_k».proof.Proof.Gen.Reference8Ideal.Run
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.ProjDRef
open Cert.Reference8Ideal Cert.Reference8Ideal.Gen

/-- The rotary frequencies, one for each pair of lanes of a head. -/
def freqs : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))
/-- The angles of the prompt positions. -/
def angP : FVec Ideal S4096x32 .f32 :=
  mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 freqs))
/-- The angles of the sample positions. -/
def angS : FVec Ideal S8x32 .f32 :=
  mulf (broadcastInDim S8x32 ![0, 1] bcast_S8x1_S8x32_0_1 (broadcastInDim S8x1 ![0] bcast_S8_S8x1_0 (sitofp .f32 (addi (broadcastInDim S8 ![] bcast_S_S8 (constantI S_ 32 8192#32)) (iotaInDim S8 32 0))))) (broadcastInDim S8x32 ![0, 1] bcast_S1x32_S8x32_0_1 (broadcastInDim S1x32 ![1] bcast_S32_S1x32_1 freqs))

theorem angP_at (r : S4096x32.Idx) : angP r = FloatOps.sitofp (F := Ideal) FTy.f32 (BitVec.ofNat 32 (r 0).val) * freqs (ix1 (r 1)) := by
  generalize e : freqs = f
  pointwise [angP, e]
theorem angS_at (r : S8x32.Idx) :
    angS r = FloatOps.sitofp (F := Ideal) FTy.f32 (IntOp.addi 8192#32 (BitVec.ofNat 32 (r 0).val)) * freqs (ix1 (r 1)) := by
  generalize e : freqs = f
  pointwise [angS, e]

/-- One head's lanes rotated: the first half takes away, the second half adds. -/
def rope (y : Fin 64 → EReal) (cs sn : Fin 32 → EReal) (d : Fin 64) : EReal :=
  if h : d.val < 32 then y d * cs ⟨d.val, h⟩ - y ⟨32 + d.val, by omega⟩ * sn ⟨d.val, h⟩
  else y ⟨32 + (d.val - 32), by omega⟩ * cs ⟨d.val - 32, by omega⟩ + y ⟨d.val - 32, by omega⟩ * sn ⟨d.val - 32, by omega⟩

/-- All lanes of a row: the two halves of the latent as they are, the key rotated, then zeros. -/
def col (y : Fin 1088 → EReal) (cs sn : Fin 32 → EReal) (j : Fin 1152) : EReal :=
  if h0 : j.val < 512 then y ⟨j.val, by omega⟩
  else if h1 : j.val - 512 < 512 then y ⟨512 + (j.val - 512), by omega⟩
  else if h2 : j.val - 512 - 512 < 64 then rope (fun d => y ⟨1024 + d.val, by omega⟩) cs sn ⟨j.val - 512 - 512, h2⟩
  else 0

/-- The rotation of one head of the prompt rows. -/
def ropeP1 (cs sn : FVec Ideal S4096x32 .f32) (x : FVec Ideal S2x4096x1x64 .f32) : FVec Ideal S2x4096x1x64 .f32 :=
  concatenate S2x4096x1x64 3 [⟨S2x4096x1x32, (subf (mulf (extractStridedSlice S2x4096x1x32 ![0, 0, 0, 0] x slices_S2x4096x1x64_S2x4096x1x32_0_0_0_0) (broadcastInDim S2x4096x1x32 ![0, 1, 2, 3] bcast_S1x4096x1x32_S2x4096x1x32_0_1_2_3 (broadcastInDim S1x4096x1x32 ![1, 2, 3] bcast_S4096x1x32_S1x4096x1x32_1_2_3 (broadcastInDim S4096x1x32 ![0, 2] bcast_S4096x32_S4096x1x32_0_2 cs)))) (mulf (extractStridedSlice S2x4096x1x32 ![0, 0, 0, 32] x slices_S2x4096x1x64_S2x4096x1x32_0_0_0_32) (broadcastInDim S2x4096x1x32 ![0, 1, 2, 3] bcast_S1x4096x1x32_S2x4096x1x32_0_1_2_3 (broadcastInDim S1x4096x1x32 ![1, 2, 3] bcast_S4096x1x32_S1x4096x1x32_1_2_3 (broadcastInDim S4096x1x32 ![0, 2] bcast_S4096x32_S4096x1x32_0_2 sn)))))⟩,
    ⟨S2x4096x1x32, (addf (mulf (extractStridedSlice S2x4096x1x32 ![0, 0, 0, 32] x slices_S2x4096x1x64_S2x4096x1x32_0_0_0_32) (broadcastInDim S2x4096x1x32 ![0, 1, 2, 3] bcast_S1x4096x1x32_S2x4096x1x32_0_1_2_3 (broadcastInDim S1x4096x1x32 ![1, 2, 3] bcast_S4096x1x32_S1x4096x1x32_1_2_3 (broadcastInDim S4096x1x32 ![0, 2] bcast_S4096x32_S4096x1x32_0_2 cs)))) (mulf (extractStridedSlice S2x4096x1x32 ![0, 0, 0, 0] x slices_S2x4096x1x64_S2x4096x1x32_0_0_0_0) (broadcastInDim S2x4096x1x32 ![0, 1, 2, 3] bcast_S1x4096x1x32_S2x4096x1x32_0_1_2_3 (broadcastInDim S1x4096x1x32 ![1, 2, 3] bcast_S4096x1x32_S1x4096x1x32_1_2_3 (broadcastInDim S4096x1x32 ![0, 2] bcast_S4096x32_S4096x1x32_0_2 sn)))))⟩] concatenates_S2x4096x1x32_S2x4096x1x32_S2x4096x1x64_d3
theorem ropeP1_at (cs sn : FVec Ideal S4096x32 .f32) (x : FVec Ideal S2x4096x1x64 .f32) (r : S2x4096x1x64.Idx) :
    ropeP1 cs sn x r = rope (fun d => x (ix4 (r 0) (r 1) 0 d)) (fun d => cs (ix2 (r 1) d)) (fun d => sn (ix2 (r 1) d)) (r 3) := by
  pointwise [ropeP1, rope]

/-- The position of a prompt row in its sequence. -/
def rowP (a : Fin 8192) : Fin 4096 := ⟨a.val % 4096, Nat.mod_lt _ (by decide)⟩
/-- The sequence of a prompt row. -/
def batP (a : Fin 8192) : Fin 2 := ⟨a.val / 4096, by omega⟩

/-- The pieces of the prompt rows side by side. -/
def layP (cs sn : FVec Ideal S4096x32 .f32) (H : FVec Ideal S2x4096x1088 .f32) : FVec Ideal S8192x1152 .f32 :=
  concatenate S8192x1152 1 [⟨S8192x512, (shapeCast _ (extractStridedSlice S2x4096x512 ![0, 0, 0] H slices_S2x4096x1088_S2x4096x512_0_0_0) shapeCasts_S2x4096x512_S8192x512)⟩,
    ⟨S8192x512, (shapeCast _ (extractStridedSlice S2x4096x512 ![0, 0, 512] H slices_S2x4096x1088_S2x4096x512_0_0_512) shapeCasts_S2x4096x512_S8192x512)⟩,
    ⟨S8192x64, (shapeCast _ (shapeCast S2x4096x64 (ropeP1 cs sn (broadcastInDim S2x4096x1x64 ![0, 1, 3] bcast_S2x4096x64_S2x4096x1x64_0_1_3 (extractStridedSlice S2x4096x64 ![0, 0, 1024] H slices_S2x4096x1088_S2x4096x64_0_0_1024))) shapeCasts_S2x4096x1x64_S2x4096x64) shapeCasts_S2x4096x64_S8192x64)⟩,
    ⟨S8192x64, broadcastInDim S8192x64 ![] bcast_S_S8192x64 (constant S_ .f32 0x00000000#32)⟩]
    concatenates_S8192x512_S8192x512_S8192x64_S8192x64_S8192x1152_d1
theorem layP_at (cs sn : FVec Ideal S4096x32 .f32) (H : FVec Ideal S2x4096x1088 .f32) (r : S8192x1152.Idx) : layP cs sn H r = col (fun l => H (ix3 (batP (r 0)) (rowP (r 0)) l)) (fun d => cs (ix2 (rowP (r 0)) d)) (fun d => sn (ix2 (rowP (r 0)) d)) (r 1) := by
  pointwise [layP, ropeP1_at, col, batP, rowP]

/-- The rotation of one head of the sample rows. -/
def ropeS1 (cs sn : FVec Ideal S8x32 .f32) (x : FVec Ideal S128x8x1x64 .f32) : FVec Ideal S128x8x1x64 .f32 :=
  concatenate S128x8x1x64 3 [⟨S128x8x1x32, (subf (mulf (extractStridedSlice S128x8x1x32 ![0, 0, 0, 0] x slices_S128x8x1x64_S128x8x1x32_0_0_0_0) (broadcastInDim S128x8x1x32 ![0, 1, 2, 3] bcast_S1x8x1x32_S128x8x1x32_0_1_2_3 (broadcastInDim S1x8x1x32 ![1, 2, 3] bcast_S8x1x32_S1x8x1x32_1_2_3 (broadcastInDim S8x1x32 ![0, 2] bcast_S8x32_S8x1x32_0_2 cs)))) (mulf (extractStridedSlice S128x8x1x32 ![0, 0, 0, 32] x slices_S128x8x1x64_S128x8x1x32_0_0_0_32) (broadcastInDim S128x8x1x32 ![0, 1, 2, 3] bcast_S1x8x1x32_S128x8x1x32_0_1_2_3 (broadcastInDim S1x8x1x32 ![1, 2, 3] bcast_S8x1x32_S1x8x1x32_1_2_3 (broadcastInDim S8x1x32 ![0, 2] bcast_S8x32_S8x1x32_0_2 sn)))))⟩,
    ⟨S128x8x1x32, (addf (mulf (extractStridedSlice S128x8x1x32 ![0, 0, 0, 32] x slices_S128x8x1x64_S128x8x1x32_0_0_0_32) (broadcastInDim S128x8x1x32 ![0, 1, 2, 3] bcast_S1x8x1x32_S128x8x1x32_0_1_2_3 (broadcastInDim S1x8x1x32 ![1, 2, 3] bcast_S8x1x32_S1x8x1x32_1_2_3 (broadcastInDim S8x1x32 ![0, 2] bcast_S8x32_S8x1x32_0_2 cs)))) (mulf (extractStridedSlice S128x8x1x32 ![0, 0, 0, 0] x slices_S128x8x1x64_S128x8x1x32_0_0_0_0) (broadcastInDim S128x8x1x32 ![0, 1, 2, 3] bcast_S1x8x1x32_S128x8x1x32_0_1_2_3 (broadcastInDim S1x8x1x32 ![1, 2, 3] bcast_S8x1x32_S1x8x1x32_1_2_3 (broadcastInDim S8x1x32 ![0, 2] bcast_S8x32_S8x1x32_0_2 sn)))))⟩] concatenates_S128x8x1x32_S128x8x1x32_S128x8x1x64_d3
theorem ropeS1_at (cs sn : FVec Ideal S8x32 .f32) (x : FVec Ideal S128x8x1x64 .f32) (r : S128x8x1x64.Idx) :
    ropeS1 cs sn x r = rope (fun d => x (ix4 (r 0) (r 1) 0 d)) (fun d => cs (ix2 (r 1) d)) (fun d => sn (ix2 (r 1) d)) (r 3) := by
  pointwise [ropeS1, rope]

/-- The position of a sample row in its sequence. -/
def rowS (a : Fin 1024) : Fin 8 := ⟨a.val % 8, Nat.mod_lt _ (by decide)⟩
/-- The sequence of a sample row. -/
def batS (a : Fin 1024) : Fin 128 := ⟨a.val / 8, by omega⟩

/-- The pieces of the sample rows side by side. -/
def layS (cs sn : FVec Ideal S8x32 .f32) (H : FVec Ideal S128x8x1088 .f32) : FVec Ideal S1024x1152 .f32 :=
  concatenate S1024x1152 1 [⟨S1024x512, (shapeCast _ (extractStridedSlice S128x8x512 ![0, 0, 0] H slices_S128x8x1088_S128x8x512_0_0_0) shapeCasts_S128x8x512_S1024x512)⟩,
    ⟨S1024x512, (shapeCast _ (extractStridedSlice S128x8x512 ![0, 0, 512] H slices_S128x8x1088_S128x8x512_0_0_512) shapeCasts_S128x8x512_S1024x512)⟩,
    ⟨S1024x64, (shapeCast _ (shapeCast S128x8x64 (ropeS1 cs sn (broadcastInDim S128x8x1x64 ![0, 1, 3] bcast_S128x8x64_S128x8x1x64_0_1_3 (extractStridedSlice S128x8x64 ![0, 0, 1024] H slices_S128x8x1088_S128x8x64_0_0_1024))) shapeCasts_S128x8x1x64_S128x8x64) shapeCasts_S128x8x64_S1024x64)⟩,
    ⟨S1024x64, broadcastInDim S1024x64 ![] bcast_S_S1024x64 (constant S_ .f32 0x00000000#32)⟩]
    concatenates_S1024x512_S1024x512_S1024x64_S1024x64_S1024x1152_d1
theorem layS_at (cs sn : FVec Ideal S8x32 .f32) (H : FVec Ideal S128x8x1088 .f32) (r : S1024x1152.Idx) : layS cs sn H r = col (fun l => H (ix3 (batS (r 0)) (rowS (r 0)) l)) (fun d => cs (ix2 (rowS (r 0)) d)) (fun d => sn (ix2 (rowS (r 0)) d)) (r 1) := by
  pointwise [layS, ropeS1_at, col, batS, rowS]
end Cert.ProjDRef
end
-- ==== Proof.ProjDSpec.lean ====
module
public import proofs.«01_k».proof.Proof.ProjDRef
@[expose] public section
set_option maxRecDepth 16384
noncomputable section
open Idealize.ShloMosaic Idealize.ShloMosaic.TcCoe Idealize.SL.Sem
namespace Cert.ProjDRef
open Cert.Reference8Ideal Cert.Reference8Ideal.Gen Cert.Reference8Ideal.Value

/-- One row of activations, normalised. -/
def xnorm (x g : Fin 2048 → EReal) (k : Fin 2048) : EReal :=
  x k * Ideal.rsqrt (Ideal.div (∑ l, x l * x l) (Ideal.ofBits FTy.f32 1157627904#32) + Ideal.ofBits FTy.f32 897988541#32) * g k
/-- One row of activations, normalised and projected. -/
def lanes (x g : Fin 2048 → EReal) (w : Fin 2048 → Fin 1088 → EReal) (l : Fin 1088) : EReal :=
  ∑ k, xnorm x g k * w k l
/-- One row of the result: the projected row, its heads rotated by the angles of position `p`. -/
def rowRes (x g : Fin 2048 → EReal) (w : Fin 2048 → Fin 1088 → EReal) (p : EReal) (j : Fin 1152) : EReal :=
  col (lanes x g w) (fun d => Ideal.cos (p * freqs (ix1 d))) (fun d => Ideal.sin (p * freqs (ix1 d))) j

/-- The projected prompt rows. -/
def hP (x : FVec Ideal S2x4096x2048 .f32) (g : FVec Ideal S4x2048 .f32) (w : FVec Ideal S2048x1088 .f32) : FVec Ideal S2x4096x1088 .f32 :=
  Host.dotGeneral dot_S2x4096x2048_S2048x1088_S2x4096x1088_2_0_01_1_n_n none (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ (extractStridedSlice S1x2048 ![3, 0] g slices_S4x2048_S1x2048_3_0) shapeCasts_S1x2048_S2048)))) w
/-- The projected sample rows. -/
def hS (x : FVec Ideal S128x8x2048 .f32) (g : FVec Ideal S4x2048 .f32) (w : FVec Ideal S2048x1088 .f32) : FVec Ideal S128x8x1088 .f32 :=
  Host.dotGeneral dot_S128x8x2048_S2048x1088_S128x8x1088_2_0_01_1_n_n none (mulf (mulf x (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf x x) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 (shapeCast _ (extractStridedSlice S1x2048 ![3, 0] g slices_S4x2048_S1x2048_3_0) shapeCasts_S1x2048_S2048)))) w
theorem hP_at (x : FVec Ideal S2x4096x2048 .f32) (g : FVec Ideal S4x2048 .f32) (w : FVec Ideal S2048x1088 .f32) (r : S2x4096x1088.Idx) :
    hP x g w r = lanes (fun k => x (ix3 (r 0) (r 1) k)) (fun k => g (ix2 3 k)) (fun k l => w (ix2 k l)) (r 2) := by
  pointwise [hP, lanes, xnorm]
theorem hS_at (x : FVec Ideal S128x8x2048 .f32) (g : FVec Ideal S4x2048 .f32) (w : FVec Ideal S2048x1088 .f32) (r : S128x8x1088.Idx) :
    hS x g w r = lanes (fun k => x (ix3 (r 0) (r 1) k)) (fun k => g (ix2 3 k)) (fun k l => w (ix2 k l)) (r 2) := by
  pointwise [hS, lanes, xnorm]

theorem cosP_at (r : S4096x32.Idx) : Host.cos angP r = Ideal.cos (FloatOps.sitofp (F := Ideal) FTy.f32 (BitVec.ofNat 32 (r 0).val) * freqs (ix1 (r 1))) :=
  congrArg Ideal.cos (angP_at r)
theorem sinP_at (r : S4096x32.Idx) : Host.sin angP r = Ideal.sin (FloatOps.sitofp (F := Ideal) FTy.f32 (BitVec.ofNat 32 (r 0).val) * freqs (ix1 (r 1))) :=
  congrArg Ideal.sin (angP_at r)
theorem cosS_at (r : S8x32.Idx) : Host.cos angS r = Ideal.cos (FloatOps.sitofp (F := Ideal) FTy.f32 (IntOp.addi 8192#32 (BitVec.ofNat 32 (r 0).val)) * freqs (ix1 (r 1))) :=
  congrArg Ideal.cos (angS_at r)
theorem sinS_at (r : S8x32.Idx) : Host.sin angS r = Ideal.sin (FloatOps.sitofp (F := Ideal) FTy.f32 (IntOp.addi 8192#32 (BitVec.ofNat 32 (r 0).val)) * freqs (ix1 (r 1))) :=
  congrArg Ideal.sin (angS_at r)

/-- The prompt rows of the reference's result. -/
def outP (x : FVec Ideal S2x4096x2048 .f32) (g : FVec Ideal S4x2048 .f32) (w : FVec Ideal S2048x1088 .f32) : FVec Ideal S8192x1152 .f32 :=
  layP (Host.cos angP) (Host.sin angP) (hP x g w)
/-- The sample rows of the reference's result. -/
def outS (x : FVec Ideal S128x8x2048 .f32) (g : FVec Ideal S4x2048 .f32) (w : FVec Ideal S2048x1088 .f32) : FVec Ideal S1024x1152 .f32 :=
  layS (Host.cos angS) (Host.sin angS) (hS x g w)
theorem outP_at (x : FVec Ideal S2x4096x2048 .f32) (g : FVec Ideal S4x2048 .f32) (w : FVec Ideal S2048x1088 .f32) (r : S8192x1152.Idx) :
    outP x g w r = rowRes (fun k => x (ix3 (batP (r 0)) (rowP (r 0)) k)) (fun k => g (ix2 3 k)) (fun k l => w (ix2 k l))
      (FloatOps.sitofp (F := Ideal) FTy.f32 (BitVec.ofNat 32 (rowP (r 0)).val)) (r 1) := by
  refine (layP_at _ _ _ r).trans ?_
  unfold rowRes
  have e : (fun l => hP x g w (ix3 (batP (r 0)) (rowP (r 0)) l)) = lanes (fun k => x (ix3 (batP (r 0)) (rowP (r 0)) k)) (fun k => g (ix2 3 k)) (fun k l => w (ix2 k l)) :=
    funext fun l => hP_at x g w _
  exact congrArg (fun y => col y _ _ (r 1)) e
theorem outS_at (x : FVec Ideal S128x8x2048 .f32) (g : FVec Ideal S4x2048 .f32) (w : FVec Ideal S2048x1088 .f32) (r : S1024x1152.Idx) :
    outS x g w r = rowRes (fun k => x (ix3 (batS (r 0)) (rowS (r 0)) k)) (fun k => g (ix2 3 k)) (fun k l => w (ix2 k l))
      (FloatOps.sitofp (F := Ideal) FTy.f32 (IntOp.addi 8192#32 (BitVec.ofNat 32 (rowS (r 0)).val))) (r 1) := by
  refine (layS_at _ _ _ r).trans ?_
  unfold rowRes
  have e : (fun l => hS x g w (ix3 (batS (r 0)) (rowS (r 0)) l)) = lanes (fun k => x (ix3 (batS (r 0)) (rowS (r 0)) k)) (fun k => g (ix2 3 k)) (fun k l => w (ix2 k l)) :=
    funext fun l => hS_at x g w _
  exact congrArg (fun y => col y _ _ (r 1)) e

/-- The reference's result. -/
def refArr (x0 : FVec Ideal S2x4096x2048 .f32) (x1 : FVec Ideal S128x8x2048 .f32) (g : FVec Ideal S4x2048 .f32) (w : FVec Ideal S2048x1088 .f32) :
    FVec Ideal S9216x1152 .f32 :=
  concatenate S9216x1152 0 [⟨S8192x1152, outP x0 g w⟩, ⟨S1024x1152, outS x1 g w⟩] concatenates_S8192x1152_S1024x1152_S9216x1152_d0
theorem refArr_at (x0 : FVec Ideal S2x4096x2048 .f32) (x1 : FVec Ideal S128x8x2048 .f32) (g : FVec Ideal S4x2048 .f32) (w : FVec Ideal S2048x1088 .f32)
    (r : S9216x1152.Idx) :
    refArr x0 x1 g w r = if h : (show Fin 9216 from r 0).val < 8192 then outP x0 g w (ix2 ⟨(r 0).val, h⟩ (r 1))
      else outS x1 g w (ix2 ⟨(r 0).val - 8192, by have := (show Fin 9216 from r 0).isLt; exact (by omega : (show Fin 9216 from r 0).val - 8192 < 1024)⟩ (r 1)) := by
  unfold refArr
  generalize outP x0 g w = a
  generalize outS x1 g w = b
  pointwise

/-- The composed term of the reference's run is its result. -/
theorem res_eq (m : (ℓ : Loc nD τ sig) → Buf (Elt Ideal) ℓ) (c : Dev nD) :
    res_main_v130 m c = refArr (m ((c : Thread nD τ).loc main_arg0)) (m ((c : Thread nD τ).loc main_arg1)) (m ((c : Thread nD τ).loc main_arg2)) (m ((c : Thread nD τ).loc main_arg3)) := by
  rfl
/-- The second result is the first in the narrow format. -/
theorem res_eq' (m : (ℓ : Loc nD τ sig) → Buf (Elt Ideal) ℓ) (c : Dev nD) :
    res_main_v131 m c = truncf .bf16 (refArr (m ((c : Thread nD τ).loc main_arg0)) (m ((c : Thread nD τ).loc main_arg1)) (m ((c : Thread nD τ).loc main_arg2)) (m ((c : Thread nD τ).loc main_arg3))) bitsLt_bf16_f32 := by
  rfl
end Cert.ProjDRef
end
-- ==== Proof.ProjDEntry.lean ====
module
public import proofs.«01_k».proof.Proof.Gen.Kernel8.Frame
public import proofs.«01_k».proof.Proof.Gen.Kernel8Ideal.Frame
public import proofs.«01_k».proof.Proof.ProjDSpec
public import Idealize.ShloMosaic.Lib.Pipeline.ValueKit
public import Idealize.ShloMosaic.Lib.Pipeline.Covers
public import Idealize.ShloMosaic.Lib.Pointwise
@[expose] public section
set_option maxRecDepth 65536
noncomputable section
open Idealize.ShloMosaic Idealize.ShloMosaic.TcCoe Idealize.SL.Sem
namespace Cert.ProjD
/-- The call's table is read at literal places only, so nothing is asked of it. -/
theorem ok (m : (ℓ : Loc Cert.Kernel8.nD Cert.Kernel8.τ Cert.Kernel8.sig) → Buf (Elt Bits) ℓ) : Cert.Kernel8.Gen.Ok m := trivial

open Cert.Kernel8Ideal Cert.Kernel8Ideal.Gen
open Cert.ProjDRef (rowRes lanes xnorm freqs col rope)
variable (m : (ℓ : Loc nD τ sig) → Buf (Elt Ideal) ℓ)

theorem okIdeal : Ok m := trivial

/-- Which block of its array each operand stages at grid point `t`: row tile `t / 3`, lane tile `t % 3`. -/
theorem idx : ∀ t : Fin (cfgM m (okIdeal m)).N, ((cfgM m (okIdeal m)).win 0).index t = ![t.val / 3, 0] ∧ ((cfgM m (okIdeal m)).win 1).index t = ![0, 0]
    ∧ ((cfgM m (okIdeal m)).win 2).index t = ![0, t.val % 3] ∧ ((cfgM m (okIdeal m)).win 3).index t = ![t.val / 3, 0]
    ∧ ((cfgM m (okIdeal m)).win 4).index t = ![t.val / 3, 0] ∧ ((cfgM m (okIdeal m)).win 5).index t = ![t.val / 3, t.val % 3]
    ∧ ((cfgM m (okIdeal m)).win 6).index t = ![t.val / 3, t.val % 3] :=
  (by decide +kernel : ∀ t : Fin grid0.N, cc0_transform_0 (grid0.coords t) = ![t.val / 3, 0] ∧ cc0_transform_1 (grid0.coords t) = ![0, 0]
    ∧ cc0_transform_2 (grid0.coords t) = ![0, t.val % 3] ∧ cc0_transform_3 (grid0.coords t) = ![t.val / 3, 0]
    ∧ cc0_transform_4 (grid0.coords t) = ![t.val / 3, 0] ∧ cc0_transform_5 (grid0.coords t) = ![t.val / 3, t.val % 3]
    ∧ cc0_transform_6 (grid0.coords t) = ![t.val / 3, t.val % 3])
theorem covers5 : ((cfgM m (okIdeal m)).win 5).Covers :=
  Pipeline.Window.covers_of_index_surj _ rfl (by decide : ∀ a : Fin 2, 0 < S1024x384.size a)
    (by decide +kernel : ∀ β : (a : Fin 2) → Fin ((S9216x1152.size a + S1024x384.size a - 1) / S1024x384.size a), ∃ t : Fin grid0.N, ∀ a, cc0_transform_5 (grid0.coords t) a = β a)
theorem covers6 : ((cfgM m (okIdeal m)).win 6).Covers :=
  Pipeline.Window.covers_of_index_surj _ rfl (by decide : ∀ a : Fin 2, 0 < S1024x384.size a)
    (by decide +kernel : ∀ β : (a : Fin 2) → Fin ((S9216x1152.size a + S1024x384.size a - 1) / S1024x384.size a), ∃ t : Fin grid0.N, ∀ a, cc0_transform_6 (grid0.coords t) a = β a)
theorem off_at : ∀ t : Fin grid0.N, ∀ u : Fin 3, k0_off1 (grid0.coords t) (BitVec.ofNat 32 u.val) 0 = t.val % 3 * 3 + u.val := by
  decide +kernel

/-- The table of the groups of lanes that are rotated. -/
theorem tbl_at (i : S9.Idx) : (tbl m 0 : IVec S9 32) i = lit0 (S9.rowMajor i) := by
  rfl
theorem lit_at : ∀ i : Fin 9, Scalar.cmpi .sgt (lit0 i) 0#32 = if i.val = 8 then 1#1 else 0#1 := by
  decide +kernel

/-- The activations of one row of the stacked array. -/
def rowX (c : Dev nD) (R : Fin 9216) (k : Fin 2048) : EReal :=
  if h : R.val < 8192 then (m ((c : Thread nD τ).loc main_arg0) : FVec Ideal S2x4096x2048 .f32) (ix3 ⟨R.val / 4096, by omega⟩ ⟨R.val % 4096, by omega⟩ k)
  else (m ((c : Thread nD τ).loc main_arg1) : FVec Ideal S128x8x2048 .f32) (ix3 ⟨(R.val - 8192) / 8, by omega⟩ ⟨(R.val - 8192) % 8, by omega⟩ k)
/-- The position of a row in its sequence. -/
def pos (R : Fin 9216) : EReal :=
  FloatOps.sitofp (F := Ideal) FTy.f32 (if h : R.val < 8192 then BitVec.ofNat 32 (R.val % 4096)
    else IntOp.addi 8192#32 (BitVec.ofNat 32 ((R.val - 8192) % 8)))
/-- The row of gains. -/
def gain (c : Dev nD) (k : Fin 2048) : EReal := (m ((c : Thread nD τ).loc main_arg2) : FVec Ideal S4x2048 .f32) (ix2 3 k)
/-- The weights. -/
def wts (c : Dev nD) (k : Fin 2048) (l : Fin 1088) : EReal := (m ((c : Thread nD τ).loc main_arg3) : FVec Ideal S2048x1088 .f32) (ix2 k l)
/-- The columns of a row, and columns of zeros. -/
def pick (y : Fin 1088 → EReal) (J : Fin 1152) : EReal :=
  if h0 : J.val < 1088 then y ⟨J.val, h0⟩ else 0
theorem sum_pick (x : Fin 2048 → EReal) (w : Fin 2048 → Fin 1088 → EReal) (J : Fin 1152) :
    ∑ k, x k * pick (w k) J = pick (fun l => ∑ k, x k * w k l) J := by
  unfold pick
  by_cases h0 : J.val < 1088
  · simp only [dif_pos h0]
  · simp only [dif_neg h0, mul_zero, Finset.sum_const_zero]
/-- One row's table of cosines, for two heads and each of their halves. -/
def cs2 (p : EReal) (d : Fin 128) : EReal :=
  if h : d.val % 64 < 32 then Ideal.cos (p * freqs (ix1 ⟨d.val % 64, h⟩)) else Ideal.cos (p * freqs (ix1 ⟨d.val % 64 - 32, by omega⟩))
/-- One row's table of sines, those of the first half of a head negated. -/
def sn2 (p : EReal) (d : Fin 128) : EReal :=
  if h : d.val % 64 < 32 then - Ideal.sin (p * freqs (ix1 ⟨d.val % 64, h⟩)) else Ideal.sin (p * freqs (ix1 ⟨d.val % 64 - 32, by omega⟩))

theorem entry2 (c : Dev nD) (r : S9216x2048.Idx) :
    (V m c main_v2 : FVec Ideal S9216x2048 .f32) r = rowX m c (r 0) (r 1) := by
  entry_read
  pointwise [rowX]
theorem entryG (c : Dev nD) (r : S1x2048.Idx) :
    (V m c main_v45 : FVec Ideal S1x2048 .f32) r = gain m c (r 1) := by
  entry_read
  pointwise [gain]
theorem entry37 (c : Dev nD) (r : S9216x128.Idx) :
    (V m c main_v37 : FVec Ideal S9216x128 .f32) r = cs2 (pos (r 0)) (r 1) := by
  entry_read
  pointwise [cs2, pos, freqs]
theorem entry40 (c : Dev nD) (r : S9216x128.Idx) :
    (V m c main_v40 : FVec Ideal S9216x128 .f32) r = sn2 (pos (r 0)) (r 1) := by
  entry_read
  pointwise [sn2, pos, freqs]
theorem entryW (c : Dev nD) (r : S2048x1152.Idx) :
    (V m c main_v46 : FVec Ideal S2048x1152 .bf16) r = pick (wts m c (r 0)) (r 1) := by
  entry_read
  pointwise [wts, pick]

/-- The lane that lane `d` of two heads is rotated with. -/
def pr (d : Fin 128) : Fin 128 := if d.val % 64 < 32 then ⟨(d.val + 128 - 96) % 128, by omega⟩ else ⟨(d.val + 128 - 32) % 128, by omega⟩
/-- What the kernel keeps in lane `J` of a row with lanes `f`. -/
def mix (f : Fin 1152 → EReal) (p : EReal) (J : Fin 1152) : EReal :=
  if J.val / 128 = 8 then
    f J * cs2 p ⟨J.val % 128, by omega⟩ + f ⟨J.val / 128 * 128 + (pr ⟨J.val % 128, by omega⟩).val, by omega⟩ * sn2 p ⟨J.val % 128, by omega⟩
  else f J
/-- Rotating one head by the tables, with the first half of the sines negated, is the reference's rotation. -/
theorem rot (g : Fin 64 → EReal) (p : EReal) (e : Fin 128) :
    g ⟨e.val % 64, by omega⟩ * cs2 p e + g ⟨(e.val % 64 + 32) % 64, by omega⟩ * sn2 p e
      = rope g (fun d => Ideal.cos (p * freqs (ix1 d))) (fun d => Ideal.sin (p * freqs (ix1 d))) ⟨e.val % 64, by omega⟩ := by
  unfold cs2 sn2 rope
  by_cases h : e.val % 64 < 32
  · have e1 : (⟨(e.val % 64 + 32) % 64, by omega⟩ : Fin 64) = ⟨32 + e.val % 64, by omega⟩ := Fin.ext (by simp only; omega)
    rw [dif_pos h, dif_pos h, dif_pos h, e1, sub_eq_add_neg, mul_neg]
  · have e1 : (⟨(e.val % 64 + 32) % 64, by omega⟩ : Fin 64) = ⟨e.val % 64 - 32, by omega⟩ := Fin.ext (by simp only; omega)
    have e2 : (⟨32 + (e.val % 64 - 32), by omega⟩ : Fin 64) = ⟨e.val % 64, by omega⟩ := Fin.ext (by simp only; omega)
    rw [dif_neg h, dif_neg h, dif_neg h, e1, e2]
theorem pr_at : ∀ d : Fin 128, (pr d).val = d.val / 64 * 64 + (d.val % 64 + 32) % 64 := by
  decide +kernel
/-- Rotating by the tables gives the reference's row. -/
theorem mix_col (y : Fin 1088 → EReal) (p : EReal) (J : Fin 1152) :
    mix (pick y) p J = col y (fun d => Ideal.cos (p * freqs (ix1 d))) (fun d => Ideal.sin (p * freqs (ix1 d))) J := by
  have hJ := J.isLt
  unfold mix col
  by_cases h : J.val / 128 = 8
  · have h0 : ¬ J.val < 512 := by omega
    have h1 : ¬ J.val - 512 < 512 := by omega
    rw [if_pos h, dif_neg h0, dif_neg h1]
    have hp := pr_at ⟨J.val % 128, by omega⟩
    have hp' : (pr ⟨J.val % 128, by omega⟩).val = J.val % 128 / 64 * 64 + (J.val % 128 % 64 + 32) % 64 := hp
    by_cases h2 : J.val - 512 - 512 < 64
    · rw [dif_pos h2]
      have e3 : (⟨J.val - 512 - 512, h2⟩ : Fin 64) = ⟨(⟨J.val % 128, by omega⟩ : Fin 128).val % 64, by omega⟩ := Fin.ext (by simp only; omega)
      rw [e3, ← rot]
      have e0 : pick y J = y ⟨1024 + J.val % 128 % 64, by omega⟩ :=
        (dif_pos (by omega : J.val < 1088)).trans (congrArg y (Fin.ext (by simp only; omega)))
      have e1 : pick y ⟨J.val / 128 * 128 + (pr ⟨J.val % 128, by omega⟩).val, by omega⟩ = y ⟨1024 + (J.val % 128 % 64 + 32) % 64, by omega⟩ :=
        (dif_pos (by simp only [hp']; omega : J.val / 128 * 128 + (pr ⟨J.val % 128, by omega⟩).val < 1088)).trans (congrArg y (Fin.ext (by simp only [hp']; omega)))
      exact congrArg₂ (fun a b => a * cs2 p ⟨J.val % 128, by omega⟩ + b * sn2 p ⟨J.val % 128, by omega⟩) e0 e1
    · rw [dif_neg h2]
      have e0 : pick y J = 0 := dif_neg (by omega : ¬ J.val < 1088)
      have e1 : pick y ⟨J.val / 128 * 128 + (pr ⟨J.val % 128, by omega⟩).val, by omega⟩ = 0 :=
        dif_neg (by simp only [hp']; omega : ¬ J.val / 128 * 128 + (pr ⟨J.val % 128, by omega⟩).val < 1088)
      rw [e0, e1, zero_mul, zero_mul, add_zero]
  · rw [if_neg h]
    have hj : J.val < 1024 := by omega
    refine (dif_pos (by omega : J.val < 1088)).trans ?_
    by_cases h0 : J.val < 512
    · rw [dif_pos h0]
    · have h1 : J.val - 512 < 512 := by omega
      rw [dif_neg h0, dif_pos h1]
      exact congrArg y (Fin.ext (by simp only; omega))

/-- Whether lane `n` is in the first half of its head. -/
def mask (n : ℕ) : BitVec 1 :=
  IntOp.cmpi CmpIPredicate.slt
    (Scalar.select
      (IntOp.andi (IntOp.xori (IntOp.cmpi CmpIPredicate.slt (IntOp.remsi ArithUnit.vector (BitVec.ofNat 32 n) (Scalar.select (Scalar.cmpi CmpIPredicate.eq 64#32 0#32) 1#32 64#32)) 0#32) (Scalar.cmpi CmpIPredicate.slt (Scalar.select (Scalar.cmpi CmpIPredicate.eq 64#32 0#32) 1#32 64#32) 0#32)) (IntOp.cmpi CmpIPredicate.ne (IntOp.remsi ArithUnit.vector (BitVec.ofNat 32 n) (Scalar.select (Scalar.cmpi CmpIPredicate.eq 64#32 0#32) 1#32 64#32)) 0#32))
      (IntOp.addi (IntOp.remsi ArithUnit.vector (BitVec.ofNat 32 n) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 n) (Scalar.select (Scalar.cmpi CmpIPredicate.eq 64#32 0#32) 1#32 64#32)))
    32#32
theorem mask_at : ∀ d : Fin 128, mask d.val = if d.val % 64 < 32 then 1#1 else 0#1 := by
  decide +kernel
/-- One group of 128 lanes of a block, two heads, rotated or not. -/
def sel (fl : BitVec 32) (a : FVec Ideal S1024x384 .f32) (cs sn : FVec Ideal S1024x128 .f32) (o : Nat) (ho : o + 128 ≤ 384) (x : S1024x128.Idx) : EReal :=
  Scalar.select (Scalar.cmpi .sgt fl 0#32)
    (a (ix2 (x 0) ⟨o + (show Fin 128 from x 1).val, by have := (show Fin 128 from x 1).isLt; omega⟩) * cs x
      + Scalar.select (mask (show Fin 128 from x 1).val) (a (ix2 (x 0) ⟨o + ((show Fin 128 from x 1).val + 128 - 96) % 128, by omega⟩))
          (a (ix2 (x 0) ⟨o + ((show Fin 128 from x 1).val + 128 - 32) % 128, by omega⟩)) * sn x)
    (a (ix2 (x 0) ⟨o + (show Fin 128 from x 1).val, by have := (show Fin 128 from x 1).isLt; omega⟩))
theorem pay7_at (xn : FVec Ideal S1024x2048 .bf16) (w : FVec Ideal S2048x384 .bf16) (cs sn : FVec Ideal S1024x128 .f32) (fl : BitVec 32) (x : S1024x128.Idx) :
    k0_pay7 (F := Ideal) (k0_pay5 xn w) (k0_pay6 xn w cs sn) fl x = sel fl (k0_pay4 xn w) cs sn 0 (by decide) x := by
  pointwise [sel, mask, k0_pay7, k0_pay5, k0_pay6]
theorem pay8_at (xn : FVec Ideal S1024x2048 .bf16) (w : FVec Ideal S2048x384 .bf16) (cs sn : FVec Ideal S1024x128 .f32) (fl : BitVec 32) (x : S1024x128.Idx) :
    k0_pay8 (F := Ideal) (k0_pay5 xn w) (k0_pay6 xn w cs sn) fl x = sel fl (k0_pay4 xn w) cs sn 0 (by decide) x := by
  pointwise [sel, mask, k0_pay8, k0_pay7, k0_pay5, k0_pay6]
theorem pay12_at (xn : FVec Ideal S1024x2048 .bf16) (w : FVec Ideal S2048x384 .bf16) (cs sn : FVec Ideal S1024x128 .f32) (fl : BitVec 32) (x : S1024x128.Idx) :
    k0_pay12 (F := Ideal) (k0_pay9 (k0_pay4 xn w)) (k0_pay10 (k0_pay4 xn w) cs) (k0_pay11 (k0_pay4 xn w) sn) fl x = sel fl (k0_pay4 xn w) cs sn 128 (by decide) x := by
  pointwise [sel, mask, k0_pay12, k0_pay9, k0_pay10, k0_pay11]
theorem pay13_at (xn : FVec Ideal S1024x2048 .bf16) (w : FVec Ideal S2048x384 .bf16) (cs sn : FVec Ideal S1024x128 .f32) (fl : BitVec 32) (x : S1024x128.Idx) :
    k0_pay13 (F := Ideal) (k0_pay9 (k0_pay4 xn w)) (k0_pay10 (k0_pay4 xn w) cs) (k0_pay11 (k0_pay4 xn w) sn) fl x = sel fl (k0_pay4 xn w) cs sn 128 (by decide) x := by
  pointwise [sel, mask, k0_pay13, k0_pay12, k0_pay9, k0_pay10, k0_pay11]
theorem pay1_at (xn : FVec Ideal S1024x2048 .bf16) (w : FVec Ideal S2048x384 .bf16) (cs sn : FVec Ideal S1024x128 .f32) (fl : BitVec 32) (x : S1024x128.Idx) :
    k0_pay1 (F := Ideal) (k0_pay14 (k0_pay4 xn w)) (k0_pay15 sn) (k0_pay16 (k0_pay4 xn w)) (k0_pay17 (k0_pay4 xn w) cs) fl x = sel fl (k0_pay4 xn w) cs sn 256 (by decide) x := by
  pointwise [sel, mask, k0_pay1, k0_pay14, k0_pay15, k0_pay16, k0_pay17]
theorem pay2_at (xn : FVec Ideal S1024x2048 .bf16) (w : FVec Ideal S2048x384 .bf16) (cs sn : FVec Ideal S1024x128 .f32) (fl : BitVec 32) (x : S1024x128.Idx) :
    k0_pay2 (F := Ideal) (k0_pay14 (k0_pay4 xn w)) (k0_pay15 sn) (k0_pay16 (k0_pay4 xn w)) (k0_pay17 (k0_pay4 xn w) cs) fl x = sel fl (k0_pay4 xn w) cs sn 256 (by decide) x := by
  pointwise [sel, mask, k0_pay2, k0_pay1, k0_pay14, k0_pay15, k0_pay16, k0_pay17]
theorem pay3_at (a : FVec Ideal S1024x2048 .f32) (g : FVec Ideal S1x2048 .f32) (x : S1024x2048.Idx) :
    k0_pay3 (F := Ideal) a g x = xnorm (fun k => a (ix2 (x 0) k)) (fun k => g (ix2 0 k)) (x 1) := by
  pointwise [k0_pay3, xnorm]
theorem pay4_at (xn : FVec Ideal S1024x2048 .bf16) (w : FVec Ideal S2048x384 .bf16) (x : S1024x384.Idx) :
    k0_pay4 (F := Ideal) xn w x = ∑ k, xn (ix2 (x 0) k) * w (ix2 k (x 1)) := by
  pointwise [k0_pay4]
end Cert.ProjD
end
-- ==== Proof.ProjDBlock.lean ====
module
public import proofs.«01_k».proof.Proof.ProjDEntry
@[expose] public section
set_option maxRecDepth 16384
noncomputable section
open Idealize.ShloMosaic Idealize.ShloMosaic.TcCoe Idealize.SL.Sem
namespace Cert.ProjD
open Cert.Kernel8Ideal Cert.Kernel8Ideal.Gen
open Cert.ProjDRef (rowRes lanes xnorm freqs col refArr refArr_at outP_at outS_at)
variable (m : (ℓ : Loc nD τ sig) → Buf (Elt Ideal) ℓ)

/-- The row block staged at point `t`. -/
def rows (c : Dev nD) (t : Fin (cfgM m (okIdeal m)).N) : Vec Ideal S1024x2048 .f32 := iblk m (okIdeal m) c 0 t
/-- The gain block of point `t`. -/
def gains (c : Dev nD) (t : Fin (cfgM m (okIdeal m)).N) : FVec Ideal S1x2048 .f32 := iblk m (okIdeal m) c 1 t
/-- The weight block of point `t`. -/
def wblk (c : Dev nD) (t : Fin (cfgM m (okIdeal m)).N) : FVec Ideal S2048x384 .bf16 := iblk m (okIdeal m) c 2 t
/-- The normalised row block of point `t`. -/
def xn (c : Dev nD) (t : Fin (cfgM m (okIdeal m)).N) : FVec Ideal S1024x2048 .bf16 := k0_pay3 (rows m c t) (gains m c t)

theorem lt27 (t : Fin (cfgM m (okIdeal m)).N) : t.val < 27 := t.isLt

theorem rows_prev (c : Dev nD) (t u : Fin (cfgM m (okIdeal m)).N) (h : t.val / 3 = u.val / 3) : rows m c t = rows m c u := by
  funext r
  blk_ext [rows, iblk, V, idx m t, idx m u, h]
theorem gains_prev (c : Dev nD) (t u : Fin (cfgM m (okIdeal m)).N) : gains m c t = gains m c u := by
  funext r
  blk_ext [gains, iblk, V, idx m t, idx m u]
theorem xn_prev (c : Dev nD) (t u : Fin (cfgM m (okIdeal m)).N) (h : t.val / 3 = u.val / 3) : xn m c t = xn m c u :=
  congrArg₂ k0_pay3 (rows_prev m c t u h) (gains_prev m c t u)

/-- The carried scratch after point `t` is the normalised row block of `t`'s row tile. -/
theorem scr (c : Dev nD) : ∀ (n : ℕ) (t : Fin (cfgM m (okIdeal m)).N), t.val = n → (outsAt0 m (okIdeal m) c t.val t.isLt).2.2 = xn m c t := by
  intro n
  induction n with
  | zero =>
    intro t ht
    rw [outsAt0_A m _ c t (by omega)]
    funext r
    frame_out
    exact congrFun (congrArg₂ k0_pay3 (Memref.IsWhole.read_unread _ _) (Memref.IsWhole.read_unread _ _)) r
  | succ n ih =>
    intro t ht
    by_cases h : t.val % 3 = 0
    · rw [outsAt0_A m _ c t h]
      funext r
      frame_out
      exact congrFun (congrArg₂ k0_pay3 (Memref.IsWhole.read_unread _ _) (Memref.IsWhole.read_unread _ _)) r
    · have hp : t.val - 1 < (cfgM m (okIdeal m)).N := Nat.lt_of_le_of_lt (Nat.sub_le _ _) t.isLt
      have e := ih ⟨t.val - 1, hp⟩ (by simp only; omega)
      rw [outsAt0_B m _ c t h]
      dsimp only [sout0_B_0]
      dsimp only at e
      exact e.trans (xn_prev m c _ _ (by simp only; omega))

/-- The row of the stacked array that row `a` of the block of point `t` is. -/
def row (t : Fin (cfgM m (okIdeal m)).N) (a : Fin 1024) : Fin 9216 := ⟨t.val / 3 * 1024 + a.val, by have := lt27 m t; omega⟩
/-- The lane of the result array that lane `b` of the block of point `t` is. -/
def lane (t : Fin (cfgM m (okIdeal m)).N) (b : Fin 384) : Fin 1152 := ⟨t.val % 3 * 384 + b.val, by have := lt27 m t; omega⟩

theorem xn_at (c : Dev nD) (t : Fin (cfgM m (okIdeal m)).N) (a : Fin 1024) (k : Fin 2048) :
    xn m c t (ix2 a k) = xnorm (rowX m c (row m t a)) (gain m c) k := by
  rw [xn, pay3_at]
  have e : ∀ k, rows m c t (ix2 a k) = rowX m c (row m t a) k := fun k => by
    refine Eq.trans ?_ (entry2 m c (ix2 (row m t a) k))
    blk_ext [rows, iblk, idx m t, row]
  have e' : ∀ k, gains m c t (ix2 0 k) = gain m c k := fun k => by
    refine Eq.trans ?_ (entryG m c (ix2 0 k))
    blk_ext [gains, iblk, idx m t]
  exact congrArg₂ (fun x g => xnorm x g k) (funext e) (funext e')
theorem wts_at (c : Dev nD) (t : Fin (cfgM m (okIdeal m)).N) (k : Fin 2048) (b : Fin 384) :
    wblk m c t (ix2 k b) = pick (wts m c k) (lane m t b) := by
  refine Eq.trans ?_ (entryW m c (ix2 k (lane m t b)))
  blk_ext [wblk, iblk, idx m t, lane]
theorem cos_at (c : Dev nD) (t : Fin (cfgM m (okIdeal m)).N) (x : S1024x128.Idx) :
    (iblk m (okIdeal m) c 3 t : Vec Ideal S1024x128 .f32) x = cs2 (pos (row m t (x 0))) (x 1) := by
  refine Eq.trans ?_ (entry37 m c (ix2 (row m t (x 0)) (x 1)))
  blk_ext [iblk, idx m t, row]
theorem sin_at (c : Dev nD) (t : Fin (cfgM m (okIdeal m)).N) (x : S1024x128.Idx) :
    (iblk m (okIdeal m) c 4 t : Vec Ideal S1024x128 .f32) x = sn2 (pos (row m t (x 0))) (x 1) := by
  refine Eq.trans ?_ (entry40 m c (ix2 (row m t (x 0)) (x 1)))
  blk_ext [iblk, idx m t, row]

/-- The product of point `t`'s row block and weights. -/
def acc (c : Dev nD) (t : Fin (cfgM m (okIdeal m)).N) : FVec Ideal S1024x384 .f32 := k0_pay4 (xn m c t) (wblk m c t)
/-- One row of the kernel's product, all lanes. -/
def line (c : Dev nD) (R : Fin 9216) (J : Fin 1152) : EReal := pick (lanes (rowX m c R) (gain m c) (wts m c)) J
theorem acc_at (c : Dev nD) (t : Fin (cfgM m (okIdeal m)).N) (a : Fin 1024) (b : Fin 384) :
    acc m c t (ix2 a b) = line m c (row m t a) (lane m t b) := by
  rw [acc, pay4_at]
  refine (Finset.sum_congr rfl fun k _ => congrArg₂ (· * ·) (xn_at m c t a k) (wts_at m c t k b)).trans ?_
  exact sum_pick _ _ _

/-- A block of the result at one place. -/
def res (c : Dev nD) (t : Fin (cfgM m (okIdeal m)).N) (y : S1024x384.Idx) : EReal :=
  mix (line m c (row m t (y 0))) (pos (row m t (y 0))) (lane m t (y 1))

theorem select_one (b : BitVec 1) (P : Prop) [Decidable P] (h : b = if P then 1#1 else 0#1) (x y : EReal) :
    Scalar.select b x y = if P then x else y := by
  subst h
  by_cases hp : P
  · rw [if_pos hp, if_pos hp]; rfl
  · rw [if_neg hp, if_neg hp]; rfl

theorem ite_mix {P Q : Prop} [Decidable P] [Decidable Q] (h : P ↔ Q) {a a' b b' x x' z z' : EReal} (ea : a = a') (eb : b = b') (ex : x = x') (ez : z = z') :
    (if P then a * x + b * z else a) = if Q then a' * x' + b' * z' else a' := by
  subst ea eb ex ez
  exact if_congr h rfl rfl

theorem sel_at (c : Dev nD) (t : Fin (cfgM m (okIdeal m)).N) (u : Fin 3) (o : Nat) (ho : o + 128 ≤ 384) (e : o = 128 * u.val) (fl : BitVec 32)
    (hfl : fl = lit0 ⟨t.val % 3 * 3 + u.val, by omega⟩) (y : S1024x384.Idx) (x : S1024x128.Idx)
    (e0 : (y 0).val = (x 0).val) (e1 : (y 1).val = o + (x 1).val) :
    sel fl (acc m c t) (iblk m (okIdeal m) c 3 t) (iblk m (okIdeal m) c 4 t) o ho x = res m c t y := by
  have hx : (show Fin 128 from x 1).val < 128 := (show Fin 128 from x 1).isLt
  have ey0 : (show Fin 1024 from y 0) = (show Fin 1024 from x 0) := Fin.ext e0
  have ey1 : (show Fin 384 from y 1) = ⟨o + (show Fin 128 from x 1).val, by omega⟩ := Fin.ext e1
  have hl : (lane m t (y 1)).val = t.val % 3 * 384 + (o + (show Fin 128 from x 1).val) := congrArg (t.val % 3 * 384 + ·) e1
  have hd : (lane m t (y 1)).val / 128 = t.val % 3 * 3 + u.val := by rw [hl]; omega
  have hm : (lane m t (y 1)).val % 128 = (show Fin 128 from x 1).val := by rw [hl]; omega
  have l0 : lane m t ⟨o + (show Fin 128 from x 1).val, by omega⟩ = lane m t (y 1) := Fin.ext hl.symm
  have hx' : (x 1).val < 128 := hx
  have hl' : (lane m t (y 1)).val = t.val % 3 * 384 + (o + (x 1).val) := hl
  have hm' : (lane m t (y 1)).val % 128 = (x 1).val := hm
  have l1 : lane m t ⟨o + (pr (show Fin 128 from x 1)).val, by omega⟩
      = ⟨(lane m t (y 1)).val / 128 * 128 + (pr ⟨(lane m t (y 1)).val % 128, by omega⟩).val, by have := (lane m t (y 1)).isLt; omega⟩ := by
    refine Fin.ext ?_
    have hp : pr ⟨(lane m t (y 1)).val % 128, by omega⟩ = pr (show Fin 128 from x 1) := congrArg pr (Fin.ext hm)
    show t.val % 3 * 384 + (o + (pr (show Fin 128 from x 1)).val) = (lane m t (y 1)).val / 128 * 128 + (pr ⟨(lane m t (y 1)).val % 128, by omega⟩).val
    rw [hd, hp]
    omega
  have r0 : row m t (y 0) = row m t (x 0) := congrArg (row m t) ey0
  have d0 : (⟨(lane m t (y 1)).val % 128, by omega⟩ : Fin 128) = x 1 := Fin.ext hm
  have hs := lit_at ⟨t.val % 3 * 3 + u.val, by omega⟩
  rw [← hfl] at hs
  have ec := cos_at m c t x
  have es := sin_at m c t x
  have ea := acc_at m c t (show Fin 1024 from x 0) ⟨o + (show Fin 128 from x 1).val, by omega⟩
  have eb : Scalar.select (mask (show Fin 128 from x 1).val) (acc m c t (ix2 (show Fin 1024 from x 0) ⟨o + ((show Fin 128 from x 1).val + 128 - 96) % 128, by omega⟩))
      (acc m c t (ix2 (show Fin 1024 from x 0) ⟨o + ((show Fin 128 from x 1).val + 128 - 32) % 128, by omega⟩))
      = line m c (row m t (show Fin 1024 from x 0)) (lane m t ⟨o + (pr (show Fin 128 from x 1)).val, by omega⟩) := by
    refine (select_one _ _ (mask_at (show Fin 128 from x 1)) _ _).trans ?_
    by_cases hq : (show Fin 128 from x 1).val % 64 < 32
    · have ep : pr (show Fin 128 from x 1) = ⟨((show Fin 128 from x 1).val + 128 - 96) % 128, by omega⟩ := if_pos hq
      refine (if_pos hq).trans ((acc_at m c t _ _).trans (congrArg (line m c _) (Fin.ext ?_)))
      show t.val % 3 * 384 + (o + _) = t.val % 3 * 384 + (o + (pr (show Fin 128 from x 1)).val)
      rw [ep]
    · have ep : pr (show Fin 128 from x 1) = ⟨((show Fin 128 from x 1).val + 128 - 32) % 128, by omega⟩ := if_neg hq
      refine (if_neg hq).trans ((acc_at m c t _ _).trans (congrArg (line m c _) (Fin.ext ?_)))
      show t.val % 3 * 384 + (o + _) = t.val % 3 * 384 + (o + (pr (show Fin 128 from x 1)).val)
      rw [ep]
  have r0' : row m t (show Fin 1024 from x 0) = row m t (y 0) := r0.symm
  refine (select_one _ _ hs _ _).trans (ite_mix (by simp only [hd]) (ea.trans ?_) (eb.trans ?_) (ec.trans ?_) (es.trans ?_))
  · exact congrArg₂ (line m c) r0' l0
  · exact congrArg₂ (line m c) r0' l1
  · exact congrArg₂ cs2 (congrArg pos r0') d0.symm
  · exact congrArg₂ sn2 (congrArg pos r0') d0.symm

/-- A flag read at the place of group `u` of point `t`. -/
theorem flag_at (t : Fin (cfgM m (okIdeal m)).N) (u : Fin 3) (i : S9.Idx) (h : (i 0).val = t.val % 3 * 3 + u.val) :
    (tbl m 0 : IVec S9 32) i = lit0 ⟨t.val % 3 * 3 + u.val, by omega⟩ := by
  rw [tbl_at]
  refine congrArg lit0 (Fin.ext ?_)
  have e : ∀ j : Fin 9, (S9.rowMajor (ix1 j)).val = j.val := by decide +kernel
  have hi : i = ix1 (i 0) := funext fun a => by rw [Fin.fin_one_eq_zero a]; rfl
  rw [hi]
  exact (e _).trans h

theorem sel_block (c : Dev nD) (t : Fin (cfgM m (okIdeal m)).N) (u : Fin 3) (o : Nat) (ho : o + 128 ≤ 384) (e : o = 128 * u.val) (fl : BitVec 32)
    (X : FVec Ideal S1024x2048 .bf16) (W : FVec Ideal S2048x384 .bf16) (C S : FVec Ideal S1024x128 .f32)
    (hX : X = xn m c t) (hW : W = wblk m c t) (hC : C = iblk m (okIdeal m) c 3 t) (hS : S = iblk m (okIdeal m) c 4 t)
    (i : S9.Idx) (hfl : fl = (tbl m 0 : IVec S9 32) i) (hi : (i 0).val = t.val % 3 * 3 + u.val) (y : S1024x384.Idx) (x : S1024x128.Idx)
    (e0 : (y 0).val = (x 0).val) (e1 : (y 1).val = o + (x 1).val) :
    sel fl (k0_pay4 X W) C S o ho x = res m c t y := by
  subst hX hW hC hS
  exact sel_at m c t u o ho e fl (hfl.trans (flag_at m t u i hi)) y x e0 e1

set_option maxHeartbeats 8000000 in
theorem block5 (c : Dev nD) (t : Fin (cfgM m (okIdeal m)).N) (y : S1024x384.Idx) :
    (outsAt0 m (okIdeal m) c t.val t.isLt).1 y = res m c t y := by
  by_cases h : t.val % 3 = 0
  · skip
    rw [outsAt0_A m _ c t h]
    frame_out
    canon_tiles x h
    · refine (pay1_at _ _ _ _ _ x).trans ?_
      exact sel_block m c t 2 256 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 2) y x h0 h1
    · refine (pay12_at _ _ _ _ _ x).trans ?_
      exact sel_block m c t 1 128 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 1) y x h0 h1
    · refine (pay7_at _ _ _ _ _ x).trans ?_
      exact sel_block m c t 0 0 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 0) y x h0 (h1.trans (Nat.zero_add _).symm)
  · have hp : t.val - 1 < (cfgM m (okIdeal m)).N := Nat.lt_of_le_of_lt (Nat.sub_le _ _) t.isLt
    rw [outsAt0_B m _ c t h]
    frame_out
    canon_tiles x h
    · refine (pay1_at _ _ _ _ _ x).trans ?_
      exact sel_block m c t 2 256 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 2) y x h0 h1
    · refine (pay12_at _ _ _ _ _ x).trans ?_
      exact sel_block m c t 1 128 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 1) y x h0 h1
    · refine (pay7_at _ _ _ _ _ x).trans ?_
      exact sel_block m c t 0 0 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 0) y x h0 (h1.trans (Nat.zero_add _).symm)
set_option maxHeartbeats 8000000 in
theorem block6 (c : Dev nD) (t : Fin (cfgM m (okIdeal m)).N) (y : S1024x384.Idx) :
    (outsAt0 m (okIdeal m) c t.val t.isLt).2.1 y = res m c t y := by
  by_cases h : t.val % 3 = 0
  · skip
    rw [outsAt0_A m _ c t h]
    frame_out
    canon_tiles x h
    · refine (pay2_at _ _ _ _ _ x).trans ?_
      exact sel_block m c t 2 256 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 2) y x h0 h1
    · refine (pay13_at _ _ _ _ _ x).trans ?_
      exact sel_block m c t 1 128 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 1) y x h0 h1
    · refine (pay8_at _ _ _ _ _ x).trans ?_
      exact sel_block m c t 0 0 (by decide) rfl _ _ _ _ _ (congrArg₂ k0_pay3 (Memref.IsWhole.read_unread _ _) (Memref.IsWhole.read_unread _ _))
        (Memref.IsWhole.read_unread _ _) (Memref.IsWhole.read_unread _ _) (Memref.IsWhole.read_unread _ _) _ rfl (off_at t 0) y x h0 (h1.trans (Nat.zero_add _).symm)
  · have hp : t.val - 1 < (cfgM m (okIdeal m)).N := Nat.lt_of_le_of_lt (Nat.sub_le _ _) t.isLt
    rw [outsAt0_B m _ c t h]
    frame_out
    canon_tiles x h
    · refine (pay2_at _ _ _ _ _ x).trans ?_
      exact sel_block m c t 2 256 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 2) y x h0 h1
    · refine (pay13_at _ _ _ _ _ x).trans ?_
      exact sel_block m c t 1 128 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 1) y x h0 h1
    · refine (pay8_at _ _ _ _ _ x).trans ?_
      exact sel_block m c t 0 0 (by decide) rfl _ _ _ _ _ ((Memref.IsWhole.read_unread _ _).trans ((scr m c _ ⟨t.val - 1, hp⟩ rfl).trans (xn_prev m c ⟨t.val - 1, hp⟩ t (by simp only; omega))))
        (Memref.IsWhole.read_unread _ _) (Memref.IsWhole.read_unread _ _) (Memref.IsWhole.read_unread _ _) _ rfl (off_at t 0) y x h0 (h1.trans (Nat.zero_add _).symm)
end Cert.ProjD
end
-- ==== Proof.ProjDValue.lean ====
module
public import proofs.«01_k».proof.Proof.ProjDBlock
public import Idealize.ShloMosaic.Lib.Pipeline.ValueKit
public import Idealize.ShloMosaic.Lib.Pointwise
@[expose] public section
set_option maxRecDepth 65536
noncomputable section
open Idealize.ShloMosaic Idealize.ShloMosaic.TcCoe Idealize.SL.Sem
namespace Cert.ProjD
open Cert.Kernel8Ideal Cert.Kernel8Ideal.Gen
open Cert.ProjDRef (rowRes lanes xnorm freqs col refArr refArr_at outP_at outS_at rowP batP rowS batS)
variable (m : (ℓ : Loc nD τ sig) → Buf (Elt Ideal) ℓ)

/-- The reference's result of the launch arrays. -/
def want (c : Dev nD) : FVec Ideal S9216x1152 .f32 :=
  refArr (m ((c : Thread nD τ).loc main_arg0)) (m ((c : Thread nD τ).loc main_arg1)) (m ((c : Thread nD τ).loc main_arg2)) (m ((c : Thread nD τ).loc main_arg3))

/-- The reference's result at one place, in the kernel's order of work. -/
theorem want_at (c : Dev nD) (R : Fin 9216) (J : Fin 1152) : want m c (ix2 R J) = mix (line m c R) (pos R) J := by
  refine Eq.trans ?_ (mix_col _ _ _).symm
  refine (refArr_at _ _ _ _ _).trans ?_
  by_cases h : R.val < 8192
  · refine (dif_pos h).trans ((outP_at _ _ _ _).trans ?_)
    have e0 : rowX m c R = fun k => (m ((c : Thread nD τ).loc main_arg0) : FVec Ideal S2x4096x2048 .f32) (ix3 (batP ⟨R.val, h⟩) (rowP ⟨R.val, h⟩) k) :=
      funext fun k => dif_pos h
    have e1 : pos R = FloatOps.sitofp (F := Ideal) FTy.f32 (BitVec.ofNat 32 (rowP ⟨R.val, h⟩).val) := congrArg (fun b => FloatOps.sitofp (F := Ideal) FTy.f32 b) (dif_pos h)
    show _ = col (lanes (rowX m c R) (gain m c) (wts m c)) _ _ J
    rw [e0, e1]
    rfl
  · refine (dif_neg h).trans ((outS_at _ _ _ _).trans ?_)
    have e0 : rowX m c R = fun k => (m ((c : Thread nD τ).loc main_arg1) : FVec Ideal S128x8x2048 .f32) (ix3 (batS ⟨R.val - 8192, by omega⟩) (rowS ⟨R.val - 8192, by omega⟩) k) :=
      funext fun k => dif_neg h
    have e1 : pos R = FloatOps.sitofp (F := Ideal) FTy.f32 (IntOp.addi 8192#32 (BitVec.ofNat 32 (rowS ⟨R.val - 8192, by omega⟩).val)) := congrArg (fun b => FloatOps.sitofp (F := Ideal) FTy.f32 b) (dif_neg h)
    show _ = col (lanes (rowX m c R) (gain m c) (wts m c)) _ _ J
    rw [e0, e1]
    rfl

/-- Where an element of the result block of point `t` lies in the result array. -/
def place (t : Fin (cfgM m (okIdeal m)).N) (y : S1024x384.Idx) : S9216x1152.Idx := ix2 (row m t (y 0)) (lane m t (y 1))

/-- After the run the first result array is the reference's term. -/
theorem final5 (c : Dev nD) : (dats m (okIdeal m) 0 c).arrAt 5 (cfgM m (okIdeal m)).N = want m c := by
  refine (dats m (okIdeal m) 0 c).arrAt_eq_of_covers 5 _ (covers5 m) fun t hf y => ?_
  blk_simp
  rw [after0_5]
  refine (block5 m c t y).trans ?_
  refine Eq.trans ?_ (congrArg (want m c) (?_ : place m t y = _))
  · exact (want_at m c _ _).symm
  · refine funext fun a => ?_
    match a with
    | ⟨0, _⟩ =>
      refine Fin.ext ?_
      blk_simp [place, idx m t, row]
      try rfl
    | ⟨1, _⟩ =>
      refine Fin.ext ?_
      blk_simp [place, idx m t, lane]
      try rfl
/-- After the run the second result array, the same values in the narrow format, is the reference's term. -/
theorem final6 (c : Dev nD) : (dats m (okIdeal m) 0 c).arrAt 6 (cfgM m (okIdeal m)).N = truncf .bf16 (want m c) bitsLt_bf16_f32 := by
  refine (dats m (okIdeal m) 0 c).arrAt_eq_of_covers 6 _ (covers6 m) fun t hf y => ?_
  blk_simp
  rw [after0_6]
  refine (block6 m c t y).trans ?_
  refine Eq.trans ?_ (congrArg (want m c) (?_ : place m t y = _))
  · exact (want_at m c _ _).symm
  · refine funext fun a => ?_
    match a with
    | ⟨0, _⟩ =>
      refine Fin.ext ?_
      blk_simp [place, idx m t, row]
      try rfl
    | ⟨1, _⟩ =>
      refine Fin.ext ?_
      blk_simp [place, idx m t, lane]
      try rfl
/-- The reference's run leaves these results and its arguments. -/
theorem refRun (m' : (ℓ : Loc Cert.Reference8Ideal.nD Cert.Reference8Ideal.τ Cert.Reference8Ideal.sig) → Buf (Elt Ideal) ℓ) (g' : Dev Cert.Reference8Ideal.nD → PrngReg)
    (h : ∀ c : Dev nD,
      m' ((c.tc : Thread Cert.Reference8Ideal.nD Cert.Reference8Ideal.τ).loc Cert.Reference8Ideal.main_arg0) = m ((c.tc : Thread nD τ).loc main_arg0)
      ∧ m' ((c.tc : Thread Cert.Reference8Ideal.nD Cert.Reference8Ideal.τ).loc Cert.Reference8Ideal.main_arg1) = m ((c.tc : Thread nD τ).loc main_arg1)
      ∧ m' ((c.tc : Thread Cert.Reference8Ideal.nD Cert.Reference8Ideal.τ).loc Cert.Reference8Ideal.main_arg2) = m ((c.tc : Thread nD τ).loc main_arg2)
      ∧ m' ((c.tc : Thread Cert.Reference8Ideal.nD Cert.Reference8Ideal.τ).loc Cert.Reference8Ideal.main_arg3) = m ((c.tc : Thread nD τ).loc main_arg3)) :
    θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
      r.2.mem ((c.tc : Thread Cert.Reference8Ideal.nD Cert.Reference8Ideal.τ).loc Cert.Reference8Ideal.main_v130) = want m c
      ∧ r.2.mem ((c.tc : Thread Cert.Reference8Ideal.nD Cert.Reference8Ideal.τ).loc Cert.Reference8Ideal.main_v131) = truncf .bf16 (want m c) bitsLt_bf16_f32
      ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)) := by
  refine θ_run_mono (Cert.Reference8Ideal.Value.run m' g') fun r hr c => ?_
  obtain ⟨h0, h1, h2, h3⟩ := h c
  have e := Cert.ProjDRef.res_eq m' c
  have e' := Cert.ProjDRef.res_eq' m' c
  rw [h0, h1, h2, h3] at e e'
  obtain ⟨a, b, rest⟩ := hr c
  exact ⟨a.trans e, b.trans e', rest⟩
end Cert.ProjD
end
-- ==== Proof.LatRef.lean ====
module
public import proofs.«01_k».proof.Proof.Gen.Reference9Ideal.Run
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.LatRef
open Cert.Reference9Ideal Cert.Reference9Ideal.Gen

/-- A row of latents, normalised by its root mean square and scaled by the gain. -/
def xnorm (x g : Fin 512 → EReal) (k : Fin 512) : EReal :=
  x k * Ideal.rsqrt (Ideal.div (∑ a, x a * x a) (Ideal.ofBits FTy.f32 0x44000000#32) + Ideal.ofBits FTy.f32 0x358637BD#32) * g k

/-- The lanes of the latents. -/
def cut (d : FVec Ideal S9216x1152 .f32) : FVec Ideal S9216x512 .f32 :=
  extractStridedSlice S9216x512 ![0, 512] d slices_S9216x1152_S9216x512_0_512
/-- The reference's result. -/
def out (d : FVec Ideal S9216x1152 .f32) (g : FVec Ideal S512 .f32) : FVec Ideal S9216x512 .f32 :=
  mulf (mulf (cut d) (broadcastInDim S9216x512 ![0, 1] bcast_S9216x1_S9216x512_0_1 (Host.rsqrt (addf (Host.divf (broadcastInDim S9216x1 ![0] bcast_S9216_S9216x1_0 (Host.reduceAdd (mulf (cut d) (cut d)) (constant S_ .f32 0x00000000#32) reducesTo_S9216x512_S9216_d1 h_S_)) (broadcastInDim S9216x1 ![] bcast_S_S9216x1 (constant S_ .f32 0x44000000#32))) (broadcastInDim S9216x1 ![] bcast_S_S9216x1 (constant S_ .f32 0x358637BD#32)))))) (broadcastInDim S9216x512 ![0, 1] bcast_S1x512_S9216x512_0_1 (broadcastInDim S1x512 ![1] bcast_S512_S1x512_1 g))
theorem out_at (d : FVec Ideal S9216x1152 .f32) (g : FVec Ideal S512 .f32) (r : S9216x512.Idx) :
    out d g r = xnorm (fun k => d (ix2 (r 0) ⟨512 + k.val, by omega⟩)) (fun k => g (ix1 k)) (r 1) := by
  pointwise [out, cut, xnorm]
end Cert.LatRef
end
-- ==== Proof.LatValue.lean ====
module
public import proofs.«01_k».proof.Proof.Gen.Kernel9Ideal.Value
public import proofs.«01_k».proof.Proof.LatRef
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.Lat
open Cert.Kernel9Ideal Cert.Kernel9Ideal.Gen Cert.LatRef
variable (m : (ℓ : Loc nD τ sig) → Buf (Elt Ideal) ℓ)

/-- Which block of its array each operand stages at grid point `t`: row tile `t` of the latents' lanes, and the whole gain. -/
theorem idx : ∀ t : Fin cfg0.N, win0_0.index t = ![t.val, 1] ∧ win0_1.index t = ![0, 0] ∧ win0_2.index t = ![t.val, 0] :=
  (by decide +kernel : ∀ t : Fin grid0.N, _)

theorem entry0 (c : Dev nD) (r : S1x512.Idx) :
    (V m c main_v0 : FVec Ideal S1x512 .f32) r = (m ((c : Thread nD τ).loc main_arg1) : FVec Ideal S512 .f32) (ix1 (r 1)) := by
  entry_read
  pointwise

theorem pay_at (a : Vec Ideal S512x512 .f32) (g : Vec Ideal S1x512 .f32) (r : S512x512.Idx) :
    k0_pay1 a g r = xnorm (fun k => a (ix2 (r 0) k)) (fun k => g (ix2 0 k)) (r 1) := by
  pointwise [k0_pay1, xnorm]

/-- The latents' lanes of one row tile, as the call reads them. -/
theorem x_at (c : Dev nD) (t : Fin cfg0.N) (r : S512x512.Idx) (R : Fin 9216) (hR : R.val = t.val * 512 + (r 0).val) :
    (X0_0 m c t : Vec Ideal S512x512 .f32) r
      = (m ((c : Thread nD τ).loc main_arg0) : FVec Ideal S9216x1152 .f32) (ix2 R ⟨512 + (show Fin 512 from r 1).val, by omega⟩) := by
  unfold X0_0 Pipeline.Window.fill
  rw [dif_pos (moved0_0 t r)]
  blk_ext [iblk, V, idx t, hR]

/-- After the run the result array is the reference's term. -/
theorem final (c : Dev nD) : (dats m 0 c).arrAt 2 cfg0.N
    = out (m ((c : Thread nD τ).loc main_arg0)) (m ((c : Thread nD τ).loc main_arg1)) := by
  refine (dats m 0 c).arrAt_eq_of_covers 2 _ (by decide +kernel) fun t hf y => ?_
  blk_simp
  rw [after0_2, out_at]
  unfold outsAt0
  frame_out
  rw [pay_at]
  have e1 : (win0_2.blk t).view.emb y 1 = y 1 := by
    refine Fin.ext ?_
    blk_simp [idx t]
  rw [e1]
  congr 1
  · funext k
    refine x_at m c t (ix2 (y 0) k) _ ?_
    blk_simp [idx t]
  · funext k
    refine Eq.trans ?_ (entry0 m c (ix2 0 k))
    blk_ext [iblk, idx t]
end Cert.Lat
end
-- ==== Proof.FfnRef.lean ====
module
public import proofs.«01_k».proof.Proof.Gen.Reference2Ideal.Run
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.FfnRef
open Cert.Reference2Ideal Cert.Reference2Ideal.Gen

/-- A row of activations, normalised by its root mean square and scaled by the gain. -/
def xnorm (x g : Fin 2048 → EReal) (k : Fin 2048) : EReal :=
  x k * Ideal.rsqrt (Ideal.div (∑ a, x a * x a) (Ideal.ofBits FTy.f32 1157627904#32) + Ideal.ofBits FTy.f32 897988541#32) * g k

/-- The normalised row against one column of the first weight matrix. -/
def hid (x g : Fin 2048 → EReal) (wi : Fin 2048 → Fin 11264 → EReal) (l : Fin 11264) : EReal :=
  ∑ k, xnorm x g k * wi k l

/-- One gated hidden activation: lane `l` of the first half through `silu`, times lane `l` of the second half. -/
def act (x g : Fin 2048 → EReal) (wi : Fin 2048 → Fin 11264 → EReal) (l : Fin 5632) : EReal :=
  hid x g wi ⟨l, by omega⟩ * Ideal.logistic (hid x g wi ⟨l, by omega⟩) * hid x g wi ⟨5632 + l, by omega⟩

/-- The whole block at one row: the row plus its gated hidden activations against the second weight matrix. -/
def row (x g : Fin 2048 → EReal) (wi : Fin 2048 → Fin 11264 → EReal) (wo : Fin 5632 → Fin 2048 → EReal)
    (i : Fin 2048) : EReal :=
  x i + ∑ l, act x g wi l * wo l i

/-- The reference's normalised activations of the prompt rows. -/
def Np (xp : FVec Ideal S2x4096x2048 .f32) (g : FVec Ideal S4x2048 .f32) : FVec Ideal S2x4096x2048 .f32 :=
  (mulf (mulf xp (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf xp xp) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ (extractStridedSlice S1x2048 ![3, 0] g slices_S4x2048_S1x2048_3_0) shapeCasts_S1x2048_S2048))))
/-- The reference's hidden activations of the prompt rows. -/
def Hp (xp : FVec Ideal S2x4096x2048 .f32) (g : FVec Ideal S4x2048 .f32) (wi : FVec Ideal S4x2048x11264 .f32) :
    FVec Ideal S2x4096x11264 .f32 :=
  (Host.dotGeneral dot_S2x4096x2048_S2048x11264_S2x4096x11264_2_0_01_1_n_n none (Np xp g) (shapeCast _ (extractStridedSlice S1x2048x11264 ![3, 0, 0] wi slices_S4x2048x11264_S1x2048x11264_3_0_0) shapeCasts_S1x2048x11264_S2048x11264))
/-- The reference's result on the prompt rows. -/
def Rp (xp : FVec Ideal S2x4096x2048 .f32) (g : FVec Ideal S4x2048 .f32) (wi : FVec Ideal S4x2048x11264 .f32)
    (wo : FVec Ideal S4x5632x2048 .f32) : FVec Ideal S2x4096x2048 .f32 :=
  (addf xp (Host.dotGeneral dot_S2x4096x5632_S5632x2048_S2x4096x2048_2_0_01_1_n_n none (mulf (mulf (extractStridedSlice S2x4096x5632 ![0, 0, 0] (Hp xp g wi) slices_S2x4096x11264_S2x4096x5632_0_0_0) (Host.divf (broadcastInDim S2x4096x5632 ![] bcast_S_S2x4096x5632 (constant S_ .f32 0x3F800000#32)) (addf (broadcastInDim S2x4096x5632 ![] bcast_S_S2x4096x5632 (constant S_ .f32 0x3F800000#32)) (Host.exp (Host.negf (extractStridedSlice S2x4096x5632 ![0, 0, 0] (Hp xp g wi) slices_S2x4096x11264_S2x4096x5632_0_0_0)))))) (extractStridedSlice S2x4096x5632 ![0, 0, 5632] (Hp xp g wi) slices_S2x4096x11264_S2x4096x5632_0_0_5632)) (shapeCast _ (extractStridedSlice S1x5632x2048 ![3, 0, 0] wo slices_S4x5632x2048_S1x5632x2048_3_0_0) shapeCasts_S1x5632x2048_S5632x2048)))

theorem Np_at (xp : FVec Ideal S2x4096x2048 .f32) (g : FVec Ideal S4x2048 .f32) (r : S2x4096x2048.Idx) :
    Np xp g r = xnorm (fun k => xp (ix3 (r 0) (r 1) k)) (fun k => g (ix2 3 k)) (r 2) := by
  pointwise [Np, xnorm]
theorem Hp_at (xp : FVec Ideal S2x4096x2048 .f32) (g : FVec Ideal S4x2048 .f32) (wi : FVec Ideal S4x2048x11264 .f32)
    (r : S2x4096x11264.Idx) :
    Hp xp g wi r = hid (fun k => xp (ix3 (r 0) (r 1) k)) (fun k => g (ix2 3 k)) (fun k l => wi (ix3 3 k l)) (r 2) := by
  pointwise [Hp, hid, Np_at]
/-- The reference's prompt result at an index is the row function of that row. -/
theorem Rp_at (xp : FVec Ideal S2x4096x2048 .f32) (g : FVec Ideal S4x2048 .f32) (wi : FVec Ideal S4x2048x11264 .f32)
    (wo : FVec Ideal S4x5632x2048 .f32) (r : S2x4096x2048.Idx) :
    Rp xp g wi wo r = row (fun k => xp (ix3 (r 0) (r 1) k)) (fun k => g (ix2 3 k)) (fun k l => wi (ix3 3 k l))
      (fun k l => wo (ix3 3 k l)) (r 2) := by
  pointwise [Rp, row, act, Hp_at, Ideal.logistic]

/-- The reference's normalised activations of the sample rows. -/
def Ns (xs : FVec Ideal S128x8x2048 .f32) (g : FVec Ideal S4x2048 .f32) : FVec Ideal S128x8x2048 .f32 :=
  (mulf (mulf xs (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf xs xs) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 (shapeCast _ (extractStridedSlice S1x2048 ![3, 0] g slices_S4x2048_S1x2048_3_0) shapeCasts_S1x2048_S2048))))
/-- The reference's hidden activations of the sample rows. -/
def Hs (xs : FVec Ideal S128x8x2048 .f32) (g : FVec Ideal S4x2048 .f32) (wi : FVec Ideal S4x2048x11264 .f32) :
    FVec Ideal S128x8x11264 .f32 :=
  (Host.dotGeneral dot_S128x8x2048_S2048x11264_S128x8x11264_2_0_01_1_n_n none (Ns xs g) (shapeCast _ (extractStridedSlice S1x2048x11264 ![3, 0, 0] wi slices_S4x2048x11264_S1x2048x11264_3_0_0) shapeCasts_S1x2048x11264_S2048x11264))
/-- The reference's result on the sample rows. -/
def Rs (xs : FVec Ideal S128x8x2048 .f32) (g : FVec Ideal S4x2048 .f32) (wi : FVec Ideal S4x2048x11264 .f32)
    (wo : FVec Ideal S4x5632x2048 .f32) : FVec Ideal S128x8x2048 .f32 :=
  (addf xs (Host.dotGeneral dot_S128x8x5632_S5632x2048_S128x8x2048_2_0_01_1_n_n none (mulf (mulf (extractStridedSlice S128x8x5632 ![0, 0, 0] (Hs xs g wi) slices_S128x8x11264_S128x8x5632_0_0_0) (Host.divf (broadcastInDim S128x8x5632 ![] bcast_S_S128x8x5632 (constant S_ .f32 0x3F800000#32)) (addf (broadcastInDim S128x8x5632 ![] bcast_S_S128x8x5632 (constant S_ .f32 0x3F800000#32)) (Host.exp (Host.negf (extractStridedSlice S128x8x5632 ![0, 0, 0] (Hs xs g wi) slices_S128x8x11264_S128x8x5632_0_0_0)))))) (extractStridedSlice S128x8x5632 ![0, 0, 5632] (Hs xs g wi) slices_S128x8x11264_S128x8x5632_0_0_5632)) (shapeCast _ (extractStridedSlice S1x5632x2048 ![3, 0, 0] wo slices_S4x5632x2048_S1x5632x2048_3_0_0) shapeCasts_S1x5632x2048_S5632x2048)))

theorem Ns_at (xs : FVec Ideal S128x8x2048 .f32) (g : FVec Ideal S4x2048 .f32) (r : S128x8x2048.Idx) :
    Ns xs g r = xnorm (fun k => xs (ix3 (r 0) (r 1) k)) (fun k => g (ix2 3 k)) (r 2) := by
  pointwise [Ns, xnorm]
theorem Hs_at (xs : FVec Ideal S128x8x2048 .f32) (g : FVec Ideal S4x2048 .f32) (wi : FVec Ideal S4x2048x11264 .f32)
    (r : S128x8x11264.Idx) :
    Hs xs g wi r = hid (fun k => xs (ix3 (r 0) (r 1) k)) (fun k => g (ix2 3 k)) (fun k l => wi (ix3 3 k l)) (r 2) := by
  pointwise [Hs, hid, Ns_at]
/-- The reference's sample result at an index is the row function of that row. -/
theorem Rs_at (xs : FVec Ideal S128x8x2048 .f32) (g : FVec Ideal S4x2048 .f32) (wi : FVec Ideal S4x2048x11264 .f32)
    (wo : FVec Ideal S4x5632x2048 .f32) (r : S128x8x2048.Idx) :
    Rs xs g wi wo r = row (fun k => xs (ix3 (r 0) (r 1) k)) (fun k => g (ix2 3 k)) (fun k l => wi (ix3 3 k l))
      (fun k l => wo (ix3 3 k l)) (r 2) := by
  pointwise [Rs, row, act, Hs_at, Ideal.logistic]

/-- The prompt rows above the sample rows, as one array. -/
def stack (xp : FVec Ideal S2x4096x2048 .f32) (xs : FVec Ideal S128x8x2048 .f32) : FVec Ideal S9216x2048 .f32 :=
  concatenate S9216x2048 0 [⟨S8192x2048, shapeCast _ xp shapeCasts_S2x4096x2048_S8192x2048⟩,
    ⟨S1024x2048, shapeCast _ xs shapeCasts_S128x8x2048_S1024x2048⟩] concatenates_S8192x2048_S1024x2048_S9216x2048_d0

/-- The reference's whole result, row by row of the stacked activations. -/
theorem ref_at (xp : FVec Ideal S2x4096x2048 .f32) (xs : FVec Ideal S128x8x2048 .f32) (g : FVec Ideal S4x2048 .f32)
    (wi : FVec Ideal S4x2048x11264 .f32) (wo : FVec Ideal S4x5632x2048 .f32) (r : S9216x2048.Idx) :
    stack (Rp xp g wi wo) (Rs xs g wi wo) r = row (fun k => stack xp xs (ix2 (r 0) k)) (fun k => g (ix2 3 k))
      (fun k l => wi (ix3 3 k l)) (fun k l => wo (ix3 3 k l)) (r 1) := by
  pointwise [stack, Rp_at, Rs_at]
  split <;> rfl

/-- What the reference returns, in these terms. -/
theorem res_eq (m : (ℓ : Loc nD τ sig) → Buf (Elt Ideal) ℓ) (c : Dev nD) :
    Cert.Reference2Ideal.Value.res_main_v54 m c = stack (Rp (m ((c.tc : Thread nD τ).loc main_arg0)) (m ((c.tc : Thread nD τ).loc main_arg2)) (m ((c.tc : Thread nD τ).loc main_arg3)) (m ((c.tc : Thread nD τ).loc main_arg4)))
      (Rs (m ((c.tc : Thread nD τ).loc main_arg1)) (m ((c.tc : Thread nD τ).loc main_arg2)) (m ((c.tc : Thread nD τ).loc main_arg3)) (m ((c.tc : Thread nD τ).loc main_arg4))) := rfl

end Cert.FfnRef
end
-- ==== Proof.FfnValue.lean ====
module
public import proofs.«01_k».proof.Proof.Gen.Kernel2Ideal.Value
public import proofs.«01_k».proof.Proof.FfnRef
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.Ffn
open Cert.Kernel2Ideal Cert.Kernel2Ideal.Gen Cert.FfnRef
variable (m : (ℓ : Loc nD τ sig) → Buf (Elt Ideal) ℓ)

/-- Which block of its array each operand stages at grid point `t`: row tile `t / 11`, lane tile `t % 11`. -/
theorem idx : ∀ t : Fin cfg0.N, win0_0.index t = ![t.val / 11, 0] ∧ win0_1.index t = ![0, 0]
    ∧ win0_2.index t = ![3, 0, t.val % 11] ∧ win0_3.index t = ![3, 0, 11 + t.val % 11]
    ∧ win0_4.index t = ![3, t.val % 11, 0] ∧ win0_5.index t = ![t.val / 11, 0] :=
  (by decide +kernel : ∀ t : Fin grid0.N, _)

/-- The stacked activations the call reads. -/
theorem entry2 (c : Dev nD) : V m c main_v2 = stack (m ((c : Thread nD τ).loc main_arg0)) (m ((c : Thread nD τ).loc main_arg1)) := by
  entry_read
  rfl
theorem entry5 (c : Dev nD) (r : S1x2048.Idx) :
    (V m c main_v5 : FVec Ideal S1x2048 .f32) r = (m ((c : Thread nD τ).loc main_arg2) : FVec Ideal S4x2048 .f32) (ix2 3 (r 1)) := by
  entry_read
  pointwise
theorem entry6 (c : Dev nD) (r : S4x2048x11264.Idx) :
    (V m c main_v6 : FVec Ideal S4x2048x11264 .bf16) r = (m ((c : Thread nD τ).loc main_arg3) : FVec Ideal S4x2048x11264 .f32) r := by
  entry_read
  pointwise
theorem entry7 (c : Dev nD) (r : S4x5632x2048.Idx) :
    (V m c main_v7 : FVec Ideal S4x5632x2048 .bf16) r = (m ((c : Thread nD τ).loc main_arg4) : FVec Ideal S4x5632x2048 .f32) r := by
  entry_read
  pointwise

/-- The copied row block. -/
theorem pay1_at (a : Vec Ideal S1024x2048 .f32) (r : S1024x2048.Idx) : k0_pay1 a r = a r := by
  pointwise [k0_pay1]
/-- The normalised row block. -/
theorem pay2_at (a : Vec Ideal S1024x2048 .f32) (g : Vec Ideal S1x2048 .f32) (r : S1024x2048.Idx) :
    k0_pay2 a g r = xnorm (fun k => a (ix2 (r 0) k)) (fun k => g (ix2 0 k)) (r 1) := by
  pointwise [k0_pay2, k0_pay1, xnorm]

/-- What one lane tile adds to the accumulator. -/
def part (xn : Vec Ideal S1024x2048 .bf16) (wg wu : Vec Ideal S1x2048x512 .bf16) (wo : Vec Ideal S1x512x2048 .bf16)
    (r : S1024x2048.Idx) : EReal :=
  ∑ l : Fin 512, ((∑ k : Fin 2048, xn (ix2 (r 0) k) * wg (ix3 0 k l)) * Ideal.logistic (∑ k : Fin 2048, xn (ix2 (r 0) k) * wg (ix3 0 k l))
    * ∑ k : Fin 2048, xn (ix2 (r 0) k) * wu (ix3 0 k l)) * wo (ix3 0 l (r 1))

theorem pay3_at (xn : Vec Ideal S1024x2048 .bf16) (wg wu : Vec Ideal S1x2048x512 .bf16) (acc : Vec Ideal S1024x2048 .f32)
    (wo : Vec Ideal S1x512x2048 .bf16) (r : S1024x2048.Idx) : k0_pay3 xn wg wu acc wo r = acc r + part xn wg wu wo r := by
  pointwise [k0_pay3, part]

/-- The row block staged at point `t`. -/
def rows (c : Dev nD) (t : Fin cfg0.N) : Vec Ideal S1024x2048 .f32 := iblk m c 0 t

/-- The normalised row block of point `t`. -/
def xn (c : Dev nD) (t : Fin cfg0.N) : Vec Ideal S1024x2048 .bf16 := k0_pay2 (rows m c t) (iblk m c 1 t)

theorem rows_prev (c : Dev nD) (t u : Fin cfg0.N) (h : t.val / 11 = u.val / 11) : rows m c t = rows m c u := by
  funext r
  blk_ext [rows, iblk, V, idx t, idx u, h]

theorem xn_prev (c : Dev nD) (t u : Fin cfg0.N) (h : t.val / 11 = u.val / 11) : xn m c t = xn m c u := by
  funext r
  rw [xn, xn, rows_prev m c t u h, pay2_at, pay2_at]
  congr 1

/-- The carried scratch after point `t` is the normalised row block of `t`'s row tile. -/
theorem scr (c : Dev nD) : ∀ (n : ℕ) (t : Fin cfg0.N), t.val = n → (outsAt0 m c t.val t.isLt).2 = xn m c t := by
  intro n
  induction n with
  | zero =>
    intro t ht
    rw [outsAt0_A m c t (by omega)]
    funext r
    frame_out
    rfl
  | succ n ih =>
    intro t ht
    by_cases h : t.val % 11 = 0
    · rw [outsAt0_A m c t h]
      funext r
      frame_out
      rfl
    · have hp : t.val - 1 < cfg0.N := Nat.lt_of_le_of_lt (Nat.sub_le _ _) t.isLt
      have e := ih ⟨t.val - 1, hp⟩ (by simp only; omega)
      rw [outsAt0_B m c t h]
      dsimp only [sout0_B_0]
      dsimp only at e
      exact e.trans (xn_prev m c _ _ (by simp only; omega))

/-- The lane tile of point `t`, over the operand blocks staged there. -/
def tile (c : Dev nD) (t : Fin cfg0.N) (r : S1024x2048.Idx) : EReal :=
  part (xn m c t) (iblk m c 2 t) (iblk m c 3 t) (iblk m c 4 t) r

/-- What point `t` adds to the output block: its lane tile, and at the first point of a row tile the rows themselves. -/
def term (c : Dev nD) (t : Fin cfg0.N) (r : S1024x2048.Idx) : EReal :=
  (if t.val % 11 = 0 then rows m c t r else 0) + tile m c t r

/-- The output block at the last point of a row tile: the rows plus the eleven lane tiles. -/
theorem block (c : Dev nD) (t : Fin cfg0.N) (hr : t.val % 11 = 10) (r : S1024x2048.Idx) :
    (outsAt0 m c t.val t.isLt).1 r = rows m c t r
      + ∑ s : Fin 11, tile m c ⟨11 * (t.val / 11) + s.val, Pipeline.run_point_lt_of_flush t hr s⟩ r := by
  rw [Pipeline.eq_sum_fin_of_reset_step_apply_of_flush (fun n h => (outsAt0 m c n h).1) 11 (fun _ => (0 : EReal)) (term m c)
    (fun t h j => by
      rw [outsAt0_A m c t h]
      frame_out
      rw [pay3_at, pay1_at, term, if_pos h, zero_add, tile]
      rfl)
    (fun t h j => by
      have hp : t.val - 1 < cfg0.N := Nat.lt_of_le_of_lt (Nat.sub_le _ _) t.isLt
      rw [outsAt0_B m c t h]
      frame_out
      rw [pay3_at, term, if_neg h, zero_add, tile, scr m c _ ⟨t.val - 1, hp⟩ rfl, xn_prev m c ⟨t.val - 1, hp⟩ t (by simp only; omega)]
      refine congrArg (fun z => (outsAt0 m c (t.val - 1) hp).1 j + part z (iblk m c 2 t) (iblk m c 3 t) (iblk m c 4 t) j) ?_
      exact Memref.IsWhole.read_unread _ _)
    t hr r, zero_add]
  have e : ∀ s : Fin 11, term m c ⟨11 * (t.val / 11) + s.val, Pipeline.run_point_lt_of_flush t hr s⟩ r
      = (if s = 0 then rows m c t r else 0) + tile m c ⟨11 * (t.val / 11) + s.val, Pipeline.run_point_lt_of_flush t hr s⟩ r := by
    intro s
    rw [term]
    by_cases hs : s = 0
    · rw [if_pos hs, if_pos (by subst hs; simp), rows_prev m c _ t (by subst hs; simp)]
    · have : s.val ≠ 0 := fun h => hs (Fin.ext h)
      rw [if_neg hs, if_neg (by simp only; omega)]
  refine (Finset.sum_congr rfl fun s _ => e s).trans ?_
  rw [Finset.sum_add_distrib, Finset.sum_ite_eq' Finset.univ (0 : Fin 11) (fun _ => rows m c t r), if_pos (Finset.mem_univ _)]

/-- The normalised row block at a row, from that row of the activations. -/
theorem xn_at (c : Dev nD) (t : Fin cfg0.N) (a : Fin 1024) (k : Fin 2048) :
    xn m c t (ix2 a k) = xnorm (fun k => rows m c t (ix2 a k)) (fun k => (m ((c : Thread nD τ).loc main_arg2) : FVec Ideal S4x2048 .f32) (ix2 3 k)) k := by
  rw [xn, pay2_at]
  congr 1
  funext k
  refine Eq.trans ?_ (entry5 m c (ix2 0 k))
  blk_ext [iblk, idx t]

theorem gate_at (c : Dev nD) (t : Fin cfg0.N) (k : Fin 2048) (l : Fin 512) (h : t.val % 11 * 512 + l.val < 11264) :
    (iblk m c 2 t : Vec Ideal S1x2048x512 .bf16) (ix3 0 k l)
      = (m ((c : Thread nD τ).loc main_arg3) : FVec Ideal S4x2048x11264 .f32) (ix3 3 k ⟨t.val % 11 * 512 + l.val, h⟩) := by
  refine Eq.trans ?_ (entry6 m c _)
  blk_ext [iblk, idx t]

theorem up_at (c : Dev nD) (t : Fin cfg0.N) (k : Fin 2048) (l : Fin 512) (h : 5632 + (t.val % 11 * 512 + l.val) < 11264) :
    (iblk m c 3 t : Vec Ideal S1x2048x512 .bf16) (ix3 0 k l)
      = (m ((c : Thread nD τ).loc main_arg3) : FVec Ideal S4x2048x11264 .f32) (ix3 3 k ⟨5632 + (t.val % 11 * 512 + l.val), h⟩) := by
  refine Eq.trans ?_ (entry6 m c _)
  blk_ext [iblk, idx t]

theorem out_at (c : Dev nD) (t : Fin cfg0.N) (k : Fin 2048) (l : Fin 512) (h : t.val % 11 * 512 + l.val < 5632) :
    (iblk m c 4 t : Vec Ideal S1x512x2048 .bf16) (ix3 0 l k)
      = (m ((c : Thread nD τ).loc main_arg4) : FVec Ideal S4x5632x2048 .f32) (ix3 3 ⟨t.val % 11 * 512 + l.val, h⟩ k) := by
  refine Eq.trans ?_ (entry7 m c _)
  blk_ext [iblk, idx t]

/-- A lane tile, as 512 of the reference's hidden activations against their rows of the second weight matrix. -/
theorem tile_at (c : Dev nD) (t : Fin cfg0.N) (y : S1024x2048.Idx) (X : Fin 2048 → EReal)
    (hX : ∀ k, rows m c t (ix2 (y 0) k) = X k) (hl : ∀ l : Fin 512, t.val % 11 * 512 + l.val < 5632) :
    tile m c t y = ∑ l : Fin 512,
      act X (fun k => (m ((c : Thread nD τ).loc main_arg2) : FVec Ideal S4x2048 .f32) (ix2 3 k))
        (fun k l => (m ((c : Thread nD τ).loc main_arg3) : FVec Ideal S4x2048x11264 .f32) (ix3 3 k l)) ⟨t.val % 11 * 512 + l.val, hl l⟩
      * (m ((c : Thread nD τ).loc main_arg4) : FVec Ideal S4x5632x2048 .f32) (ix3 3 ⟨t.val % 11 * 512 + l.val, hl l⟩ (y 1)) := by
  obtain rfl : (fun k => rows m c t (ix2 (y 0) k)) = X := funext hX
  have eg : ∀ l : Fin 512, (∑ k : Fin 2048, xn m c t (ix2 (y 0) k) * (iblk m c 2 t : Vec Ideal S1x2048x512 .bf16) (ix3 0 k l))
      = hid (fun k => rows m c t (ix2 (y 0) k)) (fun k => (m ((c : Thread nD τ).loc main_arg2) : FVec Ideal S4x2048 .f32) (ix2 3 k))
        (fun k l => (m ((c : Thread nD τ).loc main_arg3) : FVec Ideal S4x2048x11264 .f32) (ix3 3 k l))
        ⟨t.val % 11 * 512 + l.val, Nat.lt_trans (hl l) (by decide)⟩ :=
    fun l => Finset.sum_congr rfl fun k _ => congrArg₂ (· * ·) (xn_at m c t _ _) (gate_at m c t _ _ _)
  have eu : ∀ l : Fin 512, (∑ k : Fin 2048, xn m c t (ix2 (y 0) k) * (iblk m c 3 t : Vec Ideal S1x2048x512 .bf16) (ix3 0 k l))
      = hid (fun k => rows m c t (ix2 (y 0) k)) (fun k => (m ((c : Thread nD τ).loc main_arg2) : FVec Ideal S4x2048 .f32) (ix2 3 k))
        (fun k l => (m ((c : Thread nD τ).loc main_arg3) : FVec Ideal S4x2048x11264 .f32) (ix3 3 k l))
        ⟨5632 + (t.val % 11 * 512 + l.val), Nat.add_lt_add_left (hl l) 5632⟩ :=
    fun l => Finset.sum_congr rfl fun k _ => congrArg₂ (· * ·) (xn_at m c t _ _) (up_at m c t _ _ _)
  rw [tile, part]
  refine Finset.sum_congr rfl fun l _ => ?_
  exact congrArg₂ (· * ·) (congrArg₂ (· * ·) (congrArg₂ (· * ·) (eg l) (congrArg Ideal.logistic (eg l))) (eu l))
    (out_at m c t (y 1) l (hl l))

/-- After the run the result array is the reference's term. -/
theorem final (c : Dev nD) : (dats m 0 c).arrAt 5 cfg0.N
    = stack (Rp (m ((c : Thread nD τ).loc main_arg0)) (m ((c : Thread nD τ).loc main_arg2)) (m ((c : Thread nD τ).loc main_arg3)) (m ((c : Thread nD τ).loc main_arg4)))
      (Rs (m ((c : Thread nD τ).loc main_arg1)) (m ((c : Thread nD τ).loc main_arg2)) (m ((c : Thread nD τ).loc main_arg3)) (m ((c : Thread nD τ).loc main_arg4))) := by
  refine (dats m 0 c).arrAt_eq_of_covers 5 _ (by decide +kernel) fun t hf y => ?_
  blk_simp
  rw [after0_5, block m c t ((flush0_5 t).mp hf), ref_at]
  unfold row
  have e0 : ∀ k, rows m c t (ix2 (y 0) k)
      = stack (m ((c : Thread nD τ).loc main_arg0)) (m ((c : Thread nD τ).loc main_arg1)) (ix2 ((win0_5.blk t).view.emb y 0) k) := by
    intro k
    rw [← entry2 m c]
    blk_ext [rows, iblk, idx t]
  have hb := Pipeline.run_point_lt_of_flush t ((flush0_5 t).mp hf)
  have e1 : (win0_5.blk t).view.emb y 1 = y 1 := by
    refine Fin.ext ?_
    blk_simp [idx t]
  refine congrArg₂ (· + ·) ?_ ?_
  · rw [← entry2 m c]
    blk_ext [rows, iblk, idx t]
  · refine Eq.trans (Finset.sum_congr rfl fun s _ => tile_at m c ⟨_, hb s⟩ y _ (fun k => (congrFun (rows_prev m c _ t (by simp only; omega)) _).trans (e0 k)) (fun l => by omega)) ?_
    refine Fin.sum_mul_add_congr fun s k hl => ?_
    have hs : (11 * (t.val / 11) + s.val) % 11 = s.val := by omega
    rw [e1]
    simp only [hs]
end Cert.Ffn
end
-- ==== Proof.AttnTile.lean ====
/-
  The attention kernel's value, first part: what one trip of the key loop computes, over plain vectors.
-/
module
public import proofs.«01_k».proof.Proof.Gen.KernelIdeal.Frame
public import Idealize.ShloMosaic.Lib.Pipeline.ValueKit
public import Idealize.ShloMosaic.Lib.WholeRead
public import Idealize.ShloMosaic.Lib.Pointwise
@[expose] public section
set_option maxRecDepth 16384
noncomputable section
open Idealize.ShloMosaic Idealize.ShloMosaic.TcCoe Idealize.SL.Sem
namespace Cert.Attn
open Cert.KernelIdeal Cert.KernelIdeal.Gen

/-- The value the key loop carries: per head the running maximum, the denominator and the weighted sums. -/
abbrev St : Type := FVec Ideal S256x1 .f32 × FVec Ideal S256x1 .f32 × FVec Ideal S256x128 .f32
  × FVec Ideal S256x1 .f32 × FVec Ideal S256x1 .f32 × FVec Ideal S256x128 .f32

/-- The query tile of head `h` of the pair. -/
def qt (x0 : Vec Ideal S256x512 .bf16) (h : Fin 2) : Vec Ideal S256x256 .bf16 :=
  fun r => x0 (ix2 (r 0) ⟨h.val * 256 + (show Fin 256 from r 1).val, by have := (show Fin 256 from r 1).isLt; omega⟩)

/-- Chunk `k` of head `h`'s joined keys. -/
def kc (xs : Vec Ideal S2x4096x256 .bf16) (h : Fin 2) (k : Fin 8) : Vec Ideal S1x512x256 .bf16 :=
  fun r => xs (ix3 h ⟨k.val * 512 + (show Fin 512 from r 1).val, by have := (show Fin 512 from r 1).isLt; omega⟩ (r 2))

/-- Chunk `k` of head `h`'s values. -/
def vc (x1 : Vec Ideal S4096x512 .bf16) (h : Fin 2) (k : Fin 8) : Vec Ideal S512x128 .bf16 :=
  fun r => x1 (ix2 ⟨k.val * 512 + (show Fin 512 from r 0).val, by have := (show Fin 512 from r 0).isLt; omega⟩
    ⟨h.val * 256 + 128 + (show Fin 128 from r 1).val, by have := (show Fin 128 from r 1).isLt; omega⟩)

/-- One trip of the key loop: both heads take in chunk `k`. -/
def step (x0 : Vec Ideal S256x512 .bf16) (x1 : Vec Ideal S4096x512 .bf16) (xs : Vec Ideal S2x4096x256 .bf16) (k : Fin 8) (a : St) : St :=
  (k0_pay4 a.1 (qt x0 0) (kc xs 0 k), k0_pay7 a.1 a.2.1 (qt x0 0) (kc xs 0 k), k0_pay8 a.1 a.2.2.1 (qt x0 0) (kc xs 0 k) (vc x1 0 k),
    k0_pay10 a.2.2.2.1 (qt x0 1) (kc xs 1 k),
    k0_pay31 a.2.2.2.1 a.2.2.2.2.1 (k0_pay9 (qt x0 1) (kc xs 1 k)) (k0_pay10 a.2.2.2.1 (qt x0 1) (kc xs 1 k)),
    k0_pay32 a.2.2.2.1 a.2.2.2.2.2 (k0_pay9 (qt x0 1) (kc xs 1 k)) (k0_pay10 a.2.2.2.1 (qt x0 1) (kc xs 1 k)) (vc x1 1 k))

/-- The key loop's number of trips: the whole 512-key chunks before the query tile. -/
theorem trips1 : ∀ i : Fin 16, Scf.trips 0#32 (Scalar.addi 0#32 (Scalar.muli (Scalar.divsi (Scalar.subi (Scalar.divsi
    (Scalar.muli (BitVec.ofNat 32 i.val) 256#32) 512#32) 0#32) 1#32) 1#32)) 1#32 = i.val / 2 := by decide +kernel

/-- The leftover loop makes no trip. -/
theorem trips2 : ∀ i : Fin 16, Scf.trips (Scalar.addi 0#32 (Scalar.muli (Scalar.divsi (Scalar.subi (Scalar.divsi
    (Scalar.muli (BitVec.ofNat 32 i.val) 256#32) 512#32) 0#32) 1#32) 1#32)) (Scalar.addi 0#32 (Scalar.subi (Scalar.divsi
    (Scalar.muli (BitVec.ofNat 32 i.val) 256#32) 512#32) 0#32)) 1#32 = 0 := by decide +kernel

/-- Chunk `k` of a trip starts at key `512 k`. -/
theorem off_trip : ∀ k : Fin 8, (Scalar.indexCast (Scalar.muli (Scf.iv 0#32 1#32 k.val) 512#32)).toNat = k.val * 512 := by decide +kernel

/-- The last chunk starts at key `512 (i / 2)`. -/
theorem off_last : ∀ i : Fin 16, (Scalar.indexCast (Scalar.muli (Scalar.divsi (Scalar.muli (BitVec.ofNat 32 i.val) 256#32) 512#32) 512#32)).toNat
    = i.val / 2 * 512 := by decide +kernel

section trip
variable (𝒱 : Variants) (c : Dev nD) (bd : Option 𝒱.V) (i : grid0.Coords) (arg3 : Memref sig .tc .vmem S256x512 .bf16) (harg3 : arg3.IsWhole)
  (arg4 : Memref sig .tc .vmem S4096x512 .bf16) (harg4 : arg4.IsWhole) (arg5 : Memref sig .tc .vmem S4096x128 .bf16) (harg5 : arg5.IsWhole)
  (arg6 : Memref sig .tc .vmem S256x256 .bf16) (harg6 : arg6.IsWhole) (arg7 : Memref sig .tc .vmem S2x4096x256 .bf16) (harg7 : arg7.IsWhole)
  (x0 : Vec Ideal S256x512 .bf16) (x1 : Vec Ideal S4096x512 .bf16) (xs : Vec Ideal S2x4096x256 .bf16)

/-- Reading head `h`'s query tile through the staged query block. -/
theorem rd_q (h : Fin 2) (off : Fin 2 → Nat) (ho : off = ![0, h.val * 256]) (inb) :
    View.readAt (Elt Ideal) arg3.view (Rect.unit (s := S256x512) off S256x256.size inb).toLoadRect (harg3.unread x0) = qt x0 h := by
  subst ho
  funext r
  rw [harg3.readAt_unread]
  unfold qt
  refine congrArg x0 ?_
  idx_ext

/-- Reading a chunk of head `h`'s joined keys through the scratch. -/
theorem rd_k (h : Fin 2) (k : Fin 8) (off : Fin 3 → Nat) (ho : off = ![h.val, k.val * 512, 0]) (inb) :
    View.readAt (Elt Ideal) arg7.view (Rect.unit (s := S2x4096x256) off S1x512x256.size inb).toLoadRect (harg7.unread xs) = kc xs h k := by
  subst ho
  funext r
  rw [harg7.readAt_unread]
  unfold kc
  refine congrArg xs ?_
  idx_ext

/-- Reading a chunk of head `h`'s values through the staged key/value block. -/
theorem rd_v (h : Fin 2) (k : Fin 8) (off : Fin 2 → Nat) (ho : off = ![k.val * 512, h.val * 256 + 128]) (inb) :
    View.readAt (Elt Ideal) arg4.view (Rect.unit (s := S4096x512) off S512x128.size inb).toLoadRect (harg4.unread x1) = vc x1 h k := by
  subst ho
  funext r
  rw [harg4.readAt_unread]
  unfold vc
  refine congrArg x1 ?_
  idx_ext

/-- One trip of the program's key loop is one step over the plain vectors. -/
theorem trip_at (k : Fin (k0_t1_loop i).trips) (h : k.val < 8) (a : St) :
    tripR_k0_t1 (F := Ideal) 𝒱 c bd i arg3 harg3 arg4 harg4 arg5 harg5 arg6 harg6 arg7 harg7 (harg3.unread x0) (harg4.unread x1) (harg7.unread xs) k a
      = step x0 x1 xs ⟨k.val, h⟩ a := by
  have e0 := off_trip ⟨k.val, h⟩
  have q0 := fun inb => rd_q arg3 harg3 x0 0 ![0, 0] (by simp) inb
  have q1 := fun inb => rd_q arg3 harg3 x0 1 ![0, 256] (by simp) inb
  have k0 := fun inb => rd_k arg7 harg7 xs 0 ⟨k.val, h⟩ (k0_off1 i k) (by unfold k0_off1; dsimp only; rw [e0]; rfl) inb
  have k1 := fun inb => rd_k arg7 harg7 xs 1 ⟨k.val, h⟩ (k0_off3 i k) (by unfold k0_off3; dsimp only; rw [e0]; rfl) inb
  have v0 := fun inb => rd_v arg4 harg4 x1 0 ⟨k.val, h⟩ (k0_off2 i k) (by unfold k0_off2; dsimp only; rw [e0]; rfl) inb
  have v1 := fun inb => rd_v arg4 harg4 x1 1 ⟨k.val, h⟩ (k0_off4 i k) (by unfold k0_off4; dsimp only; rw [e0]; rfl) inb
  unfold tripR_k0_t1 trip_k0_t1
  dsimp only
  unfold trip_k0_t1.sl.r trip_k0_t1.sl.r_1 trip_k0_t1.sl.r_2 trip_k0_t1.sl.r_3 trip_k0_t1.sl.r_4
  rw [q0, q1, k0, k1, v0, v1]
  rfl

/-- The value carried after the first `n` chunks. -/
def loop (a : St) : ℕ → St
  | 0 => a
  | n + 1 => if h : n < 8 then step x0 x1 xs ⟨n, h⟩ (loop a n) else loop a n

/-- The program's key loop carries the same values. -/
theorem loop_at (X7 : BufTy.Contents (Elt Ideal) arg7.view.ty) (hX : arg7.view.read (Elt Ideal) X7 = xs) (a : St) :
    ∀ n, n ≤ (k0_t1_loop i).trips → n ≤ 8 →
    st_k0_t1 (F := Ideal) 𝒱 c bd i arg3 harg3 arg4 harg4 arg5 harg5 arg6 harg6 arg7 harg7 (harg3.unread x0) (harg4.unread x1) X7 a n
      = loop x0 x1 xs a n := by
  obtain rfl := harg7.eq_unread hX
  intro n
  induction n with
  | zero => exact fun _ _ => rfl
  | succ n ih =>
    intro h1 h2
    refine (st_k0_t1_succ 𝒱 c bd i arg3 harg3 arg4 harg4 arg5 harg5 arg6 harg6 arg7 harg7 _ _ _ a ⟨n, h1⟩).trans ?_
    rw [trip_at 𝒱 c bd i arg3 harg3 arg4 harg4 arg5 harg5 arg6 harg6 arg7 harg7 x0 x1 xs ⟨n, h1⟩ h2, ih (by omega) (by omega), loop, dif_pos (show n < 8 from h2)]

end trip

/-- Where the key loop starts: a large negative maximum and zero sums. -/
def st0 : St := (k0_pay23 (F := Ideal), k0_pay24 (F := Ideal), k0_pay25 (F := Ideal), k0_pay26 (F := Ideal), k0_pay27 (F := Ideal), k0_pay28 (F := Ideal))

/-- The joined keys of the two heads: each head's own 128 lanes, then the shared rotary lanes. -/
def kcat (x1 : Vec Ideal S4096x512 .bf16) (x2 : Vec Ideal S4096x128 .bf16) : Vec Ideal S2x4096x256 .bf16 :=
  fun r => if h : (show Fin 256 from r 2).val < 128
    then x1 (ix2 (r 1) ⟨(show Fin 2 from r 0).val * 256 + (show Fin 256 from r 2).val, by have := (show Fin 2 from r 0).isLt; omega⟩)
    else x2 (ix2 (r 1) ⟨(show Fin 256 from r 2).val - 128, by have := (show Fin 256 from r 2).isLt; omega⟩)

/-- Head 0's output tile: the last, masked chunk is taken in and the sums are divided. -/
def out0 (x0 : Vec Ideal S256x512 .bf16) (x1 : Vec Ideal S4096x512 .bf16) (xs : Vec Ideal S2x4096x256 .bf16) (i : grid0.Coords) (k : Fin 8) (a : St) :
    FVec Ideal S256x128 .bf16 :=
  k0_pay1 (k0_pay43 a.1 a.2.1 (k0_pay37 (qt x0 0) (kc xs 0 k)) (k0_pay38 i))
    (k0_pay44 a.1 a.2.2.1 (k0_pay37 (qt x0 0) (kc xs 0 k)) (k0_pay38 i) (vc x1 0 k))

/-- Where the query tile starts, as the word the program computes. -/
def row0 (i : grid0.Coords) : BitVec 32 := Scalar.muli (BitVec.ofNat 32 (i 2).val) 256#32
/-- Where the last chunk starts, as the word the program computes. -/
def key0 (i : grid0.Coords) : BitVec 32 := Scalar.muli (Scalar.divsi (row0 i) 512#32) 512#32
/-- The row numbers of a score tile. -/
def iq : IVec S256x512 32 := iota .tc S256x512 32 [0] iota_S256x512_d0_w32
/-- The column numbers of a score tile. -/
def ik : IVec S256x512 32 := iota .tc S256x512 32 [1] iota_S256x512_d1_w32

/-- Head 1's output tile. -/
def out1 (x0 : Vec Ideal S256x512 .bf16) (x1 : Vec Ideal S4096x512 .bf16) (xs : Vec Ideal S2x4096x256 .bf16) (i : grid0.Coords) (k : Fin 8) (a : St) :
    FVec Ideal S256x128 .bf16 :=
  k0_pay2 a.2.2.2.2.2 (k0_pay47 (row0 i) iq ik a.2.2.2.1 (key0 i) (qt x0 1) (kc xs 1 k)) (k0_pay48 (row0 i) iq ik a.2.2.2.1 (key0 i) (qt x0 1) (kc xs 1 k))
    (k0_pay49 (row0 i) iq ik a.2.2.2.1 a.2.2.2.2.1 (key0 i) (qt x0 1) (kc xs 1 k)) (vc x1 1 k)

/-- A part of the query block that starts at head `h`'s lanes. -/
theorem ld_q (x0 : Vec Ideal S256x512 .bf16) (h : Fin 2) (off : Fin 2 → Nat) (ho : off = ![0, h.val * 256]) (inb) :
    View.ld (Val := Elt Ideal) (S := S256x512) x0 (Rect.unit (s := S256x512) off S256x256.size inb) = qt x0 h := by
  subst ho
  funext r
  unfold qt
  refine congrArg x0 ?_
  idx_ext
/-- A chunk of the joined keys. -/
theorem ld_k (xs : Vec Ideal S2x4096x256 .bf16) (h : Fin 2) (k : Fin 8) (off : Fin 3 → Nat) (ho : off = ![h.val, k.val * 512, 0]) (inb) :
    View.ld (Val := Elt Ideal) (S := S2x4096x256) xs (Rect.unit (s := S2x4096x256) off S1x512x256.size inb) = kc xs h k := by
  subst ho
  funext r
  unfold kc
  refine congrArg xs ?_
  idx_ext
/-- A chunk of the values. -/
theorem ld_v (x1 : Vec Ideal S4096x512 .bf16) (h : Fin 2) (k : Fin 8) (off : Fin 2 → Nat) (ho : off = ![k.val * 512, h.val * 256 + 128]) (inb) :
    View.ld (Val := Elt Ideal) (S := S4096x512) x1 (Rect.unit (s := S4096x512) off S512x128.size inb) = vc x1 h k := by
  subst ho
  funext r
  unfold vc
  refine congrArg x1 ?_
  idx_ext

/-- The grid coordinates of a point: batch, head pair, query tile. -/
theorem coords2 : ∀ t : Fin cfg0.N, ((grid0.coords t 2 : Fin 16) : ℕ) = t.val % 16 := (by decide +kernel : ∀ t : Fin grid0.N, _)

/-- The whole output block. -/
def outv (x0 : Vec Ideal S256x512 .bf16) (x1 : Vec Ideal S4096x512 .bf16) (xs : Vec Ideal S2x4096x256 .bf16) (i : grid0.Coords) (k : Fin 8)
    (y : S256x256.Idx) : EReal :=
  if h : (y 1 : Fin 256).val < 128
    then out0 x0 x1 xs i k (loop x0 x1 xs st0 k.val) (ix2 (y 0) ⟨(y 1 : Fin 256).val, h⟩)
    else out1 x0 x1 xs i k (loop x0 x1 xs st0 k.val)
      (ix2 (y 0) ⟨(y 1 : Fin 256).val - 128, by have : (y 1 : Fin 256).val < 256 := (y 1 : Fin 256).isLt; omega⟩)

end Cert.Attn
end
-- ==== Proof.AttnPoint.lean ====
/-
  The attention kernel's value, second part: what every grid point leaves in its output block.
-/
module
public import proofs.«01_k».proof.Proof.AttnTile
@[expose] public section
set_option maxRecDepth 16384
noncomputable section
open Idealize.ShloMosaic Idealize.ShloMosaic.TcCoe Idealize.SL.Sem
namespace Cert.Attn
open Cert.KernelIdeal Cert.KernelIdeal.Gen
variable (m : (ℓ : Loc nD τ sig) → Buf (Elt Ideal) ℓ)

/-- Which block of its array each operand stages at grid point `t`: batch `t / 128`, head pair `t / 16 % 8`, query tile `t % 16`. -/
theorem idx : ∀ t : Fin cfg0.N, win0_0.index t = ![t.val / 128 * 16 + t.val % 16, t.val / 16 % 8] ∧ win0_1.index t = ![t.val / 128, t.val / 16 % 8]
    ∧ win0_2.index t = ![t.val / 128, 8] ∧ win0_3.index t = ![t.val / 128 * 16 + t.val % 16, t.val / 16 % 8] :=
  (by decide +kernel : ∀ t : Fin grid0.N, _)

/-- The scratch after the first point of a run of query tiles. -/
theorem scrA (c : Dev nD) (t : Fin cfg0.N) (h : t.val % 16 = 0) : (outsAt0 m c t.val t.isLt).2 = kcat (iblk m c 1 t) (X0_2 m c t) := by
  funext y
  rw [outsAt0_A m c t h]
  frame_out
  canon_tiles x hx
  all_goals (open_payloads; pointwise [kcat])
  all_goals first | rw [dif_pos (by omega)] | rw [dif_neg (by omega)]
  all_goals (refine congrArg _ ((ix2_inj ..).2 ⟨Fin.ext ?_, Fin.ext ?_⟩) <;> simp only [] <;> omega)

/-- What a point that finds the joined keys in the scratch leaves in its output block. -/
theorem ptB (c : Dev nD) (t : Fin cfg0.N) (h : t.val % 16 ≠ 0) (xs : Vec Ideal S2x4096x256 .bf16)
    (hxs : (outsAt0 m c (t.val - 1) (Nat.lt_of_le_of_lt (Nat.sub_le _ _) t.isLt)).2 = xs) (y : S256x256.Idx) : (outsAt0 m c t.val t.isLt).1 y
    = outv (iblk m c 0 t) (iblk m c 1 t) xs (grid0.coords t) ⟨t.val % 16 / 2, by omega⟩ y := by
  have e := coords2 t
  have ho := off_last (grid0.coords t 2)
  rw [e] at ho
  have ht : t.val % 16 / 2 ≤ (k0_t1_loop (grid0.coords t)).trips := by
    refine le_of_eq ?_
    rw [← e]
    exact (trips1 (grid0.coords t 2)).symm
  rw [outsAt0_B m c t h, hxs]
  frame_out
  have hl := fun X7 hX => loop_at Variants.none c none (grid0.coords t) (ms0_0 t) (hs0_0 t) (ms0_1 t) (hs0_1 t) (ms0_2 t) (hs0_2 t) (ms0_3 t) (hs0_3 t)
    scM0_0 (Memref.isWhole_whole _) (iblk m c 0 t) (iblk m c 1 t) xs X7 hX st0 (t.val % 16 / 2) ht (by omega)
  simp only [trips1 (grid0.coords t 2), trips2 (grid0.coords t 2), st_k0_t2_zero]
  simp only [e]
  have er : View.read (Elt Ideal) (View.whole cc0_scratch0) ((Memref.isWhole_whole cc0_scratch0).unread xs) = xs := Memref.IsWhole.read_unread _ _
  canon_tiles x hx
  all_goals rw [outv]
  · have hy : ¬ (y 1 : Fin 256).val < 128 := by
      have h1 : (y 1 : Fin 256).val = 128 + (x 1 : Fin 128).val := hx1
      omega
    rw [dif_neg hy]
    have hq := fun inb => ld_q (iblk m c 0 t) 1 ![0, 256] (by simp) inb
    have hk := fun inb => ld_k xs 1 ⟨t.val % 16 / 2, by omega⟩ (k0_off11 (grid0.coords t)) (by unfold k0_off11; dsimp only; rw [e, ho]; rfl) inb
    have hv := fun inb => ld_v (iblk m c 1 t) 1 ⟨t.val % 16 / 2, by omega⟩ (k0_off12 (grid0.coords t)) (by unfold k0_off12; dsimp only; rw [e, ho]; rfl) inb
    erw [er, hq, hk, hv, hl _ er]
    refine Eq.trans (b := out1 (iblk m c 0 t) (iblk m c 1 t) xs (grid0.coords t) ⟨t.val % 16 / 2, by clear hx0 hx1; omega⟩ (loop (iblk m c 0 t) (iblk m c 1 t) xs st0 (t.val % 16 / 2)) x) ?_ (congrArg _ ?_)
    · unfold out1 row0 key0 row0 iq ik; rw [e]
    · refine (eq_ix2 x).trans ((ix2_inj ..).2 ⟨Fin.ext ?_, Fin.ext ?_⟩)
      · exact hx0.symm
      · have h1 : (y 1 : Fin 256).val = 128 + (x 1 : Fin 128).val := hx1
        show (x 1 : Fin 128).val = (y 1 : Fin 256).val - 128
        omega
  · have hy : (y 1 : Fin 256).val < 128 := by
      have h1 : (y 1 : Fin 256).val = (x 1 : Fin 128).val := hx1
      have := (x 1 : Fin 128).isLt; omega
    rw [dif_pos hy]
    have hq := fun inb => ld_q (iblk m c 0 t) 0 ![0, 0] (by simp) inb
    have hk := fun inb => ld_k xs 0 ⟨t.val % 16 / 2, by omega⟩ (k0_off9 (grid0.coords t)) (by unfold k0_off9; dsimp only; rw [e, ho]; rfl) inb
    have hv := fun inb => ld_v (iblk m c 1 t) 0 ⟨t.val % 16 / 2, by omega⟩ (k0_off10 (grid0.coords t)) (by unfold k0_off10; dsimp only; rw [e, ho]; rfl) inb
    erw [er, hq, hk, hv, hl _ er]
    refine Eq.trans (b := out0 (iblk m c 0 t) (iblk m c 1 t) xs (grid0.coords t) ⟨t.val % 16 / 2, by clear hx0 hx1; omega⟩ (loop (iblk m c 0 t) (iblk m c 1 t) xs st0 (t.val % 16 / 2)) x) ?_ (congrArg _ ?_)
    · unfold out0
      rfl
    · refine (eq_ix2 x).trans ((ix2_inj ..).2 ⟨Fin.ext ?_, Fin.ext ?_⟩)
      · exact hx0.symm
      · have h1 : (y 1 : Fin 256).val = (x 1 : Fin 128).val := hx1
        show (x 1 : Fin 128).val = (y 1 : Fin 256).val
        omega
/-- What a point that builds the joined keys leaves in its output block. -/
theorem ptA (c : Dev nD) (t : Fin cfg0.N) (h : t.val % 16 = 0) (y : S256x256.Idx) : (outsAt0 m c t.val t.isLt).1 y
    = outv (iblk m c 0 t) (iblk m c 1 t) (kcat (iblk m c 1 t) (X0_2 m c t)) (grid0.coords t) ⟨t.val % 16 / 2, by omega⟩ y := by
  have e := coords2 t
  have ho := off_last (grid0.coords t 2)
  rw [e] at ho
  have ht : t.val % 16 / 2 ≤ (k0_t1_loop (grid0.coords t)).trips := by
    refine le_of_eq ?_
    rw [← e]
    exact (trips1 (grid0.coords t 2)).symm
  have hs := scrA m c t h
  rw [outsAt0_A m c t h] at hs ⊢
  frame_out at hs
  frame_out
  have hl := fun X7 hX => loop_at Variants.none c none (grid0.coords t) (ms0_0 t) (hs0_0 t) (ms0_1 t) (hs0_1 t) (ms0_2 t) (hs0_2 t) (ms0_3 t) (hs0_3 t)
    scM0_0 (Memref.isWhole_whole _) (iblk m c 0 t) (iblk m c 1 t) (kcat (iblk m c 1 t) (X0_2 m c t)) X7 hX st0 (t.val % 16 / 2) ht (by omega)
  simp only [trips1 (grid0.coords t 2), trips2 (grid0.coords t 2), st_k0_t2_zero]
  simp only [e]
  canon_tiles x hx
  all_goals rw [outv]
  · have hy : ¬ (y 1 : Fin 256).val < 128 := by
      have h1 : (y 1 : Fin 256).val = 128 + (x 1 : Fin 128).val := hx1
      omega
    rw [dif_neg hy]
    have hq := fun inb => ld_q (iblk m c 0 t) 1 ![0, 256] (by simp) inb
    have hk := fun inb => ld_k (kcat (iblk m c 1 t) (X0_2 m c t)) 1 ⟨t.val % 16 / 2, by omega⟩ (k0_off11 (grid0.coords t)) (by unfold k0_off11; dsimp only; rw [e, ho]; rfl) inb
    have hv := fun inb => ld_v (iblk m c 1 t) 1 ⟨t.val % 16 / 2, by omega⟩ (k0_off12 (grid0.coords t)) (by unfold k0_off12; dsimp only; rw [e, ho]; rfl) inb
    erw [hs, hq, hk, hv, hl _ ((View.read_writes_junk_eq_canon (Val := Elt Ideal) (View.whole cc0_scratch0) _).trans hs)]
    refine Eq.trans (b := out1 (iblk m c 0 t) (iblk m c 1 t) (kcat (iblk m c 1 t) (X0_2 m c t)) (grid0.coords t) ⟨t.val % 16 / 2, by clear hx0 hx1; omega⟩ (loop (iblk m c 0 t) (iblk m c 1 t) (kcat (iblk m c 1 t) (X0_2 m c t)) st0 (t.val % 16 / 2)) x) ?_ (congrArg _ ?_)
    · unfold out1 row0 key0 row0 iq ik; rw [e]
    · refine (eq_ix2 x).trans ((ix2_inj ..).2 ⟨Fin.ext ?_, Fin.ext ?_⟩)
      · exact hx0.symm
      · have h1 : (y 1 : Fin 256).val = 128 + (x 1 : Fin 128).val := hx1
        show (x 1 : Fin 128).val = (y 1 : Fin 256).val - 128
        omega
  · have hy : (y 1 : Fin 256).val < 128 := by
      have h1 : (y 1 : Fin 256).val = (x 1 : Fin 128).val := hx1
      have := (x 1 : Fin 128).isLt; omega
    rw [dif_pos hy]
    have hq := fun inb => ld_q (iblk m c 0 t) 0 ![0, 0] (by simp) inb
    have hk := fun inb => ld_k (kcat (iblk m c 1 t) (X0_2 m c t)) 0 ⟨t.val % 16 / 2, by omega⟩ (k0_off9 (grid0.coords t)) (by unfold k0_off9; dsimp only; rw [e, ho]; rfl) inb
    have hv := fun inb => ld_v (iblk m c 1 t) 0 ⟨t.val % 16 / 2, by omega⟩ (k0_off10 (grid0.coords t)) (by unfold k0_off10; dsimp only; rw [e, ho]; rfl) inb
    erw [hs, hq, hk, hv, hl _ ((View.read_writes_junk_eq_canon (Val := Elt Ideal) (View.whole cc0_scratch0) _).trans hs)]
    refine Eq.trans (b := out0 (iblk m c 0 t) (iblk m c 1 t) (kcat (iblk m c 1 t) (X0_2 m c t)) (grid0.coords t) ⟨t.val % 16 / 2, by clear hx0 hx1; omega⟩ (loop (iblk m c 0 t) (iblk m c 1 t) (kcat (iblk m c 1 t) (X0_2 m c t)) st0 (t.val % 16 / 2)) x) ?_ (congrArg _ ?_)
    · unfold out0
      rfl
    · refine (eq_ix2 x).trans ((ix2_inj ..).2 ⟨Fin.ext ?_, Fin.ext ?_⟩)
      · exact hx0.symm
      · have h1 : (y 1 : Fin 256).val = (x 1 : Fin 128).val := hx1
        show (x 1 : Fin 128).val = (y 1 : Fin 256).val
        omega

/-- The rotary block at an index, from the whole operand. -/
theorem x2_at (c : Dev nD) (t : Fin cfg0.N) (a : Fin 4096) (b : Fin 128) (h : t.val / 128 * 4096 + a.val < 9216) :
    (X0_2 m c t : Vec Ideal S4096x128 .bf16) (ix2 a b) = (V m c main_v10 : FVec Ideal S9216x1152 .bf16) (ix2 ⟨t.val / 128 * 4096 + a.val, h⟩ ⟨1024 + b.val, by omega⟩) := by
  unfold X0_2 Pipeline.Window.fill
  rw [dif_pos (moved0_2 t _)]
  blk_ext [iblk, idx t, V]

/-- The key/value block at an index, from the whole operand. -/
theorem x1_at (c : Dev nD) (t : Fin cfg0.N) (a : Fin 4096) (b : Fin 512) (h : t.val / 128 * 4096 + a.val < 8192) (h' : t.val / 16 % 8 * 512 + b.val < 4096) :
    (iblk m c 1 t : Vec Ideal S4096x512 .bf16) (ix2 a b) = (V m c main_v7 : FVec Ideal S8192x4096 .bf16) (ix2 ⟨t.val / 128 * 4096 + a.val, h⟩ ⟨t.val / 16 % 8 * 512 + b.val, h'⟩) := by
  blk_ext [iblk, idx t, V]

/-- The query block at an index, from the whole operand. -/
theorem x0_at (c : Dev nD) (t : Fin cfg0.N) (a : Fin 256) (b : Fin 512) (h : (t.val / 128 * 16 + t.val % 16) * 256 + a.val < 9216) (h' : t.val / 16 % 8 * 512 + b.val < 4096) :
    (iblk m c 0 t : Vec Ideal S256x512 .bf16) (ix2 a b) = (V m c main_v4 : FVec Ideal S9216x4096 .bf16) (ix2 ⟨(t.val / 128 * 16 + t.val % 16) * 256 + a.val, h⟩ ⟨t.val / 16 % 8 * 512 + b.val, h'⟩) := by
  blk_ext [iblk, idx t, V]

/-- Two points of one run of query tiles stage the same key/value block. -/
theorem x1_same (c : Dev nD) (t t' : Fin cfg0.N) (h : t'.val / 16 = t.val / 16) : iblk m c 1 t' = iblk m c 1 t := by
  have ht : t.val < 256 := t.isLt
  have ht' : t'.val < 256 := t'.isLt
  funext y
  obtain ⟨a, b, rfl⟩ : ∃ (a : Fin 4096) (b : Fin 512), y = ix2 a b := ⟨y 0, y 1, eq_ix2 y⟩
  refine (x1_at m c t' a b (by omega) (by omega)).trans (Eq.trans (congrArg _ ((ix2_inj ..).2 ⟨Fin.ext ?_, Fin.ext ?_⟩)) (x1_at m c t a b (by omega) (by omega)).symm)
  · simp only []; omega
  · simp only []; omega

/-- Two points of one run of query tiles stage the same rotary block. -/
theorem x2_same (c : Dev nD) (t t' : Fin cfg0.N) (h : t'.val / 16 = t.val / 16) : X0_2 m c t' = X0_2 m c t := by
  have ht : t.val < 256 := t.isLt
  have ht' : t'.val < 256 := t'.isLt
  funext y
  obtain ⟨a, b, rfl⟩ : ∃ (a : Fin 4096) (b : Fin 128), y = ix2 a b := ⟨y 0, y 1, eq_ix2 y⟩
  refine (x2_at m c t' a b (by omega)).trans (Eq.trans (congrArg _ ((ix2_inj ..).2 ⟨Fin.ext ?_, Fin.ext ?_⟩)) (x2_at m c t a b (by omega)).symm)
  · simp only []; omega
  · simp only []

/-- The scratch holds the joined keys of the point's batch and head pair after every point. -/
theorem scr (c : Dev nD) : ∀ n (t : Fin cfg0.N), t.val = n → (outsAt0 m c t.val t.isLt).2 = kcat (iblk m c 1 t) (X0_2 m c t) := by
  intro n
  induction n with
  | zero => exact fun t h => scrA m c t (by omega)
  | succ n ih =>
    intro t h
    by_cases h0 : t.val % 16 = 0
    · exact scrA m c t h0
    · have ht : t.val < 256 := t.isLt
      have hp : t.val - 1 < cfg0.N := Nat.lt_of_le_of_lt (Nat.sub_le _ _) t.isLt
      have e := ih ⟨t.val - 1, hp⟩ (by show t.val - 1 = n; omega)
      rw [x1_same m c t ⟨t.val - 1, hp⟩ (by show (t.val - 1) / 16 = _; omega), x2_same m c t ⟨t.val - 1, hp⟩ (by show (t.val - 1) / 16 = _; omega)] at e
      rw [outsAt0_B m c t h0]
      dsimp only [sout0_B_0]
      exact e

/-- What every point leaves in its output block. -/
theorem point (c : Dev nD) (t : Fin cfg0.N) (y : S256x256.Idx) : (outsAt0 m c t.val t.isLt).1 y
    = outv (iblk m c 0 t) (iblk m c 1 t) (kcat (iblk m c 1 t) (X0_2 m c t)) (grid0.coords t) ⟨t.val % 16 / 2, by omega⟩ y := by
  by_cases h0 : t.val % 16 = 0
  · exact ptA m c t h0 y
  · have ht : t.val < 256 := t.isLt
    have hp : t.val - 1 < cfg0.N := Nat.lt_of_le_of_lt (Nat.sub_le _ _) t.isLt
    refine ptB m c t h0 _ ?_ y
    have e := scr m c (t.val - 1) ⟨t.val - 1, hp⟩ rfl
    rw [x1_same m c t ⟨t.val - 1, hp⟩ (by show (t.val - 1) / 16 = _; omega), x2_same m c t ⟨t.val - 1, hp⟩ (by show (t.val - 1) / 16 = _; omega)] at e
    exact e

end Cert.Attn
end
-- ==== Proof.Online.lean ====
/-
  The arithmetic of an online softmax over the extended reals, with no program in it: a running triple (maximum, denominator,
  weighted sums) stands for the pair (sum of exponentials, sum of weighted exponentials) whatever real number plays the maximum.
-/
module

public import Idealize.ShloMosaic.Lib.Pipeline.ValueKit

@[expose] public section

noncomputable section

namespace Cert.Online

open Idealize.ShloMosaic

/-- The weight of a score: its exponential, and nothing for a masked score. -/
def wt (s : EReal) : ℝ := if s = ⊥ then 0 else Real.exp s.toReal

/-- A weight is not negative. -/
theorem wt_nonneg (s : EReal) : 0 ≤ wt s := by
  unfold wt; split_ifs
  · exact le_rfl
  · exact (Real.exp_pos _).le

/-- A masked score weighs nothing. -/
theorem wt_bot : wt ⊥ = 0 := if_pos rfl

/-- A real score weighs its exponential. -/
theorem wt_coe (x : ℝ) : wt (x : EReal) = Real.exp x := by
  unfold wt; rw [if_neg (EReal.coe_ne_bot x), EReal.toReal_coe]

/-- The exponential of a score less a real maximum is the score's weight, scaled. -/
theorem exp_sub (s : EReal) (hs : s ≠ ⊤) (M : ℝ) : Ideal.exp (s - (M : EReal)) = ((Real.exp (-M) * wt s : ℝ) : EReal) := by
  induction s with
  | top => exact absurd rfl hs
  | bot =>
    rw [wt_bot, mul_zero, EReal.bot_sub]
    exact EReal.coe_zero.symm
  | coe x =>
    rw [wt_coe, ← EReal.coe_sub, ← Real.exp_add]
    have : -M + x = x - M := by ring
    rw [this]
    rfl

/-- A finite sum of real numbers, read among the extended reals. -/
theorem sum_coe {ι : Type*} (s : Finset ι) (f : ι → ℝ) : ∑ j ∈ s, ((f j : ℝ) : EReal) = ((∑ j ∈ s, f j : ℝ) : EReal) := by
  induction s using Finset.cons_induction with
  | empty => simp
  | cons a s ha ih => rw [Finset.sum_cons, Finset.sum_cons, ih, EReal.coe_add]

/-- The maximum over finitely many scores, none of them `+∞`, and a start below `+∞` is below `+∞`. -/
theorem fold_max_ne_top {ι : Type*} (s : Finset ι) (f : ι → EReal) (b : EReal) (hb : b ≠ ⊤) (hf : ∀ j ∈ s, f j ≠ ⊤) :
    Finset.fold max b f s ≠ ⊤ := by
  induction s using Finset.cons_induction with
  | empty => simpa using hb
  | cons a s ha ih =>
    rw [Finset.fold_cons]
    have h1 := hf a (Finset.mem_cons_self a s)
    have h2 := ih fun j hj => hf j (Finset.mem_cons_of_mem hj)
    rcases max_choice (f a) (Finset.fold max b f s) with h | h <;> rw [h] <;> assumption

/-- A fold of maxima is at least each score. -/
theorem le_fold_max {ι : Type*} (s : Finset ι) (f : ι → EReal) (b : EReal) (j : ι) (hj : j ∈ s) : f j ≤ Finset.fold max b f s := by
  rw [Finset.le_fold_max]; exact Or.inr ⟨j, hj, le_rfl⟩

/-- A running maximum stays a real number. -/
theorem real_max (M : ℝ) (x : EReal) (hx : x ≠ ⊤) : ∃ M' : ℝ, max (M : EReal) x = (M' : EReal) := by
  induction x with
  | top => exact absurd rfl hx
  | bot => exact ⟨M, by simp⟩
  | coe y => exact ⟨max M y, (EReal.coe_strictMono.monotone.map_max).symm⟩

/-- The triple (`m`, `l`, `acc`) stands for the sum of weights `A` and the weighted sums `B`, at some real maximum. -/
def Inv {κ : Type*} (m l : EReal) (acc : κ → EReal) (A : ℝ) (B : κ → ℝ) : Prop :=
  ∃ M : ℝ, m = (M : EReal) ∧ l = ((Real.exp (-M) * A : ℝ) : EReal) ∧ ∀ c, acc c = ((Real.exp (-M) * B c : ℝ) : EReal)

/-- At the start nothing has been summed: any real maximum, zero sums. -/
theorem Inv.start {κ : Type*} (M : ℝ) : Inv (κ := κ) (M : EReal) 0 (fun _ => 0) 0 (fun _ => 0) :=
  ⟨M, rfl, by simp, fun _ => by simp⟩

/-- ONE STEP: the maximum moves to any real number, the old sums are rescaled and a block of scores is added with its values. -/
theorem Inv.step {κ : Type*} {n : ℕ} {m l : EReal} {acc : κ → EReal} {A : ℝ} {B : κ → ℝ} (h : Inv m l acc A B)
    (s : Fin n → EReal) (hs : ∀ j, s j ≠ ⊤) (v : Fin n → κ → ℝ) (m' : EReal) (hm' : ∃ M' : ℝ, m' = (M' : EReal)) :
    Inv m' (Ideal.exp (m - m') * l + ∑ j, Ideal.exp (s j - m'))
      (fun c => Ideal.exp (m - m') * acc c + ∑ j, Ideal.exp (s j - m') * ((v j c : ℝ) : EReal))
      (A + ∑ j, wt (s j)) (fun c => B c + ∑ j, wt (s j) * v j c) := by
  obtain ⟨M, rfl, rfl, hacc⟩ := h
  obtain ⟨M', rfl⟩ := hm'
  have key : ∀ x : ℝ, Ideal.exp ((M : EReal) - (M' : EReal)) * ((Real.exp (-M) * x : ℝ) : EReal) = ((Real.exp (-M') * x : ℝ) : EReal) := by
    intro x
    rw [exp_sub _ (EReal.coe_ne_top M), wt_coe, ← EReal.coe_mul]
    congr 1
    have : Real.exp M * Real.exp (-M) = 1 := by rw [← Real.exp_add]; simp
    calc Real.exp (-M') * Real.exp M * (Real.exp (-M) * x) = Real.exp (-M') * (Real.exp M * Real.exp (-M)) * x := by ring
      _ = _ := by rw [this, mul_one]
  refine ⟨M', rfl, ?_, fun c => ?_⟩
  · rw [key, Finset.sum_congr rfl fun j _ => exp_sub (s j) (hs j) M', sum_coe, ← EReal.coe_add, ← Finset.mul_sum]
    congr 1; ring
  · show Ideal.exp _ * acc c + _ = ((Real.exp (-M') * (B c + _) : ℝ) : EReal)
    rw [hacc c, key, Finset.sum_congr rfl fun j _ => by rw [exp_sub (s j) (hs j) M', ← EReal.coe_mul], sum_coe, ← EReal.coe_add]
    congr 1
    rw [mul_add, Finset.mul_sum]
    congr 1
    exact Finset.sum_congr rfl fun j _ => by ring

/-- The quotient at the end is the weighted average: the maximum cancels. -/
theorem Inv.quot {κ : Type*} {m l : EReal} {acc : κ → EReal} {A : ℝ} {B : κ → ℝ} (h : Inv m l acc A B) (hA : 0 < A) (c : κ) :
    Ideal.div (acc c) l = ((B c / A : ℝ) : EReal) := by
  obtain ⟨M, rfl, rfl, hacc⟩ := h
  have hl : Real.exp (-M) * A ≠ 0 := (mul_pos (Real.exp_pos _) hA).ne'
  rw [hacc c]
  unfold Ideal.div
  rw [if_neg (by exact_mod_cast hl), ← EReal.coe_inv, ← EReal.coe_mul]
  congr 1
  have := (Real.exp_pos (-M)).ne'
  field_simp

/-- A softmax written plainly, its maximum taken off first and each exponential divided by their sum, averages real values by weight. -/
theorem softmax {n : ℕ} (s : Fin n → EReal) (hs : ∀ j, s j ≠ ⊤) (j0 : Fin n) (h0 : s j0 ≠ ⊥) (v : Fin n → ℝ) :
    ∑ j, ((v j : ℝ) : EReal) * Ideal.div (Ideal.exp (s j - Finset.fold max (⊥ : EReal) s Finset.univ))
        (∑ i, Ideal.exp (s i - Finset.fold max (⊥ : EReal) s Finset.univ))
      = (((∑ j, wt (s j) * v j) / ∑ j, wt (s j) : ℝ) : EReal) := by
  have ht := fold_max_ne_top Finset.univ s ⊥ bot_ne_top fun j _ => hs j
  have hb : Finset.fold max (⊥ : EReal) s Finset.univ ≠ ⊥ := fun e =>
    h0 (le_bot_iff.1 (e ▸ le_fold_max Finset.univ s ⊥ j0 (Finset.mem_univ j0)))
  obtain ⟨M, hM⟩ : ∃ M : ℝ, Finset.fold max (⊥ : EReal) s Finset.univ = (M : EReal) := ⟨_, (EReal.coe_toReal ht hb).symm⟩
  rw [hM]
  have hA : 0 < ∑ j, wt (s j) := by
    refine Finset.sum_pos' (fun j _ => wt_nonneg _) ⟨j0, Finset.mem_univ _, ?_⟩
    unfold wt
    rw [if_neg h0]
    exact Real.exp_pos _
  simp only [fun j => exp_sub (s j) (hs j) M, sum_coe]
  rw [← Finset.mul_sum, Finset.sum_div, ← sum_coe]
  refine Finset.sum_congr rfl fun j _ => ?_
  have hl : Real.exp (-M) * ∑ j, wt (s j) ≠ 0 := (mul_pos (Real.exp_pos _) hA).ne'
  unfold Ideal.div
  rw [if_neg (by exact_mod_cast hl), ← EReal.coe_inv, ← EReal.coe_mul, ← EReal.coe_mul]
  congr 1
  have := (Real.exp_pos (-M)).ne'
  have := hA.ne'
  field_simp

end Cert.Online

end
-- ==== Proof.AttnSoft.lean ====
/-
  The attention kernel's value, third part: for real operands a row of the output tile is the causal softmax average of the values.
-/
module
public import proofs.«01_k».proof.Proof.AttnTile
public import proofs.«01_k».proof.Proof.Online
public import Idealize.ShloMosaic.Lib.IdealHost
@[expose] public section
set_option maxRecDepth 16384
noncomputable section
open Idealize.ShloMosaic Idealize.ShloMosaic.TcCoe Idealize.SL.Sem
namespace Cert.Attn
open Cert.KernelIdeal Cert.KernelIdeal.Gen Cert.Online

/-- The scale of the scores. -/
def scale : EReal := Ideal.ofBits FTy.f32 0x3D93CD3A#32

/-- The scale is a real number. -/
theorem scale_real : ∃ σ : ℝ, scale = (σ : EReal) := by
  unfold scale Ideal.ofBits Ideal.ieee
  dsimp only
  rw [if_neg (by decide), if_neg (by decide)]
  exact ⟨_, rfl⟩

/-- The loop's starting maximum is a real number. -/
theorem init_real : ∃ σ : ℝ, Ideal.ofBits FTy.f32 0xF149F2CA#32 = (σ : EReal) := by
  unfold Ideal.ofBits Ideal.ieee
  dsimp only
  rw [if_neg (by decide), if_neg (by decide)]
  exact ⟨_, rfl⟩

/-- The mask's literal is minus infinity. -/
theorem ofBits_bot : Ideal.ofBits FTy.f32 0xFF800000#32 = (⊥ : EReal) := by
  unfold Ideal.ofBits Ideal.ieee
  dsimp only
  rw [if_pos (by decide), if_pos (by decide), if_pos (by decide)]

/-- The score of row `r` against key `j` of a chunk. -/
def sc (q : Vec Ideal S256x256 .bf16) (k : Vec Ideal S1x512x256 .bf16) (r : Fin 256) (j : Fin 512) : EReal :=
  (∑ d : Fin 256, (q (ix2 r d) : EReal) * k (ix3 0 j d)) * scale

/-- The maximum after a chunk of scores. -/
def mx (a : EReal) (s : Fin 512 → EReal) : EReal := max a (Finset.fold max (⊥ : EReal) s Finset.univ)

/-- The denominator after a chunk of scores. -/
def ln (a l : EReal) (s : Fin 512 → EReal) : EReal := Ideal.exp (a - mx a s) * l + ∑ j, Ideal.exp (s j - mx a s)

/-- A weighted sum after a chunk of scores. -/
def an (a b : EReal) (s v : Fin 512 → EReal) : EReal := Ideal.exp (a - mx a s) * b + ∑ j, Ideal.exp (s j - mx a s) * v j

section pay
variable (mm ll : FVec Ideal S256x1 .f32) (ac : FVec Ideal S256x128 .f32) (q : Vec Ideal S256x256 .bf16) (k : Vec Ideal S1x512x256 .bf16)
  (v : Vec Ideal S512x128 .bf16) (r : Fin 256) (cc : Fin 128) (s : FVec Ideal S256x512 .f32) (j : Fin 512)

/-- Head 0's scores. -/
theorem pay3_at : k0_pay3 q k (ix2 r j) = sc q k r j := by pointwise [k0_pay3, sc, scale]
/-- Head 1's scores. -/
theorem pay9_at : k0_pay9 q k (ix2 r j) = sc q k r j := by pointwise [k0_pay9, sc, scale]
/-- Head 0's scores of the last chunk. -/
theorem pay37_at : k0_pay37 q k (ix2 r j) = sc q k r j := by pointwise [k0_pay37, sc, scale]
/-- Head 0's new maximum. -/
theorem pay4_at : k0_pay4 mm q k (ix2 r 0) = mx (mm (ix2 r 0)) (sc q k r) := by
  pointwise [k0_pay4, k0_pay3]
  rw [ofBits_bot]
  rfl
/-- Head 1's new maximum. -/
theorem pay10_at : k0_pay10 mm q k (ix2 r 0) = mx (mm (ix2 r 0)) (sc q k r) := by
  pointwise [k0_pay10, k0_pay9]
  rw [ofBits_bot]
  rfl
/-- Head 0's new denominator. -/
theorem pay7_at : k0_pay7 mm ll q k (ix2 r 0) = ln (mm (ix2 r 0)) (ll (ix2 r 0)) (sc q k r) := by
  pointwise [k0_pay7, k0_pay5, k0_pay6]
  simp only [pay4_at, pay3_at]
  rfl
/-- Head 0's new weighted sums. -/
theorem pay8_at : k0_pay8 mm ac q k v (ix2 r cc) = an (mm (ix2 r 0)) (ac (ix2 r cc)) (sc q k r) (fun j => v (ix2 j cc)) := by
  pointwise [k0_pay8, k0_pay5, k0_pay6]
  simp only [pay4_at, pay3_at]
  rfl
/-- Head 1's new denominator. -/
theorem pay31_at : k0_pay31 mm ll (k0_pay9 q k) (k0_pay10 mm q k) (ix2 r 0) = ln (mm (ix2 r 0)) (ll (ix2 r 0)) (sc q k r) := by
  pointwise [k0_pay31, k0_pay29, k0_pay30]
  simp only [pay10_at, pay9_at]
  rfl
/-- Head 1's new weighted sums. -/
theorem pay32_at : k0_pay32 mm ac (k0_pay9 q k) (k0_pay10 mm q k) v (ix2 r cc)
    = an (mm (ix2 r 0)) (ac (ix2 r cc)) (sc q k r) (fun j => v (ix2 j cc)) := by
  pointwise [k0_pay32, k0_pay29, k0_pay30]
  simp only [pay10_at, pay9_at]
  rfl

/-- The query tile's start, as a word. -/
theorem row0_word : ∀ t : Fin 16, Scalar.muli (BitVec.ofNat 32 t.val) 256#32 = BitVec.ofNat 32 (t.val * 256) := by decide +kernel
/-- The last chunk's start, as a word. -/
theorem key0_word : ∀ t : Fin 16, Scalar.muli (Scalar.divsi (Scalar.muli (BitVec.ofNat 32 t.val) 256#32) 512#32) 512#32
    = BitVec.ofNat 32 (t.val / 2 * 512) := by decide +kernel

/-- The score of the last chunk, minus infinity past the row's own position. -/
def scm (i : grid0.Coords) (q : Vec Ideal S256x256 .bf16) (k : Vec Ideal S1x512x256 .bf16) (r : Fin 256) (j : Fin 512) : EReal :=
  if (i 2 : Fin 16).val / 2 * 512 + j.val ≤ (i 2 : Fin 16).val * 256 + r.val then sc q k r j else ⊥

/-- The mask's comparison of words is the comparison of positions. -/
theorem mask_at (t : Fin 16) (x y : EReal) : Scalar.select (IntOp.cmpi CmpIPredicate.sle
        (IntOp.addi (Scalar.muli (Scalar.divsi (Scalar.muli (BitVec.ofNat 32 t.val) 256#32) 512#32) 512#32) (BitVec.ofNat 32 j.val))
        (IntOp.addi (Scalar.muli (BitVec.ofNat 32 t.val) 256#32) (BitVec.ofNat 32 r.val))) x y
      = if t.val / 2 * 512 + j.val ≤ t.val * 256 + r.val then x else y := by
  rw [key0_word, row0_word]
  have e1 : IntOp.addi (BitVec.ofNat 32 (t.val / 2 * 512)) (BitVec.ofNat 32 j.val) = BitVec.ofNat 32 (t.val / 2 * 512 + j.val) := (BitVec.ofNat_add ..).symm
  have e2 : IntOp.addi (BitVec.ofNat 32 (t.val * 256)) (BitVec.ofNat 32 r.val) = BitVec.ofNat 32 (t.val * 256 + r.val) := (BitVec.ofNat_add ..).symm
  rw [e1, e2]
  word_cmp

/-- Head 0's masked scores. -/
theorem pay39_at (i : grid0.Coords) : k0_pay39 (k0_pay37 q k) (k0_pay38 i) (ix2 r j) = scm i q k r j := by
  pointwise [k0_pay39, k0_pay38]
  rw [pay37_at, ofBits_bot]
  exact mask_at r j (i 2) _ _
/-- Head 1's masked scores. -/
theorem pay45_at (i : grid0.Coords) : k0_pay45 (row0 i) iq ik (key0 i) q k (ix2 r j) = scm i q k r j := by
  pointwise [k0_pay45, iq, ik]
  rw [ofBits_bot]
  exact mask_at r j (i 2) _ _

/-- Head 0's output element. -/
theorem last0_at (i : grid0.Coords) : k0_pay1 (k0_pay43 mm ll (k0_pay37 q k) (k0_pay38 i)) (k0_pay44 mm ac (k0_pay37 q k) (k0_pay38 i) v) (ix2 r cc)
    = Ideal.div (an (mm (ix2 r 0)) (ac (ix2 r cc)) (scm i q k r) (fun j => v (ix2 j cc))) (ln (mm (ix2 r 0)) (ll (ix2 r 0)) (scm i q k r)) := by
  pointwise [k0_pay1, k0_pay43, k0_pay44, k0_pay41, k0_pay42, k0_pay40]
  simp only [pay39_at, ofBits_bot]
  rfl
/-- Head 1's output element. -/
theorem last1_at (i : grid0.Coords) : k0_pay2 ac (k0_pay47 (row0 i) iq ik mm (key0 i) q k) (k0_pay48 (row0 i) iq ik mm (key0 i) q k)
      (k0_pay49 (row0 i) iq ik mm ll (key0 i) q k) v (ix2 r cc)
    = Ideal.div (an (mm (ix2 r 0)) (ac (ix2 r cc)) (scm i q k r) (fun j => v (ix2 j cc))) (ln (mm (ix2 r 0)) (ll (ix2 r 0)) (scm i q k r)) := by
  pointwise [k0_pay2, k0_pay47, k0_pay48, k0_pay49, k0_pay46]
  simp only [pay45_at, ofBits_bot]
  rfl
end pay

/-- One chunk keeps the invariant: its scores are added with their values. -/
theorem Inv_chunk {a l : EReal} {b : Fin 128 → EReal} {A : ℝ} {B : Fin 128 → ℝ} (h : Inv a l b A B) (s : Fin 512 → EReal) (hs : ∀ j, s j ≠ ⊤)
    (v : Fin 512 → Fin 128 → EReal) (vr : Fin 512 → Fin 128 → ℝ) (hv : ∀ j c, v j c = (vr j c : EReal)) :
    Inv (mx a s) (ln a l s) (fun c => an a (b c) s (fun j => v j c)) (A + ∑ j, wt (s j)) (fun c => B c + ∑ j, wt (s j) * vr j c) := by
  have hm : ∃ M' : ℝ, mx a s = (M' : EReal) := by
    obtain ⟨M, rfl, _⟩ := h
    exact real_max M _ (fold_max_ne_top _ _ _ bot_ne_top fun j _ => hs j)
  have e := h.step s hs vr (mx a s) hm
  simp only [hv]
  exact e

/-- The sum of a masked function over a longer range. -/
theorem sum_masked (f : ℕ → ℝ) (p n : ℕ) (h : p < n) : (∑ i ∈ Finset.range n, if i ≤ p then f i else 0) = ∑ i ∈ Finset.range (p + 1), f i := by
  rw [← Finset.sum_filter]
  refine Finset.sum_congr ?_ fun _ _ => rfl
  ext i
  simp only [Finset.mem_filter, Finset.mem_range]
  omega

section row
variable (x0 : Vec Ideal S256x512 .bf16) (x1 : Vec Ideal S4096x512 .bf16) (xs : Vec Ideal S2x4096x256 .bf16) (r : Fin 256)
  (sn : ℕ → ℝ) (vn : ℕ → Fin 128 → ℝ)

/-- After `n` chunks head 0's carried row stands for the sums over the first `512 n` keys. -/
theorem loop0_inv (hs : ∀ (k : Fin 8) (j : Fin 512), sc (qt x0 0) (kc xs 0 k) r j = ((sn (k.val * 512 + j.val) : ℝ) : EReal))
    (hv : ∀ (k : Fin 8) (j : Fin 512) (c : Fin 128), (vc x1 0 k (ix2 j c) : EReal) = ((vn (k.val * 512 + j.val) c : ℝ) : EReal)) : ∀ n, n ≤ 8 →
    Inv ((loop x0 x1 xs st0 n).1 (ix2 r 0)) ((loop x0 x1 xs st0 n).2.1 (ix2 r 0)) (fun c => (loop x0 x1 xs st0 n).2.2.1 (ix2 r c))
      (∑ i ∈ Finset.range (n * 512), Real.exp (sn i)) (fun c => ∑ i ∈ Finset.range (n * 512), Real.exp (sn i) * vn i c) := by
  intro n
  induction n with
  | zero =>
    intro _
    obtain ⟨σ, hσ⟩ := init_real
    have e := Inv.start (κ := Fin 128) σ
    simp only [Nat.zero_mul, Finset.range_zero, Finset.sum_empty]
    unfold loop st0
    pointwise [k0_pay23, k0_pay24, k0_pay25]
    rw [hσ]
    exact e
  | succ n ih =>
    intro h
    have e := Inv_chunk (ih (by omega)) (sc (qt x0 0) (kc xs 0 ⟨n, h⟩) r) (fun j => by rw [hs]; exact EReal.coe_ne_top _)
      (fun j c => vc x1 0 ⟨n, h⟩ (ix2 j c)) (fun j c => vn (n * 512 + j.val) c) (fun j c => hv ⟨n, h⟩ j c)
    rw [loop, dif_pos (show n < 8 from h)]
    unfold step
    simp only [pay4_at, pay7_at, pay8_at]
    simp only [Nat.add_mul, Nat.one_mul, Finset.sum_range_add]
    simp only [Finset.sum_range (n := 512)]
    simp only [hs, wt_coe] at e ⊢
    exact e

/-- After `n` chunks head 1's carried row stands for the sums over the first `512 n` keys. -/
theorem loop1_inv (hs : ∀ (k : Fin 8) (j : Fin 512), sc (qt x0 1) (kc xs 1 k) r j = ((sn (k.val * 512 + j.val) : ℝ) : EReal))
    (hv : ∀ (k : Fin 8) (j : Fin 512) (c : Fin 128), (vc x1 1 k (ix2 j c) : EReal) = ((vn (k.val * 512 + j.val) c : ℝ) : EReal)) : ∀ n, n ≤ 8 →
    Inv ((loop x0 x1 xs st0 n).2.2.2.1 (ix2 r 0)) ((loop x0 x1 xs st0 n).2.2.2.2.1 (ix2 r 0)) (fun c => (loop x0 x1 xs st0 n).2.2.2.2.2 (ix2 r c))
      (∑ i ∈ Finset.range (n * 512), Real.exp (sn i)) (fun c => ∑ i ∈ Finset.range (n * 512), Real.exp (sn i) * vn i c) := by
  intro n
  induction n with
  | zero =>
    intro _
    obtain ⟨σ, hσ⟩ := init_real
    have e := Inv.start (κ := Fin 128) σ
    simp only [Nat.zero_mul, Finset.range_zero, Finset.sum_empty]
    unfold loop st0
    pointwise [k0_pay26, k0_pay27, k0_pay28]
    rw [hσ]
    exact e
  | succ n ih =>
    intro h
    have e := Inv_chunk (ih (by omega)) (sc (qt x0 1) (kc xs 1 ⟨n, h⟩) r) (fun j => by rw [hs]; exact EReal.coe_ne_top _)
      (fun j c => vc x1 1 ⟨n, h⟩ (ix2 j c)) (fun j c => vn (n * 512 + j.val) c) (fun j c => hv ⟨n, h⟩ j c)
    rw [loop, dif_pos (show n < 8 from h)]
    unfold step
    simp only [pay10_at, pay31_at, pay32_at]
    simp only [Nat.add_mul, Nat.one_mul, Finset.sum_range_add]
    simp only [Finset.sum_range (n := 512)]
    simp only [hs, wt_coe] at e ⊢
    exact e

/-- The causal softmax average at position `p`: over the keys up to `p`. -/
def avg (p : ℕ) (c : Fin 128) : ℝ :=
  (∑ i ∈ Finset.range (p + 1), Real.exp (sn i) * vn i c) / ∑ i ∈ Finset.range (p + 1), Real.exp (sn i)

/-- The masked last chunk after the chunks before it, divided: the causal softmax average. -/
theorem last_avg {a l : EReal} {b : Fin 128 → EReal} (i : grid0.Coords) (q : Vec Ideal S256x256 .bf16) (kk : Vec Ideal S1x512x256 .bf16)
    (v : Vec Ideal S512x128 .bf16) (k : ℕ) (hk : k = (i 2 : Fin 16).val / 2)
    (h : Inv a l b (∑ n ∈ Finset.range (k * 512), Real.exp (sn n)) (fun c => ∑ n ∈ Finset.range (k * 512), Real.exp (sn n) * vn n c))
    (hs : ∀ j : Fin 512, sc q kk r j = ((sn (k * 512 + j.val) : ℝ) : EReal))
    (hv : ∀ (j : Fin 512) (c : Fin 128), (v (ix2 j c) : EReal) = ((vn (k * 512 + j.val) c : ℝ) : EReal)) (c : Fin 128) :
    Ideal.div (an a (b c) (scm i q kk r) (fun j => v (ix2 j c))) (ln a l (scm i q kk r))
      = ((avg sn vn ((i 2 : Fin 16).val * 256 + r.val) c : ℝ) : EReal) := by
  have hw : ∀ j : Fin 512, wt (scm i q kk r j) = if k * 512 + j.val ≤ (i 2 : Fin 16).val * 256 + r.val then Real.exp (sn (k * 512 + j.val)) else 0 := by
    intro j
    unfold scm
    rw [← hk]
    split_ifs
    · rw [hs, wt_coe]
    · exact wt_bot
  have hne : ∀ j : Fin 512, scm i q kk r j ≠ ⊤ := by
    intro j
    unfold scm
    split_ifs
    · rw [hs]; exact EReal.coe_ne_top _
    · exact bot_ne_top
  have e := Inv_chunk h (scm i q kk r) hne (fun j c => v (ix2 j c)) (fun j c => vn (k * 512 + j.val) c) hv
  have hp : (i 2 : Fin 16).val * 256 + r.val < k * 512 + 512 := by have := r.isLt; omega
  have hp' : k * 512 ≤ (i 2 : Fin 16).val * 256 := by omega
  have tot : ∀ f : ℕ → ℝ, (∑ n ∈ Finset.range (k * 512), f n)
      + (∑ j : Fin 512, if k * 512 + j.val ≤ (i 2 : Fin 16).val * 256 + r.val then f (k * 512 + j.val) else 0)
      = ∑ n ∈ Finset.range ((i 2 : Fin 16).val * 256 + r.val + 1), f n := by
    intro f
    rw [← sum_masked f _ _ hp, Finset.sum_range_add, Finset.sum_range (n := 512)]
    refine congrArg₂ (· + ·) (Finset.sum_congr rfl fun n hn => ?_) rfl
    rw [if_pos]
    have := Finset.mem_range.1 hn
    omega
  have eA := tot fun n => Real.exp (sn n)
  have eB := fun c => tot fun n => Real.exp (sn n) * vn n c
  simp only [hw, ite_mul, zero_mul, eA, eB] at e
  exact e.quot (Finset.sum_pos (fun n _ => Real.exp_pos _) ⟨0, Finset.mem_range.2 (by omega)⟩) c
end row

/-- The five argument arrays as real numbers: queries and keys in their two parts, and the values. -/
structure Args where
  qn : Fin 2 → Fin 4096 → Fin 16 → Fin 128 → ℝ
  qr : Fin 2 → Fin 4096 → Fin 16 → Fin 64 → ℝ
  kn : Fin 2 → Fin 4096 → Fin 16 → Fin 128 → ℝ
  v : Fin 2 → Fin 4096 → Fin 16 → Fin 128 → ℝ
  kr : Fin 2 → Fin 4096 → Fin 64 → ℝ

/-- The scaled score of query `p` against key `i` of one batch and head. -/
def Args.score (a : Args) (n : Fin 2) (h : Fin 16) (p : Fin 4096) (i : ℕ) : ℝ :=
  if hi : i < 4096 then ((∑ d, a.qn n p h d * a.kn n ⟨i, hi⟩ h d) + ∑ d, a.qr n p h d * a.kr n ⟨i, hi⟩ d) * scale.toReal else 0

/-- The value row of key `i` of one batch and head. -/
def Args.val (a : Args) (n : Fin 2) (h : Fin 16) (i : ℕ) (c : Fin 128) : ℝ := if hi : i < 4096 then a.v n ⟨i, hi⟩ h c else 0

/-- The attention's result at a row (batch and position) and a column (head and lane). -/
def Args.out (a : Args) (R : Fin 8192) (C : Fin 2048) : ℝ :=
  avg (a.score ⟨R.val / 4096, by omega⟩ ⟨C.val / 128, by omega⟩ ⟨R.val % 4096, by omega⟩) (a.val ⟨R.val / 4096, by omega⟩ ⟨C.val / 128, by omega⟩)
    (R.val % 4096) ⟨C.val % 128, by omega⟩

/-- The scaled score over the extended reals is the real score. -/
theorem Args.score_coe (a : Args) (n : Fin 2) (h : Fin 16) (p i : Fin 4096) :
    ((∑ d, (a.qn n p h d : EReal) * (a.kn n i h d : EReal)) + ∑ d, (a.qr n p h d : EReal) * (a.kr n i d : EReal)) * scale = ((a.score n h p i.val : ℝ) : EReal) := by
  obtain ⟨σ, hσ⟩ := scale_real
  unfold Args.score
  rw [dif_pos i.isLt, hσ, EReal.toReal_coe]
  simp only [← EReal.coe_mul, sum_coe, ← EReal.coe_add]

end Cert.Attn
end
-- ==== Proof.AttnValue.lean ====
/-
  The attention kernel's value, third part: the staged operands in the call's arguments, and the result array.
-/
module
public import proofs.«01_k».proof.Proof.AttnPoint
public import proofs.«01_k».proof.Proof.AttnSoft
public import Idealize.ShloMosaic.Lib.StableHlo.RunRead
public import Idealize.ShloMosaic.Lib.KernelVsHost
@[expose] public section
set_option maxRecDepth 16384
noncomputable section
open Idealize.ShloMosaic Idealize.ShloMosaic.TcCoe Idealize.SL.Sem
namespace Cert.Attn
open Cert.KernelIdeal Cert.KernelIdeal.Gen
variable (m : (ℓ : Loc nD τ sig) → Buf (Elt Ideal) ℓ)

/-- The padded query array, from the arguments. -/
theorem v4_eq (c : Dev nD) : (V m c main_v4 : FVec Ideal S9216x4096 .bf16) = pad S9216x4096 ![0, 0] ![1024, 0] ![0, 0] (truncf FTy.bf16
    (shapeCast S8192x4096 (concatenate S2x4096x16x256 3 [⟨S2x4096x16x128, (m ((c : Thread nD τ).loc main_arg0) : FVec Ideal S2x4096x16x128 .f32)⟩,
      ⟨S2x4096x16x64, (m ((c : Thread nD τ).loc main_arg1) : FVec Ideal S2x4096x16x64 .f32)⟩,
      ⟨S2x4096x16x64, broadcastInDim S2x4096x16x64 ![] bcast_S_S2x4096x16x64 (constant (F := Ideal) S_ FTy.f32 0#32)⟩]
      concatenates_S2x4096x16x128_S2x4096x16x64_S2x4096x16x64_S2x4096x16x256_d3) shapeCasts_S2x4096x16x256_S8192x4096 : FVec Ideal S8192x4096 .f32) bitsLt_bf16_f32)
    (sitofp FTy.bf16 (constantI S_ 32 0#32)) pads_S8192x4096_S9216x4096_010240_000 h_S_ := by
  unfold V
  simp only [List.flatten_cons, List.flatten_nil, List.cons_append, List.nil_append, List.append_nil, hostOps0_3]
  after_reads_simp
  rfl

/-- The joined key and value array, from the arguments. -/
theorem v7_eq (c : Dev nD) : (V m c main_v7 : FVec Ideal S8192x4096 .bf16) = truncf FTy.bf16
    (shapeCast S8192x4096 (concatenate S2x4096x16x256 3 [⟨S2x4096x16x128, (m ((c : Thread nD τ).loc main_arg2) : FVec Ideal S2x4096x16x128 .f32)⟩,
      ⟨S2x4096x16x128, (m ((c : Thread nD τ).loc main_arg3) : FVec Ideal S2x4096x16x128 .f32)⟩]
      concatenates_S2x4096x16x128_S2x4096x16x128_S2x4096x16x256_d3) shapeCasts_S2x4096x16x256_S8192x4096 : FVec Ideal S8192x4096 .f32) bitsLt_bf16_f32 := by
  unfold V
  simp only [List.flatten_cons, List.flatten_nil, List.cons_append, List.nil_append, List.append_nil, hostOps0_3]
  after_reads_simp
  rfl

/-- The padded rotary key array, from the arguments. -/
theorem v10_eq (c : Dev nD) : (V m c main_v10 : FVec Ideal S9216x1152 .bf16) = pad S9216x1152 ![0, 1024] ![1024, 64] ![0, 0] (truncf FTy.bf16
    (shapeCast S8192x64 (m ((c : Thread nD τ).loc main_arg4) : FVec Ideal S2x4096x64 .f32) shapeCasts_S2x4096x64_S8192x64 : FVec Ideal S8192x64 .f32) bitsLt_bf16_f32)
    (sitofp FTy.bf16 (constantI S_ 32 0#32)) pads_S8192x64_S9216x1152_010240_1024640 h_S_ := by
  unfold V
  simp only [List.flatten_cons, List.flatten_nil, List.cons_append, List.nil_append, List.append_nil, hostOps0_3]
  after_reads_simp
  rfl

/-- A query lane without position. -/
theorem q_n (c : Dev nD) (R : Fin 9216) (C : Fin 4096) (n : Fin 2) (p : Fin 4096) (h : Fin 16) (d : Fin 128) (hR : R.val = n.val * 4096 + p.val) (hC : C.val = h.val * 256 + d.val) :
    ((V m c main_v4 : FVec Ideal S9216x4096 .bf16) (ix2 R C) : EReal) = ((m ((c : Thread nD τ).loc main_arg0) : FVec Ideal S2x4096x16x128 .f32) (ix4 n p h d) : EReal) := by
  rw [v4_eq]
  pointwise
  rw [dif_pos (by omega), dif_pos (by omega)]
  refine congrArg (m ((c : Thread nD τ).loc main_arg0)) ?_
  refine (ix4_inj ..).2 ⟨Fin.ext ?_, Fin.ext ?_, Fin.ext ?_, Fin.ext ?_⟩ <;> simp only [] <;> omega
/-- A rotary query lane. -/
theorem q_r (c : Dev nD) (R : Fin 9216) (C : Fin 4096) (n : Fin 2) (p : Fin 4096) (h : Fin 16) (d : Fin 64) (hR : R.val = n.val * 4096 + p.val) (hC : C.val = h.val * 256 + 128 + d.val) :
    ((V m c main_v4 : FVec Ideal S9216x4096 .bf16) (ix2 R C) : EReal) = ((m ((c : Thread nD τ).loc main_arg1) : FVec Ideal S2x4096x16x64 .f32) (ix4 n p h d) : EReal) := by
  rw [v4_eq]
  pointwise
  rw [dif_pos (by omega), dif_neg (by omega), dif_pos (by omega)]
  refine congrArg (m ((c : Thread nD τ).loc main_arg1)) ?_
  refine (ix4_inj ..).2 ⟨Fin.ext ?_, Fin.ext ?_, Fin.ext ?_, Fin.ext ?_⟩ <;> simp only [] <;> omega
/-- A filler query lane. -/
theorem q_z (c : Dev nD) (R : Fin 9216) (C : Fin 4096) (n : Fin 2) (p : Fin 4096) (h : Fin 16) (d : Fin 64) (hR : R.val = n.val * 4096 + p.val) (hC : C.val = h.val * 256 + 192 + d.val) :
    Eq (α := EReal) ((V m c main_v4 : FVec Ideal S9216x4096 .bf16) (ix2 R C)) 0 := by
  rw [v4_eq]
  pointwise
  rw [dif_pos (by omega), dif_neg (by omega), dif_neg (by omega)]
/-- A key lane without position. -/
theorem k_n (c : Dev nD) (R : Fin 8192) (C : Fin 4096) (n : Fin 2) (p : Fin 4096) (h : Fin 16) (d : Fin 128) (hR : R.val = n.val * 4096 + p.val) (hC : C.val = h.val * 256 + d.val) :
    ((V m c main_v7 : FVec Ideal S8192x4096 .bf16) (ix2 R C) : EReal) = ((m ((c : Thread nD τ).loc main_arg2) : FVec Ideal S2x4096x16x128 .f32) (ix4 n p h d) : EReal) := by
  rw [v7_eq]
  pointwise
  rw [dif_pos (by omega)]
  refine congrArg (m ((c : Thread nD τ).loc main_arg2)) ?_
  refine (ix4_inj ..).2 ⟨Fin.ext ?_, Fin.ext ?_, Fin.ext ?_, Fin.ext ?_⟩ <;> simp only [] <;> omega
/-- A value lane. -/
theorem k_v (c : Dev nD) (R : Fin 8192) (C : Fin 4096) (n : Fin 2) (p : Fin 4096) (h : Fin 16) (d : Fin 128) (hR : R.val = n.val * 4096 + p.val) (hC : C.val = h.val * 256 + 128 + d.val) :
    ((V m c main_v7 : FVec Ideal S8192x4096 .bf16) (ix2 R C) : EReal) = ((m ((c : Thread nD τ).loc main_arg3) : FVec Ideal S2x4096x16x128 .f32) (ix4 n p h d) : EReal) := by
  rw [v7_eq]
  pointwise
  rw [dif_neg (by omega)]
  refine congrArg (m ((c : Thread nD τ).loc main_arg3)) ?_
  refine (ix4_inj ..).2 ⟨Fin.ext ?_, Fin.ext ?_, Fin.ext ?_, Fin.ext ?_⟩ <;> simp only [] <;> omega
/-- The flattened rotary keys at an index. -/
theorem r_cast (x : FVec Ideal S2x4096x64 .f32) (R : Fin 8192) (d : Fin 64) :
    (truncf FTy.bf16 (shapeCast S8192x64 x shapeCasts_S2x4096x64_S8192x64 : FVec Ideal S8192x64 .f32) bitsLt_bf16_f32 : FVec Ideal S8192x64 .bf16) (ix2 R d)
      = x (ix3 ⟨R.val / 4096, by omega⟩ ⟨R.val % 4096, by omega⟩ d) := by
  pointwise
/-- A rotary key lane. -/
theorem r_k (c : Dev nD) (R : Fin 9216) (C : Fin 1152) (n : Fin 2) (p : Fin 4096) (d : Fin 64) (hR : R.val = n.val * 4096 + p.val) (hC : C.val = 1024 + d.val) :
    ((V m c main_v10 : FVec Ideal S9216x1152 .bf16) (ix2 R C) : EReal) = (m ((c : Thread nD τ).loc main_arg4) : FVec Ideal S2x4096x64 .f32) (ix3 n p d) := by
  rw [v10_eq]
  have hR' : R.val < 8192 := by omega
  refine (pad_apply_of_inside _ _ _ _ _ _ _ _ (ix2 (⟨R.val, hR'⟩ : Fin 8192) d : S8192x64.Idx) ?_).trans ?_
  · intro a
    match a with
    | 0 => exact (by omega : R.val = 0 + R.val * 1)
    | 1 => exact (by omega : C.val = 1024 + d.val * 1)
  · refine (r_cast ..).trans (congrArg (m ((c : Thread nD τ).loc main_arg4)) ?_)
    refine (ix3_inj ..).2 ⟨Fin.ext ?_, Fin.ext ?_, Fin.ext ?_⟩ <;> simp only [] <;> omega
/-- A filler key lane. -/
theorem r_z (c : Dev nD) (R : Fin 9216) (C : Fin 1152) (n : Fin 2) (p : Fin 4096) (d : Fin 64) (hR : R.val = n.val * 4096 + p.val) (hC : C.val = 1024 + 64 + d.val) :
    Eq (α := EReal) ((V m c main_v10 : FVec Ideal S9216x1152 .bf16) (ix2 R C)) 0 := by
  rw [v10_eq]
  refine (pad_apply_of_not_inside _ _ _ _ _ _ _ _ (1 : Fin 2) ?_).trans ?_
  · exact (by omega : ¬ (1024 ≤ C.val ∧ (C.val - 1024) % 1 = 0 ∧ (C.val - 1024) / 1 < 64))
  · have e : ((((0#32 : BitVec 32).toInt : ℝ)) : EReal) = 0 := by simp
    exact e

/-- The arguments' entries are the real arrays `a`. -/
structure IsArgs (c : Dev nD) (a : Args) : Prop where
  qn : ∀ n p h d, ((m ((c : Thread nD τ).loc main_arg0) : FVec Ideal S2x4096x16x128 .f32) (ix4 n p h d) : EReal) = ((a.qn n p h d : ℝ) : EReal)
  qr : ∀ n p h d, ((m ((c : Thread nD τ).loc main_arg1) : FVec Ideal S2x4096x16x64 .f32) (ix4 n p h d) : EReal) = ((a.qr n p h d : ℝ) : EReal)
  kn : ∀ n p h d, ((m ((c : Thread nD τ).loc main_arg2) : FVec Ideal S2x4096x16x128 .f32) (ix4 n p h d) : EReal) = ((a.kn n p h d : ℝ) : EReal)
  v : ∀ n p h d, ((m ((c : Thread nD τ).loc main_arg3) : FVec Ideal S2x4096x16x128 .f32) (ix4 n p h d) : EReal) = ((a.v n p h d : ℝ) : EReal)
  kr : ∀ n p d, ((m ((c : Thread nD τ).loc main_arg4) : FVec Ideal S2x4096x64 .f32) (ix3 n p d) : EReal) = ((a.kr n p d : ℝ) : EReal)

/-- A sum over a head's 256 lanes, cut at the rotary lanes and at the filler lanes. -/
theorem split3 (f : Fin 256 → EReal) : ∑ d, f d = (∑ d : Fin 128, f ⟨d.val, by omega⟩)
    + ((∑ d : Fin 64, f ⟨128 + d.val, by omega⟩) + ∑ d : Fin 64, f ⟨192 + d.val, by omega⟩) := by
  refine (Fin.sum_univ_add (a := 128) (b := 128) f).trans ?_
  refine congrArg₂ (· + ·) rfl ((Fin.sum_univ_add (a := 64) (b := 64) fun d => f (Fin.natAdd 128 d)).trans (congrArg₂ (· + ·) rfl ?_))
  refine Finset.sum_congr rfl fun d _ => congrArg f (Fin.ext ?_)
  exact (by omega : 128 + (64 + d.val) = 192 + d.val)

section ops
variable {c : Dev nD} {a : Args} (ha : IsArgs m c a) (t : Fin cfg0.N) (h : Fin 2) (H : Fin 16) (hH : H.val = t.val / 16 % 8 * 2 + h.val)
  (n : Fin 2) (hn : n.val = t.val / 128)
include hH hn

/-- The query tile's lane `e`, from the padded operand. -/
theorem qt_at (r e : Fin 256) (hR : (t.val / 128 * 16 + t.val % 16) * 256 + r.val < 9216) (hC : t.val / 16 % 8 * 512 + (h.val * 256 + e.val) < 4096) :
    (qt (iblk m c 0 t) h (ix2 r e) : EReal) = (V m c main_v4 : FVec Ideal S9216x4096 .bf16)
      (ix2 ⟨(t.val / 128 * 16 + t.val % 16) * 256 + r.val, hR⟩ ⟨t.val / 16 % 8 * 512 + (h.val * 256 + e.val), hC⟩) :=
  x0_at m c t r ⟨h.val * 256 + e.val, by omega⟩ hR hC

/-- The key chunk's lane `e` below 128, from the joined operand. -/
theorem kc_lo (k : Fin 8) (j : Fin 512) (e : Fin 256) (he : e.val < 128) (hR : t.val / 128 * 4096 + (k.val * 512 + j.val) < 8192)
    (hC : t.val / 16 % 8 * 512 + (h.val * 256 + e.val) < 4096) :
    (kc (kcat (iblk m c 1 t) (X0_2 m c t)) h k (ix3 0 j e) : EReal) = (V m c main_v7 : FVec Ideal S8192x4096 .bf16)
      (ix2 ⟨t.val / 128 * 4096 + (k.val * 512 + j.val), hR⟩ ⟨t.val / 16 % 8 * 512 + (h.val * 256 + e.val), hC⟩) :=
  (dif_pos he).trans (x1_at m c t ⟨k.val * 512 + j.val, by omega⟩ ⟨h.val * 256 + e.val, by omega⟩ hR hC)

/-- The key chunk's lane `e` from 128 on, from the padded rotary operand. -/
theorem kc_hi (k : Fin 8) (j : Fin 512) (e : Fin 256) (he : ¬ e.val < 128) (hR : t.val / 128 * 4096 + (k.val * 512 + j.val) < 9216) :
    (kc (kcat (iblk m c 1 t) (X0_2 m c t)) h k (ix3 0 j e) : EReal) = (V m c main_v10 : FVec Ideal S9216x1152 .bf16)
      (ix2 ⟨t.val / 128 * 4096 + (k.val * 512 + j.val), hR⟩ ⟨1024 + (e.val - 128), by omega⟩) :=
  (dif_neg he).trans (x2_at m c t ⟨k.val * 512 + j.val, by omega⟩ ⟨e.val - 128, by omega⟩ hR)

include ha

/-- The scores of a tile are the real scores. -/
theorem sc_at (r : Fin 256) (p : Fin 4096) (hp : p.val = t.val % 16 * 256 + r.val) (k : Fin 8) (j : Fin 512) :
    sc (qt (iblk m c 0 t) h) (kc (kcat (iblk m c 1 t) (X0_2 m c t)) h k) r j = ((a.score n H p (k.val * 512 + j.val) : ℝ) : EReal) := by
  refine Eq.trans ?_ (a.score_coe n H p ⟨k.val * 512 + j.val, by omega⟩)
  unfold sc
  refine congrArg (· * scale) ?_
  rw [split3]
  refine congrArg₂ (· + ·) (Finset.sum_congr rfl fun d _ => ?_) ?_
  · rw [qt_at m t h H hH n hn r _ (by omega) (by simp only []; omega), kc_lo m t h H hH n hn k j _ d.isLt (by omega) (by simp only []; omega),
      q_n m c _ _ n p H d (by simp only []; omega) (by simp only []; omega), k_n m c _ _ n ⟨k.val * 512 + j.val, by omega⟩ H d (by simp only []; omega) (by simp only []; omega),
      ha.qn, ha.kn]
  · refine Eq.trans (congrArg₂ (· + ·) (Finset.sum_congr rfl fun d _ => ?_) (Finset.sum_eq_zero fun d _ => ?_)) (add_zero _)
    · rw [qt_at m t h H hH n hn r _ (by omega) (by simp only []; omega), kc_hi m t h H hH n hn k j _ (by simp only []; omega) (by omega),
        q_r m c _ _ n p H d (by simp only []; omega) (by simp only []; omega), r_k m c _ _ n ⟨k.val * 512 + j.val, by omega⟩ d (by simp only []; omega) (by simp only []; omega),
        ha.qr, ha.kr]
    · rw [qt_at m t h H hH n hn r _ (by omega) (by simp only []; omega), q_z m c _ _ n p H d (by simp only []; omega) (by simp only []; omega)]
      exact zero_mul _

/-- The value rows of a tile are the real values. -/
theorem vc_at (k : Fin 8) (j : Fin 512) (d : Fin 128) : (vc (iblk m c 1 t) h k (ix2 j d) : EReal) = ((a.val n H (k.val * 512 + j.val) d : ℝ) : EReal) := by
  refine (x1_at m c t ⟨k.val * 512 + j.val, by omega⟩ ⟨h.val * 256 + 128 + d.val, by omega⟩ (by simp only []; omega) (by simp only []; omega)).trans ?_
  rw [k_v m c _ _ n ⟨k.val * 512 + j.val, by omega⟩ H d (by simp only []; omega) (by simp only []; omega), ha.v]
  unfold Args.val
  rw [dif_pos (by omega)]
end ops

/-- Head 0's output element is the causal softmax average. -/
theorem out0_at (x0 : Vec Ideal S256x512 .bf16) (x1 : Vec Ideal S4096x512 .bf16) (xs : Vec Ideal S2x4096x256 .bf16) (r : Fin 256) (sn : ℕ → ℝ) (vn : ℕ → Fin 128 → ℝ)
    (hs : ∀ (k : Fin 8) (j : Fin 512), sc (qt x0 0) (kc xs 0 k) r j = ((sn (k.val * 512 + j.val) : ℝ) : EReal))
    (hv : ∀ (k : Fin 8) (j : Fin 512) (d : Fin 128), (vc x1 0 k (ix2 j d) : EReal) = ((vn (k.val * 512 + j.val) d : ℝ) : EReal))
    (i : grid0.Coords) (k : Fin 8) (hk : k.val = (i 2 : Fin 16).val / 2) (d : Fin 128) :
    (out0 x0 x1 xs i k (loop x0 x1 xs st0 k.val) (ix2 r d) : EReal) = ((avg sn vn ((i 2 : Fin 16).val * 256 + r.val) d : ℝ) : EReal) := by
  unfold out0
  rw [last0_at]
  exact last_avg r sn vn i _ _ _ k.val hk (loop0_inv x0 x1 xs r sn vn hs hv k.val (by omega)) (hs k) (hv k) d

/-- Head 1's output element is the causal softmax average. -/
theorem out1_at (x0 : Vec Ideal S256x512 .bf16) (x1 : Vec Ideal S4096x512 .bf16) (xs : Vec Ideal S2x4096x256 .bf16) (r : Fin 256) (sn : ℕ → ℝ) (vn : ℕ → Fin 128 → ℝ)
    (hs : ∀ (k : Fin 8) (j : Fin 512), sc (qt x0 1) (kc xs 1 k) r j = ((sn (k.val * 512 + j.val) : ℝ) : EReal))
    (hv : ∀ (k : Fin 8) (j : Fin 512) (d : Fin 128), (vc x1 1 k (ix2 j d) : EReal) = ((vn (k.val * 512 + j.val) d : ℝ) : EReal))
    (i : grid0.Coords) (k : Fin 8) (hk : k.val = (i 2 : Fin 16).val / 2) (d : Fin 128) :
    (out1 x0 x1 xs i k (loop x0 x1 xs st0 k.val) (ix2 r d) : EReal) = ((avg sn vn ((i 2 : Fin 16).val * 256 + r.val) d : ℝ) : EReal) := by
  unfold out1
  rw [last1_at]
  exact last_avg r sn vn i _ _ _ k.val hk (loop1_inv x0 x1 xs r sn vn hs hv k.val (by omega)) (hs k) (hv k) d

/-- An average is the result's entry when row and column are. -/
theorem Args.out_eq (a : Args) (R : Fin 8192) (C : Fin 2048) (n : Fin 2) (H : Fin 16) (p : Fin 4096) (d : Fin 128)
    (hR : R.val = n.val * 4096 + p.val) (hC : C.val = H.val * 128 + d.val) : avg (a.score n H p) (a.val n H) p.val d = a.out R C := by
  unfold Args.out
  rw [show (⟨R.val / 4096, by omega⟩ : Fin 2) = n from Fin.ext (by simp only []; omega), show (⟨C.val / 128, by omega⟩ : Fin 16) = H from Fin.ext (by simp only []; omega),
    show (⟨R.val % 4096, by omega⟩ : Fin 4096) = p from Fin.ext (by simp only []; omega), show (⟨C.val % 128, by omega⟩ : Fin 128) = d from Fin.ext (by simp only []; omega),
    show R.val % 4096 = p.val by omega]

/-- What a grid point leaves in its output block, in the real arguments. -/
theorem block (c : Dev nD) (a : Args) (ha : IsArgs m c a) (t : Fin cfg0.N) (y0 y1 : Fin 256) (R : Fin 8192) (C : Fin 2048)
    (hR : R.val = (t.val / 128 * 16 + t.val % 16) * 256 + y0.val) (hC : C.val = t.val / 16 % 8 * 256 + y1.val) :
    ((outsAt0 m c t.val t.isLt).1 (ix2 y0 y1) : EReal) = ((a.out R C : ℝ) : EReal) := by
  have ht : t.val < 256 := t.isLt
  have e2 := coords2 t
  rw [point]
  unfold outv
  by_cases hy : y1.val < 128
  · refine (dif_pos hy).trans ?_
    have hs := sc_at m ha t 0 ⟨t.val / 16 % 8 * 2, by omega⟩ (by simp) ⟨t.val / 128, by omega⟩ rfl y0 ⟨t.val % 16 * 256 + y0.val, by omega⟩ rfl
    have hv := vc_at m ha t 0 ⟨t.val / 16 % 8 * 2, by omega⟩ (by simp) ⟨t.val / 128, by omega⟩ rfl
    refine (out0_at _ _ _ y0 _ _ hs hv (grid0.coords t) ⟨t.val % 16 / 2, by omega⟩ (by rw [e2]) ⟨y1.val, hy⟩).trans ?_
    rw [e2]
    exact congrArg _ (a.out_eq R C _ _ _ _ (by simp only []; omega) (by simp only []; omega))
  · refine (dif_neg hy).trans ?_
    have hs := sc_at m ha t 1 ⟨t.val / 16 % 8 * 2 + 1, by omega⟩ (by simp) ⟨t.val / 128, by omega⟩ rfl y0 ⟨t.val % 16 * 256 + y0.val, by omega⟩ rfl
    have hv := vc_at m ha t 1 ⟨t.val / 16 % 8 * 2 + 1, by omega⟩ (by simp) ⟨t.val / 128, by omega⟩ rfl
    refine (out1_at _ _ _ y0 _ _ hs hv (grid0.coords t) ⟨t.val % 16 / 2, by omega⟩ (by rw [e2]) ⟨y1.val - 128, by omega⟩).trans ?_
    rw [e2]
    exact congrArg _ (a.out_eq R C _ _ _ _ (by simp only []; omega) (by simp only []; omega))

/-- After the run the result array holds the causal attention of the real arguments. -/
theorem final (c : Dev nD) (a : Args) (ha : IsArgs m c a) :
    (dats m 0 c).arrAt 3 cfg0.N = (fun y => ((a.out (y 0) (y 1) : ℝ) : EReal) : FVec Ideal S8192x2048 .bf16) := by
  refine (dats m 0 c).arrAt_eq_of_covers 3 _ (by decide +kernel) fun t hf y => ?_
  blk_simp
  rw [after0_3]
  obtain ⟨y0, y1, rfl⟩ : ∃ (y0 y1 : Fin 256), y = ix2 y0 y1 := ⟨y 0, y 1, eq_ix2 y⟩
  refine block m c a ha t y0 y1 _ _ ?_ ?_
  · blk_simp [idx t]
  · blk_simp [idx t]

end Cert.Attn
end
-- ==== Proof.AttnFinite.lean ====
/-
  The precondition: an array whose absolute values all compare below infinity has real entries.
-/
module
public import proofs.«01_k».proof.Pre_finite
public import proofs.«01_k».proof.Proof.AttnValue
public import Idealize.ShloMosaic.Lib.ReduceAll
public import Idealize.ShloMosaic.Lib.Affine
@[expose] public section
set_option maxRecDepth 16384
noncomputable section
open Idealize.ShloMosaic Idealize.ShloMosaic.TcCoe Idealize.SL.Sem
namespace Cert.Attn
open Cert.Pre_finite

/-- The side conditions of the precondition's operations. -/
instance preFacts : Cert.Pre_finite.Facts where
  bcast_S_S2x4096x16x128 := by decide
  reducesTo_S2x4096x16x128_S_d0_1_2_3 := by decide
  h_S_ := by decide
  bcast_S_S2x4096x16x64 := by decide
  reducesTo_S2x4096x16x64_S_d0_1_2_3 := by decide
  bcast_S_S2x4096x64 := by decide
  reducesTo_S2x4096x64_S_d0_1_2 := by decide

/-- The word for infinity. -/
theorem ofBits_top : Ideal.ofBits FTy.f32 0x7F800000#32 = (⊤ : EReal) := by
  unfold Ideal.ofBits Ideal.ieee
  dsimp only
  rw [if_pos (by decide), if_pos (by decide), if_neg (by decide)]

/-- A number whose absolute value compares below infinity is real. -/
theorem real_of_lt (x : EReal) (h : FloatOps.cmpf (F := Ideal) (φ := .f32) .olt (FloatOps.hostAbsf (F := Ideal) (φ := .f32) x) (Ideal.ofBits FTy.f32 0x7F800000#32) = 1#1) :
    x = ((x.toReal : ℝ) : EReal) := by
  have h1 : BitVec.ofBool (decide (max x (-x) < Ideal.ofBits FTy.f32 0x7F800000#32)) = 1#1 := h
  rw [ofBits_top] at h1
  have h2 : max x (-x) < ⊤ := by
    by_contra hn
    rw [decide_eq_false hn] at h1
    exact absurd h1 (by decide)
  obtain ⟨h3, h4⟩ := max_lt_iff.1 h2
  refine (EReal.coe_toReal h3.ne fun hb => ?_).symm
  rw [hb] at h4
  exact absurd h4 (by simp)

/-- An array whose absolute values all compare below infinity has real entries. -/
theorem real_all {s t : Shape} {axes : List (Fin s.rank)} [Subsingleton t.Idx] (x y : FVec Ideal s .f32) (hy : ∀ i, y i = Ideal.ofBits FTy.f32 0x7F800000#32)
    (init : IVec t 1) (h : s.ReducesTo axes t) (hu : 0 < t.numel) (j : t.Idx)
    (e : Host.reduce IntOp.andi (cmpf .olt (Host.absf x) y) init h hu j = 1#1) (i : s.Idx) : (x i : EReal) = (((x i : EReal).toReal : ℝ) : EReal) := by
  have e1 : FloatOps.cmpf (F := Ideal) (φ := .f32) .olt (FloatOps.hostAbsf (F := Ideal) (φ := .f32) (x i)) (y i) = 1#1 := Host.reduce_andi_all _ _ h hu j e i
  rw [hy] at e1
  exact real_of_lt _ e1

/-- The precondition makes every entry of the five arguments real. -/
theorem real_args (q : FVec Ideal S2x4096x16x128 .f32) (qr : FVec Ideal S2x4096x16x64 .f32) (k v : FVec Ideal S2x4096x16x128 .f32) (kr : FVec Ideal S2x4096x64 .f32)
    (h : fn (F := Ideal) q qr k v kr = fun _ => 1#1) :
    (∀ i, (q i : EReal) = (((q i : EReal).toReal : ℝ) : EReal)) ∧ (∀ i, (qr i : EReal) = (((qr i : EReal).toReal : ℝ) : EReal))
    ∧ (∀ i, (k i : EReal) = (((k i : EReal).toReal : ℝ) : EReal)) ∧ (∀ i, (v i : EReal) = (((v i : EReal).toReal : ℝ) : EReal))
    ∧ (∀ i, (kr i : EReal) = (((kr i : EReal).toReal : ℝ) : EReal)) := by
  haveI : Subsingleton S_.Idx := ⟨fun a b => funext fun d => d.elim0⟩
  have h0 := congrFun h ix0
  dsimp only [fn, fn_part1] at h0
  obtain ⟨h1, e4⟩ := IntOp.andi_eq_one.1 h0
  obtain ⟨h2, e3⟩ := IntOp.andi_eq_one.1 h1
  obtain ⟨h3, e2⟩ := IntOp.andi_eq_one.1 h2
  obtain ⟨e0, e1⟩ := IntOp.andi_eq_one.1 h3
  exact ⟨fun i => real_all q _ (fun _ => rfl) _ _ _ _ e0 i, fun i => real_all qr _ (fun _ => rfl) _ _ _ _ e1 i,
    fun i => real_all k _ (fun _ => rfl) _ _ _ _ e2 i, fun i => real_all v _ (fun _ => rfl) _ _ _ _ e3 i, fun i => real_all kr _ (fun _ => rfl) _ _ _ _ e4 i⟩

/-- The real arrays of five arguments. -/
def argsOf (q : FVec Ideal S2x4096x16x128 .f32) (qr : FVec Ideal S2x4096x16x64 .f32) (k v : FVec Ideal S2x4096x16x128 .f32) (kr : FVec Ideal S2x4096x64 .f32) : Args where
  qn n p h d := (q (ix4 n p h d) : EReal).toReal
  qr n p h d := (qr (ix4 n p h d) : EReal).toReal
  kn n p h d := (k (ix4 n p h d) : EReal).toReal
  v n p h d := (v (ix4 n p h d) : EReal).toReal
  kr n p d := (kr (ix3 n p d) : EReal).toReal
end Cert.Attn
end
-- ==== Proof.AttnRef.lean ====
/-
  The attention reference's value: for real arguments every element is the causal softmax average of the values.
-/
module
public import proofs.«01_k».proof.Proof.Gen.ReferenceIdeal.Run
public import proofs.«01_k».proof.Proof.AttnSoft
@[expose] public section
set_option maxRecDepth 16384
noncomputable section
open Idealize.ShloMosaic Idealize.ShloMosaic.TcCoe Idealize.SL.Sem
namespace Cert.AttnRef
open Cert.ReferenceIdeal Cert.ReferenceIdeal.Gen Cert.Online
open Cert.Attn (Args avg scale ofBits_bot sum_masked)

/-- The reference's masked scores. -/
def SC (q : FVec Ideal S2x4096x16x128 .f32) (qr : FVec Ideal S2x4096x16x64 .f32) (k : FVec Ideal S2x4096x16x128 .f32) (kr : FVec Ideal S2x4096x64 .f32) :
    FVec Ideal S2x16x4096x4096 .f32 :=
  select (broadcastInDim S2x16x4096x4096 ![2, 3] bcast_S4096x4096_S2x16x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (mulf (addf (Host.dotGeneral dot_S2x4096x16x128_S2x4096x16x128_S2x16x4096x4096_3_3_1_1_02_02 none q k) (transpose S2x16x4096x4096 [0, 3, 2, 1] (Host.dotGeneral dot_S2x4096x64_S2x4096x16x64_S2x4096x4096x16_2_3_1_12_0_0 none kr qr) transposes_S2x4096x4096x16_S2x16x4096x4096_0_3_2_1)) (broadcastInDim S2x16x4096x4096 ![] bcast_S_S2x16x4096x4096 (constant S_ .f32 0x3D93CD3A#32)))
    (broadcastInDim S2x16x4096x4096 ![] bcast_S_S2x16x4096x4096 (id (constant S_ .f32 0xFF800000#32)))

/-- The exponentials of scores less their row's maximum. -/
def EX (S : FVec Ideal S2x16x4096x4096 .f32) : FVec Ideal S2x16x4096x4096 .f32 :=
  Host.exp (subf S (broadcastInDim S2x16x4096x4096 ![0, 1, 2, 3] bcast_S2x16x4096x1_S2x16x4096x4096_0_1_2_3 (broadcastInDim S2x16x4096x1 ![0, 1, 2] bcast_S2x16x4096_S2x16x4096x1_0_1_2 (Host.reduce FloatOps.maximumf S (constant S_ .f32 0xFF800000#32) reducesTo_S2x16x4096x4096_S2x16x4096_d3 h_S_))))

/-- The normalised exponentials against the values, laid out as rows of heads. -/
def OUT (S : FVec Ideal S2x16x4096x4096 .f32) (v : FVec Ideal S2x4096x16x128 .f32) : FVec Ideal S8192x2048 .bf16 :=
  truncf .bf16 (shapeCast S8192x2048 (transpose S2x4096x16x128 [0, 3, 1, 2] (Host.dotGeneral dot_S2x4096x16x128_S2x16x4096x4096_S2x16x128x4096_1_3_3_2_02_01 none v (Host.divf (EX S) (broadcastInDim S2x16x4096x4096 ![0, 1, 2, 3] bcast_S2x16x4096x1_S2x16x4096x4096_0_1_2_3 (broadcastInDim S2x16x4096x1 ![0, 1, 2] bcast_S2x16x4096_S2x16x4096x1_0_1_2 (Host.reduceAdd (EX S) (constant S_ .f32 0x00000000#32) reducesTo_S2x16x4096x4096_S2x16x4096_d3 h_S_))))) transposes_S2x16x128x4096_S2x4096x16x128_0_3_1_2) shapeCasts_S2x4096x16x128_S8192x2048) bitsLt_bf16_f32

/-- The reference's result is the composition of the two. -/
theorem res_eq (m : (ℓ : Loc nD τ sig) → Buf (Elt Ideal) ℓ) (c : Dev nD) : Value.res_main_v26 m c
    = OUT (SC (m ((c : Thread nD τ).loc main_arg0)) (m ((c : Thread nD τ).loc main_arg1)) (m ((c : Thread nD τ).loc main_arg2)) (m ((c : Thread nD τ).loc main_arg4)))
      (m ((c : Thread nD τ).loc main_arg3)) := by
  unfold Value.res_main_v26
  rfl

variable (q : FVec Ideal S2x4096x16x128 .f32) (qr : FVec Ideal S2x4096x16x64 .f32) (k v : FVec Ideal S2x4096x16x128 .f32) (kr : FVec Ideal S2x4096x64 .f32)

/-- A masked score at an index. -/
theorem SC_at (n : Fin 2) (h : Fin 16) (p i : Fin 4096) : SC q qr k kr (ix4 n h p i)
    = if i.val ≤ p.val then ((∑ d, q (ix4 n p h d) * k (ix4 n i h d)) + ∑ d, kr (ix3 n i d) * qr (ix4 n p h d)) * scale else ⊥ := by
  pointwise [SC]
  rw [show (id (constant (F := Ideal) S_ FTy.f32 0xFF800000#32) ix0 : EReal) = ⊥ from ofBits_bot]
  word_cmp
  rfl

/-- An exponential at an index. -/
theorem EX_at (S : FVec Ideal S2x16x4096x4096 .f32) (n : Fin 2) (h : Fin 16) (p i : Fin 4096) : EX S (ix4 n h p i)
    = Ideal.exp (S (ix4 n h p i) - Finset.fold max (⊥ : EReal) (fun j => S (ix4 n h p j)) Finset.univ) := by
  pointwise [EX]
  rw [ofBits_bot]

/-- An output at an index. -/
theorem OUT_at (S : FVec Ideal S2x16x4096x4096 .f32) (R : Fin 8192) (C : Fin 2048) : OUT S v (ix2 R C)
    = ∑ i : Fin 4096, v (ix4 (⟨R.val / 4096, by omega⟩ : Fin 2) i (⟨C.val / 128, by omega⟩ : Fin 16) (⟨C.val % 128, by omega⟩ : Fin 128))
      * Ideal.div (EX S (ix4 (⟨R.val / 4096, by omega⟩ : Fin 2) (⟨C.val / 128, by omega⟩ : Fin 16) (⟨R.val % 4096, by omega⟩ : Fin 4096) i))
        (∑ j, EX S (ix4 (⟨R.val / 4096, by omega⟩ : Fin 2) (⟨C.val / 128, by omega⟩ : Fin 16) (⟨R.val % 4096, by omega⟩ : Fin 4096) j)) := by
  pointwise [OUT]

/-- For real arguments the reference's element is the causal softmax average. -/
theorem ref_at (a : Args) (hq : ∀ n p h d, q (ix4 n p h d) = (a.qn n p h d : EReal)) (hqr : ∀ n p h d, qr (ix4 n p h d) = (a.qr n p h d : EReal))
    (hk : ∀ n p h d, k (ix4 n p h d) = (a.kn n p h d : EReal)) (hv : ∀ n p h d, v (ix4 n p h d) = (a.v n p h d : EReal))
    (hkr : ∀ n p d, kr (ix3 n p d) = (a.kr n p d : EReal)) (R : Fin 8192) (C : Fin 2048) :
    OUT (SC q qr k kr) v (ix2 R C) = ((a.out R C : ℝ) : EReal) := by
  rw [OUT_at]
  simp only [EX_at, hv]
  unfold Args.out
  generalize (⟨R.val / 4096, _⟩ : Fin 2) = n
  generalize (⟨C.val / 128, _⟩ : Fin 16) = h
  generalize hp : (⟨R.val % 4096, _⟩ : Fin 4096) = p
  generalize (⟨C.val % 128, _⟩ : Fin 128) = c
  have hpv : R.val % 4096 = p.val := by rw [← hp]
  rw [hpv]
  have hS : ∀ i : Fin 4096, SC q qr k kr (ix4 n h p i) = if i.val ≤ p.val then ((a.score n h p i.val : ℝ) : EReal) else ⊥ := by
    intro i
    rw [SC_at, ← a.score_coe]
    simp only [hq, hqr, hk, hkr, mul_comm ((a.kr n i _ : ℝ) : EReal)]
  have e := softmax (fun i => SC q qr k kr (ix4 n h p i)) (fun i => by rw [hS]; split_ifs; exacts [EReal.coe_ne_top _, bot_ne_top]) p
    (by rw [hS, if_pos le_rfl]; exact EReal.coe_ne_bot _) (fun i => a.v n i h c)
  refine e.trans ?_
  have hw : ∀ i : Fin 4096, wt (SC q qr k kr (ix4 n h p i)) = if i.val ≤ p.val then Real.exp (a.score n h p i.val) else 0 := by
    intro i
    rw [hS]
    split_ifs
    · rw [wt_coe]
    · exact wt_bot
  have hval : ∀ i : Fin 4096, a.v n i h c = a.val n h i.val c := fun i => by unfold Args.val; rw [dif_pos i.isLt]
  simp only [hw, hval, ite_mul, zero_mul]
  unfold avg
  rw [← sum_masked (fun i => Real.exp (a.score n h p i)) p.val 4096 p.isLt, ← sum_masked (fun i => Real.exp (a.score n h p i) * a.val n h i c) p.val 4096 p.isLt,
    Finset.sum_range, Finset.sum_range]

end Cert.AttnRef
end
-- ==== Proof.lean ====
/- The certificate: the generated frames of each call, at both readings of the floats, and the value claims, from the
   modules that name what each call's result array holds after the run. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.ReferenceIdeal
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal.Run
public import proofs.«01_k».proof.Proof.Gen.Reference3Ideal
public import proofs.«01_k».proof.Proof.OutRef
public import proofs.«01_k».proof.Proof.OutValue
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal.Run
public import proofs.«01_k».proof.Proof.Gen.Reference4Ideal
public import proofs.«01_k».proof.Proof.NormRef
public import proofs.«01_k».proof.Proof.NormValue
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal.Run
public import proofs.«01_k».proof.Proof.Gen.Reference5Ideal
public import proofs.«01_k».proof.Proof.ProjARef
public import proofs.«01_k».proof.Proof.ProjAValue
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal.Run
public import proofs.«01_k».proof.Proof.Gen.Reference6Ideal
public import proofs.«01_k».proof.Proof.ProjCRef
public import proofs.«01_k».proof.Proof.ProjCValue
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal.Run
public import proofs.«01_k».proof.Proof.Gen.Reference7Ideal
public import proofs.«01_k».proof.Proof.ProjBRef
public import proofs.«01_k».proof.Proof.ProjBValue
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal.Run
public import proofs.«01_k».proof.Proof.Gen.Reference8Ideal
public import proofs.«01_k».proof.Proof.ProjDRef
public import proofs.«01_k».proof.Proof.ProjDValue
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal.Run
public import proofs.«01_k».proof.Proof.Gen.Reference9Ideal
public import proofs.«01_k».proof.Proof.LatRef
public import proofs.«01_k».proof.Proof.LatValue
public import proofs.«01_k».proof.Proof.FfnValue
public import proofs.«01_k».proof.Proof.AttnValue
public import proofs.«01_k».proof.Proof.AttnFinite
public import proofs.«01_k».proof.Proof.AttnRef
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The attention reference leaves its arguments as they were and every counter at zero. -/
theorem attnRef (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run m g)

/-- The feed-forward reference leaves its arguments as they were and every counter at zero. -/
theorem ffnRef (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
        ∧ r.2.sem = fun _ => 0) :=
  (θ_run Cert.Reference2Ideal.defs _ _).mono
    (fun r h => ⟨fun c => (h c).2, Idealize.ShloMosaic.sem_eq_zero_of_no_sems (by decide) r.2⟩)
    (Cert.Reference2Ideal.Value.run m g)

/-- The feed-forward call and its reference leave the same result. -/
theorem ffn : Cert.algebraic_Kernel2Ideal_Reference2Ideal := by
  pair_intro
  · run_from Cert.Kernel2Ideal.Gen.run_main m g
  · run_from Cert.Reference2Ideal.Value.run m' g'
    obtain ⟨h0, h1, h2, h3, h4⟩ := hagree c
    refine (Cert.FfnRef.res_eq m' c).trans ?_
    rw [h0, h1, h2, h3, h4]
    exact (Cert.Ffn.final m c).symm

/-- On finite arguments the attention call and its reference leave the same result. -/
theorem attn : Cert.algebraic_KernelIdeal_ReferenceIdeal_pre_finite := by
  pair_intro
  · run_from Cert.KernelIdeal.Gen.run_main m g
    · exact Cert.KernelIdeal.Gen.V_main_arg0 m c
    · exact Cert.KernelIdeal.Gen.V_main_arg1 m c
    · exact Cert.KernelIdeal.Gen.V_main_arg2 m c
    · exact Cert.KernelIdeal.Gen.V_main_arg3 m c
    · exact Cert.KernelIdeal.Gen.V_main_arg4 m c
  · run_from Cert.ReferenceIdeal.Value.run m' g'
    obtain ⟨h0, h1, h2, h3, h4⟩ := hagree c
    obtain ⟨r0, r1, r2, r3, r4⟩ := Cert.Attn.real_args _ _ _ _ _ (hpre c)
    refine (Cert.AttnRef.res_eq m' c).trans ?_
    rw [h0, h1, h2, h3, h4]
    refine Eq.trans ?_ (Cert.Attn.final m c (Cert.Attn.argsOf _ _ _ _ _) ⟨fun n p h d => r0 (ix4 n p h d), fun n p h d => r1 (ix4 n p h d),
      fun n p h d => r2 (ix4 n p h d), fun n p h d => r3 (ix4 n p h d), fun n p d => r4 (ix3 n p d)⟩).symm
    funext y
    refine (congrArg _ (eq_ix2 y)).trans ?_
    exact Cert.AttnRef.ref_at _ _ _ _ _ _ (fun n p h d => r0 (ix4 n p h d)) (fun n p h d => r1 (ix4 n p h d)) (fun n p h d => r2 (ix4 n p h d))
      (fun n p h d => r3 (ix4 n p h d)) (fun n p d => r4 (ix3 n p d)) (y 0) (y 1)

/-- The reference of the output projection leaves its arguments as they were and every counter at zero. -/
theorem outRef (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
        ∧ r.2.sem = fun _ => 0) :=
  (θ_run Cert.Reference3Ideal.defs _ _).mono
    (fun r h => ⟨fun c => (h c).2, Idealize.ShloMosaic.sem_eq_zero_of_no_sems (by decide) r.2⟩)
    (Cert.Reference3Ideal.Value.run m g)

/-- The output projection and its reference leave the same result. -/
theorem out : Cert.algebraic_Kernel3Ideal_Reference3Ideal := by
  pair_intro
  · run_from Cert.Kernel3Ideal.Gen.run_main m g
  · run_from Cert.Reference3Ideal.Value.run m' g'
    obtain ⟨h0, h1, h2, h3, h4⟩ := hagree c
    exact (congrArg (fun z => Cert.OutRef.stack
        (Cert.OutRef.Rp (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg2))
          (m ((c.tc : Thread Cert.Kernel3Ideal.nD Cert.Kernel3Ideal.τ).loc Cert.Kernel3Ideal.main_arg3)))
        (Cert.OutRef.Rs (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) z))
      h4).trans (Cert.Out.final m c).symm

/-- The reference of the last norm leaves its arguments as they were and every counter at zero. -/
theorem normRef (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩
      (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
        ∧ r.2.sem = fun _ => 0) :=
  (θ_run Cert.Reference4Ideal.defs _ _).mono
    (fun r h => ⟨fun c => (h c).2, Idealize.ShloMosaic.sem_eq_zero_of_no_sems (by decide) r.2⟩)
    (Cert.Reference4Ideal.Value.run m g)

/-- The last norm and its reference leave the same result. -/
theorem norm : Cert.algebraic_Kernel4Ideal_Reference4Ideal := by
  pair_intro
  · run_from Cert.Kernel4Ideal.Gen.run_main m g
  · run_from Cert.Reference4Ideal.Value.run m' g'
    obtain ⟨h0, h1, h2⟩ := hagree c
    exact (congrArg (fun z => Cert.NormRef.stack
        (Cert.NormRef.Np (m ((c.tc : Thread Cert.Kernel4Ideal.nD Cert.Kernel4Ideal.τ).loc Cert.Kernel4Ideal.main_arg0)) z)
        (Cert.NormRef.Ns (m ((c.tc : Thread Cert.Kernel4Ideal.nD Cert.Kernel4Ideal.τ).loc Cert.Kernel4Ideal.main_arg1)) z))
      h2).trans (Cert.Norm.final m c).symm

/-- The reference of the input projection of the first mixer leaves its arguments as they were and every counter at zero. -/
theorem projARef (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩
      (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
        ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
        ∧ r.2.sem = fun _ => 0) :=
  (θ_run Cert.Reference5Ideal.defs _ _).mono
    (fun r h => ⟨fun c => (h c).2.2, Idealize.ShloMosaic.sem_eq_zero_of_no_sems (by decide) r.2⟩)
    (Cert.Reference5Ideal.Value.run m g)

/-- The input projection of the first mixer and its reference leave the same two results. -/
theorem projA : Cert.algebraic_Kernel5Ideal_Reference5Ideal := by
  pair_intro
  · run_from Cert.Kernel5Ideal.Gen.run_main m g (Cert.ProjA.okIdeal m) & Cert.Kernel5Ideal.Gen.unchanged m g (Cert.ProjA.okIdeal m)
    · exact Cert.ProjA.final5 m c
    · exact Cert.ProjA.final6 m c
  · exact Cert.ProjA.refRun m m' g' hagree

/-- The reference of the input projection of the third mixer leaves its arguments as they were and every counter at zero. -/
theorem projCRef (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩
      (fun r => (∀ c : Dev Cert.Reference6Ideal.nD,
        r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
        ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
        ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
        ∧ r.2.sem = fun _ => 0) :=
  (θ_run Cert.Reference6Ideal.defs _ _).mono
    (fun r h => ⟨fun c => (h c).2.2, Idealize.ShloMosaic.sem_eq_zero_of_no_sems (by decide) r.2⟩)
    (Cert.Reference6Ideal.Value.run m g)

/-- The input projection of the third mixer and its reference leave the same two results. -/
theorem projC : Cert.algebraic_Kernel6Ideal_Reference6Ideal := by
  pair_intro
  · run_from Cert.Kernel6Ideal.Gen.run_main m g (Cert.ProjC.okIdeal m) & Cert.Kernel6Ideal.Gen.unchanged m g (Cert.ProjC.okIdeal m)
    · exact Cert.ProjC.final5 m c
    · exact Cert.ProjC.final6 m c
  · exact Cert.ProjC.refRun m m' g' hagree

/-- The reference of the input projection of the second mixer leaves its arguments as they were and every counter at zero. -/
theorem projBRef (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩
      (fun r => (∀ c : Dev Cert.Reference7Ideal.nD,
        r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
        ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
        ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
        ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
        ∧ r.2.sem = fun _ => 0) :=
  (θ_run Cert.Reference7Ideal.defs _ _).mono
    (fun r h => ⟨fun c => (h c).2.2, Idealize.ShloMosaic.sem_eq_zero_of_no_sems (by decide) r.2⟩)
    (Cert.Reference7Ideal.Value.run m g)

/-- The input projection of the second mixer and its reference leave the same two results. -/
theorem projB : Cert.algebraic_Kernel7Ideal_Reference7Ideal := by
  pair_intro
  · run_from Cert.Kernel7Ideal.Gen.run_main m g (Cert.ProjB.okIdeal m) & Cert.Kernel7Ideal.Gen.unchanged m g (Cert.ProjB.okIdeal m)
    · exact Cert.ProjB.final5 m c
    · exact Cert.ProjB.final6 m c
  · exact Cert.ProjB.refRun m m' g' hagree

/-- The reference of the input projection of the fourth mixer leaves its arguments as they were and every counter at zero. -/
theorem projDRef (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩
      (fun r => (∀ c : Dev Cert.Reference8Ideal.nD,
        r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
        ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
        ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
        ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
        ∧ r.2.sem = fun _ => 0) :=
  (θ_run Cert.Reference8Ideal.defs _ _).mono
    (fun r h => ⟨fun c => (h c).2.2, Idealize.ShloMosaic.sem_eq_zero_of_no_sems (by decide) r.2⟩)
    (Cert.Reference8Ideal.Value.run m g)

/-- The input projection of the fourth mixer and its reference leave the same two results. -/
theorem projD : Cert.algebraic_Kernel8Ideal_Reference8Ideal := by
  pair_intro
  · run_from Cert.Kernel8Ideal.Gen.run_main m g (Cert.ProjD.okIdeal m) & Cert.Kernel8Ideal.Gen.unchanged m g (Cert.ProjD.okIdeal m)
    · exact Cert.ProjD.final5 m c
    · exact Cert.ProjD.final6 m c
  · exact Cert.ProjD.refRun m m' g' hagree

/-- The reference of the norm of the fourth mixer's latents leaves its arguments as they were and every counter at zero. -/
theorem latRef (m : (ℓ : Loc Cert.Reference9Ideal.nD Cert.Reference9Ideal.τ Cert.Reference9Ideal.sig) → Buf (Elt Ideal) ℓ) (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩
      (fun r => (∀ c : Dev Cert.Reference9Ideal.nD,
        r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
        ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
        ∧ r.2.sem = fun _ => 0) :=
  (θ_run Cert.Reference9Ideal.defs _ _).mono
    (fun r h => ⟨fun c => (h c).2, Idealize.ShloMosaic.sem_eq_zero_of_no_sems (by decide) r.2⟩)
    (Cert.Reference9Ideal.Value.run m g)

/-- The norm of the fourth mixer's latents and its reference leave the same result. -/
theorem lat : Cert.algebraic_Kernel9Ideal_Reference9Ideal := by
  pair_intro
  · run_from Cert.Kernel9Ideal.Gen.run_main m g
  · run_from Cert.Reference9Ideal.Value.run m' g'
    obtain ⟨h0, h1⟩ := hagree c
    exact (Cert.Lat.final m c).symm

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts, Cert.Attn.preFacts,
    fun m g _ => Cert.Kernel.Gen.frame m g,
    fun m g _ => Cert.KernelIdeal.Gen.frame m g,
    fun m g _ => Cert.KernelIdeal.Gen.frame m g,
    fun m g _ => attnRef m g,
    fun m g _ => attnRef m g,
    fun m g _ => Cert.Kernel2.Gen.frame m g,
    fun m g _ => Cert.Kernel2Ideal.Gen.frame m g,
    fun m g _ => ffnRef m g,
    fun m g _ => Cert.Kernel3.Gen.frame m g,
    fun m g _ => Cert.Kernel3Ideal.Gen.frame m g,
    fun m g _ => outRef m g,
    fun m g _ => Cert.Kernel4.Gen.frame m g,
    fun m g _ => Cert.Kernel4Ideal.Gen.frame m g,
    fun m g _ => normRef m g,
    fun m g _ => Cert.Kernel5.Gen.frame m g (Cert.ProjA.ok m),
    fun m g _ => Cert.Kernel5Ideal.Gen.frame m g (Cert.ProjA.okIdeal m),
    fun m g _ => projARef m g,
    fun m g _ => Cert.Kernel6.Gen.frame m g (Cert.ProjC.ok m),
    fun m g _ => Cert.Kernel6Ideal.Gen.frame m g (Cert.ProjC.okIdeal m),
    fun m g _ => projCRef m g,
    fun m g _ => Cert.Kernel7.Gen.frame m g (Cert.ProjB.ok m),
    fun m g _ => Cert.Kernel7Ideal.Gen.frame m g (Cert.ProjB.okIdeal m),
    fun m g _ => projBRef m g,
    fun m g _ => Cert.Kernel8.Gen.frame m g (Cert.ProjD.ok m),
    fun m g _ => Cert.Kernel8Ideal.Gen.frame m g (Cert.ProjD.okIdeal m),
    fun m g _ => projDRef m g,
    fun m g _ => Cert.Kernel9.Gen.frame m g,
    fun m g _ => Cert.Kernel9Ideal.Gen.frame m g,
    fun m g _ => latRef m g,
    trivial,
    attn,
    trivial,
    ffn,
    trivial,
    out,
    trivial,
    norm,
    trivial,
    projA,
    trivial,
    projC,
    trivial,
    projB,
    trivial,
    projD,
    trivial,
    lat⟩

end Cert.Proof

end
